-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 24576]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![24576, 1536]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S1536x1536 : Shape := ⟨2, ![1536, 1536]⟩
abbrev S16x192x768 : Shape := ⟨3, ![16, 192, 768]⟩
abbrev S2x192x768 : Shape := ⟨3, ![2, 192, 768]⟩
abbrev S8x48x768 : Shape := ⟨3, ![8, 48, 768]⟩
abbrev S16 : Shape := ⟨1, ![16]⟩
abbrev S8 : Shape := ⟨1, ![8]⟩
abbrev S_ : Shape := ⟨0, ![]⟩
abbrev S192x768 : Shape := ⟨2, ![192, 768]⟩
abbrev S768x768 : Shape := ⟨2, ![768, 768]⟩
abbrev S1 : Shape := ⟨1, ![1]⟩
abbrev S1x192x768 : Shape := ⟨3, ![1, 192, 768]⟩
abbrev S1x48x768 : Shape := ⟨3, ![1, 48, 768]⟩
abbrev S48x768 : Shape := ⟨2, ![48, 768]⟩

abbrev nBuf : Space → Nat
  | .hbm => 3
  | .vmem => 7
  | .smem => 0
  | _ => 0

abbrev bufTy : (tb : Table) → Fin (tcTables nBuf tb) → BufTy
  | .hbm, ⟨0, _⟩ => ⟨S1536x768, .f32⟩
  | .hbm, ⟨1, _⟩ => ⟨S768x1536, .f32⟩
  | .hbm, ⟨2, _⟩ => ⟨S1536x1536, .f32⟩
  | .local _ .vmem, ⟨0, _⟩ => ⟨S1536x768, .f32⟩
  | .local _ .vmem, ⟨1, _⟩ => ⟨S768x1536, .f32⟩
  | .local _ .vmem, ⟨2, _⟩ => ⟨S1536x1536, .f32⟩
  | .local _ .vmem, ⟨3, _⟩ => ⟨S16x192x768, .f32⟩
  | .local _ .vmem, ⟨4, _⟩ => ⟨S2x192x768, .f32⟩
  | .local _ .vmem, ⟨5, _⟩ => ⟨S8x48x768, .f32⟩
  | .local _ .vmem, ⟨6, _⟩ => ⟨S2x192x768, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 99 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | _ => false

abbrev sig : RefSig :=
  (ofTc nBuf bufTy 1 99 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_408 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c1_i32_50 : BitVec 32 := 1#32
  let v115 : BitVec 32 := Scalar.addi v51 c1_i32_50
  let c8_i32_51 : BitVec 32 := 8#32
  let c0_i32_52 : BitVec 32 := 0#32
  let v116 : BitVec 1 := Scalar.cmpi .eq c8_i32_51 c0_i32_52
  let c1_i32_53 : BitVec 32 := 1#32
  let v117 : BitVec 32 := Scalar.select v116 c1_i32_53 c8_i32_51
  let v118 : BitVec 32 := Scalar.remsi v115 v117
  let c0_i32_55 : BitVec 32 := 0#32
  let v120 : BitVec 1 := Scalar.cmpi .slt v118 c0_i32_55
  let c0_i32_56 : BitVec 32 := 0#32
  let v121 : BitVec 1 := Scalar.cmpi .slt v117 c0_i32_56
  let v122 : BitVec 1 := Scalar.xori v120 v121
  let c0_i32_54 : BitVec 32 := 0#32
  let v119 : BitVec 1 := Scalar.cmpi .ne v118 c0_i32_54
  let v123 : BitVec 1 := Scalar.andi v122 v119
  let v124 : BitVec 32 := Scalar.addi v118 v117
  let v125 : BitVec 32 := Scalar.select v123 v124 v118
  let c0_i32_71 : BitVec 32 := 0#32
  let v149 : BitVec 1 := Scalar.cmpi .sgt v125 c0_i32_71
  let v150 : BitVec 32 := Scalar.extui v149
  let c0_i32_72 : BitVec 32 := 0#32
  let v151 : BitVec 1 := Scalar.cmpi .slt v125 c0_i32_72
  let v152 : BitVec 32 := Scalar.extui v151
  let v153 : BitVec 32 := Scalar.subi v150 v152
  let c4_i32_70 : BitVec 32 := 4#32
  let c0_i32_73 : BitVec 32 := 0#32
  let v154 : BitVec 1 := Scalar.cmpi .sgt c4_i32_70 c0_i32_73
  let v155 : BitVec 32 := Scalar.extui v154
  let c0_i32_74 : BitVec 32 := 0#32
  let v156 : BitVec 1 := Scalar.cmpi .slt c4_i32_70 c0_i32_74
  let v157 : BitVec 32 := Scalar.extui v156
  let v158 : BitVec 32 := Scalar.subi v155 v157
  let v159 : BitVec 1 := Scalar.cmpi .ne v153 v158
  let v160 : BitVec 32 := Scalar.remsi v125 c4_i32_70
  let c0_i32_75 : BitVec 32 := 0#32
  let v161 : BitVec 1 := Scalar.cmpi .ne v160 c0_i32_75
  let v162 : BitVec 1 := Scalar.andi v159 v161
  let v148 : BitVec 32 := Scalar.divsi v125 c4_i32_70
  let c1_i32_76 : BitVec 32 := 1#32
  let v163 : BitVec 32 := Scalar.subi v148 c1_i32_76
  let v164 : BitVec 32 := Scalar.select v162 v163 v148
  let c2_i32_84 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_78 : BitVec 32 := 0#32
  let v166 : BitVec 1 := Scalar.cmpi .sgt v114 c0_i32_78
  let v167 : BitVec 32 := Scalar.extui v166
  let c0_i32_79 : BitVec 32 := 0#32
  let v168 : BitVec 1 := Scalar.cmpi .slt v114 c0_i32_79
  let v169 : BitVec 32 := Scalar.extui v168
  let v170 : BitVec 32 := Scalar.subi v167 v169
  let c2_i32_77 : BitVec 32 := 2#32
  let c0_i32_80 : BitVec 32 := 0#32
  let v171 : BitVec 1 := Scalar.cmpi .sgt c2_i32_77 c0_i32_80
  let v172 : BitVec 32 := Scalar.extui v171
  let c0_i32_81 : BitVec 32 := 0#32
  let v173 : BitVec 1 := Scalar.cmpi .slt c2_i32_77 c0_i32_81
  let v174 : BitVec 32 := Scalar.extui v173
  let v175 : BitVec 32 := Scalar.subi v172 v174
  let v176 : BitVec 1 := Scalar.cmpi .ne v170 v175
  let v177 : BitVec 32 := Scalar.remsi v114 c2_i32_77
  let c0_i32_82 : BitVec 32 := 0#32
  let v178 : BitVec 1 := Scalar.cmpi .ne v177 c0_i32_82
  let v179 : BitVec 1 := Scalar.andi v176 v178
  let v165 : BitVec 32 := Scalar.divsi v114 c2_i32_77
  let c1_i32_83 : BitVec 32 := 1#32
  let v180 : BitVec 32 := Scalar.subi v165 c1_i32_83
  let v181 : BitVec 32 := Scalar.select v179 v180 v165
  let v182 : BitVec 32 := Scalar.muli c2_i32_84 v181
  let v183 : BitVec 32 := Scalar.addi v164 v182
  let v184 : BitVec 32 := Scalar.muli c8_i32_85 v183
  let c4_i32_57 : BitVec 32 := 4#32
  let c0_i32_58 : BitVec 32 := 0#32
  let v126 : BitVec 1 := Scalar.cmpi .eq c4_i32_57 c0_i32_58
  let c1_i32_59 : BitVec 32 := 1#32
  let v127 : BitVec 32 := Scalar.select v126 c1_i32_59 c4_i32_57
  let v128 : BitVec 32 := Scalar.remsi v125 v127
  let c0_i32_61 : BitVec 32 := 0#32
  let v130 : BitVec 1 := Scalar.cmpi .slt v128 c0_i32_61
  let c0_i32_62 : BitVec 32 := 0#32
  let v131 : BitVec 1 := Scalar.cmpi .slt v127 c0_i32_62
  let v132 : BitVec 1 := Scalar.xori v130 v131
  let c0_i32_60 : BitVec 32 := 0#32
  let v129 : BitVec 1 := Scalar.cmpi .ne v128 c0_i32_60
  let v133 : BitVec 1 := Scalar.andi v132 v129
  let v134 : BitVec 32 := Scalar.addi v128 v127
  let v135 : BitVec 32 := Scalar.select v133 v134 v128
  let c4_i32_69 : BitVec 32 := 4#32
  let c2_i32_63 : BitVec 32 := 2#32
  let c0_i32_64 : BitVec 32 := 0#32
  let v136 : BitVec 1 := Scalar.cmpi .eq c2_i32_63 c0_i32_64
  let c1_i32_65 : BitVec 32 := 1#32
  let v137 : BitVec 32 := Scalar.select v136 c1_i32_65 c2_i32_63
  let v138 : BitVec 32 := Scalar.remsi v114 v137
  let c0_i32_67 : BitVec 32 := 0#32
  let v140 : BitVec 1 := Scalar.cmpi .slt v138 c0_i32_67
  let c0_i32_68 : BitVec 32 := 0#32
  let v141 : BitVec 1 := Scalar.cmpi .slt v137 c0_i32_68
  let v142 : BitVec 1 := Scalar.xori v140 v141
  let c0_i32_66 : BitVec 32 := 0#32
  let v139 : BitVec 1 := Scalar.cmpi .ne v138 c0_i32_66
  let v143 : BitVec 1 := Scalar.andi v142 v139
  let v144 : BitVec 32 := Scalar.addi v138 v137
  let v145 : BitVec 32 := Scalar.select v143 v144 v138
  let v146 : BitVec 32 := Scalar.muli c4_i32_69 v145
  let v147 : BitVec 32 := Scalar.addi v135 v146
  let v185 : BitVec 32 := Scalar.addi v184 v147
  let c1_i32_407 : BitVec 32 := 1#32
  let v826 : BitVec 32 := Scalar.muli v185 c1_i32_407
  let v827 : BitVec 32 := Scalar.addi c0_i32_408 v826
  v827.toNat
def k0_dev2 (d0 : Dev nD) : Nat :=
  let c0_i32_411 : BitVec 32 := 0#32
  let c8_i32_121 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c2_i32_86 : BitVec 32 := 2#32
  let v186 : BitVec 32 := Scalar.addi v51 c2_i32_86
  let c8_i32_87 : BitVec 32 := 8#32
  let c0_i32_88 : BitVec 32 := 0#32
  let v187 : BitVec 1 := Scalar.cmpi .eq c8_i32_87 c0_i32_88
  let c1_i32_89 : BitVec 32 := 1#32
  let v188 : BitVec 32 := Scalar.select v187 c1_i32_89 c8_i32_87
  let v189 : BitVec 32 := Scalar.remsi v186 v188
  let c0_i32_91 : BitVec 32 := 0#32
  let v191 : BitVec 1 := Scalar.cmpi .slt v189 c0_i32_91
  let c0_i32_92 : BitVec 32 := 0#32
  let v192 : BitVec 1 := Scalar.cmpi .slt v188 c0_i32_92
  let v193 : BitVec 1 := Scalar.xori v191 v192
  let c0_i32_90 : BitVec 32 := 0#32
  let v190 : BitVec 1 := Scalar.cmpi .ne v189 c0_i32_90
  let v194 : BitVec 1 := Scalar.andi v193 v190
  let v195 : BitVec 32 := Scalar.addi v189 v188
  let v196 : BitVec 32 := Scalar.select v194 v195 v189
  let c0_i32_107 : BitVec 32 := 0#32
  let v220 : BitVec 1 := Scalar.cmpi .sgt v196 c0_i32_107
  let v221 : BitVec 32 := Scalar.extui v220
  let c0_i32_108 : BitVec 32 := 0#32
  let v222 : BitVec 1 := Scalar.cmpi .slt v196 c0_i32_108
  let v223 : BitVec 32 := Scalar.extui v222
  let v224 : BitVec 32 := Scalar.subi v221 v223
  let c4_i32_106 : BitVec 32 := 4#32
  let c0_i32_109 : BitVec 32 := 0#32
  let v225 : BitVec 1 := Scalar.cmpi .sgt c4_i32_106 c0_i32_109
  let v226 : BitVec 32 := Scalar.extui v225
  let c0_i32_110 : BitVec 32 := 0#32
  let v227 : BitVec 1 := Scalar.cmpi .slt c4_i32_106 c0_i32_110
  let v228 : BitVec 32 := Scalar.extui v227
  let v229 : BitVec 32 := Scalar.subi v226 v228
  let v230 : BitVec 1 := Scalar.cmpi .ne v224 v229
  let v231 : BitVec 32 := Scalar.remsi v196 c4_i32_106
  let c0_i32_111 : BitVec 32 := 0#32
  let v232 : BitVec 1 := Scalar.cmpi .ne v231 c0_i32_111
  let v233 : BitVec 1 := Scalar.andi v230 v232
  let v219 : BitVec 32 := Scalar.divsi v196 c4_i32_106
  let c1_i32_112 : BitVec 32 := 1#32
  let v234 : BitVec 32 := Scalar.subi v219 c1_i32_112
  let v235 : BitVec 32 := Scalar.select v233 v234 v219
  let c2_i32_120 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_114 : BitVec 32 := 0#32
  let v237 : BitVec 1 := Scalar.cmpi .sgt v114 c0_i32_114
  let v238 : BitVec 32 := Scalar.extui v237
  let c0_i32_115 : BitVec 32 := 0#32
  let v239 : BitVec 1 := Scalar.cmpi .slt v114 c0_i32_115
  let v240 : BitVec 32 := Scalar.extui v239
  let v241 : BitVec 32 := Scalar.subi v238 v240
  let c2_i32_113 : BitVec 32 := 2#32
  let c0_i32_116 : BitVec 32 := 0#32
  let v242 : BitVec 1 := Scalar.cmpi .sgt c2_i32_113 c0_i32_116
  let v243 : BitVec 32 := Scalar.extui v242
  let c0_i32_117 : BitVec 32 := 0#32
  let v244 : BitVec 1 := Scalar.cmpi .slt c2_i32_113 c0_i32_117
  let v245 : BitVec 32 := Scalar.extui v244
  let v246 : BitVec 32 := Scalar.subi v243 v245
  let v247 : BitVec 1 := Scalar.cmpi .ne v241 v246
  let v248 : BitVec 32 := Scalar.remsi v114 c2_i32_113
  let c0_i32_118 : BitVec 32 := 0#32
  let v249 : BitVec 1 := Scalar.cmpi .ne v248 c0_i32_118
  let v250 : BitVec 1 := Scalar.andi v247 v249
  let v236 : BitVec 32 := Scalar.divsi v114 c2_i32_113
  let c1_i32_119 : BitVec 32 := 1#32
  let v251 : BitVec 32 := Scalar.subi v236 c1_i32_119
  let v252 : BitVec 32 := Scalar.select v250 v251 v236
  let v253 : BitVec 32 := Scalar.muli c2_i32_120 v252
  let v254 : BitVec 32 := Scalar.addi v235 v253
  let v255 : BitVec 32 := Scalar.muli c8_i32_121 v254
  let c4_i32_93 : BitVec 32 := 4#32
  let c0_i32_94 : BitVec 32 := 0#32
  let v197 : BitVec 1 := Scalar.cmpi .eq c4_i32_93 c0_i32_94
  let c1_i32_95 : BitVec 32 := 1#32
  let v198 : BitVec 32 := Scalar.select v197 c1_i32_95 c4_i32_93
  let v199 : BitVec 32 := Scalar.remsi v196 v198
  let c0_i32_97 : BitVec 32 := 0#32
  let v201 : BitVec 1 := Scalar.cmpi .slt v199 c0_i32_97
  let c0_i32_98 : BitVec 32 := 0#32
  let v202 : BitVec 1 := Scalar.cmpi .slt v198 c0_i32_98
  let v203 : BitVec 1 := Scalar.xori v201 v202
  let c0_i32_96 : BitVec 32 := 0#32
  let v200 : BitVec 1 := Scalar.cmpi .ne v199 c0_i32_96
  let v204 : BitVec 1 := Scalar.andi v203 v200
  let v205 : BitVec 32 := Scalar.addi v199 v198
  let v206 : BitVec 32 := Scalar.select v204 v205 v199
  let c4_i32_105 : BitVec 32 := 4#32
  let c2_i32_99 : BitVec 32 := 2#32
  let c0_i32_100 : BitVec 32 := 0#32
  let v207 : BitVec 1 := Scalar.cmpi .eq c2_i32_99 c0_i32_100
  let c1_i32_101 : BitVec 32 := 1#32
  let v208 : BitVec 32 := Scalar.select v207 c1_i32_101 c2_i32_99
  let v209 : BitVec 32 := Scalar.remsi v114 v208
  let c0_i32_103 : BitVec 32 := 0#32
  let v211 : BitVec 1 := Scalar.cmpi .slt v209 c0_i32_103
  let c0_i32_104 : BitVec 32 := 0#32
  let v212 : BitVec 1 := Scalar.cmpi .slt v208 c0_i32_104
  let v213 : BitVec 1 := Scalar.xori v211 v212
  let c0_i32_102 : BitVec 32 := 0#32
  let v210 : BitVec 1 := Scalar.cmpi .ne v209 c0_i32_102
  let v214 : BitVec 1 := Scalar.andi v213 v210
  let v215 : BitVec 32 := Scalar.addi v209 v208
  let v216 : BitVec 32 := Scalar.select v214 v215 v209
  let v217 : BitVec 32 := Scalar.muli c4_i32_105 v216
  let v218 : BitVec 32 := Scalar.addi v206 v217
  let v256 : BitVec 32 := Scalar.addi v255 v218
  let c1_i32_410 : BitVec 32 := 1#32
  let v828 : BitVec 32 := Scalar.muli v256 c1_i32_410
  let v829 : BitVec 32 := Scalar.addi c0_i32_411 v828
  v829.toNat
def k0_dev3 (d0 : Dev nD) : Nat :=
  let c0_i32_414 : BitVec 32 := 0#32
  let c8_i32_156 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c3_i32 : BitVec 32 := 3#32
  let v257 : BitVec 32 := Scalar.addi v51 c3_i32
  let c8_i32_122 : BitVec 32 := 8#32
  let c0_i32_123 : BitVec 32 := 0#32
  let v258 : BitVec 1 := Scalar.cmpi .eq c8_i32_122 c0_i32_123
  let c1_i32_124 : BitVec 32 := 1#32
  let v259 : BitVec 32 := Scalar.select v258 c1_i32_124 c8_i32_122
  let v260 : BitVec 32 := Scalar.remsi v257 v259
  let c0_i32_126 : BitVec 32 := 0#32
  let v262 : BitVec 1 := Scalar.cmpi .slt v260 c0_i32_126
  let c0_i32_127 : BitVec 32 := 0#32
  let v263 : BitVec 1 := Scalar.cmpi .slt v259 c0_i32_127
  let v264 : BitVec 1 := Scalar.xori v262 v263
  let c0_i32_125 : BitVec 32 := 0#32
  let v261 : BitVec 1 := Scalar.cmpi .ne v260 c0_i32_125
  let v265 : BitVec 1 := Scalar.andi v264 v261
  let v266 : BitVec 32 := Scalar.addi v260 v259
  let v267 : BitVec 32 := Scalar.select v265 v266 v260
  let c0_i32_142 : BitVec 32 := 0#32
  let v291 : BitVec 1 := Scalar.cmpi .sgt v267 c0_i32_142
  let v292 : BitVec 32 := Scalar.extui v291
  let c0_i32_143 : BitVec 32 := 0#32
  let v293 : BitVec 1 := Scalar.cmpi .slt v267 c0_i32_143
  let v294 : BitVec 32 := Scalar.extui v293
  let v295 : BitVec 32 := Scalar.subi v292 v294
  let c4_i32_141 : BitVec 32 := 4#32
  let c0_i32_144 : BitVec 32 := 0#32
  let v296 : BitVec 1 := Scalar.cmpi .sgt c4_i32_141 c0_i32_144
  let v297 : BitVec 32 := Scalar.extui v296
  let c0_i32_145 : BitVec 32 := 0#32
  let v298 : BitVec 1 := Scalar.cmpi .slt c4_i32_141 c0_i32_145
  let v299 : BitVec 32 := Scalar.extui v298
  let v300 : BitVec 32 := Scalar.subi v297 v299
  let v301 : BitVec 1 := Scalar.cmpi .ne v295 v300
  let v302 : BitVec 32 := Scalar.remsi v267 c4_i32_141
  let c0_i32_146 : BitVec 32 := 0#32
  let v303 : BitVec 1 := Scalar.cmpi .ne v302 c0_i32_146
  let v304 : BitVec 1 := Scalar.andi v301 v303
  let v290 : BitVec 32 := Scalar.divsi v267 c4_i32_141
  let c1_i32_147 : BitVec 32 := 1#32
  let v305 : BitVec 32 := Scalar.subi v290 c1_i32_147
  let v306 : BitVec 32 := Scalar.select v304 v305 v290
  let c2_i32_155 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_149 : BitVec 32 := 0#32
  let v308 : BitVec 1 := Scalar.cmpi .sgt v114 c0_i32_149
  let v309 : BitVec 32 := Scalar.extui v308
  let c0_i32_150 : BitVec 32 := 0#32
  let v310 : BitVec 1 := Scalar.cmpi .slt v114 c0_i32_150
  let v311 : BitVec 32 := Scalar.extui v310
  let v312 : BitVec 32 := Scalar.subi v309 v311
  let c2_i32_148 : BitVec 32 := 2#32
  let c0_i32_151 : BitVec 32 := 0#32
  let v313 : BitVec 1 := Scalar.cmpi .sgt c2_i32_148 c0_i32_151
  let v314 : BitVec 32 := Scalar.extui v313
  let c0_i32_152 : BitVec 32 := 0#32
  let v315 : BitVec 1 := Scalar.cmpi .slt c2_i32_148 c0_i32_152
  let v316 : BitVec 32 := Scalar.extui v315
  let v317 : BitVec 32 := Scalar.subi v314 v316
  let v318 : BitVec 1 := Scalar.cmpi .ne v312 v317
  let v319 : BitVec 32 := Scalar.remsi v114 c2_i32_148
  let c0_i32_153 : BitVec 32 := 0#32
  let v320 : BitVec 1 := Scalar.cmpi .ne v319 c0_i32_153
  let v321 : BitVec 1 := Scalar.andi v318 v320
  let v307 : BitVec 32 := Scalar.divsi v114 c2_i32_148
  let c1_i32_154 : BitVec 32 := 1#32
  let v322 : BitVec 32 := Scalar.subi v307 c1_i32_154
  let v323 : BitVec 32 := Scalar.select v321 v322 v307
  let v324 : BitVec 32 := Scalar.muli c2_i32_155 v323
  let v325 : BitVec 32 := Scalar.addi v306 v324
  let v326 : BitVec 32 := Scalar.muli c8_i32_156 v325
  let c4_i32_128 : BitVec 32 := 4#32
  let c0_i32_129 : BitVec 32 := 0#32
  let v268 : BitVec 1 := Scalar.cmpi .eq c4_i32_128 c0_i32_129
  let c1_i32_130 : BitVec 32 := 1#32
  let v269 : BitVec 32 := Scalar.select v268 c1_i32_130 c4_i32_128
  let v270 : BitVec 32 := Scalar.remsi v267 v269
  let c0_i32_132 : BitVec 32 := 0#32
  let v272 : BitVec 1 := Scalar.cmpi .slt v270 c0_i32_132
  let c0_i32_133 : BitVec 32 := 0#32
  let v273 : BitVec 1 := Scalar.cmpi .slt v269 c0_i32_133
  let v274 : BitVec 1 := Scalar.xori v272 v273
  let c0_i32_131 : BitVec 32 := 0#32
  let v271 : BitVec 1 := Scalar.cmpi .ne v270 c0_i32_131
  let v275 : BitVec 1 := Scalar.andi v274 v271
  let v276 : BitVec 32 := Scalar.addi v270 v269
  let v277 : BitVec 32 := Scalar.select v275 v276 v270
  let c4_i32_140 : BitVec 32 := 4#32
  let c2_i32_134 : BitVec 32 := 2#32
  let c0_i32_135 : BitVec 32 := 0#32
  let v278 : BitVec 1 := Scalar.cmpi .eq c2_i32_134 c0_i32_135
  let c1_i32_136 : BitVec 32 := 1#32
  let v279 : BitVec 32 := Scalar.select v278 c1_i32_136 c2_i32_134
  let v280 : BitVec 32 := Scalar.remsi v114 v279
  let c0_i32_138 : BitVec 32 := 0#32
  let v282 : BitVec 1 := Scalar.cmpi .slt v280 c0_i32_138
  let c0_i32_139 : BitVec 32 := 0#32
  let v283 : BitVec 1 := Scalar.cmpi .slt v279 c0_i32_139
  let v284 : BitVec 1 := Scalar.xori v282 v283
  let c0_i32_137 : BitVec 32 := 0#32
  let v281 : BitVec 1 := Scalar.cmpi .ne v280 c0_i32_137
  let v285 : BitVec 1 := Scalar.andi v284 v281
  let v286 : BitVec 32 := Scalar.addi v280 v279
  let v287 : BitVec 32 := Scalar.select v285 v286 v280
  let v288 : BitVec 32 := Scalar.muli c4_i32_140 v287
  let v289 : BitVec 32 := Scalar.addi v277 v288
  let v327 : BitVec 32 := Scalar.addi v326 v289
  let c1_i32_413 : BitVec 32 := 1#32
  let v830 : BitVec 32 := Scalar.muli v327 c1_i32_413
  let v831 : BitVec 32 := Scalar.addi c0_i32_414 v830
  v831.toNat
def k0_dev4 (d0 : Dev nD) : Nat :=
  let c0_i32_417 : BitVec 32 := 0#32
  let c8_i32_192 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c4_i32_157 : BitVec 32 := 4#32
  let v328 : BitVec 32 := Scalar.addi v51 c4_i32_157
  let c8_i32_158 : BitVec 32 := 8#32
  let c0_i32_159 : BitVec 32 := 0#32
  let v329 : BitVec 1 := Scalar.cmpi .eq c8_i32_158 c0_i32_159
  let c1_i32_160 : BitVec 32 := 1#32
  let v330 : BitVec 32 := Scalar.select v329 c1_i32_160 c8_i32_158
  let v331 : BitVec 32 := Scalar.remsi v328 v330
  let c0_i32_162 : BitVec 32 := 0#32
  let v333 : BitVec 1 := Scalar.cmpi .slt v331 c0_i32_162
  let c0_i32_163 : BitVec 32 := 0#32
  let v334 : BitVec 1 := Scalar.cmpi .slt v330 c0_i32_163
  let v335 : BitVec 1 := Scalar.xori v333 v334
  let c0_i32_161 : BitVec 32 := 0#32
  let v332 : BitVec 1 := Scalar.cmpi .ne v331 c0_i32_161
  let v336 : BitVec 1 := Scalar.andi v335 v332
  let v337 : BitVec 32 := Scalar.addi v331 v330
  let v338 : BitVec 32 := Scalar.select v336 v337 v331
  let c0_i32_178 : BitVec 32 := 0#32
  let v362 : BitVec 1 := Scalar.cmpi .sgt v338 c0_i32_178
  let v363 : BitVec 32 := Scalar.extui v362
  let c0_i32_179 : BitVec 32 := 0#32
  let v364 : BitVec 1 := Scalar.cmpi .slt v338 c0_i32_179
  let v365 : BitVec 32 := Scalar.extui v364
  let v366 : BitVec 32 := Scalar.subi v363 v365
  let c4_i32_177 : BitVec 32 := 4#32
  let c0_i32_180 : BitVec 32 := 0#32
  let v367 : BitVec 1 := Scalar.cmpi .sgt c4_i32_177 c0_i32_180
  let v368 : BitVec 32 := Scalar.extui v367
  let c0_i32_181 : BitVec 32 := 0#32
  let v369 : BitVec 1 := Scalar.cmpi .slt c4_i32_177 c0_i32_181
  let v370 : BitVec 32 := Scalar.extui v369
  let v371 : BitVec 32 := Scalar.subi v368 v370
  let v372 : BitVec 1 := Scalar.cmpi .ne v366 v371
  let v373 : BitVec 32 := Scalar.remsi v338 c4_i32_177
  let c0_i32_182 : BitVec 32 := 0#32
  let v374 : BitVec 1 := Scalar.cmpi .ne v373 c0_i32_182
  let v375 : BitVec 1 := Scalar.andi v372 v374
  let v361 : BitVec 32 := Scalar.divsi v338 c4_i32_177
  let c1_i32_183 : BitVec 32 := 1#32
  let v376 : BitVec 32 := Scalar.subi v361 c1_i32_183
  let v377 : BitVec 32 := Scalar.select v375 v376 v361
  let c2_i32_191 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_185 : BitVec 32 := 0#32
  let v379 : BitVec 1 := Scalar.cmpi .sgt v114 c0_i32_185
  let v380 : BitVec 32 := Scalar.extui v379
  let c0_i32_186 : BitVec 32 := 0#32
  let v381 : BitVec 1 := Scalar.cmpi .slt v114 c0_i32_186
  let v382 : BitVec 32 := Scalar.extui v381
  let v383 : BitVec 32 := Scalar.subi v380 v382
  let c2_i32_184 : BitVec 32 := 2#32
  let c0_i32_187 : BitVec 32 := 0#32
  let v384 : BitVec 1 := Scalar.cmpi .sgt c2_i32_184 c0_i32_187
  let v385 : BitVec 32 := Scalar.extui v384
  let c0_i32_188 : BitVec 32 := 0#32
  let v386 : BitVec 1 := Scalar.cmpi .slt c2_i32_184 c0_i32_188
  let v387 : BitVec 32 := Scalar.extui v386
  let v388 : BitVec 32 := Scalar.subi v385 v387
  let v389 : BitVec 1 := Scalar.cmpi .ne v383 v388
  let v390 : BitVec 32 := Scalar.remsi v114 c2_i32_184
  let c0_i32_189 : BitVec 32 := 0#32
  let v391 : BitVec 1 := Scalar.cmpi .ne v390 c0_i32_189
  let v392 : BitVec 1 := Scalar.andi v389 v391
  let v378 : BitVec 32 := Scalar.divsi v114 c2_i32_184
  let c1_i32_190 : BitVec 32 := 1#32
  let v393 : BitVec 32 := Scalar.subi v378 c1_i32_190
  let v394 : BitVec 32 := Scalar.select v392 v393 v378
  let v395 : BitVec 32 := Scalar.muli c2_i32_191 v394
  let v396 : BitVec 32 := Scalar.addi v377 v395
  let v397 : BitVec 32 := Scalar.muli c8_i32_192 v396
  let c4_i32_164 : BitVec 32 := 4#32
  let c0_i32_165 : BitVec 32 := 0#32
  let v339 : BitVec 1 := Scalar.cmpi .eq c4_i32_164 c0_i32_165
  let c1_i32_166 : BitVec 32 := 1#32
  let v340 : BitVec 32 := Scalar.select v339 c1_i32_166 c4_i32_164
  let v341 : BitVec 32 := Scalar.remsi v338 v340
  let c0_i32_168 : BitVec 32 := 0#32
  let v343 : BitVec 1 := Scalar.cmpi .slt v341 c0_i32_168
  let c0_i32_169 : BitVec 32 := 0#32
  let v344 : BitVec 1 := Scalar.cmpi .slt v340 c0_i32_169
  let v345 : BitVec 1 := Scalar.xori v343 v344
  let c0_i32_167 : BitVec 32 := 0#32
  let v342 : BitVec 1 := Scalar.cmpi .ne v341 c0_i32_167
  let v346 : BitVec 1 := Scalar.andi v345 v342
  let v347 : BitVec 32 := Scalar.addi v341 v340
  let v348 : BitVec 32 := Scalar.select v346 v347 v341
  let c4_i32_176 : BitVec 32 := 4#32
  let c2_i32_170 : BitVec 32 := 2#32
  let c0_i32_171 : BitVec 32 := 0#32
  let v349 : BitVec 1 := Scalar.cmpi .eq c2_i32_170 c0_i32_171
  let c1_i32_172 : BitVec 32 := 1#32
  let v350 : BitVec 32 := Scalar.select v349 c1_i32_172 c2_i32_170
  let v351 : BitVec 32 := Scalar.remsi v114 v350
  let c0_i32_174 : BitVec 32 := 0#32
  let v353 : BitVec 1 := Scalar.cmpi .slt v351 c0_i32_174
  let c0_i32_175 : BitVec 32 := 0#32
  let v354 : BitVec 1 := Scalar.cmpi .slt v350 c0_i32_175
  let v355 : BitVec 1 := Scalar.xori v353 v354
  let c0_i32_173 : BitVec 32 := 0#32
  let v352 : BitVec 1 := Scalar.cmpi .ne v351 c0_i32_173
  let v356 : BitVec 1 := Scalar.andi v355 v352
  let v357 : BitVec 32 := Scalar.addi v351 v350
  let v358 : BitVec 32 := Scalar.select v356 v357 v351
  let v359 : BitVec 32 := Scalar.muli c4_i32_176 v358
  let v360 : BitVec 32 := Scalar.addi v348 v359
  let v398 : BitVec 32 := Scalar.addi v397 v360
  let c1_i32_416 : BitVec 32 := 1#32
  let v832 : BitVec 32 := Scalar.muli v398 c1_i32_416
  let v833 : BitVec 32 := Scalar.addi c0_i32_417 v832
  v833.toNat
def k0_dev5 (d0 : Dev nD) : Nat :=
  let c0_i32_420 : BitVec 32 := 0#32
  let c8_i32_227 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c5_i32 : BitVec 32 := 5#32
  let v399 : BitVec 32 := Scalar.addi v51 c5_i32
  let c8_i32_193 : BitVec 32 := 8#32
  let c0_i32_194 : BitVec 32 := 0#32
  let v400 : BitVec 1 := Scalar.cmpi .eq c8_i32_193 c0_i32_194
  let c1_i32_195 : BitVec 32 := 1#32
  let v401 : BitVec 32 := Scalar.select v400 c1_i32_195 c8_i32_193
  let v402 : BitVec 32 := Scalar.remsi v399 v401
  let c0_i32_197 : BitVec 32 := 0#32
  let v404 : BitVec 1 := Scalar.cmpi .slt v402 c0_i32_197
  let c0_i32_198 : BitVec 32 := 0#32
  let v405 : BitVec 1 := Scalar.cmpi .slt v401 c0_i32_198
  let v406 : BitVec 1 := Scalar.xori v404 v405
  let c0_i32_196 : BitVec 32 := 0#32
  let v403 : BitVec 1 := Scalar.cmpi .ne v402 c0_i32_196
  let v407 : BitVec 1 := Scalar.andi v406 v403
  let v408 : BitVec 32 := Scalar.addi v402 v401
  let v409 : BitVec 32 := Scalar.select v407 v408 v402
  let c0_i32_213 : BitVec 32 := 0#32
  let v433 : BitVec 1 := Scalar.cmpi .sgt v409 c0_i32_213
  let v434 : BitVec 32 := Scalar.extui v433
  let c0_i32_214 : BitVec 32 := 0#32
  let v435 : BitVec 1 := Scalar.cmpi .slt v409 c0_i32_214
  let v436 : BitVec 32 := Scalar.extui v435
  let v437 : BitVec 32 := Scalar.subi v434 v436
  let c4_i32_212 : BitVec 32 := 4#32
  let c0_i32_215 : BitVec 32 := 0#32
  let v438 : BitVec 1 := Scalar.cmpi .sgt c4_i32_212 c0_i32_215
  let v439 : BitVec 32 := Scalar.extui v438
  let c0_i32_216 : BitVec 32 := 0#32
  let v440 : BitVec 1 := Scalar.cmpi .slt c4_i32_212 c0_i32_216
  let v441 : BitVec 32 := Scalar.extui v440
  let v442 : BitVec 32 := Scalar.subi v439 v441
  let v443 : BitVec 1 := Scalar.cmpi .ne v437 v442
  let v444 : BitVec 32 := Scalar.remsi v409 c4_i32_212
  let c0_i32_217 : BitVec 32 := 0#32
  let v445 : BitVec 1 := Scalar.cmpi .ne v444 c0_i32_217
  let v446 : BitVec 1 := Scalar.andi v443 v445
  let v432 : BitVec 32 := Scalar.divsi v409 c4_i32_212
  let c1_i32_218 : BitVec 32 := 1#32
  let v447 : BitVec 32 := Scalar.subi v432 c1_i32_218
  let v448 : BitVec 32 := Scalar.select v446 v447 v432
  let c2_i32_226 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_220 : BitVec 32 := 0#32
  let v450 : BitVec 1 := Scalar.cmpi .sgt v114 c0_i32_220
  let v451 : BitVec 32 := Scalar.extui v450
  let c0_i32_221 : BitVec 32 := 0#32
  let v452 : BitVec 1 := Scalar.cmpi .slt v114 c0_i32_221
  let v453 : BitVec 32 := Scalar.extui v452
  let v454 : BitVec 32 := Scalar.subi v451 v453
  let c2_i32_219 : BitVec 32 := 2#32
  let c0_i32_222 : BitVec 32 := 0#32
  let v455 : BitVec 1 := Scalar.cmpi .sgt c2_i32_219 c0_i32_222
  let v456 : BitVec 32 := Scalar.extui v455
  let c0_i32_223 : BitVec 32 := 0#32
  let v457 : BitVec 1 := Scalar.cmpi .slt c2_i32_219 c0_i32_223
  let v458 : BitVec 32 := Scalar.extui v457
  let v459 : BitVec 32 := Scalar.subi v456 v458
  let v460 : BitVec 1 := Scalar.cmpi .ne v454 v459
  let v461 : BitVec 32 := Scalar.remsi v114 c2_i32_219
  let c0_i32_224 : BitVec 32 := 0#32
  let v462 : BitVec 1 := Scalar.cmpi .ne v461 c0_i32_224
  let v463 : BitVec 1 := Scalar.andi v460 v462
  let v449 : BitVec 32 := Scalar.divsi v114 c2_i32_219
  let c1_i32_225 : BitVec 32 := 1#32
  let v464 : BitVec 32 := Scalar.subi v449 c1_i32_225
  let v465 : BitVec 32 := Scalar.select v463 v464 v449
  let v466 : BitVec 32 := Scalar.muli c2_i32_226 v465
  let v467 : BitVec 32 := Scalar.addi v448 v466
  let v468 : BitVec 32 := Scalar.muli c8_i32_227 v467
  let c4_i32_199 : BitVec 32 := 4#32
  let c0_i32_200 : BitVec 32 := 0#32
  let v410 : BitVec 1 := Scalar.cmpi .eq c4_i32_199 c0_i32_200
  let c1_i32_201 : BitVec 32 := 1#32
  let v411 : BitVec 32 := Scalar.select v410 c1_i32_201 c4_i32_199
  let v412 : BitVec 32 := Scalar.remsi v409 v411
  let c0_i32_203 : BitVec 32 := 0#32
  let v414 : BitVec 1 := Scalar.cmpi .slt v412 c0_i32_203
  let c0_i32_204 : BitVec 32 := 0#32
  let v415 : BitVec 1 := Scalar.cmpi .slt v411 c0_i32_204
  let v416 : BitVec 1 := Scalar.xori v414 v415
  let c0_i32_202 : BitVec 32 := 0#32
  let v413 : BitVec 1 := Scalar.cmpi .ne v412 c0_i32_202
  let v417 : BitVec 1 := Scalar.andi v416 v413
  let v418 : BitVec 32 := Scalar.addi v412 v411
  let v419 : BitVec 32 := Scalar.select v417 v418 v412
  let c4_i32_211 : BitVec 32 := 4#32
  let c2_i32_205 : BitVec 32 := 2#32
  let c0_i32_206 : BitVec 32 := 0#32
  let v420 : BitVec 1 := Scalar.cmpi .eq c2_i32_205 c0_i32_206
  let c1_i32_207 : BitVec 32 := 1#32
  let v421 : BitVec 32 := Scalar.select v420 c1_i32_207 c2_i32_205
  let v422 : BitVec 32 := Scalar.remsi v114 v421
  let c0_i32_209 : BitVec 32 := 0#32
  let v424 : BitVec 1 := Scalar.cmpi .slt v422 c0_i32_209
  let c0_i32_210 : BitVec 32 := 0#32
  let v425 : BitVec 1 := Scalar.cmpi .slt v421 c0_i32_210
  let v426 : BitVec 1 := Scalar.xori v424 v425
  let c0_i32_208 : BitVec 32 := 0#32
  let v423 : BitVec 1 := Scalar.cmpi .ne v422 c0_i32_208
  let v427 : BitVec 1 := Scalar.andi v426 v423
  let v428 : BitVec 32 := Scalar.addi v422 v421
  let v429 : BitVec 32 := Scalar.select v427 v428 v422
  let v430 : BitVec 32 := Scalar.muli c4_i32_211 v429
  let v431 : BitVec 32 := Scalar.addi v419 v430
  let v469 : BitVec 32 := Scalar.addi v468 v431
  let c1_i32_419 : BitVec 32 := 1#32
  let v834 : BitVec 32 := Scalar.muli v469 c1_i32_419
  let v835 : BitVec 32 := Scalar.addi c0_i32_420 v834
  v835.toNat
def k0_dev6 (d0 : Dev nD) : Nat :=
  let c0_i32_423 : BitVec 32 := 0#32
  let c8_i32_262 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c6_i32 : BitVec 32 := 6#32
  let v470 : BitVec 32 := Scalar.addi v51 c6_i32
  let c8_i32_228 : BitVec 32 := 8#32
  let c0_i32_229 : BitVec 32 := 0#32
  let v471 : BitVec 1 := Scalar.cmpi .eq c8_i32_228 c0_i32_229
  let c1_i32_230 : BitVec 32 := 1#32
  let v472 : BitVec 32 := Scalar.select v471 c1_i32_230 c8_i32_228
  let v473 : BitVec 32 := Scalar.remsi v470 v472
  let c0_i32_232 : BitVec 32 := 0#32
  let v475 : BitVec 1 := Scalar.cmpi .slt v473 c0_i32_232
  let c0_i32_233 : BitVec 32 := 0#32
  let v476 : BitVec 1 := Scalar.cmpi .slt v472 c0_i32_233
  let v477 : BitVec 1 := Scalar.xori v475 v476
  let c0_i32_231 : BitVec 32 := 0#32
  let v474 : BitVec 1 := Scalar.cmpi .ne v473 c0_i32_231
  let v478 : BitVec 1 := Scalar.andi v477 v474
  let v479 : BitVec 32 := Scalar.addi v473 v472
  let v480 : BitVec 32 := Scalar.select v478 v479 v473
  let c0_i32_248 : BitVec 32 := 0#32
  let v504 : BitVec 1 := Scalar.cmpi .sgt v480 c0_i32_248
  let v505 : BitVec 32 := Scalar.extui v504
  let c0_i32_249 : BitVec 32 := 0#32
  let v506 : BitVec 1 := Scalar.cmpi .slt v480 c0_i32_249
  let v507 : BitVec 32 := Scalar.extui v506
  let v508 : BitVec 32 := Scalar.subi v505 v507
  let c4_i32_247 : BitVec 32 := 4#32
  let c0_i32_250 : BitVec 32 := 0#32
  let v509 : BitVec 1 := Scalar.cmpi .sgt c4_i32_247 c0_i32_250
  let v510 : BitVec 32 := Scalar.extui v509
  let c0_i32_251 : BitVec 32 := 0#32
  let v511 : BitVec 1 := Scalar.cmpi .slt c4_i32_247 c0_i32_251
  let v512 : BitVec 32 := Scalar.extui v511
  let v513 : BitVec 32 := Scalar.subi v510 v512
  let v514 : BitVec 1 := Scalar.cmpi .ne v508 v513
  let v515 : BitVec 32 := Scalar.remsi v480 c4_i32_247
  let c0_i32_252 : BitVec 32 := 0#32
  let v516 : BitVec 1 := Scalar.cmpi .ne v515 c0_i32_252
  let v517 : BitVec 1 := Scalar.andi v514 v516
  let v503 : BitVec 32 := Scalar.divsi v480 c4_i32_247
  let c1_i32_253 : BitVec 32 := 1#32
  let v518 : BitVec 32 := Scalar.subi v503 c1_i32_253
  let v519 : BitVec 32 := Scalar.select v517 v518 v503
  let c2_i32_261 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_255 : BitVec 32 := 0#32
  let v521 : BitVec 1 := Scalar.cmpi .sgt v114 c0_i32_255
  let v522 : BitVec 32 := Scalar.extui v521
  let c0_i32_256 : BitVec 32 := 0#32
  let v523 : BitVec 1 := Scalar.cmpi .slt v114 c0_i32_256
  let v524 : BitVec 32 := Scalar.extui v523
  let v525 : BitVec 32 := Scalar.subi v522 v524
  let c2_i32_254 : BitVec 32 := 2#32
  let c0_i32_257 : BitVec 32 := 0#32
  let v526 : BitVec 1 := Scalar.cmpi .sgt c2_i32_254 c0_i32_257
  let v527 : BitVec 32 := Scalar.extui v526
  let c0_i32_258 : BitVec 32 := 0#32
  let v528 : BitVec 1 := Scalar.cmpi .slt c2_i32_254 c0_i32_258
  let v529 : BitVec 32 := Scalar.extui v528
  let v530 : BitVec 32 := Scalar.subi v527 v529
  let v531 : BitVec 1 := Scalar.cmpi .ne v525 v530
  let v532 : BitVec 32 := Scalar.remsi v114 c2_i32_254
  let c0_i32_259 : BitVec 32 := 0#32
  let v533 : BitVec 1 := Scalar.cmpi .ne v532 c0_i32_259
  let v534 : BitVec 1 := Scalar.andi v531 v533
  let v520 : BitVec 32 := Scalar.divsi v114 c2_i32_254
  let c1_i32_260 : BitVec 32 := 1#32
  let v535 : BitVec 32 := Scalar.subi v520 c1_i32_260
  let v536 : BitVec 32 := Scalar.select v534 v535 v520
  let v537 : BitVec 32 := Scalar.muli c2_i32_261 v536
  let v538 : BitVec 32 := Scalar.addi v519 v537
  let v539 : BitVec 32 := Scalar.muli c8_i32_262 v538
  let c4_i32_234 : BitVec 32 := 4#32
  let c0_i32_235 : BitVec 32 := 0#32
  let v481 : BitVec 1 := Scalar.cmpi .eq c4_i32_234 c0_i32_235
  let c1_i32_236 : BitVec 32 := 1#32
  let v482 : BitVec 32 := Scalar.select v481 c1_i32_236 c4_i32_234
  let v483 : BitVec 32 := Scalar.remsi v480 v482
  let c0_i32_238 : BitVec 32 := 0#32
  let v485 : BitVec 1 := Scalar.cmpi .slt v483 c0_i32_238
  let c0_i32_239 : BitVec 32 := 0#32
  let v486 : BitVec 1 := Scalar.cmpi .slt v482 c0_i32_239
  let v487 : BitVec 1 := Scalar.xori v485 v486
  let c0_i32_237 : BitVec 32 := 0#32
  let v484 : BitVec 1 := Scalar.cmpi .ne v483 c0_i32_237
  let v488 : BitVec 1 := Scalar.andi v487 v484
  let v489 : BitVec 32 := Scalar.addi v483 v482
  let v490 : BitVec 32 := Scalar.select v488 v489 v483
  let c4_i32_246 : BitVec 32 := 4#32
  let c2_i32_240 : BitVec 32 := 2#32
  let c0_i32_241 : BitVec 32 := 0#32
  let v491 : BitVec 1 := Scalar.cmpi .eq c2_i32_240 c0_i32_241
  let c1_i32_242 : BitVec 32 := 1#32
  let v492 : BitVec 32 := Scalar.select v491 c1_i32_242 c2_i32_240
  let v493 : BitVec 32 := Scalar.remsi v114 v492
  let c0_i32_244 : BitVec 32 := 0#32
  let v495 : BitVec 1 := Scalar.cmpi .slt v493 c0_i32_244
  let c0_i32_245 : BitVec 32 := 0#32
  let v496 : BitVec 1 := Scalar.cmpi .slt v492 c0_i32_245
  let v497 : BitVec 1 := Scalar.xori v495 v496
  let c0_i32_243 : BitVec 32 := 0#32
  let v494 : BitVec 1 := Scalar.cmpi .ne v493 c0_i32_243
  let v498 : BitVec 1 := Scalar.andi v497 v494
  let v499 : BitVec 32 := Scalar.addi v493 v492
  let v500 : BitVec 32 := Scalar.select v498 v499 v493
  let v501 : BitVec 32 := Scalar.muli c4_i32_246 v500
  let v502 : BitVec 32 := Scalar.addi v490 v501
  let v540 : BitVec 32 := Scalar.addi v539 v502
  let c1_i32_422 : BitVec 32 := 1#32
  let v836 : BitVec 32 := Scalar.muli v540 c1_i32_422
  let v837 : BitVec 32 := Scalar.addi c0_i32_423 v836
  v837.toNat
def k0_dev7 (d0 : Dev nD) : Nat :=
  let c0_i32_426 : BitVec 32 := 0#32
  let c8_i32_297 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c7_i32 : BitVec 32 := 7#32
  let v541 : BitVec 32 := Scalar.addi v51 c7_i32
  let c8_i32_263 : BitVec 32 := 8#32
  let c0_i32_264 : BitVec 32 := 0#32
  let v542 : BitVec 1 := Scalar.cmpi .eq c8_i32_263 c0_i32_264
  let c1_i32_265 : BitVec 32 := 1#32
  let v543 : BitVec 32 := Scalar.select v542 c1_i32_265 c8_i32_263
  let v544 : BitVec 32 := Scalar.remsi v541 v543
  let c0_i32_267 : BitVec 32 := 0#32
  let v546 : BitVec 1 := Scalar.cmpi .slt v544 c0_i32_267
  let c0_i32_268 : BitVec 32 := 0#32
  let v547 : BitVec 1 := Scalar.cmpi .slt v543 c0_i32_268
  let v548 : BitVec 1 := Scalar.xori v546 v547
  let c0_i32_266 : BitVec 32 := 0#32
  let v545 : BitVec 1 := Scalar.cmpi .ne v544 c0_i32_266
  let v549 : BitVec 1 := Scalar.andi v548 v545
  let v550 : BitVec 32 := Scalar.addi v544 v543
  let v551 : BitVec 32 := Scalar.select v549 v550 v544
  let c0_i32_283 : BitVec 32 := 0#32
  let v575 : BitVec 1 := Scalar.cmpi .sgt v551 c0_i32_283
  let v576 : BitVec 32 := Scalar.extui v575
  let c0_i32_284 : BitVec 32 := 0#32
  let v577 : BitVec 1 := Scalar.cmpi .slt v551 c0_i32_284
  let v578 : BitVec 32 := Scalar.extui v577
  let v579 : BitVec 32 := Scalar.subi v576 v578
  let c4_i32_282 : BitVec 32 := 4#32
  let c0_i32_285 : BitVec 32 := 0#32
  let v580 : BitVec 1 := Scalar.cmpi .sgt c4_i32_282 c0_i32_285
  let v581 : BitVec 32 := Scalar.extui v580
  let c0_i32_286 : BitVec 32 := 0#32
  let v582 : BitVec 1 := Scalar.cmpi .slt c4_i32_282 c0_i32_286
  let v583 : BitVec 32 := Scalar.extui v582
  let v584 : BitVec 32 := Scalar.subi v581 v583
  let v585 : BitVec 1 := Scalar.cmpi .ne v579 v584
  let v586 : BitVec 32 := Scalar.remsi v551 c4_i32_282
  let c0_i32_287 : BitVec 32 := 0#32
  let v587 : BitVec 1 := Scalar.cmpi .ne v586 c0_i32_287
  let v588 : BitVec 1 := Scalar.andi v585 v587
  let v574 : BitVec 32 := Scalar.divsi v551 c4_i32_282
  let c1_i32_288 : BitVec 32 := 1#32
  let v589 : BitVec 32 := Scalar.subi v574 c1_i32_288
  let v590 : BitVec 32 := Scalar.select v588 v589 v574
  let c2_i32_296 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_290 : BitVec 32 := 0#32
  let v592 : BitVec 1 := Scalar.cmpi .sgt v114 c0_i32_290
  let v593 : BitVec 32 := Scalar.extui v592
  let c0_i32_291 : BitVec 32 := 0#32
  let v594 : BitVec 1 := Scalar.cmpi .slt v114 c0_i32_291
  let v595 : BitVec 32 := Scalar.extui v594
  let v596 : BitVec 32 := Scalar.subi v593 v595
  let c2_i32_289 : BitVec 32 := 2#32
  let c0_i32_292 : BitVec 32 := 0#32
  let v597 : BitVec 1 := Scalar.cmpi .sgt c2_i32_289 c0_i32_292
  let v598 : BitVec 32 := Scalar.extui v597
  let c0_i32_293 : BitVec 32 := 0#32
  let v599 : BitVec 1 := Scalar.cmpi .slt c2_i32_289 c0_i32_293
  let v600 : BitVec 32 := Scalar.extui v599
  let v601 : BitVec 32 := Scalar.subi v598 v600
  let v602 : BitVec 1 := Scalar.cmpi .ne v596 v601
  let v603 : BitVec 32 := Scalar.remsi v114 c2_i32_289
  let c0_i32_294 : BitVec 32 := 0#32
  let v604 : BitVec 1 := Scalar.cmpi .ne v603 c0_i32_294
  let v605 : BitVec 1 := Scalar.andi v602 v604
  let v591 : BitVec 32 := Scalar.divsi v114 c2_i32_289
  let c1_i32_295 : BitVec 32 := 1#32
  let v606 : BitVec 32 := Scalar.subi v591 c1_i32_295
  let v607 : BitVec 32 := Scalar.select v605 v606 v591
  let v608 : BitVec 32 := Scalar.muli c2_i32_296 v607
  let v609 : BitVec 32 := Scalar.addi v590 v608
  let v610 : BitVec 32 := Scalar.muli c8_i32_297 v609
  let c4_i32_269 : BitVec 32 := 4#32
  let c0_i32_270 : BitVec 32 := 0#32
  let v552 : BitVec 1 := Scalar.cmpi .eq c4_i32_269 c0_i32_270
  let c1_i32_271 : BitVec 32 := 1#32
  let v553 : BitVec 32 := Scalar.select v552 c1_i32_271 c4_i32_269
  let v554 : BitVec 32 := Scalar.remsi v551 v553
  let c0_i32_273 : BitVec 32 := 0#32
  let v556 : BitVec 1 := Scalar.cmpi .slt v554 c0_i32_273
  let c0_i32_274 : BitVec 32 := 0#32
  let v557 : BitVec 1 := Scalar.cmpi .slt v553 c0_i32_274
  let v558 : BitVec 1 := Scalar.xori v556 v557
  let c0_i32_272 : BitVec 32 := 0#32
  let v555 : BitVec 1 := Scalar.cmpi .ne v554 c0_i32_272
  let v559 : BitVec 1 := Scalar.andi v558 v555
  let v560 : BitVec 32 := Scalar.addi v554 v553
  let v561 : BitVec 32 := Scalar.select v559 v560 v554
  let c4_i32_281 : BitVec 32 := 4#32
  let c2_i32_275 : BitVec 32 := 2#32
  let c0_i32_276 : BitVec 32 := 0#32
  let v562 : BitVec 1 := Scalar.cmpi .eq c2_i32_275 c0_i32_276
  let c1_i32_277 : BitVec 32 := 1#32
  let v563 : BitVec 32 := Scalar.select v562 c1_i32_277 c2_i32_275
  let v564 : BitVec 32 := Scalar.remsi v114 v563
  let c0_i32_279 : BitVec 32 := 0#32
  let v566 : BitVec 1 := Scalar.cmpi .slt v564 c0_i32_279
  let c0_i32_280 : BitVec 32 := 0#32
  let v567 : BitVec 1 := Scalar.cmpi .slt v563 c0_i32_280
  let v568 : BitVec 1 := Scalar.xori v566 v567
  let c0_i32_278 : BitVec 32 := 0#32
  let v565 : BitVec 1 := Scalar.cmpi .ne v564 c0_i32_278
  let v569 : BitVec 1 := Scalar.andi v568 v565
  let v570 : BitVec 32 := Scalar.addi v564 v563
  let v571 : BitVec 32 := Scalar.select v569 v570 v564
  let v572 : BitVec 32 := Scalar.muli c4_i32_281 v571
  let v573 : BitVec 32 := Scalar.addi v561 v572
  let v611 : BitVec 32 := Scalar.addi v610 v573
  let c1_i32_425 : BitVec 32 := 1#32
  let v838 : BitVec 32 := Scalar.muli v611 c1_i32_425
  let v839 : BitVec 32 := Scalar.addi c0_i32_426 v838
  v839.toNat
def k0_dev8 (d0 : Dev nD) : Nat :=
  let c0_i32_429 : BitVec 32 := 0#32
  let c8_i32_333 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c0_i32_319 : BitVec 32 := 0#32
  let v646 : BitVec 1 := Scalar.cmpi .sgt v51 c0_i32_319
  let v647 : BitVec 32 := Scalar.extui v646
  let c0_i32_320 : BitVec 32 := 0#32
  let v648 : BitVec 1 := Scalar.cmpi .slt v51 c0_i32_320
  let v649 : BitVec 32 := Scalar.extui v648
  let v650 : BitVec 32 := Scalar.subi v647 v649
  let c4_i32_318 : BitVec 32 := 4#32
  let c0_i32_321 : BitVec 32 := 0#32
  let v651 : BitVec 1 := Scalar.cmpi .sgt c4_i32_318 c0_i32_321
  let v652 : BitVec 32 := Scalar.extui v651
  let c0_i32_322 : BitVec 32 := 0#32
  let v653 : BitVec 1 := Scalar.cmpi .slt c4_i32_318 c0_i32_322
  let v654 : BitVec 32 := Scalar.extui v653
  let v655 : BitVec 32 := Scalar.subi v652 v654
  let v656 : BitVec 1 := Scalar.cmpi .ne v650 v655
  let v657 : BitVec 32 := Scalar.remsi v51 c4_i32_318
  let c0_i32_323 : BitVec 32 := 0#32
  let v658 : BitVec 1 := Scalar.cmpi .ne v657 c0_i32_323
  let v659 : BitVec 1 := Scalar.andi v656 v658
  let v645 : BitVec 32 := Scalar.divsi v51 c4_i32_318
  let c1_i32_324 : BitVec 32 := 1#32
  let v660 : BitVec 32 := Scalar.subi v645 c1_i32_324
  let v661 : BitVec 32 := Scalar.select v659 v660 v645
  let c2_i32_332 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c1_i32_298 : BitVec 32 := 1#32
  let v612 : BitVec 32 := Scalar.addi v114 c1_i32_298
  let c4_i32_299 : BitVec 32 := 4#32
  let c0_i32_300 : BitVec 32 := 0#32
  let v613 : BitVec 1 := Scalar.cmpi .eq c4_i32_299 c0_i32_300
  let c1_i32_301 : BitVec 32 := 1#32
  let v614 : BitVec 32 := Scalar.select v613 c1_i32_301 c4_i32_299
  let v615 : BitVec 32 := Scalar.remsi v612 v614
  let c0_i32_303 : BitVec 32 := 0#32
  let v617 : BitVec 1 := Scalar.cmpi .slt v615 c0_i32_303
  let c0_i32_304 : BitVec 32 := 0#32
  let v618 : BitVec 1 := Scalar.cmpi .slt v614 c0_i32_304
  let v619 : BitVec 1 := Scalar.xori v617 v618
  let c0_i32_302 : BitVec 32 := 0#32
  let v616 : BitVec 1 := Scalar.cmpi .ne v615 c0_i32_302
  let v620 : BitVec 1 := Scalar.andi v619 v616
  let v621 : BitVec 32 := Scalar.addi v615 v614
  let v622 : BitVec 32 := Scalar.select v620 v621 v615
  let c0_i32_326 : BitVec 32 := 0#32
  let v663 : BitVec 1 := Scalar.cmpi .sgt v622 c0_i32_326
  let v664 : BitVec 32 := Scalar.extui v663
  let c0_i32_327 : BitVec 32 := 0#32
  let v665 : BitVec 1 := Scalar.cmpi .slt v622 c0_i32_327
  let v666 : BitVec 32 := Scalar.extui v665
  let v667 : BitVec 32 := Scalar.subi v664 v666
  let c2_i32_325 : BitVec 32 := 2#32
  let c0_i32_328 : BitVec 32 := 0#32
  let v668 : BitVec 1 := Scalar.cmpi .sgt c2_i32_325 c0_i32_328
  let v669 : BitVec 32 := Scalar.extui v668
  let c0_i32_329 : BitVec 32 := 0#32
  let v670 : BitVec 1 := Scalar.cmpi .slt c2_i32_325 c0_i32_329
  let v671 : BitVec 32 := Scalar.extui v670
  let v672 : BitVec 32 := Scalar.subi v669 v671
  let v673 : BitVec 1 := Scalar.cmpi .ne v667 v672
  let v674 : BitVec 32 := Scalar.remsi v622 c2_i32_325
  let c0_i32_330 : BitVec 32 := 0#32
  let v675 : BitVec 1 := Scalar.cmpi .ne v674 c0_i32_330
  let v676 : BitVec 1 := Scalar.andi v673 v675
  let v662 : BitVec 32 := Scalar.divsi v622 c2_i32_325
  let c1_i32_331 : BitVec 32 := 1#32
  let v677 : BitVec 32 := Scalar.subi v662 c1_i32_331
  let v678 : BitVec 32 := Scalar.select v676 v677 v662
  let v679 : BitVec 32 := Scalar.muli c2_i32_332 v678
  let v680 : BitVec 32 := Scalar.addi v661 v679
  let v681 : BitVec 32 := Scalar.muli c8_i32_333 v680
  let c4_i32_305 : BitVec 32 := 4#32
  let c0_i32_306 : BitVec 32 := 0#32
  let v623 : BitVec 1 := Scalar.cmpi .eq c4_i32_305 c0_i32_306
  let c1_i32_307 : BitVec 32 := 1#32
  let v624 : BitVec 32 := Scalar.select v623 c1_i32_307 c4_i32_305
  let v625 : BitVec 32 := Scalar.remsi v51 v624
  let c0_i32_309 : BitVec 32 := 0#32
  let v627 : BitVec 1 := Scalar.cmpi .slt v625 c0_i32_309
  let c0_i32_310 : BitVec 32 := 0#32
  let v628 : BitVec 1 := Scalar.cmpi .slt v624 c0_i32_310
  let v629 : BitVec 1 := Scalar.xori v627 v628
  let c0_i32_308 : BitVec 32 := 0#32
  let v626 : BitVec 1 := Scalar.cmpi .ne v625 c0_i32_308
  let v630 : BitVec 1 := Scalar.andi v629 v626
  let v631 : BitVec 32 := Scalar.addi v625 v624
  let v632 : BitVec 32 := Scalar.select v630 v631 v625
  let c4_i32_317 : BitVec 32 := 4#32
  let c2_i32_311 : BitVec 32 := 2#32
  let c0_i32_312 : BitVec 32 := 0#32
  let v633 : BitVec 1 := Scalar.cmpi .eq c2_i32_311 c0_i32_312
  let c1_i32_313 : BitVec 32 := 1#32
  let v634 : BitVec 32 := Scalar.select v633 c1_i32_313 c2_i32_311
  let v635 : BitVec 32 := Scalar.remsi v622 v634
  let c0_i32_315 : BitVec 32 := 0#32
  let v637 : BitVec 1 := Scalar.cmpi .slt v635 c0_i32_315
  let c0_i32_316 : BitVec 32 := 0#32
  let v638 : BitVec 1 := Scalar.cmpi .slt v634 c0_i32_316
  let v639 : BitVec 1 := Scalar.xori v637 v638
  let c0_i32_314 : BitVec 32 := 0#32
  let v636 : BitVec 1 := Scalar.cmpi .ne v635 c0_i32_314
  let v640 : BitVec 1 := Scalar.andi v639 v636
  let v641 : BitVec 32 := Scalar.addi v635 v634
  let v642 : BitVec 32 := Scalar.select v640 v641 v635
  let v643 : BitVec 32 := Scalar.muli c4_i32_317 v642
  let v644 : BitVec 32 := Scalar.addi v632 v643
  let v682 : BitVec 32 := Scalar.addi v681 v644
  let c1_i32_428 : BitVec 32 := 1#32
  let v840 : BitVec 32 := Scalar.muli v682 c1_i32_428
  let v841 : BitVec 32 := Scalar.addi c0_i32_429 v840
  v841.toNat
def k0_dev9 (d0 : Dev nD) : Nat :=
  let c0_i32_432 : BitVec 32 := 0#32
  let c8_i32_369 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c0_i32_355 : BitVec 32 := 0#32
  let v717 : BitVec 1 := Scalar.cmpi .sgt v51 c0_i32_355
  let v718 : BitVec 32 := Scalar.extui v717
  let c0_i32_356 : BitVec 32 := 0#32
  let v719 : BitVec 1 := Scalar.cmpi .slt v51 c0_i32_356
  let v720 : BitVec 32 := Scalar.extui v719
  let v721 : BitVec 32 := Scalar.subi v718 v720
  let c4_i32_354 : BitVec 32 := 4#32
  let c0_i32_357 : BitVec 32 := 0#32
  let v722 : BitVec 1 := Scalar.cmpi .sgt c4_i32_354 c0_i32_357
  let v723 : BitVec 32 := Scalar.extui v722
  let c0_i32_358 : BitVec 32 := 0#32
  let v724 : BitVec 1 := Scalar.cmpi .slt c4_i32_354 c0_i32_358
  let v725 : BitVec 32 := Scalar.extui v724
  let v726 : BitVec 32 := Scalar.subi v723 v725
  let v727 : BitVec 1 := Scalar.cmpi .ne v721 v726
  let v728 : BitVec 32 := Scalar.remsi v51 c4_i32_354
  let c0_i32_359 : BitVec 32 := 0#32
  let v729 : BitVec 1 := Scalar.cmpi .ne v728 c0_i32_359
  let v730 : BitVec 1 := Scalar.andi v727 v729
  let v716 : BitVec 32 := Scalar.divsi v51 c4_i32_354
  let c1_i32_360 : BitVec 32 := 1#32
  let v731 : BitVec 32 := Scalar.subi v716 c1_i32_360
  let v732 : BitVec 32 := Scalar.select v730 v731 v716
  let c2_i32_368 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c2_i32_334 : BitVec 32 := 2#32
  let v683 : BitVec 32 := Scalar.addi v114 c2_i32_334
  let c4_i32_335 : BitVec 32 := 4#32
  let c0_i32_336 : BitVec 32 := 0#32
  let v684 : BitVec 1 := Scalar.cmpi .eq c4_i32_335 c0_i32_336
  let c1_i32_337 : BitVec 32 := 1#32
  let v685 : BitVec 32 := Scalar.select v684 c1_i32_337 c4_i32_335
  let v686 : BitVec 32 := Scalar.remsi v683 v685
  let c0_i32_339 : BitVec 32 := 0#32
  let v688 : BitVec 1 := Scalar.cmpi .slt v686 c0_i32_339
  let c0_i32_340 : BitVec 32 := 0#32
  let v689 : BitVec 1 := Scalar.cmpi .slt v685 c0_i32_340
  let v690 : BitVec 1 := Scalar.xori v688 v689
  let c0_i32_338 : BitVec 32 := 0#32
  let v687 : BitVec 1 := Scalar.cmpi .ne v686 c0_i32_338
  let v691 : BitVec 1 := Scalar.andi v690 v687
  let v692 : BitVec 32 := Scalar.addi v686 v685
  let v693 : BitVec 32 := Scalar.select v691 v692 v686
  let c0_i32_362 : BitVec 32 := 0#32
  let v734 : BitVec 1 := Scalar.cmpi .sgt v693 c0_i32_362
  let v735 : BitVec 32 := Scalar.extui v734
  let c0_i32_363 : BitVec 32 := 0#32
  let v736 : BitVec 1 := Scalar.cmpi .slt v693 c0_i32_363
  let v737 : BitVec 32 := Scalar.extui v736
  let v738 : BitVec 32 := Scalar.subi v735 v737
  let c2_i32_361 : BitVec 32 := 2#32
  let c0_i32_364 : BitVec 32 := 0#32
  let v739 : BitVec 1 := Scalar.cmpi .sgt c2_i32_361 c0_i32_364
  let v740 : BitVec 32 := Scalar.extui v739
  let c0_i32_365 : BitVec 32 := 0#32
  let v741 : BitVec 1 := Scalar.cmpi .slt c2_i32_361 c0_i32_365
  let v742 : BitVec 32 := Scalar.extui v741
  let v743 : BitVec 32 := Scalar.subi v740 v742
  let v744 : BitVec 1 := Scalar.cmpi .ne v738 v743
  let v745 : BitVec 32 := Scalar.remsi v693 c2_i32_361
  let c0_i32_366 : BitVec 32 := 0#32
  let v746 : BitVec 1 := Scalar.cmpi .ne v745 c0_i32_366
  let v747 : BitVec 1 := Scalar.andi v744 v746
  let v733 : BitVec 32 := Scalar.divsi v693 c2_i32_361
  let c1_i32_367 : BitVec 32 := 1#32
  let v748 : BitVec 32 := Scalar.subi v733 c1_i32_367
  let v749 : BitVec 32 := Scalar.select v747 v748 v733
  let v750 : BitVec 32 := Scalar.muli c2_i32_368 v749
  let v751 : BitVec 32 := Scalar.addi v732 v750
  let v752 : BitVec 32 := Scalar.muli c8_i32_369 v751
  let c4_i32_341 : BitVec 32 := 4#32
  let c0_i32_342 : BitVec 32 := 0#32
  let v694 : BitVec 1 := Scalar.cmpi .eq c4_i32_341 c0_i32_342
  let c1_i32_343 : BitVec 32 := 1#32
  let v695 : BitVec 32 := Scalar.select v694 c1_i32_343 c4_i32_341
  let v696 : BitVec 32 := Scalar.remsi v51 v695
  let c0_i32_345 : BitVec 32 := 0#32
  let v698 : BitVec 1 := Scalar.cmpi .slt v696 c0_i32_345
  let c0_i32_346 : BitVec 32 := 0#32
  let v699 : BitVec 1 := Scalar.cmpi .slt v695 c0_i32_346
  let v700 : BitVec 1 := Scalar.xori v698 v699
  let c0_i32_344 : BitVec 32 := 0#32
  let v697 : BitVec 1 := Scalar.cmpi .ne v696 c0_i32_344
  let v701 : BitVec 1 := Scalar.andi v700 v697
  let v702 : BitVec 32 := Scalar.addi v696 v695
  let v703 : BitVec 32 := Scalar.select v701 v702 v696
  let c4_i32_353 : BitVec 32 := 4#32
  let c2_i32_347 : BitVec 32 := 2#32
  let c0_i32_348 : BitVec 32 := 0#32
  let v704 : BitVec 1 := Scalar.cmpi .eq c2_i32_347 c0_i32_348
  let c1_i32_349 : BitVec 32 := 1#32
  let v705 : BitVec 32 := Scalar.select v704 c1_i32_349 c2_i32_347
  let v706 : BitVec 32 := Scalar.remsi v693 v705
  let c0_i32_351 : BitVec 32 := 0#32
  let v708 : BitVec 1 := Scalar.cmpi .slt v706 c0_i32_351
  let c0_i32_352 : BitVec 32 := 0#32
  let v709 : BitVec 1 := Scalar.cmpi .slt v705 c0_i32_352
  let v710 : BitVec 1 := Scalar.xori v708 v709
  let c0_i32_350 : BitVec 32 := 0#32
  let v707 : BitVec 1 := Scalar.cmpi .ne v706 c0_i32_350
  let v711 : BitVec 1 := Scalar.andi v710 v707
  let v712 : BitVec 32 := Scalar.addi v706 v705
  let v713 : BitVec 32 := Scalar.select v711 v712 v706
  let v714 : BitVec 32 := Scalar.muli c4_i32_353 v713
  let v715 : BitVec 32 := Scalar.addi v703 v714
  let v753 : BitVec 32 := Scalar.addi v752 v715
  let c1_i32_431 : BitVec 32 := 1#32
  let v842 : BitVec 32 := Scalar.muli v753 c1_i32_431
  let v843 : BitVec 32 := Scalar.addi c0_i32_432 v842
  v843.toNat
def k0_dev10 (d0 : Dev nD) : Nat :=
  let c0_i32_435 : BitVec 32 := 0#32
  let c8_i32_405 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c0_i32_391 : BitVec 32 := 0#32
  let v788 : BitVec 1 := Scalar.cmpi .sgt v51 c0_i32_391
  let v789 : BitVec 32 := Scalar.extui v788
  let c0_i32_392 : BitVec 32 := 0#32
  let v790 : BitVec 1 := Scalar.cmpi .slt v51 c0_i32_392
  let v791 : BitVec 32 := Scalar.extui v790
  let v792 : BitVec 32 := Scalar.subi v789 v791
  let c4_i32_390 : BitVec 32 := 4#32
  let c0_i32_393 : BitVec 32 := 0#32
  let v793 : BitVec 1 := Scalar.cmpi .sgt c4_i32_390 c0_i32_393
  let v794 : BitVec 32 := Scalar.extui v793
  let c0_i32_394 : BitVec 32 := 0#32
  let v795 : BitVec 1 := Scalar.cmpi .slt c4_i32_390 c0_i32_394
  let v796 : BitVec 32 := Scalar.extui v795
  let v797 : BitVec 32 := Scalar.subi v794 v796
  let v798 : BitVec 1 := Scalar.cmpi .ne v792 v797
  let v799 : BitVec 32 := Scalar.remsi v51 c4_i32_390
  let c0_i32_395 : BitVec 32 := 0#32
  let v800 : BitVec 1 := Scalar.cmpi .ne v799 c0_i32_395
  let v801 : BitVec 1 := Scalar.andi v798 v800
  let v787 : BitVec 32 := Scalar.divsi v51 c4_i32_390
  let c1_i32_396 : BitVec 32 := 1#32
  let v802 : BitVec 32 := Scalar.subi v787 c1_i32_396
  let v803 : BitVec 32 := Scalar.select v801 v802 v787
  let c2_i32_404 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c3_i32_370 : BitVec 32 := 3#32
  let v754 : BitVec 32 := Scalar.addi v114 c3_i32_370
  let c4_i32_371 : BitVec 32 := 4#32
  let c0_i32_372 : BitVec 32 := 0#32
  let v755 : BitVec 1 := Scalar.cmpi .eq c4_i32_371 c0_i32_372
  let c1_i32_373 : BitVec 32 := 1#32
  let v756 : BitVec 32 := Scalar.select v755 c1_i32_373 c4_i32_371
  let v757 : BitVec 32 := Scalar.remsi v754 v756
  let c0_i32_375 : BitVec 32 := 0#32
  let v759 : BitVec 1 := Scalar.cmpi .slt v757 c0_i32_375
  let c0_i32_376 : BitVec 32 := 0#32
  let v760 : BitVec 1 := Scalar.cmpi .slt v756 c0_i32_376
  let v761 : BitVec 1 := Scalar.xori v759 v760
  let c0_i32_374 : BitVec 32 := 0#32
  let v758 : BitVec 1 := Scalar.cmpi .ne v757 c0_i32_374
  let v762 : BitVec 1 := Scalar.andi v761 v758
  let v763 : BitVec 32 := Scalar.addi v757 v756
  let v764 : BitVec 32 := Scalar.select v762 v763 v757
  let c0_i32_398 : BitVec 32 := 0#32
  let v805 : BitVec 1 := Scalar.cmpi .sgt v764 c0_i32_398
  let v806 : BitVec 32 := Scalar.extui v805
  let c0_i32_399 : BitVec 32 := 0#32
  let v807 : BitVec 1 := Scalar.cmpi .slt v764 c0_i32_399
  let v808 : BitVec 32 := Scalar.extui v807
  let v809 : BitVec 32 := Scalar.subi v806 v808
  let c2_i32_397 : BitVec 32 := 2#32
  let c0_i32_400 : BitVec 32 := 0#32
  let v810 : BitVec 1 := Scalar.cmpi .sgt c2_i32_397 c0_i32_400
  let v811 : BitVec 32 := Scalar.extui v810
  let c0_i32_401 : BitVec 32 := 0#32
  let v812 : BitVec 1 := Scalar.cmpi .slt c2_i32_397 c0_i32_401
  let v813 : BitVec 32 := Scalar.extui v812
  let v814 : BitVec 32 := Scalar.subi v811 v813
  let v815 : BitVec 1 := Scalar.cmpi .ne v809 v814
  let v816 : BitVec 32 := Scalar.remsi v764 c2_i32_397
  let c0_i32_402 : BitVec 32 := 0#32
  let v817 : BitVec 1 := Scalar.cmpi .ne v816 c0_i32_402
  let v818 : BitVec 1 := Scalar.andi v815 v817
  let v804 : BitVec 32 := Scalar.divsi v764 c2_i32_397
  let c1_i32_403 : BitVec 32 := 1#32
  let v819 : BitVec 32 := Scalar.subi v804 c1_i32_403
  let v820 : BitVec 32 := Scalar.select v818 v819 v804
  let v821 : BitVec 32 := Scalar.muli c2_i32_404 v820
  let v822 : BitVec 32 := Scalar.addi v803 v821
  let v823 : BitVec 32 := Scalar.muli c8_i32_405 v822
  let c4_i32_377 : BitVec 32 := 4#32
  let c0_i32_378 : BitVec 32 := 0#32
  let v765 : BitVec 1 := Scalar.cmpi .eq c4_i32_377 c0_i32_378
  let c1_i32_379 : BitVec 32 := 1#32
  let v766 : BitVec 32 := Scalar.select v765 c1_i32_379 c4_i32_377
  let v767 : BitVec 32 := Scalar.remsi v51 v766
  let c0_i32_381 : BitVec 32 := 0#32
  let v769 : BitVec 1 := Scalar.cmpi .slt v767 c0_i32_381
  let c0_i32_382 : BitVec 32 := 0#32
  let v770 : BitVec 1 := Scalar.cmpi .slt v766 c0_i32_382
  let v771 : BitVec 1 := Scalar.xori v769 v770
  let c0_i32_380 : BitVec 32 := 0#32
  let v768 : BitVec 1 := Scalar.cmpi .ne v767 c0_i32_380
  let v772 : BitVec 1 := Scalar.andi v771 v768
  let v773 : BitVec 32 := Scalar.addi v767 v766
  let v774 : BitVec 32 := Scalar.select v772 v773 v767
  let c4_i32_389 : BitVec 32 := 4#32
  let c2_i32_383 : BitVec 32 := 2#32
  let c0_i32_384 : BitVec 32 := 0#32
  let v775 : BitVec 1 := Scalar.cmpi .eq c2_i32_383 c0_i32_384
  let c1_i32_385 : BitVec 32 := 1#32
  let v776 : BitVec 32 := Scalar.select v775 c1_i32_385 c2_i32_383
  let v777 : BitVec 32 := Scalar.remsi v764 v776
  let c0_i32_387 : BitVec 32 := 0#32
  let v779 : BitVec 1 := Scalar.cmpi .slt v777 c0_i32_387
  let c0_i32_388 : BitVec 32 := 0#32
  let v780 : BitVec 1 := Scalar.cmpi .slt v776 c0_i32_388
  let v781 : BitVec 1 := Scalar.xori v779 v780
  let c0_i32_386 : BitVec 32 := 0#32
  let v778 : BitVec 1 := Scalar.cmpi .ne v777 c0_i32_386
  let v782 : BitVec 1 := Scalar.andi v781 v778
  let v783 : BitVec 32 := Scalar.addi v777 v776
  let v784 : BitVec 32 := Scalar.select v782 v783 v777
  let v785 : BitVec 32 := Scalar.muli c4_i32_389 v784
  let v786 : BitVec 32 := Scalar.addi v774 v785
  let v824 : BitVec 32 := Scalar.addi v823 v786
  let c1_i32_434 : BitVec 32 := 1#32
  let v844 : BitVec 32 := Scalar.muli v824 c1_i32_434
  let v845 : BitVec 32 := Scalar.addi c0_i32_435 v844
  v845.toNat
def k0_off1 (d0 : Dev nD) (c1_i32_436 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let v846 : BitVec 32 := Scalar.addi v51 c1_i32_436
  let c8_i32_437 : BitVec 32 := 8#32
  let c0_i32_438 : BitVec 32 := 0#32
  let v847 : BitVec 1 := Scalar.cmpi .eq c8_i32_437 c0_i32_438
  let c1_i32_439 : BitVec 32 := 1#32
  let v848 : BitVec 32 := Scalar.select v847 c1_i32_439 c8_i32_437
  let v849 : BitVec 32 := Scalar.remsi v846 v848
  let c0_i32_441 : BitVec 32 := 0#32
  let v851 : BitVec 1 := Scalar.cmpi .slt v849 c0_i32_441
  let c0_i32_442 : BitVec 32 := 0#32
  let v852 : BitVec 1 := Scalar.cmpi .slt v848 c0_i32_442
  let v853 : BitVec 1 := Scalar.xori v851 v852
  let c0_i32_440 : BitVec 32 := 0#32
  let v850 : BitVec 1 := Scalar.cmpi .ne v849 c0_i32_440
  let v854 : BitVec 1 := Scalar.andi v853 v850
  let v855 : BitVec 32 := Scalar.addi v849 v848
  let v856 : BitVec 32 := Scalar.select v854 v855 v849
  let c192_i32 : BitVec 32 := 192#32
  let v857 : BitVec 32 := Scalar.muli v856 c192_i32
  let v858 : Index := Scalar.indexCast v857
  let c0 : Index := 0#32
  ![v858.toNat, 0]
def k0_off2 (d0 : Dev nD) (c1_i32_436 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let v846 : BitVec 32 := Scalar.addi v51 c1_i32_436
  let c8_i32_437 : BitVec 32 := 8#32
  let c0_i32_438 : BitVec 32 := 0#32
  let v847 : BitVec 1 := Scalar.cmpi .eq c8_i32_437 c0_i32_438
  let c1_i32_439 : BitVec 32 := 1#32
  let v848 : BitVec 32 := Scalar.select v847 c1_i32_439 c8_i32_437
  let v849 : BitVec 32 := Scalar.remsi v846 v848
  let c0_i32_441 : BitVec 32 := 0#32
  let v851 : BitVec 1 := Scalar.cmpi .slt v849 c0_i32_441
  let c0_i32_442 : BitVec 32 := 0#32
  let v852 : BitVec 1 := Scalar.cmpi .slt v848 c0_i32_442
  let v853 : BitVec 1 := Scalar.xori v851 v852
  let c0_i32_440 : BitVec 32 := 0#32
  let v850 : BitVec 1 := Scalar.cmpi .ne v849 c0_i32_440
  let v854 : BitVec 1 := Scalar.andi v853 v850
  let v855 : BitVec 32 := Scalar.addi v849 v848
  let v856 : BitVec 32 := Scalar.select v854 v855 v849
  let c192_i32 : BitVec 32 := 192#32
  let v857 : BitVec 32 := Scalar.muli v856 c192_i32
  let v864 : Index := Scalar.indexCast v857
  let c0_445 : Index := 0#32
  ![v864.toNat, 0]
def k0_off3 (d0 : Dev nD) (c1_i32_436 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let v846 : BitVec 32 := Scalar.addi v51 c1_i32_436
  let c8_i32_437 : BitVec 32 := 8#32
  let c0_i32_438 : BitVec 32 := 0#32
  let v847 : BitVec 1 := Scalar.cmpi .eq c8_i32_437 c0_i32_438
  let c1_i32_439 : BitVec 32 := 1#32
  let v848 : BitVec 32 := Scalar.select v847 c1_i32_439 c8_i32_437
  let v849 : BitVec 32 := Scalar.remsi v846 v848
  let c0_i32_441 : BitVec 32 := 0#32
  let v851 : BitVec 1 := Scalar.cmpi .slt v849 c0_i32_441
  let c0_i32_442 : BitVec 32 := 0#32
  let v852 : BitVec 1 := Scalar.cmpi .slt v848 c0_i32_442
  let v853 : BitVec 1 := Scalar.xori v851 v852
  let c0_i32_440 : BitVec 32 := 0#32
  let v850 : BitVec 1 := Scalar.cmpi .ne v849 c0_i32_440
  let v854 : BitVec 1 := Scalar.andi v853 v850
  let v855 : BitVec 32 := Scalar.addi v849 v848
  let v856 : BitVec 32 := Scalar.select v854 v855 v849
  let c192_i32 : BitVec 32 := 192#32
  let v857 : BitVec 32 := Scalar.muli v856 c192_i32
  let c0_i32_453 : BitVec 32 := 0#32
  ![v857.toNat, 0]
def k0_dev11 (d0 : Dev nD) : Nat :=
  let c0_i32_450 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c1_i32_50 : BitVec 32 := 1#32
  let v115 : BitVec 32 := Scalar.addi v51 c1_i32_50
  let c8_i32_51 : BitVec 32 := 8#32
  let c0_i32_52 : BitVec 32 := 0#32
  let v116 : BitVec 1 := Scalar.cmpi .eq c8_i32_51 c0_i32_52
  let c1_i32_53 : BitVec 32 := 1#32
  let v117 : BitVec 32 := Scalar.select v116 c1_i32_53 c8_i32_51
  let v118 : BitVec 32 := Scalar.remsi v115 v117
  let c0_i32_55 : BitVec 32 := 0#32
  let v120 : BitVec 1 := Scalar.cmpi .slt v118 c0_i32_55
  let c0_i32_56 : BitVec 32 := 0#32
  let v121 : BitVec 1 := Scalar.cmpi .slt v117 c0_i32_56
  let v122 : BitVec 1 := Scalar.xori v120 v121
  let c0_i32_54 : BitVec 32 := 0#32
  let v119 : BitVec 1 := Scalar.cmpi .ne v118 c0_i32_54
  let v123 : BitVec 1 := Scalar.andi v122 v119
  let v124 : BitVec 32 := Scalar.addi v118 v117
  let v125 : BitVec 32 := Scalar.select v123 v124 v118
  let c0_i32_71 : BitVec 32 := 0#32
  let v149 : BitVec 1 := Scalar.cmpi .sgt v125 c0_i32_71
  let v150 : BitVec 32 := Scalar.extui v149
  let c0_i32_72 : BitVec 32 := 0#32
  let v151 : BitVec 1 := Scalar.cmpi .slt v125 c0_i32_72
  let v152 : BitVec 32 := Scalar.extui v151
  let v153 : BitVec 32 := Scalar.subi v150 v152
  let c4_i32_70 : BitVec 32 := 4#32
  let c0_i32_73 : BitVec 32 := 0#32
  let v154 : BitVec 1 := Scalar.cmpi .sgt c4_i32_70 c0_i32_73
  let v155 : BitVec 32 := Scalar.extui v154
  let c0_i32_74 : BitVec 32 := 0#32
  let v156 : BitVec 1 := Scalar.cmpi .slt c4_i32_70 c0_i32_74
  let v157 : BitVec 32 := Scalar.extui v156
  let v158 : BitVec 32 := Scalar.subi v155 v157
  let v159 : BitVec 1 := Scalar.cmpi .ne v153 v158
  let v160 : BitVec 32 := Scalar.remsi v125 c4_i32_70
  let c0_i32_75 : BitVec 32 := 0#32
  let v161 : BitVec 1 := Scalar.cmpi .ne v160 c0_i32_75
  let v162 : BitVec 1 := Scalar.andi v159 v161
  let v148 : BitVec 32 := Scalar.divsi v125 c4_i32_70
  let c1_i32_76 : BitVec 32 := 1#32
  let v163 : BitVec 32 := Scalar.subi v148 c1_i32_76
  let v164 : BitVec 32 := Scalar.select v162 v163 v148
  let c2_i32_84 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_78 : BitVec 32 := 0#32
  let v166 : BitVec 1 := Scalar.cmpi .sgt v114 c0_i32_78
  let v167 : BitVec 32 := Scalar.extui v166
  let c0_i32_79 : BitVec 32 := 0#32
  let v168 : BitVec 1 := Scalar.cmpi .slt v114 c0_i32_79
  let v169 : BitVec 32 := Scalar.extui v168
  let v170 : BitVec 32 := Scalar.subi v167 v169
  let c2_i32_77 : BitVec 32 := 2#32
  let c0_i32_80 : BitVec 32 := 0#32
  let v171 : BitVec 1 := Scalar.cmpi .sgt c2_i32_77 c0_i32_80
  let v172 : BitVec 32 := Scalar.extui v171
  let c0_i32_81 : BitVec 32 := 0#32
  let v173 : BitVec 1 := Scalar.cmpi .slt c2_i32_77 c0_i32_81
  let v174 : BitVec 32 := Scalar.extui v173
  let v175 : BitVec 32 := Scalar.subi v172 v174
  let v176 : BitVec 1 := Scalar.cmpi .ne v170 v175
  let v177 : BitVec 32 := Scalar.remsi v114 c2_i32_77
  let c0_i32_82 : BitVec 32 := 0#32
  let v178 : BitVec 1 := Scalar.cmpi .ne v177 c0_i32_82
  let v179 : BitVec 1 := Scalar.andi v176 v178
  let v165 : BitVec 32 := Scalar.divsi v114 c2_i32_77
  let c1_i32_83 : BitVec 32 := 1#32
  let v180 : BitVec 32 := Scalar.subi v165 c1_i32_83
  let v181 : BitVec 32 := Scalar.select v179 v180 v165
  let v182 : BitVec 32 := Scalar.muli c2_i32_84 v181
  let v183 : BitVec 32 := Scalar.addi v164 v182
  let v184 : BitVec 32 := Scalar.muli c8_i32_85 v183
  let c4_i32_57 : BitVec 32 := 4#32
  let c0_i32_58 : BitVec 32 := 0#32
  let v126 : BitVec 1 := Scalar.cmpi .eq c4_i32_57 c0_i32_58
  let c1_i32_59 : BitVec 32 := 1#32
  let v127 : BitVec 32 := Scalar.select v126 c1_i32_59 c4_i32_57
  let v128 : BitVec 32 := Scalar.remsi v125 v127
  let c0_i32_61 : BitVec 32 := 0#32
  let v130 : BitVec 1 := Scalar.cmpi .slt v128 c0_i32_61
  let c0_i32_62 : BitVec 32 := 0#32
  let v131 : BitVec 1 := Scalar.cmpi .slt v127 c0_i32_62
  let v132 : BitVec 1 := Scalar.xori v130 v131
  let c0_i32_60 : BitVec 32 := 0#32
  let v129 : BitVec 1 := Scalar.cmpi .ne v128 c0_i32_60
  let v133 : BitVec 1 := Scalar.andi v132 v129
  let v134 : BitVec 32 := Scalar.addi v128 v127
  let v135 : BitVec 32 := Scalar.select v133 v134 v128
  let c4_i32_69 : BitVec 32 := 4#32
  let c2_i32_63 : BitVec 32 := 2#32
  let c0_i32_64 : BitVec 32 := 0#32
  let v136 : BitVec 1 := Scalar.cmpi .eq c2_i32_63 c0_i32_64
  let c1_i32_65 : BitVec 32 := 1#32
  let v137 : BitVec 32 := Scalar.select v136 c1_i32_65 c2_i32_63
  let v138 : BitVec 32 := Scalar.remsi v114 v137
  let c0_i32_67 : BitVec 32 := 0#32
  let v140 : BitVec 1 := Scalar.cmpi .slt v138 c0_i32_67
  let c0_i32_68 : BitVec 32 := 0#32
  let v141 : BitVec 1 := Scalar.cmpi .slt v137 c0_i32_68
  let v142 : BitVec 1 := Scalar.xori v140 v141
  let c0_i32_66 : BitVec 32 := 0#32
  let v139 : BitVec 1 := Scalar.cmpi .ne v138 c0_i32_66
  let v143 : BitVec 1 := Scalar.andi v142 v139
  let v144 : BitVec 32 := Scalar.addi v138 v137
  let v145 : BitVec 32 := Scalar.select v143 v144 v138
  let v146 : BitVec 32 := Scalar.muli c4_i32_69 v145
  let v147 : BitVec 32 := Scalar.addi v135 v146
  let v185 : BitVec 32 := Scalar.addi v184 v147
  let c1_i32_449 : BitVec 32 := 1#32
  let v866 : BitVec 32 := Scalar.muli v185 c1_i32_449
  let v867 : BitVec 32 := Scalar.addi c0_i32_450 v866
  v867.toNat
def k0_dev12 (d0 : Dev nD) : Nat :=
  let c0_i32_471 : BitVec 32 := 0#32
  let c8_i32_121 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c2_i32_86 : BitVec 32 := 2#32
  let v186 : BitVec 32 := Scalar.addi v51 c2_i32_86
  let c8_i32_87 : BitVec 32 := 8#32
  let c0_i32_88 : BitVec 32 := 0#32
  let v187 : BitVec 1 := Scalar.cmpi .eq c8_i32_87 c0_i32_88
  let c1_i32_89 : BitVec 32 := 1#32
  let v188 : BitVec 32 := Scalar.select v187 c1_i32_89 c8_i32_87
  let v189 : BitVec 32 := Scalar.remsi v186 v188
  let c0_i32_91 : BitVec 32 := 0#32
  let v191 : BitVec 1 := Scalar.cmpi .slt v189 c0_i32_91
  let c0_i32_92 : BitVec 32 := 0#32
  let v192 : BitVec 1 := Scalar.cmpi .slt v188 c0_i32_92
  let v193 : BitVec 1 := Scalar.xori v191 v192
  let c0_i32_90 : BitVec 32 := 0#32
  let v190 : BitVec 1 := Scalar.cmpi .ne v189 c0_i32_90
  let v194 : BitVec 1 := Scalar.andi v193 v190
  let v195 : BitVec 32 := Scalar.addi v189 v188
  let v196 : BitVec 32 := Scalar.select v194 v195 v189
  let c0_i32_107 : BitVec 32 := 0#32
  let v220 : BitVec 1 := Scalar.cmpi .sgt v196 c0_i32_107
  let v221 : BitVec 32 := Scalar.extui v220
  let c0_i32_108 : BitVec 32 := 0#32
  let v222 : BitVec 1 := Scalar.cmpi .slt v196 c0_i32_108
  let v223 : BitVec 32 := Scalar.extui v222
  let v224 : BitVec 32 := Scalar.subi v221 v223
  let c4_i32_106 : BitVec 32 := 4#32
  let c0_i32_109 : BitVec 32 := 0#32
  let v225 : BitVec 1 := Scalar.cmpi .sgt c4_i32_106 c0_i32_109
  let v226 : BitVec 32 := Scalar.extui v225
  let c0_i32_110 : BitVec 32 := 0#32
  let v227 : BitVec 1 := Scalar.cmpi .slt c4_i32_106 c0_i32_110
  let v228 : BitVec 32 := Scalar.extui v227
  let v229 : BitVec 32 := Scalar.subi v226 v228
  let v230 : BitVec 1 := Scalar.cmpi .ne v224 v229
  let v231 : BitVec 32 := Scalar.remsi v196 c4_i32_106
  let c0_i32_111 : BitVec 32 := 0#32
  let v232 : BitVec 1 := Scalar.cmpi .ne v231 c0_i32_111
  let v233 : BitVec 1 := Scalar.andi v230 v232
  let v219 : BitVec 32 := Scalar.divsi v196 c4_i32_106
  let c1_i32_112 : BitVec 32 := 1#32
  let v234 : BitVec 32 := Scalar.subi v219 c1_i32_112
  let v235 : BitVec 32 := Scalar.select v233 v234 v219
  let c2_i32_120 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_114 : BitVec 32 := 0#32
  let v237 : BitVec 1 := Scalar.cmpi .sgt v114 c0_i32_114
  let v238 : BitVec 32 := Scalar.extui v237
  let c0_i32_115 : BitVec 32 := 0#32
  let v239 : BitVec 1 := Scalar.cmpi .slt v114 c0_i32_115
  let v240 : BitVec 32 := Scalar.extui v239
  let v241 : BitVec 32 := Scalar.subi v238 v240
  let c2_i32_113 : BitVec 32 := 2#32
  let c0_i32_116 : BitVec 32 := 0#32
  let v242 : BitVec 1 := Scalar.cmpi .sgt c2_i32_113 c0_i32_116
  let v243 : BitVec 32 := Scalar.extui v242
  let c0_i32_117 : BitVec 32 := 0#32
  let v244 : BitVec 1 := Scalar.cmpi .slt c2_i32_113 c0_i32_117
  let v245 : BitVec 32 := Scalar.extui v244
  let v246 : BitVec 32 := Scalar.subi v243 v245
  let v247 : BitVec 1 := Scalar.cmpi .ne v241 v246
  let v248 : BitVec 32 := Scalar.remsi v114 c2_i32_113
  let c0_i32_118 : BitVec 32 := 0#32
  let v249 : BitVec 1 := Scalar.cmpi .ne v248 c0_i32_118
  let v250 : BitVec 1 := Scalar.andi v247 v249
  let v236 : BitVec 32 := Scalar.divsi v114 c2_i32_113
  let c1_i32_119 : BitVec 32 := 1#32
  let v251 : BitVec 32 := Scalar.subi v236 c1_i32_119
  let v252 : BitVec 32 := Scalar.select v250 v251 v236
  let v253 : BitVec 32 := Scalar.muli c2_i32_120 v252
  let v254 : BitVec 32 := Scalar.addi v235 v253
  let v255 : BitVec 32 := Scalar.muli c8_i32_121 v254
  let c4_i32_93 : BitVec 32 := 4#32
  let c0_i32_94 : BitVec 32 := 0#32
  let v197 : BitVec 1 := Scalar.cmpi .eq c4_i32_93 c0_i32_94
  let c1_i32_95 : BitVec 32 := 1#32
  let v198 : BitVec 32 := Scalar.select v197 c1_i32_95 c4_i32_93
  let v199 : BitVec 32 := Scalar.remsi v196 v198
  let c0_i32_97 : BitVec 32 := 0#32
  let v201 : BitVec 1 := Scalar.cmpi .slt v199 c0_i32_97
  let c0_i32_98 : BitVec 32 := 0#32
  let v202 : BitVec 1 := Scalar.cmpi .slt v198 c0_i32_98
  let v203 : BitVec 1 := Scalar.xori v201 v202
  let c0_i32_96 : BitVec 32 := 0#32
  let v200 : BitVec 1 := Scalar.cmpi .ne v199 c0_i32_96
  let v204 : BitVec 1 := Scalar.andi v203 v200
  let v205 : BitVec 32 := Scalar.addi v199 v198
  let v206 : BitVec 32 := Scalar.select v204 v205 v199
  let c4_i32_105 : BitVec 32 := 4#32
  let c2_i32_99 : BitVec 32 := 2#32
  let c0_i32_100 : BitVec 32 := 0#32
  let v207 : BitVec 1 := Scalar.cmpi .eq c2_i32_99 c0_i32_100
  let c1_i32_101 : BitVec 32 := 1#32
  let v208 : BitVec 32 := Scalar.select v207 c1_i32_101 c2_i32_99
  let v209 : BitVec 32 := Scalar.remsi v114 v208
  let c0_i32_103 : BitVec 32 := 0#32
  let v211 : BitVec 1 := Scalar.cmpi .slt v209 c0_i32_103
  let c0_i32_104 : BitVec 32 := 0#32
  let v212 : BitVec 1 := Scalar.cmpi .slt v208 c0_i32_104
  let v213 : BitVec 1 := Scalar.xori v211 v212
  let c0_i32_102 : BitVec 32 := 0#32
  let v210 : BitVec 1 := Scalar.cmpi .ne v209 c0_i32_102
  let v214 : BitVec 1 := Scalar.andi v213 v210
  let v215 : BitVec 32 := Scalar.addi v209 v208
  let v216 : BitVec 32 := Scalar.select v214 v215 v209
  let v217 : BitVec 32 := Scalar.muli c4_i32_105 v216
  let v218 : BitVec 32 := Scalar.addi v206 v217
  let v256 : BitVec 32 := Scalar.addi v255 v218
  let c1_i32_470 : BitVec 32 := 1#32
  let v895 : BitVec 32 := Scalar.muli v256 c1_i32_470
  let v896 : BitVec 32 := Scalar.addi c0_i32_471 v895
  v896.toNat
def k0_dev13 (d0 : Dev nD) : Nat :=
  let c0_i32_492 : BitVec 32 := 0#32
  let c8_i32_156 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c3_i32 : BitVec 32 := 3#32
  let v257 : BitVec 32 := Scalar.addi v51 c3_i32
  let c8_i32_122 : BitVec 32 := 8#32
  let c0_i32_123 : BitVec 32 := 0#32
  let v258 : BitVec 1 := Scalar.cmpi .eq c8_i32_122 c0_i32_123
  let c1_i32_124 : BitVec 32 := 1#32
  let v259 : BitVec 32 := Scalar.select v258 c1_i32_124 c8_i32_122
  let v260 : BitVec 32 := Scalar.remsi v257 v259
  let c0_i32_126 : BitVec 32 := 0#32
  let v262 : BitVec 1 := Scalar.cmpi .slt v260 c0_i32_126
  let c0_i32_127 : BitVec 32 := 0#32
  let v263 : BitVec 1 := Scalar.cmpi .slt v259 c0_i32_127
  let v264 : BitVec 1 := Scalar.xori v262 v263
  let c0_i32_125 : BitVec 32 := 0#32
  let v261 : BitVec 1 := Scalar.cmpi .ne v260 c0_i32_125
  let v265 : BitVec 1 := Scalar.andi v264 v261
  let v266 : BitVec 32 := Scalar.addi v260 v259
  let v267 : BitVec 32 := Scalar.select v265 v266 v260
  let c0_i32_142 : BitVec 32 := 0#32
  let v291 : BitVec 1 := Scalar.cmpi .sgt v267 c0_i32_142
  let v292 : BitVec 32 := Scalar.extui v291
  let c0_i32_143 : BitVec 32 := 0#32
  let v293 : BitVec 1 := Scalar.cmpi .slt v267 c0_i32_143
  let v294 : BitVec 32 := Scalar.extui v293
  let v295 : BitVec 32 := Scalar.subi v292 v294
  let c4_i32_141 : BitVec 32 := 4#32
  let c0_i32_144 : BitVec 32 := 0#32
  let v296 : BitVec 1 := Scalar.cmpi .sgt c4_i32_141 c0_i32_144
  let v297 : BitVec 32 := Scalar.extui v296
  let c0_i32_145 : BitVec 32 := 0#32
  let v298 : BitVec 1 := Scalar.cmpi .slt c4_i32_141 c0_i32_145
  let v299 : BitVec 32 := Scalar.extui v298
  let v300 : BitVec 32 := Scalar.subi v297 v299
  let v301 : BitVec 1 := Scalar.cmpi .ne v295 v300
  let v302 : BitVec 32 := Scalar.remsi v267 c4_i32_141
  let c0_i32_146 : BitVec 32 := 0#32
  let v303 : BitVec 1 := Scalar.cmpi .ne v302 c0_i32_146
  let v304 : BitVec 1 := Scalar.andi v301 v303
  let v290 : BitVec 32 := Scalar.divsi v267 c4_i32_141
  let c1_i32_147 : BitVec 32 := 1#32
  let v305 : BitVec 32 := Scalar.subi v290 c1_i32_147
  let v306 : BitVec 32 := Scalar.select v304 v305 v290
  let c2_i32_155 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_149 : BitVec 32 := 0#32
  let v308 : BitVec 1 := Scalar.cmpi .sgt v114 c0_i32_149
  let v309 : BitVec 32 := Scalar.extui v308
  let c0_i32_150 : BitVec 32 := 0#32
  let v310 : BitVec 1 := Scalar.cmpi .slt v114 c0_i32_150
  let v311 : BitVec 32 := Scalar.extui v310
  let v312 : BitVec 32 := Scalar.subi v309 v311
  let c2_i32_148 : BitVec 32 := 2#32
  let c0_i32_151 : BitVec 32 := 0#32
  let v313 : BitVec 1 := Scalar.cmpi .sgt c2_i32_148 c0_i32_151
  let v314 : BitVec 32 := Scalar.extui v313
  let c0_i32_152 : BitVec 32 := 0#32
  let v315 : BitVec 1 := Scalar.cmpi .slt c2_i32_148 c0_i32_152
  let v316 : BitVec 32 := Scalar.extui v315
  let v317 : BitVec 32 := Scalar.subi v314 v316
  let v318 : BitVec 1 := Scalar.cmpi .ne v312 v317
  let v319 : BitVec 32 := Scalar.remsi v114 c2_i32_148
  let c0_i32_153 : BitVec 32 := 0#32
  let v320 : BitVec 1 := Scalar.cmpi .ne v319 c0_i32_153
  let v321 : BitVec 1 := Scalar.andi v318 v320
  let v307 : BitVec 32 := Scalar.divsi v114 c2_i32_148
  let c1_i32_154 : BitVec 32 := 1#32
  let v322 : BitVec 32 := Scalar.subi v307 c1_i32_154
  let v323 : BitVec 32 := Scalar.select v321 v322 v307
  let v324 : BitVec 32 := Scalar.muli c2_i32_155 v323
  let v325 : BitVec 32 := Scalar.addi v306 v324
  let v326 : BitVec 32 := Scalar.muli c8_i32_156 v325
  let c4_i32_128 : BitVec 32 := 4#32
  let c0_i32_129 : BitVec 32 := 0#32
  let v268 : BitVec 1 := Scalar.cmpi .eq c4_i32_128 c0_i32_129
  let c1_i32_130 : BitVec 32 := 1#32
  let v269 : BitVec 32 := Scalar.select v268 c1_i32_130 c4_i32_128
  let v270 : BitVec 32 := Scalar.remsi v267 v269
  let c0_i32_132 : BitVec 32 := 0#32
  let v272 : BitVec 1 := Scalar.cmpi .slt v270 c0_i32_132
  let c0_i32_133 : BitVec 32 := 0#32
  let v273 : BitVec 1 := Scalar.cmpi .slt v269 c0_i32_133
  let v274 : BitVec 1 := Scalar.xori v272 v273
  let c0_i32_131 : BitVec 32 := 0#32
  let v271 : BitVec 1 := Scalar.cmpi .ne v270 c0_i32_131
  let v275 : BitVec 1 := Scalar.andi v274 v271
  let v276 : BitVec 32 := Scalar.addi v270 v269
  let v277 : BitVec 32 := Scalar.select v275 v276 v270
  let c4_i32_140 : BitVec 32 := 4#32
  let c2_i32_134 : BitVec 32 := 2#32
  let c0_i32_135 : BitVec 32 := 0#32
  let v278 : BitVec 1 := Scalar.cmpi .eq c2_i32_134 c0_i32_135
  let c1_i32_136 : BitVec 32 := 1#32
  let v279 : BitVec 32 := Scalar.select v278 c1_i32_136 c2_i32_134
  let v280 : BitVec 32 := Scalar.remsi v114 v279
  let c0_i32_138 : BitVec 32 := 0#32
  let v282 : BitVec 1 := Scalar.cmpi .slt v280 c0_i32_138
  let c0_i32_139 : BitVec 32 := 0#32
  let v283 : BitVec 1 := Scalar.cmpi .slt v279 c0_i32_139
  let v284 : BitVec 1 := Scalar.xori v282 v283
  let c0_i32_137 : BitVec 32 := 0#32
  let v281 : BitVec 1 := Scalar.cmpi .ne v280 c0_i32_137
  let v285 : BitVec 1 := Scalar.andi v284 v281
  let v286 : BitVec 32 := Scalar.addi v280 v279
  let v287 : BitVec 32 := Scalar.select v285 v286 v280
  let v288 : BitVec 32 := Scalar.muli c4_i32_140 v287
  let v289 : BitVec 32 := Scalar.addi v277 v288
  let v327 : BitVec 32 := Scalar.addi v326 v289
  let c1_i32_491 : BitVec 32 := 1#32
  let v924 : BitVec 32 := Scalar.muli v327 c1_i32_491
  let v925 : BitVec 32 := Scalar.addi c0_i32_492 v924
  v925.toNat
def k0_dev14 (d0 : Dev nD) : Nat :=
  let c0_i32_513 : BitVec 32 := 0#32
  let c8_i32_192 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c4_i32_157 : BitVec 32 := 4#32
  let v328 : BitVec 32 := Scalar.addi v51 c4_i32_157
  let c8_i32_158 : BitVec 32 := 8#32
  let c0_i32_159 : BitVec 32 := 0#32
  let v329 : BitVec 1 := Scalar.cmpi .eq c8_i32_158 c0_i32_159
  let c1_i32_160 : BitVec 32 := 1#32
  let v330 : BitVec 32 := Scalar.select v329 c1_i32_160 c8_i32_158
  let v331 : BitVec 32 := Scalar.remsi v328 v330
  let c0_i32_162 : BitVec 32 := 0#32
  let v333 : BitVec 1 := Scalar.cmpi .slt v331 c0_i32_162
  let c0_i32_163 : BitVec 32 := 0#32
  let v334 : BitVec 1 := Scalar.cmpi .slt v330 c0_i32_163
  let v335 : BitVec 1 := Scalar.xori v333 v334
  let c0_i32_161 : BitVec 32 := 0#32
  let v332 : BitVec 1 := Scalar.cmpi .ne v331 c0_i32_161
  let v336 : BitVec 1 := Scalar.andi v335 v332
  let v337 : BitVec 32 := Scalar.addi v331 v330
  let v338 : BitVec 32 := Scalar.select v336 v337 v331
  let c0_i32_178 : BitVec 32 := 0#32
  let v362 : BitVec 1 := Scalar.cmpi .sgt v338 c0_i32_178
  let v363 : BitVec 32 := Scalar.extui v362
  let c0_i32_179 : BitVec 32 := 0#32
  let v364 : BitVec 1 := Scalar.cmpi .slt v338 c0_i32_179
  let v365 : BitVec 32 := Scalar.extui v364
  let v366 : BitVec 32 := Scalar.subi v363 v365
  let c4_i32_177 : BitVec 32 := 4#32
  let c0_i32_180 : BitVec 32 := 0#32
  let v367 : BitVec 1 := Scalar.cmpi .sgt c4_i32_177 c0_i32_180
  let v368 : BitVec 32 := Scalar.extui v367
  let c0_i32_181 : BitVec 32 := 0#32
  let v369 : BitVec 1 := Scalar.cmpi .slt c4_i32_177 c0_i32_181
  let v370 : BitVec 32 := Scalar.extui v369
  let v371 : BitVec 32 := Scalar.subi v368 v370
  let v372 : BitVec 1 := Scalar.cmpi .ne v366 v371
  let v373 : BitVec 32 := Scalar.remsi v338 c4_i32_177
  let c0_i32_182 : BitVec 32 := 0#32
  let v374 : BitVec 1 := Scalar.cmpi .ne v373 c0_i32_182
  let v375 : BitVec 1 := Scalar.andi v372 v374
  let v361 : BitVec 32 := Scalar.divsi v338 c4_i32_177
  let c1_i32_183 : BitVec 32 := 1#32
  let v376 : BitVec 32 := Scalar.subi v361 c1_i32_183
  let v377 : BitVec 32 := Scalar.select v375 v376 v361
  let c2_i32_191 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_185 : BitVec 32 := 0#32
  let v379 : BitVec 1 := Scalar.cmpi .sgt v114 c0_i32_185
  let v380 : BitVec 32 := Scalar.extui v379
  let c0_i32_186 : BitVec 32 := 0#32
  let v381 : BitVec 1 := Scalar.cmpi .slt v114 c0_i32_186
  let v382 : BitVec 32 := Scalar.extui v381
  let v383 : BitVec 32 := Scalar.subi v380 v382
  let c2_i32_184 : BitVec 32 := 2#32
  let c0_i32_187 : BitVec 32 := 0#32
  let v384 : BitVec 1 := Scalar.cmpi .sgt c2_i32_184 c0_i32_187
  let v385 : BitVec 32 := Scalar.extui v384
  let c0_i32_188 : BitVec 32 := 0#32
  let v386 : BitVec 1 := Scalar.cmpi .slt c2_i32_184 c0_i32_188
  let v387 : BitVec 32 := Scalar.extui v386
  let v388 : BitVec 32 := Scalar.subi v385 v387
  let v389 : BitVec 1 := Scalar.cmpi .ne v383 v388
  let v390 : BitVec 32 := Scalar.remsi v114 c2_i32_184
  let c0_i32_189 : BitVec 32 := 0#32
  let v391 : BitVec 1 := Scalar.cmpi .ne v390 c0_i32_189
  let v392 : BitVec 1 := Scalar.andi v389 v391
  let v378 : BitVec 32 := Scalar.divsi v114 c2_i32_184
  let c1_i32_190 : BitVec 32 := 1#32
  let v393 : BitVec 32 := Scalar.subi v378 c1_i32_190
  let v394 : BitVec 32 := Scalar.select v392 v393 v378
  let v395 : BitVec 32 := Scalar.muli c2_i32_191 v394
  let v396 : BitVec 32 := Scalar.addi v377 v395
  let v397 : BitVec 32 := Scalar.muli c8_i32_192 v396
  let c4_i32_164 : BitVec 32 := 4#32
  let c0_i32_165 : BitVec 32 := 0#32
  let v339 : BitVec 1 := Scalar.cmpi .eq c4_i32_164 c0_i32_165
  let c1_i32_166 : BitVec 32 := 1#32
  let v340 : BitVec 32 := Scalar.select v339 c1_i32_166 c4_i32_164
  let v341 : BitVec 32 := Scalar.remsi v338 v340
  let c0_i32_168 : BitVec 32 := 0#32
  let v343 : BitVec 1 := Scalar.cmpi .slt v341 c0_i32_168
  let c0_i32_169 : BitVec 32 := 0#32
  let v344 : BitVec 1 := Scalar.cmpi .slt v340 c0_i32_169
  let v345 : BitVec 1 := Scalar.xori v343 v344
  let c0_i32_167 : BitVec 32 := 0#32
  let v342 : BitVec 1 := Scalar.cmpi .ne v341 c0_i32_167
  let v346 : BitVec 1 := Scalar.andi v345 v342
  let v347 : BitVec 32 := Scalar.addi v341 v340
  let v348 : BitVec 32 := Scalar.select v346 v347 v341
  let c4_i32_176 : BitVec 32 := 4#32
  let c2_i32_170 : BitVec 32 := 2#32
  let c0_i32_171 : BitVec 32 := 0#32
  let v349 : BitVec 1 := Scalar.cmpi .eq c2_i32_170 c0_i32_171
  let c1_i32_172 : BitVec 32 := 1#32
  let v350 : BitVec 32 := Scalar.select v349 c1_i32_172 c2_i32_170
  let v351 : BitVec 32 := Scalar.remsi v114 v350
  let c0_i32_174 : BitVec 32 := 0#32
  let v353 : BitVec 1 := Scalar.cmpi .slt v351 c0_i32_174
  let c0_i32_175 : BitVec 32 := 0#32
  let v354 : BitVec 1 := Scalar.cmpi .slt v350 c0_i32_175
  let v355 : BitVec 1 := Scalar.xori v353 v354
  let c0_i32_173 : BitVec 32 := 0#32
  let v352 : BitVec 1 := Scalar.cmpi .ne v351 c0_i32_173
  let v356 : BitVec 1 := Scalar.andi v355 v352
  let v357 : BitVec 32 := Scalar.addi v351 v350
  let v358 : BitVec 32 := Scalar.select v356 v357 v351
  let v359 : BitVec 32 := Scalar.muli c4_i32_176 v358
  let v360 : BitVec 32 := Scalar.addi v348 v359
  let v398 : BitVec 32 := Scalar.addi v397 v360
  let c1_i32_512 : BitVec 32 := 1#32
  let v953 : BitVec 32 := Scalar.muli v398 c1_i32_512
  let v954 : BitVec 32 := Scalar.addi c0_i32_513 v953
  v954.toNat
def k0_dev15 (d0 : Dev nD) : Nat :=
  let c0_i32_534 : BitVec 32 := 0#32
  let c8_i32_227 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c5_i32 : BitVec 32 := 5#32
  let v399 : BitVec 32 := Scalar.addi v51 c5_i32
  let c8_i32_193 : BitVec 32 := 8#32
  let c0_i32_194 : BitVec 32 := 0#32
  let v400 : BitVec 1 := Scalar.cmpi .eq c8_i32_193 c0_i32_194
  let c1_i32_195 : BitVec 32 := 1#32
  let v401 : BitVec 32 := Scalar.select v400 c1_i32_195 c8_i32_193
  let v402 : BitVec 32 := Scalar.remsi v399 v401
  let c0_i32_197 : BitVec 32 := 0#32
  let v404 : BitVec 1 := Scalar.cmpi .slt v402 c0_i32_197
  let c0_i32_198 : BitVec 32 := 0#32
  let v405 : BitVec 1 := Scalar.cmpi .slt v401 c0_i32_198
  let v406 : BitVec 1 := Scalar.xori v404 v405
  let c0_i32_196 : BitVec 32 := 0#32
  let v403 : BitVec 1 := Scalar.cmpi .ne v402 c0_i32_196
  let v407 : BitVec 1 := Scalar.andi v406 v403
  let v408 : BitVec 32 := Scalar.addi v402 v401
  let v409 : BitVec 32 := Scalar.select v407 v408 v402
  let c0_i32_213 : BitVec 32 := 0#32
  let v433 : BitVec 1 := Scalar.cmpi .sgt v409 c0_i32_213
  let v434 : BitVec 32 := Scalar.extui v433
  let c0_i32_214 : BitVec 32 := 0#32
  let v435 : BitVec 1 := Scalar.cmpi .slt v409 c0_i32_214
  let v436 : BitVec 32 := Scalar.extui v435
  let v437 : BitVec 32 := Scalar.subi v434 v436
  let c4_i32_212 : BitVec 32 := 4#32
  let c0_i32_215 : BitVec 32 := 0#32
  let v438 : BitVec 1 := Scalar.cmpi .sgt c4_i32_212 c0_i32_215
  let v439 : BitVec 32 := Scalar.extui v438
  let c0_i32_216 : BitVec 32 := 0#32
  let v440 : BitVec 1 := Scalar.cmpi .slt c4_i32_212 c0_i32_216
  let v441 : BitVec 32 := Scalar.extui v440
  let v442 : BitVec 32 := Scalar.subi v439 v441
  let v443 : BitVec 1 := Scalar.cmpi .ne v437 v442
  let v444 : BitVec 32 := Scalar.remsi v409 c4_i32_212
  let c0_i32_217 : BitVec 32 := 0#32
  let v445 : BitVec 1 := Scalar.cmpi .ne v444 c0_i32_217
  let v446 : BitVec 1 := Scalar.andi v443 v445
  let v432 : BitVec 32 := Scalar.divsi v409 c4_i32_212
  let c1_i32_218 : BitVec 32 := 1#32
  let v447 : BitVec 32 := Scalar.subi v432 c1_i32_218
  let v448 : BitVec 32 := Scalar.select v446 v447 v432
  let c2_i32_226 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_220 : BitVec 32 := 0#32
  let v450 : BitVec 1 := Scalar.cmpi .sgt v114 c0_i32_220
  let v451 : BitVec 32 := Scalar.extui v450
  let c0_i32_221 : BitVec 32 := 0#32
  let v452 : BitVec 1 := Scalar.cmpi .slt v114 c0_i32_221
  let v453 : BitVec 32 := Scalar.extui v452
  let v454 : BitVec 32 := Scalar.subi v451 v453
  let c2_i32_219 : BitVec 32 := 2#32
  let c0_i32_222 : BitVec 32 := 0#32
  let v455 : BitVec 1 := Scalar.cmpi .sgt c2_i32_219 c0_i32_222
  let v456 : BitVec 32 := Scalar.extui v455
  let c0_i32_223 : BitVec 32 := 0#32
  let v457 : BitVec 1 := Scalar.cmpi .slt c2_i32_219 c0_i32_223
  let v458 : BitVec 32 := Scalar.extui v457
  let v459 : BitVec 32 := Scalar.subi v456 v458
  let v460 : BitVec 1 := Scalar.cmpi .ne v454 v459
  let v461 : BitVec 32 := Scalar.remsi v114 c2_i32_219
  let c0_i32_224 : BitVec 32 := 0#32
  let v462 : BitVec 1 := Scalar.cmpi .ne v461 c0_i32_224
  let v463 : BitVec 1 := Scalar.andi v460 v462
  let v449 : BitVec 32 := Scalar.divsi v114 c2_i32_219
  let c1_i32_225 : BitVec 32 := 1#32
  let v464 : BitVec 32 := Scalar.subi v449 c1_i32_225
  let v465 : BitVec 32 := Scalar.select v463 v464 v449
  let v466 : BitVec 32 := Scalar.muli c2_i32_226 v465
  let v467 : BitVec 32 := Scalar.addi v448 v466
  let v468 : BitVec 32 := Scalar.muli c8_i32_227 v467
  let c4_i32_199 : BitVec 32 := 4#32
  let c0_i32_200 : BitVec 32 := 0#32
  let v410 : BitVec 1 := Scalar.cmpi .eq c4_i32_199 c0_i32_200
  let c1_i32_201 : BitVec 32 := 1#32
  let v411 : BitVec 32 := Scalar.select v410 c1_i32_201 c4_i32_199
  let v412 : BitVec 32 := Scalar.remsi v409 v411
  let c0_i32_203 : BitVec 32 := 0#32
  let v414 : BitVec 1 := Scalar.cmpi .slt v412 c0_i32_203
  let c0_i32_204 : BitVec 32 := 0#32
  let v415 : BitVec 1 := Scalar.cmpi .slt v411 c0_i32_204
  let v416 : BitVec 1 := Scalar.xori v414 v415
  let c0_i32_202 : BitVec 32 := 0#32
  let v413 : BitVec 1 := Scalar.cmpi .ne v412 c0_i32_202
  let v417 : BitVec 1 := Scalar.andi v416 v413
  let v418 : BitVec 32 := Scalar.addi v412 v411
  let v419 : BitVec 32 := Scalar.select v417 v418 v412
  let c4_i32_211 : BitVec 32 := 4#32
  let c2_i32_205 : BitVec 32 := 2#32
  let c0_i32_206 : BitVec 32 := 0#32
  let v420 : BitVec 1 := Scalar.cmpi .eq c2_i32_205 c0_i32_206
  let c1_i32_207 : BitVec 32 := 1#32
  let v421 : BitVec 32 := Scalar.select v420 c1_i32_207 c2_i32_205
  let v422 : BitVec 32 := Scalar.remsi v114 v421
  let c0_i32_209 : BitVec 32 := 0#32
  let v424 : BitVec 1 := Scalar.cmpi .slt v422 c0_i32_209
  let c0_i32_210 : BitVec 32 := 0#32
  let v425 : BitVec 1 := Scalar.cmpi .slt v421 c0_i32_210
  let v426 : BitVec 1 := Scalar.xori v424 v425
  let c0_i32_208 : BitVec 32 := 0#32
  let v423 : BitVec 1 := Scalar.cmpi .ne v422 c0_i32_208
  let v427 : BitVec 1 := Scalar.andi v426 v423
  let v428 : BitVec 32 := Scalar.addi v422 v421
  let v429 : BitVec 32 := Scalar.select v427 v428 v422
  let v430 : BitVec 32 := Scalar.muli c4_i32_211 v429
  let v431 : BitVec 32 := Scalar.addi v419 v430
  let v469 : BitVec 32 := Scalar.addi v468 v431
  let c1_i32_533 : BitVec 32 := 1#32
  let v982 : BitVec 32 := Scalar.muli v469 c1_i32_533
  let v983 : BitVec 32 := Scalar.addi c0_i32_534 v982
  v983.toNat
def k0_dev16 (d0 : Dev nD) : Nat :=
  let c0_i32_555 : BitVec 32 := 0#32
  let c8_i32_262 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c6_i32 : BitVec 32 := 6#32
  let v470 : BitVec 32 := Scalar.addi v51 c6_i32
  let c8_i32_228 : BitVec 32 := 8#32
  let c0_i32_229 : BitVec 32 := 0#32
  let v471 : BitVec 1 := Scalar.cmpi .eq c8_i32_228 c0_i32_229
  let c1_i32_230 : BitVec 32 := 1#32
  let v472 : BitVec 32 := Scalar.select v471 c1_i32_230 c8_i32_228
  let v473 : BitVec 32 := Scalar.remsi v470 v472
  let c0_i32_232 : BitVec 32 := 0#32
  let v475 : BitVec 1 := Scalar.cmpi .slt v473 c0_i32_232
  let c0_i32_233 : BitVec 32 := 0#32
  let v476 : BitVec 1 := Scalar.cmpi .slt v472 c0_i32_233
  let v477 : BitVec 1 := Scalar.xori v475 v476
  let c0_i32_231 : BitVec 32 := 0#32
  let v474 : BitVec 1 := Scalar.cmpi .ne v473 c0_i32_231
  let v478 : BitVec 1 := Scalar.andi v477 v474
  let v479 : BitVec 32 := Scalar.addi v473 v472
  let v480 : BitVec 32 := Scalar.select v478 v479 v473
  let c0_i32_248 : BitVec 32 := 0#32
  let v504 : BitVec 1 := Scalar.cmpi .sgt v480 c0_i32_248
  let v505 : BitVec 32 := Scalar.extui v504
  let c0_i32_249 : BitVec 32 := 0#32
  let v506 : BitVec 1 := Scalar.cmpi .slt v480 c0_i32_249
  let v507 : BitVec 32 := Scalar.extui v506
  let v508 : BitVec 32 := Scalar.subi v505 v507
  let c4_i32_247 : BitVec 32 := 4#32
  let c0_i32_250 : BitVec 32 := 0#32
  let v509 : BitVec 1 := Scalar.cmpi .sgt c4_i32_247 c0_i32_250
  let v510 : BitVec 32 := Scalar.extui v509
  let c0_i32_251 : BitVec 32 := 0#32
  let v511 : BitVec 1 := Scalar.cmpi .slt c4_i32_247 c0_i32_251
  let v512 : BitVec 32 := Scalar.extui v511
  let v513 : BitVec 32 := Scalar.subi v510 v512
  let v514 : BitVec 1 := Scalar.cmpi .ne v508 v513
  let v515 : BitVec 32 := Scalar.remsi v480 c4_i32_247
  let c0_i32_252 : BitVec 32 := 0#32
  let v516 : BitVec 1 := Scalar.cmpi .ne v515 c0_i32_252
  let v517 : BitVec 1 := Scalar.andi v514 v516
  let v503 : BitVec 32 := Scalar.divsi v480 c4_i32_247
  let c1_i32_253 : BitVec 32 := 1#32
  let v518 : BitVec 32 := Scalar.subi v503 c1_i32_253
  let v519 : BitVec 32 := Scalar.select v517 v518 v503
  let c2_i32_261 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_255 : BitVec 32 := 0#32
  let v521 : BitVec 1 := Scalar.cmpi .sgt v114 c0_i32_255
  let v522 : BitVec 32 := Scalar.extui v521
  let c0_i32_256 : BitVec 32 := 0#32
  let v523 : BitVec 1 := Scalar.cmpi .slt v114 c0_i32_256
  let v524 : BitVec 32 := Scalar.extui v523
  let v525 : BitVec 32 := Scalar.subi v522 v524
  let c2_i32_254 : BitVec 32 := 2#32
  let c0_i32_257 : BitVec 32 := 0#32
  let v526 : BitVec 1 := Scalar.cmpi .sgt c2_i32_254 c0_i32_257
  let v527 : BitVec 32 := Scalar.extui v526
  let c0_i32_258 : BitVec 32 := 0#32
  let v528 : BitVec 1 := Scalar.cmpi .slt c2_i32_254 c0_i32_258
  let v529 : BitVec 32 := Scalar.extui v528
  let v530 : BitVec 32 := Scalar.subi v527 v529
  let v531 : BitVec 1 := Scalar.cmpi .ne v525 v530
  let v532 : BitVec 32 := Scalar.remsi v114 c2_i32_254
  let c0_i32_259 : BitVec 32 := 0#32
  let v533 : BitVec 1 := Scalar.cmpi .ne v532 c0_i32_259
  let v534 : BitVec 1 := Scalar.andi v531 v533
  let v520 : BitVec 32 := Scalar.divsi v114 c2_i32_254
  let c1_i32_260 : BitVec 32 := 1#32
  let v535 : BitVec 32 := Scalar.subi v520 c1_i32_260
  let v536 : BitVec 32 := Scalar.select v534 v535 v520
  let v537 : BitVec 32 := Scalar.muli c2_i32_261 v536
  let v538 : BitVec 32 := Scalar.addi v519 v537
  let v539 : BitVec 32 := Scalar.muli c8_i32_262 v538
  let c4_i32_234 : BitVec 32 := 4#32
  let c0_i32_235 : BitVec 32 := 0#32
  let v481 : BitVec 1 := Scalar.cmpi .eq c4_i32_234 c0_i32_235
  let c1_i32_236 : BitVec 32 := 1#32
  let v482 : BitVec 32 := Scalar.select v481 c1_i32_236 c4_i32_234
  let v483 : BitVec 32 := Scalar.remsi v480 v482
  let c0_i32_238 : BitVec 32 := 0#32
  let v485 : BitVec 1 := Scalar.cmpi .slt v483 c0_i32_238
  let c0_i32_239 : BitVec 32 := 0#32
  let v486 : BitVec 1 := Scalar.cmpi .slt v482 c0_i32_239
  let v487 : BitVec 1 := Scalar.xori v485 v486
  let c0_i32_237 : BitVec 32 := 0#32
  let v484 : BitVec 1 := Scalar.cmpi .ne v483 c0_i32_237
  let v488 : BitVec 1 := Scalar.andi v487 v484
  let v489 : BitVec 32 := Scalar.addi v483 v482
  let v490 : BitVec 32 := Scalar.select v488 v489 v483
  let c4_i32_246 : BitVec 32 := 4#32
  let c2_i32_240 : BitVec 32 := 2#32
  let c0_i32_241 : BitVec 32 := 0#32
  let v491 : BitVec 1 := Scalar.cmpi .eq c2_i32_240 c0_i32_241
  let c1_i32_242 : BitVec 32 := 1#32
  let v492 : BitVec 32 := Scalar.select v491 c1_i32_242 c2_i32_240
  let v493 : BitVec 32 := Scalar.remsi v114 v492
  let c0_i32_244 : BitVec 32 := 0#32
  let v495 : BitVec 1 := Scalar.cmpi .slt v493 c0_i32_244
  let c0_i32_245 : BitVec 32 := 0#32
  let v496 : BitVec 1 := Scalar.cmpi .slt v492 c0_i32_245
  let v497 : BitVec 1 := Scalar.xori v495 v496
  let c0_i32_243 : BitVec 32 := 0#32
  let v494 : BitVec 1 := Scalar.cmpi .ne v493 c0_i32_243
  let v498 : BitVec 1 := Scalar.andi v497 v494
  let v499 : BitVec 32 := Scalar.addi v493 v492
  let v500 : BitVec 32 := Scalar.select v498 v499 v493
  let v501 : BitVec 32 := Scalar.muli c4_i32_246 v500
  let v502 : BitVec 32 := Scalar.addi v490 v501
  let v540 : BitVec 32 := Scalar.addi v539 v502
  let c1_i32_554 : BitVec 32 := 1#32
  let v1011 : BitVec 32 := Scalar.muli v540 c1_i32_554
  let v1012 : BitVec 32 := Scalar.addi c0_i32_555 v1011
  v1012.toNat
def k0_dev17 (d0 : Dev nD) : Nat :=
  let c0_i32_576 : BitVec 32 := 0#32
  let c8_i32_297 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c7_i32 : BitVec 32 := 7#32
  let v541 : BitVec 32 := Scalar.addi v51 c7_i32
  let c8_i32_263 : BitVec 32 := 8#32
  let c0_i32_264 : BitVec 32 := 0#32
  let v542 : BitVec 1 := Scalar.cmpi .eq c8_i32_263 c0_i32_264
  let c1_i32_265 : BitVec 32 := 1#32
  let v543 : BitVec 32 := Scalar.select v542 c1_i32_265 c8_i32_263
  let v544 : BitVec 32 := Scalar.remsi v541 v543
  let c0_i32_267 : BitVec 32 := 0#32
  let v546 : BitVec 1 := Scalar.cmpi .slt v544 c0_i32_267
  let c0_i32_268 : BitVec 32 := 0#32
  let v547 : BitVec 1 := Scalar.cmpi .slt v543 c0_i32_268
  let v548 : BitVec 1 := Scalar.xori v546 v547
  let c0_i32_266 : BitVec 32 := 0#32
  let v545 : BitVec 1 := Scalar.cmpi .ne v544 c0_i32_266
  let v549 : BitVec 1 := Scalar.andi v548 v545
  let v550 : BitVec 32 := Scalar.addi v544 v543
  let v551 : BitVec 32 := Scalar.select v549 v550 v544
  let c0_i32_283 : BitVec 32 := 0#32
  let v575 : BitVec 1 := Scalar.cmpi .sgt v551 c0_i32_283
  let v576 : BitVec 32 := Scalar.extui v575
  let c0_i32_284 : BitVec 32 := 0#32
  let v577 : BitVec 1 := Scalar.cmpi .slt v551 c0_i32_284
  let v578 : BitVec 32 := Scalar.extui v577
  let v579 : BitVec 32 := Scalar.subi v576 v578
  let c4_i32_282 : BitVec 32 := 4#32
  let c0_i32_285 : BitVec 32 := 0#32
  let v580 : BitVec 1 := Scalar.cmpi .sgt c4_i32_282 c0_i32_285
  let v581 : BitVec 32 := Scalar.extui v580
  let c0_i32_286 : BitVec 32 := 0#32
  let v582 : BitVec 1 := Scalar.cmpi .slt c4_i32_282 c0_i32_286
  let v583 : BitVec 32 := Scalar.extui v582
  let v584 : BitVec 32 := Scalar.subi v581 v583
  let v585 : BitVec 1 := Scalar.cmpi .ne v579 v584
  let v586 : BitVec 32 := Scalar.remsi v551 c4_i32_282
  let c0_i32_287 : BitVec 32 := 0#32
  let v587 : BitVec 1 := Scalar.cmpi .ne v586 c0_i32_287
  let v588 : BitVec 1 := Scalar.andi v585 v587
  let v574 : BitVec 32 := Scalar.divsi v551 c4_i32_282
  let c1_i32_288 : BitVec 32 := 1#32
  let v589 : BitVec 32 := Scalar.subi v574 c1_i32_288
  let v590 : BitVec 32 := Scalar.select v588 v589 v574
  let c2_i32_296 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_290 : BitVec 32 := 0#32
  let v592 : BitVec 1 := Scalar.cmpi .sgt v114 c0_i32_290
  let v593 : BitVec 32 := Scalar.extui v592
  let c0_i32_291 : BitVec 32 := 0#32
  let v594 : BitVec 1 := Scalar.cmpi .slt v114 c0_i32_291
  let v595 : BitVec 32 := Scalar.extui v594
  let v596 : BitVec 32 := Scalar.subi v593 v595
  let c2_i32_289 : BitVec 32 := 2#32
  let c0_i32_292 : BitVec 32 := 0#32
  let v597 : BitVec 1 := Scalar.cmpi .sgt c2_i32_289 c0_i32_292
  let v598 : BitVec 32 := Scalar.extui v597
  let c0_i32_293 : BitVec 32 := 0#32
  let v599 : BitVec 1 := Scalar.cmpi .slt c2_i32_289 c0_i32_293
  let v600 : BitVec 32 := Scalar.extui v599
  let v601 : BitVec 32 := Scalar.subi v598 v600
  let v602 : BitVec 1 := Scalar.cmpi .ne v596 v601
  let v603 : BitVec 32 := Scalar.remsi v114 c2_i32_289
  let c0_i32_294 : BitVec 32 := 0#32
  let v604 : BitVec 1 := Scalar.cmpi .ne v603 c0_i32_294
  let v605 : BitVec 1 := Scalar.andi v602 v604
  let v591 : BitVec 32 := Scalar.divsi v114 c2_i32_289
  let c1_i32_295 : BitVec 32 := 1#32
  let v606 : BitVec 32 := Scalar.subi v591 c1_i32_295
  let v607 : BitVec 32 := Scalar.select v605 v606 v591
  let v608 : BitVec 32 := Scalar.muli c2_i32_296 v607
  let v609 : BitVec 32 := Scalar.addi v590 v608
  let v610 : BitVec 32 := Scalar.muli c8_i32_297 v609
  let c4_i32_269 : BitVec 32 := 4#32
  let c0_i32_270 : BitVec 32 := 0#32
  let v552 : BitVec 1 := Scalar.cmpi .eq c4_i32_269 c0_i32_270
  let c1_i32_271 : BitVec 32 := 1#32
  let v553 : BitVec 32 := Scalar.select v552 c1_i32_271 c4_i32_269
  let v554 : BitVec 32 := Scalar.remsi v551 v553
  let c0_i32_273 : BitVec 32 := 0#32
  let v556 : BitVec 1 := Scalar.cmpi .slt v554 c0_i32_273
  let c0_i32_274 : BitVec 32 := 0#32
  let v557 : BitVec 1 := Scalar.cmpi .slt v553 c0_i32_274
  let v558 : BitVec 1 := Scalar.xori v556 v557
  let c0_i32_272 : BitVec 32 := 0#32
  let v555 : BitVec 1 := Scalar.cmpi .ne v554 c0_i32_272
  let v559 : BitVec 1 := Scalar.andi v558 v555
  let v560 : BitVec 32 := Scalar.addi v554 v553
  let v561 : BitVec 32 := Scalar.select v559 v560 v554
  let c4_i32_281 : BitVec 32 := 4#32
  let c2_i32_275 : BitVec 32 := 2#32
  let c0_i32_276 : BitVec 32 := 0#32
  let v562 : BitVec 1 := Scalar.cmpi .eq c2_i32_275 c0_i32_276
  let c1_i32_277 : BitVec 32 := 1#32
  let v563 : BitVec 32 := Scalar.select v562 c1_i32_277 c2_i32_275
  let v564 : BitVec 32 := Scalar.remsi v114 v563
  let c0_i32_279 : BitVec 32 := 0#32
  let v566 : BitVec 1 := Scalar.cmpi .slt v564 c0_i32_279
  let c0_i32_280 : BitVec 32 := 0#32
  let v567 : BitVec 1 := Scalar.cmpi .slt v563 c0_i32_280
  let v568 : BitVec 1 := Scalar.xori v566 v567
  let c0_i32_278 : BitVec 32 := 0#32
  let v565 : BitVec 1 := Scalar.cmpi .ne v564 c0_i32_278
  let v569 : BitVec 1 := Scalar.andi v568 v565
  let v570 : BitVec 32 := Scalar.addi v564 v563
  let v571 : BitVec 32 := Scalar.select v569 v570 v564
  let v572 : BitVec 32 := Scalar.muli c4_i32_281 v571
  let v573 : BitVec 32 := Scalar.addi v561 v572
  let v611 : BitVec 32 := Scalar.addi v610 v573
  let c1_i32_575 : BitVec 32 := 1#32
  let v1040 : BitVec 32 := Scalar.muli v611 c1_i32_575
  let v1041 : BitVec 32 := Scalar.addi c0_i32_576 v1040
  v1041.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c192_i32_580 : BitVec 32 := 192#32
  let v1049 : BitVec 32 := Scalar.muli v51 c192_i32_580
  let v1050 : Index := Scalar.indexCast v1049
  let c0_581 : Index := 0#32
  ![v1050.toNat, 0]
def k0_off5 (d0 : Dev nD) (c1_i32_588 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let v1059 : BitVec 32 := Scalar.addi v51 c1_i32_588
  let c8_i32_589 : BitVec 32 := 8#32
  let c0_i32_590 : BitVec 32 := 0#32
  let v1060 : BitVec 1 := Scalar.cmpi .eq c8_i32_589 c0_i32_590
  let c1_i32_591 : BitVec 32 := 1#32
  let v1061 : BitVec 32 := Scalar.select v1060 c1_i32_591 c8_i32_589
  let v1062 : BitVec 32 := Scalar.remsi v1059 v1061
  let c0_i32_593 : BitVec 32 := 0#32
  let v1064 : BitVec 1 := Scalar.cmpi .slt v1062 c0_i32_593
  let c0_i32_594 : BitVec 32 := 0#32
  let v1065 : BitVec 1 := Scalar.cmpi .slt v1061 c0_i32_594
  let v1066 : BitVec 1 := Scalar.xori v1064 v1065
  let c0_i32_592 : BitVec 32 := 0#32
  let v1063 : BitVec 1 := Scalar.cmpi .ne v1062 c0_i32_592
  let v1067 : BitVec 1 := Scalar.andi v1066 v1063
  let v1068 : BitVec 32 := Scalar.addi v1062 v1061
  let v1069 : BitVec 32 := Scalar.select v1067 v1068 v1062
  let c192_i32_595 : BitVec 32 := 192#32
  let v1070 : BitVec 32 := Scalar.muli v1069 c192_i32_595
  let v1077 : Index := Scalar.indexCast v1070
  let c768_599 : Index := 768#32
  ![v1077.toNat, 768]
def k0_off6 (d0 : Dev nD) (c1_i32_588 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let v1059 : BitVec 32 := Scalar.addi v51 c1_i32_588
  let c8_i32_589 : BitVec 32 := 8#32
  let c0_i32_590 : BitVec 32 := 0#32
  let v1060 : BitVec 1 := Scalar.cmpi .eq c8_i32_589 c0_i32_590
  let c1_i32_591 : BitVec 32 := 1#32
  let v1061 : BitVec 32 := Scalar.select v1060 c1_i32_591 c8_i32_589
  let v1062 : BitVec 32 := Scalar.remsi v1059 v1061
  let c0_i32_593 : BitVec 32 := 0#32
  let v1064 : BitVec 1 := Scalar.cmpi .slt v1062 c0_i32_593
  let c0_i32_594 : BitVec 32 := 0#32
  let v1065 : BitVec 1 := Scalar.cmpi .slt v1061 c0_i32_594
  let v1066 : BitVec 1 := Scalar.xori v1064 v1065
  let c0_i32_592 : BitVec 32 := 0#32
  let v1063 : BitVec 1 := Scalar.cmpi .ne v1062 c0_i32_592
  let v1067 : BitVec 1 := Scalar.andi v1066 v1063
  let v1068 : BitVec 32 := Scalar.addi v1062 v1061
  let v1069 : BitVec 32 := Scalar.select v1067 v1068 v1062
  let c192_i32_595 : BitVec 32 := 192#32
  let v1070 : BitVec 32 := Scalar.muli v1069 c192_i32_595
  let c768_i32 : BitVec 32 := 768#32
  ![v1070.toNat, 768]
def k0_dev18 (d0 : Dev nD) : Nat :=
  let c0_i32_603 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c1_i32_50 : BitVec 32 := 1#32
  let v115 : BitVec 32 := Scalar.addi v51 c1_i32_50
  let c8_i32_51 : BitVec 32 := 8#32
  let c0_i32_52 : BitVec 32 := 0#32
  let v116 : BitVec 1 := Scalar.cmpi .eq c8_i32_51 c0_i32_52
  let c1_i32_53 : BitVec 32 := 1#32
  let v117 : BitVec 32 := Scalar.select v116 c1_i32_53 c8_i32_51
  let v118 : BitVec 32 := Scalar.remsi v115 v117
  let c0_i32_55 : BitVec 32 := 0#32
  let v120 : BitVec 1 := Scalar.cmpi .slt v118 c0_i32_55
  let c0_i32_56 : BitVec 32 := 0#32
  let v121 : BitVec 1 := Scalar.cmpi .slt v117 c0_i32_56
  let v122 : BitVec 1 := Scalar.xori v120 v121
  let c0_i32_54 : BitVec 32 := 0#32
  let v119 : BitVec 1 := Scalar.cmpi .ne v118 c0_i32_54
  let v123 : BitVec 1 := Scalar.andi v122 v119
  let v124 : BitVec 32 := Scalar.addi v118 v117
  let v125 : BitVec 32 := Scalar.select v123 v124 v118
  let c0_i32_71 : BitVec 32 := 0#32
  let v149 : BitVec 1 := Scalar.cmpi .sgt v125 c0_i32_71
  let v150 : BitVec 32 := Scalar.extui v149
  let c0_i32_72 : BitVec 32 := 0#32
  let v151 : BitVec 1 := Scalar.cmpi .slt v125 c0_i32_72
  let v152 : BitVec 32 := Scalar.extui v151
  let v153 : BitVec 32 := Scalar.subi v150 v152
  let c4_i32_70 : BitVec 32 := 4#32
  let c0_i32_73 : BitVec 32 := 0#32
  let v154 : BitVec 1 := Scalar.cmpi .sgt c4_i32_70 c0_i32_73
  let v155 : BitVec 32 := Scalar.extui v154
  let c0_i32_74 : BitVec 32 := 0#32
  let v156 : BitVec 1 := Scalar.cmpi .slt c4_i32_70 c0_i32_74
  let v157 : BitVec 32 := Scalar.extui v156
  let v158 : BitVec 32 := Scalar.subi v155 v157
  let v159 : BitVec 1 := Scalar.cmpi .ne v153 v158
  let v160 : BitVec 32 := Scalar.remsi v125 c4_i32_70
  let c0_i32_75 : BitVec 32 := 0#32
  let v161 : BitVec 1 := Scalar.cmpi .ne v160 c0_i32_75
  let v162 : BitVec 1 := Scalar.andi v159 v161
  let v148 : BitVec 32 := Scalar.divsi v125 c4_i32_70
  let c1_i32_76 : BitVec 32 := 1#32
  let v163 : BitVec 32 := Scalar.subi v148 c1_i32_76
  let v164 : BitVec 32 := Scalar.select v162 v163 v148
  let c2_i32_84 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_78 : BitVec 32 := 0#32
  let v166 : BitVec 1 := Scalar.cmpi .sgt v114 c0_i32_78
  let v167 : BitVec 32 := Scalar.extui v166
  let c0_i32_79 : BitVec 32 := 0#32
  let v168 : BitVec 1 := Scalar.cmpi .slt v114 c0_i32_79
  let v169 : BitVec 32 := Scalar.extui v168
  let v170 : BitVec 32 := Scalar.subi v167 v169
  let c2_i32_77 : BitVec 32 := 2#32
  let c0_i32_80 : BitVec 32 := 0#32
  let v171 : BitVec 1 := Scalar.cmpi .sgt c2_i32_77 c0_i32_80
  let v172 : BitVec 32 := Scalar.extui v171
  let c0_i32_81 : BitVec 32 := 0#32
  let v173 : BitVec 1 := Scalar.cmpi .slt c2_i32_77 c0_i32_81
  let v174 : BitVec 32 := Scalar.extui v173
  let v175 : BitVec 32 := Scalar.subi v172 v174
  let v176 : BitVec 1 := Scalar.cmpi .ne v170 v175
  let v177 : BitVec 32 := Scalar.remsi v114 c2_i32_77
  let c0_i32_82 : BitVec 32 := 0#32
  let v178 : BitVec 1 := Scalar.cmpi .ne v177 c0_i32_82
  let v179 : BitVec 1 := Scalar.andi v176 v178
  let v165 : BitVec 32 := Scalar.divsi v114 c2_i32_77
  let c1_i32_83 : BitVec 32 := 1#32
  let v180 : BitVec 32 := Scalar.subi v165 c1_i32_83
  let v181 : BitVec 32 := Scalar.select v179 v180 v165
  let v182 : BitVec 32 := Scalar.muli c2_i32_84 v181
  let v183 : BitVec 32 := Scalar.addi v164 v182
  let v184 : BitVec 32 := Scalar.muli c8_i32_85 v183
  let c4_i32_57 : BitVec 32 := 4#32
  let c0_i32_58 : BitVec 32 := 0#32
  let v126 : BitVec 1 := Scalar.cmpi .eq c4_i32_57 c0_i32_58
  let c1_i32_59 : BitVec 32 := 1#32
  let v127 : BitVec 32 := Scalar.select v126 c1_i32_59 c4_i32_57
  let v128 : BitVec 32 := Scalar.remsi v125 v127
  let c0_i32_61 : BitVec 32 := 0#32
  let v130 : BitVec 1 := Scalar.cmpi .slt v128 c0_i32_61
  let c0_i32_62 : BitVec 32 := 0#32
  let v131 : BitVec 1 := Scalar.cmpi .slt v127 c0_i32_62
  let v132 : BitVec 1 := Scalar.xori v130 v131
  let c0_i32_60 : BitVec 32 := 0#32
  let v129 : BitVec 1 := Scalar.cmpi .ne v128 c0_i32_60
  let v133 : BitVec 1 := Scalar.andi v132 v129
  let v134 : BitVec 32 := Scalar.addi v128 v127
  let v135 : BitVec 32 := Scalar.select v133 v134 v128
  let c4_i32_69 : BitVec 32 := 4#32
  let c2_i32_63 : BitVec 32 := 2#32
  let c0_i32_64 : BitVec 32 := 0#32
  let v136 : BitVec 1 := Scalar.cmpi .eq c2_i32_63 c0_i32_64
  let c1_i32_65 : BitVec 32 := 1#32
  let v137 : BitVec 32 := Scalar.select v136 c1_i32_65 c2_i32_63
  let v138 : BitVec 32 := Scalar.remsi v114 v137
  let c0_i32_67 : BitVec 32 := 0#32
  let v140 : BitVec 1 := Scalar.cmpi .slt v138 c0_i32_67
  let c0_i32_68 : BitVec 32 := 0#32
  let v141 : BitVec 1 := Scalar.cmpi .slt v137 c0_i32_68
  let v142 : BitVec 1 := Scalar.xori v140 v141
  let c0_i32_66 : BitVec 32 := 0#32
  let v139 : BitVec 1 := Scalar.cmpi .ne v138 c0_i32_66
  let v143 : BitVec 1 := Scalar.andi v142 v139
  let v144 : BitVec 32 := Scalar.addi v138 v137
  let v145 : BitVec 32 := Scalar.select v143 v144 v138
  let v146 : BitVec 32 := Scalar.muli c4_i32_69 v145
  let v147 : BitVec 32 := Scalar.addi v135 v146
  let v185 : BitVec 32 := Scalar.addi v184 v147
  let c1_i32_602 : BitVec 32 := 1#32
  let v1079 : BitVec 32 := Scalar.muli v185 c1_i32_602
  let v1080 : BitVec 32 := Scalar.addi c0_i32_603 v1079
  v1080.toNat
def k0_dev19 (d0 : Dev nD) : Nat :=
  let c0_i32_623 : BitVec 32 := 0#32
  let c8_i32_121 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c2_i32_86 : BitVec 32 := 2#32
  let v186 : BitVec 32 := Scalar.addi v51 c2_i32_86
  let c8_i32_87 : BitVec 32 := 8#32
  let c0_i32_88 : BitVec 32 := 0#32
  let v187 : BitVec 1 := Scalar.cmpi .eq c8_i32_87 c0_i32_88
  let c1_i32_89 : BitVec 32 := 1#32
  let v188 : BitVec 32 := Scalar.select v187 c1_i32_89 c8_i32_87
  let v189 : BitVec 32 := Scalar.remsi v186 v188
  let c0_i32_91 : BitVec 32 := 0#32
  let v191 : BitVec 1 := Scalar.cmpi .slt v189 c0_i32_91
  let c0_i32_92 : BitVec 32 := 0#32
  let v192 : BitVec 1 := Scalar.cmpi .slt v188 c0_i32_92
  let v193 : BitVec 1 := Scalar.xori v191 v192
  let c0_i32_90 : BitVec 32 := 0#32
  let v190 : BitVec 1 := Scalar.cmpi .ne v189 c0_i32_90
  let v194 : BitVec 1 := Scalar.andi v193 v190
  let v195 : BitVec 32 := Scalar.addi v189 v188
  let v196 : BitVec 32 := Scalar.select v194 v195 v189
  let c0_i32_107 : BitVec 32 := 0#32
  let v220 : BitVec 1 := Scalar.cmpi .sgt v196 c0_i32_107
  let v221 : BitVec 32 := Scalar.extui v220
  let c0_i32_108 : BitVec 32 := 0#32
  let v222 : BitVec 1 := Scalar.cmpi .slt v196 c0_i32_108
  let v223 : BitVec 32 := Scalar.extui v222
  let v224 : BitVec 32 := Scalar.subi v221 v223
  let c4_i32_106 : BitVec 32 := 4#32
  let c0_i32_109 : BitVec 32 := 0#32
  let v225 : BitVec 1 := Scalar.cmpi .sgt c4_i32_106 c0_i32_109
  let v226 : BitVec 32 := Scalar.extui v225
  let c0_i32_110 : BitVec 32 := 0#32
  let v227 : BitVec 1 := Scalar.cmpi .slt c4_i32_106 c0_i32_110
  let v228 : BitVec 32 := Scalar.extui v227
  let v229 : BitVec 32 := Scalar.subi v226 v228
  let v230 : BitVec 1 := Scalar.cmpi .ne v224 v229
  let v231 : BitVec 32 := Scalar.remsi v196 c4_i32_106
  let c0_i32_111 : BitVec 32 := 0#32
  let v232 : BitVec 1 := Scalar.cmpi .ne v231 c0_i32_111
  let v233 : BitVec 1 := Scalar.andi v230 v232
  let v219 : BitVec 32 := Scalar.divsi v196 c4_i32_106
  let c1_i32_112 : BitVec 32 := 1#32
  let v234 : BitVec 32 := Scalar.subi v219 c1_i32_112
  let v235 : BitVec 32 := Scalar.select v233 v234 v219
  let c2_i32_120 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_114 : BitVec 32 := 0#32
  let v237 : BitVec 1 := Scalar.cmpi .sgt v114 c0_i32_114
  let v238 : BitVec 32 := Scalar.extui v237
  let c0_i32_115 : BitVec 32 := 0#32
  let v239 : BitVec 1 := Scalar.cmpi .slt v114 c0_i32_115
  let v240 : BitVec 32 := Scalar.extui v239
  let v241 : BitVec 32 := Scalar.subi v238 v240
  let c2_i32_113 : BitVec 32 := 2#32
  let c0_i32_116 : BitVec 32 := 0#32
  let v242 : BitVec 1 := Scalar.cmpi .sgt c2_i32_113 c0_i32_116
  let v243 : BitVec 32 := Scalar.extui v242
  let c0_i32_117 : BitVec 32 := 0#32
  let v244 : BitVec 1 := Scalar.cmpi .slt c2_i32_113 c0_i32_117
  let v245 : BitVec 32 := Scalar.extui v244
  let v246 : BitVec 32 := Scalar.subi v243 v245
  let v247 : BitVec 1 := Scalar.cmpi .ne v241 v246
  let v248 : BitVec 32 := Scalar.remsi v114 c2_i32_113
  let c0_i32_118 : BitVec 32 := 0#32
  let v249 : BitVec 1 := Scalar.cmpi .ne v248 c0_i32_118
  let v250 : BitVec 1 := Scalar.andi v247 v249
  let v236 : BitVec 32 := Scalar.divsi v114 c2_i32_113
  let c1_i32_119 : BitVec 32 := 1#32
  let v251 : BitVec 32 := Scalar.subi v236 c1_i32_119
  let v252 : BitVec 32 := Scalar.select v250 v251 v236
  let v253 : BitVec 32 := Scalar.muli c2_i32_120 v252
  let v254 : BitVec 32 := Scalar.addi v235 v253
  let v255 : BitVec 32 := Scalar.muli c8_i32_121 v254
  let c4_i32_93 : BitVec 32 := 4#32
  let c0_i32_94 : BitVec 32 := 0#32
  let v197 : BitVec 1 := Scalar.cmpi .eq c4_i32_93 c0_i32_94
  let c1_i32_95 : BitVec 32 := 1#32
  let v198 : BitVec 32 := Scalar.select v197 c1_i32_95 c4_i32_93
  let v199 : BitVec 32 := Scalar.remsi v196 v198
  let c0_i32_97 : BitVec 32 := 0#32
  let v201 : BitVec 1 := Scalar.cmpi .slt v199 c0_i32_97
  let c0_i32_98 : BitVec 32 := 0#32
  let v202 : BitVec 1 := Scalar.cmpi .slt v198 c0_i32_98
  let v203 : BitVec 1 := Scalar.xori v201 v202
  let c0_i32_96 : BitVec 32 := 0#32
  let v200 : BitVec 1 := Scalar.cmpi .ne v199 c0_i32_96
  let v204 : BitVec 1 := Scalar.andi v203 v200
  let v205 : BitVec 32 := Scalar.addi v199 v198
  let v206 : BitVec 32 := Scalar.select v204 v205 v199
  let c4_i32_105 : BitVec 32 := 4#32
  let c2_i32_99 : BitVec 32 := 2#32
  let c0_i32_100 : BitVec 32 := 0#32
  let v207 : BitVec 1 := Scalar.cmpi .eq c2_i32_99 c0_i32_100
  let c1_i32_101 : BitVec 32 := 1#32
  let v208 : BitVec 32 := Scalar.select v207 c1_i32_101 c2_i32_99
  let v209 : BitVec 32 := Scalar.remsi v114 v208
  let c0_i32_103 : BitVec 32 := 0#32
  let v211 : BitVec 1 := Scalar.cmpi .slt v209 c0_i32_103
  let c0_i32_104 : BitVec 32 := 0#32
  let v212 : BitVec 1 := Scalar.cmpi .slt v208 c0_i32_104
  let v213 : BitVec 1 := Scalar.xori v211 v212
  let c0_i32_102 : BitVec 32 := 0#32
  let v210 : BitVec 1 := Scalar.cmpi .ne v209 c0_i32_102
  let v214 : BitVec 1 := Scalar.andi v213 v210
  let v215 : BitVec 32 := Scalar.addi v209 v208
  let v216 : BitVec 32 := Scalar.select v214 v215 v209
  let v217 : BitVec 32 := Scalar.muli c4_i32_105 v216
  let v218 : BitVec 32 := Scalar.addi v206 v217
  let v256 : BitVec 32 := Scalar.addi v255 v218
  let c1_i32_622 : BitVec 32 := 1#32
  let v1108 : BitVec 32 := Scalar.muli v256 c1_i32_622
  let v1109 : BitVec 32 := Scalar.addi c0_i32_623 v1108
  v1109.toNat
def k0_dev20 (d0 : Dev nD) : Nat :=
  let c0_i32_643 : BitVec 32 := 0#32
  let c8_i32_156 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c3_i32 : BitVec 32 := 3#32
  let v257 : BitVec 32 := Scalar.addi v51 c3_i32
  let c8_i32_122 : BitVec 32 := 8#32
  let c0_i32_123 : BitVec 32 := 0#32
  let v258 : BitVec 1 := Scalar.cmpi .eq c8_i32_122 c0_i32_123
  let c1_i32_124 : BitVec 32 := 1#32
  let v259 : BitVec 32 := Scalar.select v258 c1_i32_124 c8_i32_122
  let v260 : BitVec 32 := Scalar.remsi v257 v259
  let c0_i32_126 : BitVec 32 := 0#32
  let v262 : BitVec 1 := Scalar.cmpi .slt v260 c0_i32_126
  let c0_i32_127 : BitVec 32 := 0#32
  let v263 : BitVec 1 := Scalar.cmpi .slt v259 c0_i32_127
  let v264 : BitVec 1 := Scalar.xori v262 v263
  let c0_i32_125 : BitVec 32 := 0#32
  let v261 : BitVec 1 := Scalar.cmpi .ne v260 c0_i32_125
  let v265 : BitVec 1 := Scalar.andi v264 v261
  let v266 : BitVec 32 := Scalar.addi v260 v259
  let v267 : BitVec 32 := Scalar.select v265 v266 v260
  let c0_i32_142 : BitVec 32 := 0#32
  let v291 : BitVec 1 := Scalar.cmpi .sgt v267 c0_i32_142
  let v292 : BitVec 32 := Scalar.extui v291
  let c0_i32_143 : BitVec 32 := 0#32
  let v293 : BitVec 1 := Scalar.cmpi .slt v267 c0_i32_143
  let v294 : BitVec 32 := Scalar.extui v293
  let v295 : BitVec 32 := Scalar.subi v292 v294
  let c4_i32_141 : BitVec 32 := 4#32
  let c0_i32_144 : BitVec 32 := 0#32
  let v296 : BitVec 1 := Scalar.cmpi .sgt c4_i32_141 c0_i32_144
  let v297 : BitVec 32 := Scalar.extui v296
  let c0_i32_145 : BitVec 32 := 0#32
  let v298 : BitVec 1 := Scalar.cmpi .slt c4_i32_141 c0_i32_145
  let v299 : BitVec 32 := Scalar.extui v298
  let v300 : BitVec 32 := Scalar.subi v297 v299
  let v301 : BitVec 1 := Scalar.cmpi .ne v295 v300
  let v302 : BitVec 32 := Scalar.remsi v267 c4_i32_141
  let c0_i32_146 : BitVec 32 := 0#32
  let v303 : BitVec 1 := Scalar.cmpi .ne v302 c0_i32_146
  let v304 : BitVec 1 := Scalar.andi v301 v303
  let v290 : BitVec 32 := Scalar.divsi v267 c4_i32_141
  let c1_i32_147 : BitVec 32 := 1#32
  let v305 : BitVec 32 := Scalar.subi v290 c1_i32_147
  let v306 : BitVec 32 := Scalar.select v304 v305 v290
  let c2_i32_155 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_149 : BitVec 32 := 0#32
  let v308 : BitVec 1 := Scalar.cmpi .sgt v114 c0_i32_149
  let v309 : BitVec 32 := Scalar.extui v308
  let c0_i32_150 : BitVec 32 := 0#32
  let v310 : BitVec 1 := Scalar.cmpi .slt v114 c0_i32_150
  let v311 : BitVec 32 := Scalar.extui v310
  let v312 : BitVec 32 := Scalar.subi v309 v311
  let c2_i32_148 : BitVec 32 := 2#32
  let c0_i32_151 : BitVec 32 := 0#32
  let v313 : BitVec 1 := Scalar.cmpi .sgt c2_i32_148 c0_i32_151
  let v314 : BitVec 32 := Scalar.extui v313
  let c0_i32_152 : BitVec 32 := 0#32
  let v315 : BitVec 1 := Scalar.cmpi .slt c2_i32_148 c0_i32_152
  let v316 : BitVec 32 := Scalar.extui v315
  let v317 : BitVec 32 := Scalar.subi v314 v316
  let v318 : BitVec 1 := Scalar.cmpi .ne v312 v317
  let v319 : BitVec 32 := Scalar.remsi v114 c2_i32_148
  let c0_i32_153 : BitVec 32 := 0#32
  let v320 : BitVec 1 := Scalar.cmpi .ne v319 c0_i32_153
  let v321 : BitVec 1 := Scalar.andi v318 v320
  let v307 : BitVec 32 := Scalar.divsi v114 c2_i32_148
  let c1_i32_154 : BitVec 32 := 1#32
  let v322 : BitVec 32 := Scalar.subi v307 c1_i32_154
  let v323 : BitVec 32 := Scalar.select v321 v322 v307
  let v324 : BitVec 32 := Scalar.muli c2_i32_155 v323
  let v325 : BitVec 32 := Scalar.addi v306 v324
  let v326 : BitVec 32 := Scalar.muli c8_i32_156 v325
  let c4_i32_128 : BitVec 32 := 4#32
  let c0_i32_129 : BitVec 32 := 0#32
  let v268 : BitVec 1 := Scalar.cmpi .eq c4_i32_128 c0_i32_129
  let c1_i32_130 : BitVec 32 := 1#32
  let v269 : BitVec 32 := Scalar.select v268 c1_i32_130 c4_i32_128
  let v270 : BitVec 32 := Scalar.remsi v267 v269
  let c0_i32_132 : BitVec 32 := 0#32
  let v272 : BitVec 1 := Scalar.cmpi .slt v270 c0_i32_132
  let c0_i32_133 : BitVec 32 := 0#32
  let v273 : BitVec 1 := Scalar.cmpi .slt v269 c0_i32_133
  let v274 : BitVec 1 := Scalar.xori v272 v273
  let c0_i32_131 : BitVec 32 := 0#32
  let v271 : BitVec 1 := Scalar.cmpi .ne v270 c0_i32_131
  let v275 : BitVec 1 := Scalar.andi v274 v271
  let v276 : BitVec 32 := Scalar.addi v270 v269
  let v277 : BitVec 32 := Scalar.select v275 v276 v270
  let c4_i32_140 : BitVec 32 := 4#32
  let c2_i32_134 : BitVec 32 := 2#32
  let c0_i32_135 : BitVec 32 := 0#32
  let v278 : BitVec 1 := Scalar.cmpi .eq c2_i32_134 c0_i32_135
  let c1_i32_136 : BitVec 32 := 1#32
  let v279 : BitVec 32 := Scalar.select v278 c1_i32_136 c2_i32_134
  let v280 : BitVec 32 := Scalar.remsi v114 v279
  let c0_i32_138 : BitVec 32 := 0#32
  let v282 : BitVec 1 := Scalar.cmpi .slt v280 c0_i32_138
  let c0_i32_139 : BitVec 32 := 0#32
  let v283 : BitVec 1 := Scalar.cmpi .slt v279 c0_i32_139
  let v284 : BitVec 1 := Scalar.xori v282 v283
  let c0_i32_137 : BitVec 32 := 0#32
  let v281 : BitVec 1 := Scalar.cmpi .ne v280 c0_i32_137
  let v285 : BitVec 1 := Scalar.andi v284 v281
  let v286 : BitVec 32 := Scalar.addi v280 v279
  let v287 : BitVec 32 := Scalar.select v285 v286 v280
  let v288 : BitVec 32 := Scalar.muli c4_i32_140 v287
  let v289 : BitVec 32 := Scalar.addi v277 v288
  let v327 : BitVec 32 := Scalar.addi v326 v289
  let c1_i32_642 : BitVec 32 := 1#32
  let v1137 : BitVec 32 := Scalar.muli v327 c1_i32_642
  let v1138 : BitVec 32 := Scalar.addi c0_i32_643 v1137
  v1138.toNat
def k0_dev21 (d0 : Dev nD) : Nat :=
  let c0_i32_663 : BitVec 32 := 0#32
  let c8_i32_192 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c4_i32_157 : BitVec 32 := 4#32
  let v328 : BitVec 32 := Scalar.addi v51 c4_i32_157
  let c8_i32_158 : BitVec 32 := 8#32
  let c0_i32_159 : BitVec 32 := 0#32
  let v329 : BitVec 1 := Scalar.cmpi .eq c8_i32_158 c0_i32_159
  let c1_i32_160 : BitVec 32 := 1#32
  let v330 : BitVec 32 := Scalar.select v329 c1_i32_160 c8_i32_158
  let v331 : BitVec 32 := Scalar.remsi v328 v330
  let c0_i32_162 : BitVec 32 := 0#32
  let v333 : BitVec 1 := Scalar.cmpi .slt v331 c0_i32_162
  let c0_i32_163 : BitVec 32 := 0#32
  let v334 : BitVec 1 := Scalar.cmpi .slt v330 c0_i32_163
  let v335 : BitVec 1 := Scalar.xori v333 v334
  let c0_i32_161 : BitVec 32 := 0#32
  let v332 : BitVec 1 := Scalar.cmpi .ne v331 c0_i32_161
  let v336 : BitVec 1 := Scalar.andi v335 v332
  let v337 : BitVec 32 := Scalar.addi v331 v330
  let v338 : BitVec 32 := Scalar.select v336 v337 v331
  let c0_i32_178 : BitVec 32 := 0#32
  let v362 : BitVec 1 := Scalar.cmpi .sgt v338 c0_i32_178
  let v363 : BitVec 32 := Scalar.extui v362
  let c0_i32_179 : BitVec 32 := 0#32
  let v364 : BitVec 1 := Scalar.cmpi .slt v338 c0_i32_179
  let v365 : BitVec 32 := Scalar.extui v364
  let v366 : BitVec 32 := Scalar.subi v363 v365
  let c4_i32_177 : BitVec 32 := 4#32
  let c0_i32_180 : BitVec 32 := 0#32
  let v367 : BitVec 1 := Scalar.cmpi .sgt c4_i32_177 c0_i32_180
  let v368 : BitVec 32 := Scalar.extui v367
  let c0_i32_181 : BitVec 32 := 0#32
  let v369 : BitVec 1 := Scalar.cmpi .slt c4_i32_177 c0_i32_181
  let v370 : BitVec 32 := Scalar.extui v369
  let v371 : BitVec 32 := Scalar.subi v368 v370
  let v372 : BitVec 1 := Scalar.cmpi .ne v366 v371
  let v373 : BitVec 32 := Scalar.remsi v338 c4_i32_177
  let c0_i32_182 : BitVec 32 := 0#32
  let v374 : BitVec 1 := Scalar.cmpi .ne v373 c0_i32_182
  let v375 : BitVec 1 := Scalar.andi v372 v374
  let v361 : BitVec 32 := Scalar.divsi v338 c4_i32_177
  let c1_i32_183 : BitVec 32 := 1#32
  let v376 : BitVec 32 := Scalar.subi v361 c1_i32_183
  let v377 : BitVec 32 := Scalar.select v375 v376 v361
  let c2_i32_191 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_185 : BitVec 32 := 0#32
  let v379 : BitVec 1 := Scalar.cmpi .sgt v114 c0_i32_185
  let v380 : BitVec 32 := Scalar.extui v379
  let c0_i32_186 : BitVec 32 := 0#32
  let v381 : BitVec 1 := Scalar.cmpi .slt v114 c0_i32_186
  let v382 : BitVec 32 := Scalar.extui v381
  let v383 : BitVec 32 := Scalar.subi v380 v382
  let c2_i32_184 : BitVec 32 := 2#32
  let c0_i32_187 : BitVec 32 := 0#32
  let v384 : BitVec 1 := Scalar.cmpi .sgt c2_i32_184 c0_i32_187
  let v385 : BitVec 32 := Scalar.extui v384
  let c0_i32_188 : BitVec 32 := 0#32
  let v386 : BitVec 1 := Scalar.cmpi .slt c2_i32_184 c0_i32_188
  let v387 : BitVec 32 := Scalar.extui v386
  let v388 : BitVec 32 := Scalar.subi v385 v387
  let v389 : BitVec 1 := Scalar.cmpi .ne v383 v388
  let v390 : BitVec 32 := Scalar.remsi v114 c2_i32_184
  let c0_i32_189 : BitVec 32 := 0#32
  let v391 : BitVec 1 := Scalar.cmpi .ne v390 c0_i32_189
  let v392 : BitVec 1 := Scalar.andi v389 v391
  let v378 : BitVec 32 := Scalar.divsi v114 c2_i32_184
  let c1_i32_190 : BitVec 32 := 1#32
  let v393 : BitVec 32 := Scalar.subi v378 c1_i32_190
  let v394 : BitVec 32 := Scalar.select v392 v393 v378
  let v395 : BitVec 32 := Scalar.muli c2_i32_191 v394
  let v396 : BitVec 32 := Scalar.addi v377 v395
  let v397 : BitVec 32 := Scalar.muli c8_i32_192 v396
  let c4_i32_164 : BitVec 32 := 4#32
  let c0_i32_165 : BitVec 32 := 0#32
  let v339 : BitVec 1 := Scalar.cmpi .eq c4_i32_164 c0_i32_165
  let c1_i32_166 : BitVec 32 := 1#32
  let v340 : BitVec 32 := Scalar.select v339 c1_i32_166 c4_i32_164
  let v341 : BitVec 32 := Scalar.remsi v338 v340
  let c0_i32_168 : BitVec 32 := 0#32
  let v343 : BitVec 1 := Scalar.cmpi .slt v341 c0_i32_168
  let c0_i32_169 : BitVec 32 := 0#32
  let v344 : BitVec 1 := Scalar.cmpi .slt v340 c0_i32_169
  let v345 : BitVec 1 := Scalar.xori v343 v344
  let c0_i32_167 : BitVec 32 := 0#32
  let v342 : BitVec 1 := Scalar.cmpi .ne v341 c0_i32_167
  let v346 : BitVec 1 := Scalar.andi v345 v342
  let v347 : BitVec 32 := Scalar.addi v341 v340
  let v348 : BitVec 32 := Scalar.select v346 v347 v341
  let c4_i32_176 : BitVec 32 := 4#32
  let c2_i32_170 : BitVec 32 := 2#32
  let c0_i32_171 : BitVec 32 := 0#32
  let v349 : BitVec 1 := Scalar.cmpi .eq c2_i32_170 c0_i32_171
  let c1_i32_172 : BitVec 32 := 1#32
  let v350 : BitVec 32 := Scalar.select v349 c1_i32_172 c2_i32_170
  let v351 : BitVec 32 := Scalar.remsi v114 v350
  let c0_i32_174 : BitVec 32 := 0#32
  let v353 : BitVec 1 := Scalar.cmpi .slt v351 c0_i32_174
  let c0_i32_175 : BitVec 32 := 0#32
  let v354 : BitVec 1 := Scalar.cmpi .slt v350 c0_i32_175
  let v355 : BitVec 1 := Scalar.xori v353 v354
  let c0_i32_173 : BitVec 32 := 0#32
  let v352 : BitVec 1 := Scalar.cmpi .ne v351 c0_i32_173
  let v356 : BitVec 1 := Scalar.andi v355 v352
  let v357 : BitVec 32 := Scalar.addi v351 v350
  let v358 : BitVec 32 := Scalar.select v356 v357 v351
  let v359 : BitVec 32 := Scalar.muli c4_i32_176 v358
  let v360 : BitVec 32 := Scalar.addi v348 v359
  let v398 : BitVec 32 := Scalar.addi v397 v360
  let c1_i32_662 : BitVec 32 := 1#32
  let v1166 : BitVec 32 := Scalar.muli v398 c1_i32_662
  let v1167 : BitVec 32 := Scalar.addi c0_i32_663 v1166
  v1167.toNat
def k0_dev22 (d0 : Dev nD) : Nat :=
  let c0_i32_683 : BitVec 32 := 0#32
  let c8_i32_227 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c5_i32 : BitVec 32 := 5#32
  let v399 : BitVec 32 := Scalar.addi v51 c5_i32
  let c8_i32_193 : BitVec 32 := 8#32
  let c0_i32_194 : BitVec 32 := 0#32
  let v400 : BitVec 1 := Scalar.cmpi .eq c8_i32_193 c0_i32_194
  let c1_i32_195 : BitVec 32 := 1#32
  let v401 : BitVec 32 := Scalar.select v400 c1_i32_195 c8_i32_193
  let v402 : BitVec 32 := Scalar.remsi v399 v401
  let c0_i32_197 : BitVec 32 := 0#32
  let v404 : BitVec 1 := Scalar.cmpi .slt v402 c0_i32_197
  let c0_i32_198 : BitVec 32 := 0#32
  let v405 : BitVec 1 := Scalar.cmpi .slt v401 c0_i32_198
  let v406 : BitVec 1 := Scalar.xori v404 v405
  let c0_i32_196 : BitVec 32 := 0#32
  let v403 : BitVec 1 := Scalar.cmpi .ne v402 c0_i32_196
  let v407 : BitVec 1 := Scalar.andi v406 v403
  let v408 : BitVec 32 := Scalar.addi v402 v401
  let v409 : BitVec 32 := Scalar.select v407 v408 v402
  let c0_i32_213 : BitVec 32 := 0#32
  let v433 : BitVec 1 := Scalar.cmpi .sgt v409 c0_i32_213
  let v434 : BitVec 32 := Scalar.extui v433
  let c0_i32_214 : BitVec 32 := 0#32
  let v435 : BitVec 1 := Scalar.cmpi .slt v409 c0_i32_214
  let v436 : BitVec 32 := Scalar.extui v435
  let v437 : BitVec 32 := Scalar.subi v434 v436
  let c4_i32_212 : BitVec 32 := 4#32
  let c0_i32_215 : BitVec 32 := 0#32
  let v438 : BitVec 1 := Scalar.cmpi .sgt c4_i32_212 c0_i32_215
  let v439 : BitVec 32 := Scalar.extui v438
  let c0_i32_216 : BitVec 32 := 0#32
  let v440 : BitVec 1 := Scalar.cmpi .slt c4_i32_212 c0_i32_216
  let v441 : BitVec 32 := Scalar.extui v440
  let v442 : BitVec 32 := Scalar.subi v439 v441
  let v443 : BitVec 1 := Scalar.cmpi .ne v437 v442
  let v444 : BitVec 32 := Scalar.remsi v409 c4_i32_212
  let c0_i32_217 : BitVec 32 := 0#32
  let v445 : BitVec 1 := Scalar.cmpi .ne v444 c0_i32_217
  let v446 : BitVec 1 := Scalar.andi v443 v445
  let v432 : BitVec 32 := Scalar.divsi v409 c4_i32_212
  let c1_i32_218 : BitVec 32 := 1#32
  let v447 : BitVec 32 := Scalar.subi v432 c1_i32_218
  let v448 : BitVec 32 := Scalar.select v446 v447 v432
  let c2_i32_226 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_220 : BitVec 32 := 0#32
  let v450 : BitVec 1 := Scalar.cmpi .sgt v114 c0_i32_220
  let v451 : BitVec 32 := Scalar.extui v450
  let c0_i32_221 : BitVec 32 := 0#32
  let v452 : BitVec 1 := Scalar.cmpi .slt v114 c0_i32_221
  let v453 : BitVec 32 := Scalar.extui v452
  let v454 : BitVec 32 := Scalar.subi v451 v453
  let c2_i32_219 : BitVec 32 := 2#32
  let c0_i32_222 : BitVec 32 := 0#32
  let v455 : BitVec 1 := Scalar.cmpi .sgt c2_i32_219 c0_i32_222
  let v456 : BitVec 32 := Scalar.extui v455
  let c0_i32_223 : BitVec 32 := 0#32
  let v457 : BitVec 1 := Scalar.cmpi .slt c2_i32_219 c0_i32_223
  let v458 : BitVec 32 := Scalar.extui v457
  let v459 : BitVec 32 := Scalar.subi v456 v458
  let v460 : BitVec 1 := Scalar.cmpi .ne v454 v459
  let v461 : BitVec 32 := Scalar.remsi v114 c2_i32_219
  let c0_i32_224 : BitVec 32 := 0#32
  let v462 : BitVec 1 := Scalar.cmpi .ne v461 c0_i32_224
  let v463 : BitVec 1 := Scalar.andi v460 v462
  let v449 : BitVec 32 := Scalar.divsi v114 c2_i32_219
  let c1_i32_225 : BitVec 32 := 1#32
  let v464 : BitVec 32 := Scalar.subi v449 c1_i32_225
  let v465 : BitVec 32 := Scalar.select v463 v464 v449
  let v466 : BitVec 32 := Scalar.muli c2_i32_226 v465
  let v467 : BitVec 32 := Scalar.addi v448 v466
  let v468 : BitVec 32 := Scalar.muli c8_i32_227 v467
  let c4_i32_199 : BitVec 32 := 4#32
  let c0_i32_200 : BitVec 32 := 0#32
  let v410 : BitVec 1 := Scalar.cmpi .eq c4_i32_199 c0_i32_200
  let c1_i32_201 : BitVec 32 := 1#32
  let v411 : BitVec 32 := Scalar.select v410 c1_i32_201 c4_i32_199
  let v412 : BitVec 32 := Scalar.remsi v409 v411
  let c0_i32_203 : BitVec 32 := 0#32
  let v414 : BitVec 1 := Scalar.cmpi .slt v412 c0_i32_203
  let c0_i32_204 : BitVec 32 := 0#32
  let v415 : BitVec 1 := Scalar.cmpi .slt v411 c0_i32_204
  let v416 : BitVec 1 := Scalar.xori v414 v415
  let c0_i32_202 : BitVec 32 := 0#32
  let v413 : BitVec 1 := Scalar.cmpi .ne v412 c0_i32_202
  let v417 : BitVec 1 := Scalar.andi v416 v413
  let v418 : BitVec 32 := Scalar.addi v412 v411
  let v419 : BitVec 32 := Scalar.select v417 v418 v412
  let c4_i32_211 : BitVec 32 := 4#32
  let c2_i32_205 : BitVec 32 := 2#32
  let c0_i32_206 : BitVec 32 := 0#32
  let v420 : BitVec 1 := Scalar.cmpi .eq c2_i32_205 c0_i32_206
  let c1_i32_207 : BitVec 32 := 1#32
  let v421 : BitVec 32 := Scalar.select v420 c1_i32_207 c2_i32_205
  let v422 : BitVec 32 := Scalar.remsi v114 v421
  let c0_i32_209 : BitVec 32 := 0#32
  let v424 : BitVec 1 := Scalar.cmpi .slt v422 c0_i32_209
  let c0_i32_210 : BitVec 32 := 0#32
  let v425 : BitVec 1 := Scalar.cmpi .slt v421 c0_i32_210
  let v426 : BitVec 1 := Scalar.xori v424 v425
  let c0_i32_208 : BitVec 32 := 0#32
  let v423 : BitVec 1 := Scalar.cmpi .ne v422 c0_i32_208
  let v427 : BitVec 1 := Scalar.andi v426 v423
  let v428 : BitVec 32 := Scalar.addi v422 v421
  let v429 : BitVec 32 := Scalar.select v427 v428 v422
  let v430 : BitVec 32 := Scalar.muli c4_i32_211 v429
  let v431 : BitVec 32 := Scalar.addi v419 v430
  let v469 : BitVec 32 := Scalar.addi v468 v431
  let c1_i32_682 : BitVec 32 := 1#32
  let v1195 : BitVec 32 := Scalar.muli v469 c1_i32_682
  let v1196 : BitVec 32 := Scalar.addi c0_i32_683 v1195
  v1196.toNat
def k0_dev23 (d0 : Dev nD) : Nat :=
  let c0_i32_703 : BitVec 32 := 0#32
  let c8_i32_262 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c6_i32 : BitVec 32 := 6#32
  let v470 : BitVec 32 := Scalar.addi v51 c6_i32
  let c8_i32_228 : BitVec 32 := 8#32
  let c0_i32_229 : BitVec 32 := 0#32
  let v471 : BitVec 1 := Scalar.cmpi .eq c8_i32_228 c0_i32_229
  let c1_i32_230 : BitVec 32 := 1#32
  let v472 : BitVec 32 := Scalar.select v471 c1_i32_230 c8_i32_228
  let v473 : BitVec 32 := Scalar.remsi v470 v472
  let c0_i32_232 : BitVec 32 := 0#32
  let v475 : BitVec 1 := Scalar.cmpi .slt v473 c0_i32_232
  let c0_i32_233 : BitVec 32 := 0#32
  let v476 : BitVec 1 := Scalar.cmpi .slt v472 c0_i32_233
  let v477 : BitVec 1 := Scalar.xori v475 v476
  let c0_i32_231 : BitVec 32 := 0#32
  let v474 : BitVec 1 := Scalar.cmpi .ne v473 c0_i32_231
  let v478 : BitVec 1 := Scalar.andi v477 v474
  let v479 : BitVec 32 := Scalar.addi v473 v472
  let v480 : BitVec 32 := Scalar.select v478 v479 v473
  let c0_i32_248 : BitVec 32 := 0#32
  let v504 : BitVec 1 := Scalar.cmpi .sgt v480 c0_i32_248
  let v505 : BitVec 32 := Scalar.extui v504
  let c0_i32_249 : BitVec 32 := 0#32
  let v506 : BitVec 1 := Scalar.cmpi .slt v480 c0_i32_249
  let v507 : BitVec 32 := Scalar.extui v506
  let v508 : BitVec 32 := Scalar.subi v505 v507
  let c4_i32_247 : BitVec 32 := 4#32
  let c0_i32_250 : BitVec 32 := 0#32
  let v509 : BitVec 1 := Scalar.cmpi .sgt c4_i32_247 c0_i32_250
  let v510 : BitVec 32 := Scalar.extui v509
  let c0_i32_251 : BitVec 32 := 0#32
  let v511 : BitVec 1 := Scalar.cmpi .slt c4_i32_247 c0_i32_251
  let v512 : BitVec 32 := Scalar.extui v511
  let v513 : BitVec 32 := Scalar.subi v510 v512
  let v514 : BitVec 1 := Scalar.cmpi .ne v508 v513
  let v515 : BitVec 32 := Scalar.remsi v480 c4_i32_247
  let c0_i32_252 : BitVec 32 := 0#32
  let v516 : BitVec 1 := Scalar.cmpi .ne v515 c0_i32_252
  let v517 : BitVec 1 := Scalar.andi v514 v516
  let v503 : BitVec 32 := Scalar.divsi v480 c4_i32_247
  let c1_i32_253 : BitVec 32 := 1#32
  let v518 : BitVec 32 := Scalar.subi v503 c1_i32_253
  let v519 : BitVec 32 := Scalar.select v517 v518 v503
  let c2_i32_261 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_255 : BitVec 32 := 0#32
  let v521 : BitVec 1 := Scalar.cmpi .sgt v114 c0_i32_255
  let v522 : BitVec 32 := Scalar.extui v521
  let c0_i32_256 : BitVec 32 := 0#32
  let v523 : BitVec 1 := Scalar.cmpi .slt v114 c0_i32_256
  let v524 : BitVec 32 := Scalar.extui v523
  let v525 : BitVec 32 := Scalar.subi v522 v524
  let c2_i32_254 : BitVec 32 := 2#32
  let c0_i32_257 : BitVec 32 := 0#32
  let v526 : BitVec 1 := Scalar.cmpi .sgt c2_i32_254 c0_i32_257
  let v527 : BitVec 32 := Scalar.extui v526
  let c0_i32_258 : BitVec 32 := 0#32
  let v528 : BitVec 1 := Scalar.cmpi .slt c2_i32_254 c0_i32_258
  let v529 : BitVec 32 := Scalar.extui v528
  let v530 : BitVec 32 := Scalar.subi v527 v529
  let v531 : BitVec 1 := Scalar.cmpi .ne v525 v530
  let v532 : BitVec 32 := Scalar.remsi v114 c2_i32_254
  let c0_i32_259 : BitVec 32 := 0#32
  let v533 : BitVec 1 := Scalar.cmpi .ne v532 c0_i32_259
  let v534 : BitVec 1 := Scalar.andi v531 v533
  let v520 : BitVec 32 := Scalar.divsi v114 c2_i32_254
  let c1_i32_260 : BitVec 32 := 1#32
  let v535 : BitVec 32 := Scalar.subi v520 c1_i32_260
  let v536 : BitVec 32 := Scalar.select v534 v535 v520
  let v537 : BitVec 32 := Scalar.muli c2_i32_261 v536
  let v538 : BitVec 32 := Scalar.addi v519 v537
  let v539 : BitVec 32 := Scalar.muli c8_i32_262 v538
  let c4_i32_234 : BitVec 32 := 4#32
  let c0_i32_235 : BitVec 32 := 0#32
  let v481 : BitVec 1 := Scalar.cmpi .eq c4_i32_234 c0_i32_235
  let c1_i32_236 : BitVec 32 := 1#32
  let v482 : BitVec 32 := Scalar.select v481 c1_i32_236 c4_i32_234
  let v483 : BitVec 32 := Scalar.remsi v480 v482
  let c0_i32_238 : BitVec 32 := 0#32
  let v485 : BitVec 1 := Scalar.cmpi .slt v483 c0_i32_238
  let c0_i32_239 : BitVec 32 := 0#32
  let v486 : BitVec 1 := Scalar.cmpi .slt v482 c0_i32_239
  let v487 : BitVec 1 := Scalar.xori v485 v486
  let c0_i32_237 : BitVec 32 := 0#32
  let v484 : BitVec 1 := Scalar.cmpi .ne v483 c0_i32_237
  let v488 : BitVec 1 := Scalar.andi v487 v484
  let v489 : BitVec 32 := Scalar.addi v483 v482
  let v490 : BitVec 32 := Scalar.select v488 v489 v483
  let c4_i32_246 : BitVec 32 := 4#32
  let c2_i32_240 : BitVec 32 := 2#32
  let c0_i32_241 : BitVec 32 := 0#32
  let v491 : BitVec 1 := Scalar.cmpi .eq c2_i32_240 c0_i32_241
  let c1_i32_242 : BitVec 32 := 1#32
  let v492 : BitVec 32 := Scalar.select v491 c1_i32_242 c2_i32_240
  let v493 : BitVec 32 := Scalar.remsi v114 v492
  let c0_i32_244 : BitVec 32 := 0#32
  let v495 : BitVec 1 := Scalar.cmpi .slt v493 c0_i32_244
  let c0_i32_245 : BitVec 32 := 0#32
  let v496 : BitVec 1 := Scalar.cmpi .slt v492 c0_i32_245
  let v497 : BitVec 1 := Scalar.xori v495 v496
  let c0_i32_243 : BitVec 32 := 0#32
  let v494 : BitVec 1 := Scalar.cmpi .ne v493 c0_i32_243
  let v498 : BitVec 1 := Scalar.andi v497 v494
  let v499 : BitVec 32 := Scalar.addi v493 v492
  let v500 : BitVec 32 := Scalar.select v498 v499 v493
  let v501 : BitVec 32 := Scalar.muli c4_i32_246 v500
  let v502 : BitVec 32 := Scalar.addi v490 v501
  let v540 : BitVec 32 := Scalar.addi v539 v502
  let c1_i32_702 : BitVec 32 := 1#32
  let v1224 : BitVec 32 := Scalar.muli v540 c1_i32_702
  let v1225 : BitVec 32 := Scalar.addi c0_i32_703 v1224
  v1225.toNat
def k0_dev24 (d0 : Dev nD) : Nat :=
  let c0_i32_723 : BitVec 32 := 0#32
  let c8_i32_297 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c7_i32 : BitVec 32 := 7#32
  let v541 : BitVec 32 := Scalar.addi v51 c7_i32
  let c8_i32_263 : BitVec 32 := 8#32
  let c0_i32_264 : BitVec 32 := 0#32
  let v542 : BitVec 1 := Scalar.cmpi .eq c8_i32_263 c0_i32_264
  let c1_i32_265 : BitVec 32 := 1#32
  let v543 : BitVec 32 := Scalar.select v542 c1_i32_265 c8_i32_263
  let v544 : BitVec 32 := Scalar.remsi v541 v543
  let c0_i32_267 : BitVec 32 := 0#32
  let v546 : BitVec 1 := Scalar.cmpi .slt v544 c0_i32_267
  let c0_i32_268 : BitVec 32 := 0#32
  let v547 : BitVec 1 := Scalar.cmpi .slt v543 c0_i32_268
  let v548 : BitVec 1 := Scalar.xori v546 v547
  let c0_i32_266 : BitVec 32 := 0#32
  let v545 : BitVec 1 := Scalar.cmpi .ne v544 c0_i32_266
  let v549 : BitVec 1 := Scalar.andi v548 v545
  let v550 : BitVec 32 := Scalar.addi v544 v543
  let v551 : BitVec 32 := Scalar.select v549 v550 v544
  let c0_i32_283 : BitVec 32 := 0#32
  let v575 : BitVec 1 := Scalar.cmpi .sgt v551 c0_i32_283
  let v576 : BitVec 32 := Scalar.extui v575
  let c0_i32_284 : BitVec 32 := 0#32
  let v577 : BitVec 1 := Scalar.cmpi .slt v551 c0_i32_284
  let v578 : BitVec 32 := Scalar.extui v577
  let v579 : BitVec 32 := Scalar.subi v576 v578
  let c4_i32_282 : BitVec 32 := 4#32
  let c0_i32_285 : BitVec 32 := 0#32
  let v580 : BitVec 1 := Scalar.cmpi .sgt c4_i32_282 c0_i32_285
  let v581 : BitVec 32 := Scalar.extui v580
  let c0_i32_286 : BitVec 32 := 0#32
  let v582 : BitVec 1 := Scalar.cmpi .slt c4_i32_282 c0_i32_286
  let v583 : BitVec 32 := Scalar.extui v582
  let v584 : BitVec 32 := Scalar.subi v581 v583
  let v585 : BitVec 1 := Scalar.cmpi .ne v579 v584
  let v586 : BitVec 32 := Scalar.remsi v551 c4_i32_282
  let c0_i32_287 : BitVec 32 := 0#32
  let v587 : BitVec 1 := Scalar.cmpi .ne v586 c0_i32_287
  let v588 : BitVec 1 := Scalar.andi v585 v587
  let v574 : BitVec 32 := Scalar.divsi v551 c4_i32_282
  let c1_i32_288 : BitVec 32 := 1#32
  let v589 : BitVec 32 := Scalar.subi v574 c1_i32_288
  let v590 : BitVec 32 := Scalar.select v588 v589 v574
  let c2_i32_296 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_290 : BitVec 32 := 0#32
  let v592 : BitVec 1 := Scalar.cmpi .sgt v114 c0_i32_290
  let v593 : BitVec 32 := Scalar.extui v592
  let c0_i32_291 : BitVec 32 := 0#32
  let v594 : BitVec 1 := Scalar.cmpi .slt v114 c0_i32_291
  let v595 : BitVec 32 := Scalar.extui v594
  let v596 : BitVec 32 := Scalar.subi v593 v595
  let c2_i32_289 : BitVec 32 := 2#32
  let c0_i32_292 : BitVec 32 := 0#32
  let v597 : BitVec 1 := Scalar.cmpi .sgt c2_i32_289 c0_i32_292
  let v598 : BitVec 32 := Scalar.extui v597
  let c0_i32_293 : BitVec 32 := 0#32
  let v599 : BitVec 1 := Scalar.cmpi .slt c2_i32_289 c0_i32_293
  let v600 : BitVec 32 := Scalar.extui v599
  let v601 : BitVec 32 := Scalar.subi v598 v600
  let v602 : BitVec 1 := Scalar.cmpi .ne v596 v601
  let v603 : BitVec 32 := Scalar.remsi v114 c2_i32_289
  let c0_i32_294 : BitVec 32 := 0#32
  let v604 : BitVec 1 := Scalar.cmpi .ne v603 c0_i32_294
  let v605 : BitVec 1 := Scalar.andi v602 v604
  let v591 : BitVec 32 := Scalar.divsi v114 c2_i32_289
  let c1_i32_295 : BitVec 32 := 1#32
  let v606 : BitVec 32 := Scalar.subi v591 c1_i32_295
  let v607 : BitVec 32 := Scalar.select v605 v606 v591
  let v608 : BitVec 32 := Scalar.muli c2_i32_296 v607
  let v609 : BitVec 32 := Scalar.addi v590 v608
  let v610 : BitVec 32 := Scalar.muli c8_i32_297 v609
  let c4_i32_269 : BitVec 32 := 4#32
  let c0_i32_270 : BitVec 32 := 0#32
  let v552 : BitVec 1 := Scalar.cmpi .eq c4_i32_269 c0_i32_270
  let c1_i32_271 : BitVec 32 := 1#32
  let v553 : BitVec 32 := Scalar.select v552 c1_i32_271 c4_i32_269
  let v554 : BitVec 32 := Scalar.remsi v551 v553
  let c0_i32_273 : BitVec 32 := 0#32
  let v556 : BitVec 1 := Scalar.cmpi .slt v554 c0_i32_273
  let c0_i32_274 : BitVec 32 := 0#32
  let v557 : BitVec 1 := Scalar.cmpi .slt v553 c0_i32_274
  let v558 : BitVec 1 := Scalar.xori v556 v557
  let c0_i32_272 : BitVec 32 := 0#32
  let v555 : BitVec 1 := Scalar.cmpi .ne v554 c0_i32_272
  let v559 : BitVec 1 := Scalar.andi v558 v555
  let v560 : BitVec 32 := Scalar.addi v554 v553
  let v561 : BitVec 32 := Scalar.select v559 v560 v554
  let c4_i32_281 : BitVec 32 := 4#32
  let c2_i32_275 : BitVec 32 := 2#32
  let c0_i32_276 : BitVec 32 := 0#32
  let v562 : BitVec 1 := Scalar.cmpi .eq c2_i32_275 c0_i32_276
  let c1_i32_277 : BitVec 32 := 1#32
  let v563 : BitVec 32 := Scalar.select v562 c1_i32_277 c2_i32_275
  let v564 : BitVec 32 := Scalar.remsi v114 v563
  let c0_i32_279 : BitVec 32 := 0#32
  let v566 : BitVec 1 := Scalar.cmpi .slt v564 c0_i32_279
  let c0_i32_280 : BitVec 32 := 0#32
  let v567 : BitVec 1 := Scalar.cmpi .slt v563 c0_i32_280
  let v568 : BitVec 1 := Scalar.xori v566 v567
  let c0_i32_278 : BitVec 32 := 0#32
  let v565 : BitVec 1 := Scalar.cmpi .ne v564 c0_i32_278
  let v569 : BitVec 1 := Scalar.andi v568 v565
  let v570 : BitVec 32 := Scalar.addi v564 v563
  let v571 : BitVec 32 := Scalar.select v569 v570 v564
  let v572 : BitVec 32 := Scalar.muli c4_i32_281 v571
  let v573 : BitVec 32 := Scalar.addi v561 v572
  let v611 : BitVec 32 := Scalar.addi v610 v573
  let c1_i32_722 : BitVec 32 := 1#32
  let v1253 : BitVec 32 := Scalar.muli v611 c1_i32_722
  let v1254 : BitVec 32 := Scalar.addi c0_i32_723 v1253
  v1254.toNat
def k0_off7 (d0 : Dev nD) (c1_i32_852 : BitVec 32) : Fin 3 → Nat :=
  let c0_i32_859 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let v1382 : BitVec 32 := Scalar.addi v114 c1_i32_852
  let c4_i32_853 : BitVec 32 := 4#32
  let c0_i32_854 : BitVec 32 := 0#32
  let v1383 : BitVec 1 := Scalar.cmpi .eq c4_i32_853 c0_i32_854
  let c1_i32_855 : BitVec 32 := 1#32
  let v1384 : BitVec 32 := Scalar.select v1383 c1_i32_855 c4_i32_853
  let v1385 : BitVec 32 := Scalar.remsi v1382 v1384
  let c0_i32_857 : BitVec 32 := 0#32
  let v1387 : BitVec 1 := Scalar.cmpi .slt v1385 c0_i32_857
  let c0_i32_858 : BitVec 32 := 0#32
  let v1388 : BitVec 1 := Scalar.cmpi .slt v1384 c0_i32_858
  let v1389 : BitVec 1 := Scalar.xori v1387 v1388
  let c0_i32_856 : BitVec 32 := 0#32
  let v1386 : BitVec 1 := Scalar.cmpi .ne v1385 c0_i32_856
  let v1390 : BitVec 1 := Scalar.andi v1389 v1386
  let v1391 : BitVec 32 := Scalar.addi v1385 v1384
  let v1392 : BitVec 32 := Scalar.select v1390 v1391 v1385
  let c48_i32 : BitVec 32 := 48#32
  let v1393 : BitVec 32 := Scalar.muli v1392 c48_i32
  let c0_i32_867 : BitVec 32 := 0#32
  ![0, v1393.toNat, 0]
def k0_dev25 (d0 : Dev nD) : Nat :=
  let c0_i32_864 : BitVec 32 := 0#32
  let c8_i32_333 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c0_i32_319 : BitVec 32 := 0#32
  let v646 : BitVec 1 := Scalar.cmpi .sgt v51 c0_i32_319
  let v647 : BitVec 32 := Scalar.extui v646
  let c0_i32_320 : BitVec 32 := 0#32
  let v648 : BitVec 1 := Scalar.cmpi .slt v51 c0_i32_320
  let v649 : BitVec 32 := Scalar.extui v648
  let v650 : BitVec 32 := Scalar.subi v647 v649
  let c4_i32_318 : BitVec 32 := 4#32
  let c0_i32_321 : BitVec 32 := 0#32
  let v651 : BitVec 1 := Scalar.cmpi .sgt c4_i32_318 c0_i32_321
  let v652 : BitVec 32 := Scalar.extui v651
  let c0_i32_322 : BitVec 32 := 0#32
  let v653 : BitVec 1 := Scalar.cmpi .slt c4_i32_318 c0_i32_322
  let v654 : BitVec 32 := Scalar.extui v653
  let v655 : BitVec 32 := Scalar.subi v652 v654
  let v656 : BitVec 1 := Scalar.cmpi .ne v650 v655
  let v657 : BitVec 32 := Scalar.remsi v51 c4_i32_318
  let c0_i32_323 : BitVec 32 := 0#32
  let v658 : BitVec 1 := Scalar.cmpi .ne v657 c0_i32_323
  let v659 : BitVec 1 := Scalar.andi v656 v658
  let v645 : BitVec 32 := Scalar.divsi v51 c4_i32_318
  let c1_i32_324 : BitVec 32 := 1#32
  let v660 : BitVec 32 := Scalar.subi v645 c1_i32_324
  let v661 : BitVec 32 := Scalar.select v659 v660 v645
  let c2_i32_332 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c1_i32_298 : BitVec 32 := 1#32
  let v612 : BitVec 32 := Scalar.addi v114 c1_i32_298
  let c4_i32_299 : BitVec 32 := 4#32
  let c0_i32_300 : BitVec 32 := 0#32
  let v613 : BitVec 1 := Scalar.cmpi .eq c4_i32_299 c0_i32_300
  let c1_i32_301 : BitVec 32 := 1#32
  let v614 : BitVec 32 := Scalar.select v613 c1_i32_301 c4_i32_299
  let v615 : BitVec 32 := Scalar.remsi v612 v614
  let c0_i32_303 : BitVec 32 := 0#32
  let v617 : BitVec 1 := Scalar.cmpi .slt v615 c0_i32_303
  let c0_i32_304 : BitVec 32 := 0#32
  let v618 : BitVec 1 := Scalar.cmpi .slt v614 c0_i32_304
  let v619 : BitVec 1 := Scalar.xori v617 v618
  let c0_i32_302 : BitVec 32 := 0#32
  let v616 : BitVec 1 := Scalar.cmpi .ne v615 c0_i32_302
  let v620 : BitVec 1 := Scalar.andi v619 v616
  let v621 : BitVec 32 := Scalar.addi v615 v614
  let v622 : BitVec 32 := Scalar.select v620 v621 v615
  let c0_i32_326 : BitVec 32 := 0#32
  let v663 : BitVec 1 := Scalar.cmpi .sgt v622 c0_i32_326
  let v664 : BitVec 32 := Scalar.extui v663
  let c0_i32_327 : BitVec 32 := 0#32
  let v665 : BitVec 1 := Scalar.cmpi .slt v622 c0_i32_327
  let v666 : BitVec 32 := Scalar.extui v665
  let v667 : BitVec 32 := Scalar.subi v664 v666
  let c2_i32_325 : BitVec 32 := 2#32
  let c0_i32_328 : BitVec 32 := 0#32
  let v668 : BitVec 1 := Scalar.cmpi .sgt c2_i32_325 c0_i32_328
  let v669 : BitVec 32 := Scalar.extui v668
  let c0_i32_329 : BitVec 32 := 0#32
  let v670 : BitVec 1 := Scalar.cmpi .slt c2_i32_325 c0_i32_329
  let v671 : BitVec 32 := Scalar.extui v670
  let v672 : BitVec 32 := Scalar.subi v669 v671
  let v673 : BitVec 1 := Scalar.cmpi .ne v667 v672
  let v674 : BitVec 32 := Scalar.remsi v622 c2_i32_325
  let c0_i32_330 : BitVec 32 := 0#32
  let v675 : BitVec 1 := Scalar.cmpi .ne v674 c0_i32_330
  let v676 : BitVec 1 := Scalar.andi v673 v675
  let v662 : BitVec 32 := Scalar.divsi v622 c2_i32_325
  let c1_i32_331 : BitVec 32 := 1#32
  let v677 : BitVec 32 := Scalar.subi v662 c1_i32_331
  let v678 : BitVec 32 := Scalar.select v676 v677 v662
  let v679 : BitVec 32 := Scalar.muli c2_i32_332 v678
  let v680 : BitVec 32 := Scalar.addi v661 v679
  let v681 : BitVec 32 := Scalar.muli c8_i32_333 v680
  let c4_i32_305 : BitVec 32 := 4#32
  let c0_i32_306 : BitVec 32 := 0#32
  let v623 : BitVec 1 := Scalar.cmpi .eq c4_i32_305 c0_i32_306
  let c1_i32_307 : BitVec 32 := 1#32
  let v624 : BitVec 32 := Scalar.select v623 c1_i32_307 c4_i32_305
  let v625 : BitVec 32 := Scalar.remsi v51 v624
  let c0_i32_309 : BitVec 32 := 0#32
  let v627 : BitVec 1 := Scalar.cmpi .slt v625 c0_i32_309
  let c0_i32_310 : BitVec 32 := 0#32
  let v628 : BitVec 1 := Scalar.cmpi .slt v624 c0_i32_310
  let v629 : BitVec 1 := Scalar.xori v627 v628
  let c0_i32_308 : BitVec 32 := 0#32
  let v626 : BitVec 1 := Scalar.cmpi .ne v625 c0_i32_308
  let v630 : BitVec 1 := Scalar.andi v629 v626
  let v631 : BitVec 32 := Scalar.addi v625 v624
  let v632 : BitVec 32 := Scalar.select v630 v631 v625
  let c4_i32_317 : BitVec 32 := 4#32
  let c2_i32_311 : BitVec 32 := 2#32
  let c0_i32_312 : BitVec 32 := 0#32
  let v633 : BitVec 1 := Scalar.cmpi .eq c2_i32_311 c0_i32_312
  let c1_i32_313 : BitVec 32 := 1#32
  let v634 : BitVec 32 := Scalar.select v633 c1_i32_313 c2_i32_311
  let v635 : BitVec 32 := Scalar.remsi v622 v634
  let c0_i32_315 : BitVec 32 := 0#32
  let v637 : BitVec 1 := Scalar.cmpi .slt v635 c0_i32_315
  let c0_i32_316 : BitVec 32 := 0#32
  let v638 : BitVec 1 := Scalar.cmpi .slt v634 c0_i32_316
  let v639 : BitVec 1 := Scalar.xori v637 v638
  let c0_i32_314 : BitVec 32 := 0#32
  let v636 : BitVec 1 := Scalar.cmpi .ne v635 c0_i32_314
  let v640 : BitVec 1 := Scalar.andi v639 v636
  let v641 : BitVec 32 := Scalar.addi v635 v634
  let v642 : BitVec 32 := Scalar.select v640 v641 v635
  let v643 : BitVec 32 := Scalar.muli c4_i32_317 v642
  let v644 : BitVec 32 := Scalar.addi v632 v643
  let v682 : BitVec 32 := Scalar.addi v681 v644
  let c1_i32_863 : BitVec 32 := 1#32
  let v1394 : BitVec 32 := Scalar.muli v682 c1_i32_863
  let v1395 : BitVec 32 := Scalar.addi c0_i32_864 v1394
  v1395.toNat
def k0_dev26 (d0 : Dev nD) : Nat :=
  let c0_i32_881 : BitVec 32 := 0#32
  let c8_i32_369 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c0_i32_355 : BitVec 32 := 0#32
  let v717 : BitVec 1 := Scalar.cmpi .sgt v51 c0_i32_355
  let v718 : BitVec 32 := Scalar.extui v717
  let c0_i32_356 : BitVec 32 := 0#32
  let v719 : BitVec 1 := Scalar.cmpi .slt v51 c0_i32_356
  let v720 : BitVec 32 := Scalar.extui v719
  let v721 : BitVec 32 := Scalar.subi v718 v720
  let c4_i32_354 : BitVec 32 := 4#32
  let c0_i32_357 : BitVec 32 := 0#32
  let v722 : BitVec 1 := Scalar.cmpi .sgt c4_i32_354 c0_i32_357
  let v723 : BitVec 32 := Scalar.extui v722
  let c0_i32_358 : BitVec 32 := 0#32
  let v724 : BitVec 1 := Scalar.cmpi .slt c4_i32_354 c0_i32_358
  let v725 : BitVec 32 := Scalar.extui v724
  let v726 : BitVec 32 := Scalar.subi v723 v725
  let v727 : BitVec 1 := Scalar.cmpi .ne v721 v726
  let v728 : BitVec 32 := Scalar.remsi v51 c4_i32_354
  let c0_i32_359 : BitVec 32 := 0#32
  let v729 : BitVec 1 := Scalar.cmpi .ne v728 c0_i32_359
  let v730 : BitVec 1 := Scalar.andi v727 v729
  let v716 : BitVec 32 := Scalar.divsi v51 c4_i32_354
  let c1_i32_360 : BitVec 32 := 1#32
  let v731 : BitVec 32 := Scalar.subi v716 c1_i32_360
  let v732 : BitVec 32 := Scalar.select v730 v731 v716
  let c2_i32_368 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c2_i32_334 : BitVec 32 := 2#32
  let v683 : BitVec 32 := Scalar.addi v114 c2_i32_334
  let c4_i32_335 : BitVec 32 := 4#32
  let c0_i32_336 : BitVec 32 := 0#32
  let v684 : BitVec 1 := Scalar.cmpi .eq c4_i32_335 c0_i32_336
  let c1_i32_337 : BitVec 32 := 1#32
  let v685 : BitVec 32 := Scalar.select v684 c1_i32_337 c4_i32_335
  let v686 : BitVec 32 := Scalar.remsi v683 v685
  let c0_i32_339 : BitVec 32 := 0#32
  let v688 : BitVec 1 := Scalar.cmpi .slt v686 c0_i32_339
  let c0_i32_340 : BitVec 32 := 0#32
  let v689 : BitVec 1 := Scalar.cmpi .slt v685 c0_i32_340
  let v690 : BitVec 1 := Scalar.xori v688 v689
  let c0_i32_338 : BitVec 32 := 0#32
  let v687 : BitVec 1 := Scalar.cmpi .ne v686 c0_i32_338
  let v691 : BitVec 1 := Scalar.andi v690 v687
  let v692 : BitVec 32 := Scalar.addi v686 v685
  let v693 : BitVec 32 := Scalar.select v691 v692 v686
  let c0_i32_362 : BitVec 32 := 0#32
  let v734 : BitVec 1 := Scalar.cmpi .sgt v693 c0_i32_362
  let v735 : BitVec 32 := Scalar.extui v734
  let c0_i32_363 : BitVec 32 := 0#32
  let v736 : BitVec 1 := Scalar.cmpi .slt v693 c0_i32_363
  let v737 : BitVec 32 := Scalar.extui v736
  let v738 : BitVec 32 := Scalar.subi v735 v737
  let c2_i32_361 : BitVec 32 := 2#32
  let c0_i32_364 : BitVec 32 := 0#32
  let v739 : BitVec 1 := Scalar.cmpi .sgt c2_i32_361 c0_i32_364
  let v740 : BitVec 32 := Scalar.extui v739
  let c0_i32_365 : BitVec 32 := 0#32
  let v741 : BitVec 1 := Scalar.cmpi .slt c2_i32_361 c0_i32_365
  let v742 : BitVec 32 := Scalar.extui v741
  let v743 : BitVec 32 := Scalar.subi v740 v742
  let v744 : BitVec 1 := Scalar.cmpi .ne v738 v743
  let v745 : BitVec 32 := Scalar.remsi v693 c2_i32_361
  let c0_i32_366 : BitVec 32 := 0#32
  let v746 : BitVec 1 := Scalar.cmpi .ne v745 c0_i32_366
  let v747 : BitVec 1 := Scalar.andi v744 v746
  let v733 : BitVec 32 := Scalar.divsi v693 c2_i32_361
  let c1_i32_367 : BitVec 32 := 1#32
  let v748 : BitVec 32 := Scalar.subi v733 c1_i32_367
  let v749 : BitVec 32 := Scalar.select v747 v748 v733
  let v750 : BitVec 32 := Scalar.muli c2_i32_368 v749
  let v751 : BitVec 32 := Scalar.addi v732 v750
  let v752 : BitVec 32 := Scalar.muli c8_i32_369 v751
  let c4_i32_341 : BitVec 32 := 4#32
  let c0_i32_342 : BitVec 32 := 0#32
  let v694 : BitVec 1 := Scalar.cmpi .eq c4_i32_341 c0_i32_342
  let c1_i32_343 : BitVec 32 := 1#32
  let v695 : BitVec 32 := Scalar.select v694 c1_i32_343 c4_i32_341
  let v696 : BitVec 32 := Scalar.remsi v51 v695
  let c0_i32_345 : BitVec 32 := 0#32
  let v698 : BitVec 1 := Scalar.cmpi .slt v696 c0_i32_345
  let c0_i32_346 : BitVec 32 := 0#32
  let v699 : BitVec 1 := Scalar.cmpi .slt v695 c0_i32_346
  let v700 : BitVec 1 := Scalar.xori v698 v699
  let c0_i32_344 : BitVec 32 := 0#32
  let v697 : BitVec 1 := Scalar.cmpi .ne v696 c0_i32_344
  let v701 : BitVec 1 := Scalar.andi v700 v697
  let v702 : BitVec 32 := Scalar.addi v696 v695
  let v703 : BitVec 32 := Scalar.select v701 v702 v696
  let c4_i32_353 : BitVec 32 := 4#32
  let c2_i32_347 : BitVec 32 := 2#32
  let c0_i32_348 : BitVec 32 := 0#32
  let v704 : BitVec 1 := Scalar.cmpi .eq c2_i32_347 c0_i32_348
  let c1_i32_349 : BitVec 32 := 1#32
  let v705 : BitVec 32 := Scalar.select v704 c1_i32_349 c2_i32_347
  let v706 : BitVec 32 := Scalar.remsi v693 v705
  let c0_i32_351 : BitVec 32 := 0#32
  let v708 : BitVec 1 := Scalar.cmpi .slt v706 c0_i32_351
  let c0_i32_352 : BitVec 32 := 0#32
  let v709 : BitVec 1 := Scalar.cmpi .slt v705 c0_i32_352
  let v710 : BitVec 1 := Scalar.xori v708 v709
  let c0_i32_350 : BitVec 32 := 0#32
  let v707 : BitVec 1 := Scalar.cmpi .ne v706 c0_i32_350
  let v711 : BitVec 1 := Scalar.andi v710 v707
  let v712 : BitVec 32 := Scalar.addi v706 v705
  let v713 : BitVec 32 := Scalar.select v711 v712 v706
  let v714 : BitVec 32 := Scalar.muli c4_i32_353 v713
  let v715 : BitVec 32 := Scalar.addi v703 v714
  let v753 : BitVec 32 := Scalar.addi v752 v715
  let c1_i32_880 : BitVec 32 := 1#32
  let v1416 : BitVec 32 := Scalar.muli v753 c1_i32_880
  let v1417 : BitVec 32 := Scalar.addi c0_i32_881 v1416
  v1417.toNat
def k0_dev27 (d0 : Dev nD) : Nat :=
  let c0_i32_898 : BitVec 32 := 0#32
  let c8_i32_405 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c0_i32_391 : BitVec 32 := 0#32
  let v788 : BitVec 1 := Scalar.cmpi .sgt v51 c0_i32_391
  let v789 : BitVec 32 := Scalar.extui v788
  let c0_i32_392 : BitVec 32 := 0#32
  let v790 : BitVec 1 := Scalar.cmpi .slt v51 c0_i32_392
  let v791 : BitVec 32 := Scalar.extui v790
  let v792 : BitVec 32 := Scalar.subi v789 v791
  let c4_i32_390 : BitVec 32 := 4#32
  let c0_i32_393 : BitVec 32 := 0#32
  let v793 : BitVec 1 := Scalar.cmpi .sgt c4_i32_390 c0_i32_393
  let v794 : BitVec 32 := Scalar.extui v793
  let c0_i32_394 : BitVec 32 := 0#32
  let v795 : BitVec 1 := Scalar.cmpi .slt c4_i32_390 c0_i32_394
  let v796 : BitVec 32 := Scalar.extui v795
  let v797 : BitVec 32 := Scalar.subi v794 v796
  let v798 : BitVec 1 := Scalar.cmpi .ne v792 v797
  let v799 : BitVec 32 := Scalar.remsi v51 c4_i32_390
  let c0_i32_395 : BitVec 32 := 0#32
  let v800 : BitVec 1 := Scalar.cmpi .ne v799 c0_i32_395
  let v801 : BitVec 1 := Scalar.andi v798 v800
  let v787 : BitVec 32 := Scalar.divsi v51 c4_i32_390
  let c1_i32_396 : BitVec 32 := 1#32
  let v802 : BitVec 32 := Scalar.subi v787 c1_i32_396
  let v803 : BitVec 32 := Scalar.select v801 v802 v787
  let c2_i32_404 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c3_i32_370 : BitVec 32 := 3#32
  let v754 : BitVec 32 := Scalar.addi v114 c3_i32_370
  let c4_i32_371 : BitVec 32 := 4#32
  let c0_i32_372 : BitVec 32 := 0#32
  let v755 : BitVec 1 := Scalar.cmpi .eq c4_i32_371 c0_i32_372
  let c1_i32_373 : BitVec 32 := 1#32
  let v756 : BitVec 32 := Scalar.select v755 c1_i32_373 c4_i32_371
  let v757 : BitVec 32 := Scalar.remsi v754 v756
  let c0_i32_375 : BitVec 32 := 0#32
  let v759 : BitVec 1 := Scalar.cmpi .slt v757 c0_i32_375
  let c0_i32_376 : BitVec 32 := 0#32
  let v760 : BitVec 1 := Scalar.cmpi .slt v756 c0_i32_376
  let v761 : BitVec 1 := Scalar.xori v759 v760
  let c0_i32_374 : BitVec 32 := 0#32
  let v758 : BitVec 1 := Scalar.cmpi .ne v757 c0_i32_374
  let v762 : BitVec 1 := Scalar.andi v761 v758
  let v763 : BitVec 32 := Scalar.addi v757 v756
  let v764 : BitVec 32 := Scalar.select v762 v763 v757
  let c0_i32_398 : BitVec 32 := 0#32
  let v805 : BitVec 1 := Scalar.cmpi .sgt v764 c0_i32_398
  let v806 : BitVec 32 := Scalar.extui v805
  let c0_i32_399 : BitVec 32 := 0#32
  let v807 : BitVec 1 := Scalar.cmpi .slt v764 c0_i32_399
  let v808 : BitVec 32 := Scalar.extui v807
  let v809 : BitVec 32 := Scalar.subi v806 v808
  let c2_i32_397 : BitVec 32 := 2#32
  let c0_i32_400 : BitVec 32 := 0#32
  let v810 : BitVec 1 := Scalar.cmpi .sgt c2_i32_397 c0_i32_400
  let v811 : BitVec 32 := Scalar.extui v810
  let c0_i32_401 : BitVec 32 := 0#32
  let v812 : BitVec 1 := Scalar.cmpi .slt c2_i32_397 c0_i32_401
  let v813 : BitVec 32 := Scalar.extui v812
  let v814 : BitVec 32 := Scalar.subi v811 v813
  let v815 : BitVec 1 := Scalar.cmpi .ne v809 v814
  let v816 : BitVec 32 := Scalar.remsi v764 c2_i32_397
  let c0_i32_402 : BitVec 32 := 0#32
  let v817 : BitVec 1 := Scalar.cmpi .ne v816 c0_i32_402
  let v818 : BitVec 1 := Scalar.andi v815 v817
  let v804 : BitVec 32 := Scalar.divsi v764 c2_i32_397
  let c1_i32_403 : BitVec 32 := 1#32
  let v819 : BitVec 32 := Scalar.subi v804 c1_i32_403
  let v820 : BitVec 32 := Scalar.select v818 v819 v804
  let v821 : BitVec 32 := Scalar.muli c2_i32_404 v820
  let v822 : BitVec 32 := Scalar.addi v803 v821
  let v823 : BitVec 32 := Scalar.muli c8_i32_405 v822
  let c4_i32_377 : BitVec 32 := 4#32
  let c0_i32_378 : BitVec 32 := 0#32
  let v765 : BitVec 1 := Scalar.cmpi .eq c4_i32_377 c0_i32_378
  let c1_i32_379 : BitVec 32 := 1#32
  let v766 : BitVec 32 := Scalar.select v765 c1_i32_379 c4_i32_377
  let v767 : BitVec 32 := Scalar.remsi v51 v766
  let c0_i32_381 : BitVec 32 := 0#32
  let v769 : BitVec 1 := Scalar.cmpi .slt v767 c0_i32_381
  let c0_i32_382 : BitVec 32 := 0#32
  let v770 : BitVec 1 := Scalar.cmpi .slt v766 c0_i32_382
  let v771 : BitVec 1 := Scalar.xori v769 v770
  let c0_i32_380 : BitVec 32 := 0#32
  let v768 : BitVec 1 := Scalar.cmpi .ne v767 c0_i32_380
  let v772 : BitVec 1 := Scalar.andi v771 v768
  let v773 : BitVec 32 := Scalar.addi v767 v766
  let v774 : BitVec 32 := Scalar.select v772 v773 v767
  let c4_i32_389 : BitVec 32 := 4#32
  let c2_i32_383 : BitVec 32 := 2#32
  let c0_i32_384 : BitVec 32 := 0#32
  let v775 : BitVec 1 := Scalar.cmpi .eq c2_i32_383 c0_i32_384
  let c1_i32_385 : BitVec 32 := 1#32
  let v776 : BitVec 32 := Scalar.select v775 c1_i32_385 c2_i32_383
  let v777 : BitVec 32 := Scalar.remsi v764 v776
  let c0_i32_387 : BitVec 32 := 0#32
  let v779 : BitVec 1 := Scalar.cmpi .slt v777 c0_i32_387
  let c0_i32_388 : BitVec 32 := 0#32
  let v780 : BitVec 1 := Scalar.cmpi .slt v776 c0_i32_388
  let v781 : BitVec 1 := Scalar.xori v779 v780
  let c0_i32_386 : BitVec 32 := 0#32
  let v778 : BitVec 1 := Scalar.cmpi .ne v777 c0_i32_386
  let v782 : BitVec 1 := Scalar.andi v781 v778
  let v783 : BitVec 32 := Scalar.addi v777 v776
  let v784 : BitVec 32 := Scalar.select v782 v783 v777
  let v785 : BitVec 32 := Scalar.muli c4_i32_389 v784
  let v786 : BitVec 32 := Scalar.addi v774 v785
  let v824 : BitVec 32 := Scalar.addi v823 v786
  let c1_i32_897 : BitVec 32 := 1#32
  let v1438 : BitVec 32 := Scalar.muli v824 c1_i32_897
  let v1439 : BitVec 32 := Scalar.addi c0_i32_898 v1438
  v1439.toNat
def k0_off8 (d0 : Dev nD) : Fin 3 → Nat :=
  let c0_903 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c48_i32_902 : BitVec 32 := 48#32
  let v1448 : BitVec 32 := Scalar.muli v114 c48_i32_902
  let v1449 : Index := Scalar.indexCast v1448
  let c0_904 : Index := 0#32
  ![0, v1449.toNat, 0]
def k0_off9 (d0 : Dev nD) : Fin 3 → Nat :=
  let c0_i32_955 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c48_i32_953 : BitVec 32 := 48#32
  let v1502 : BitVec 32 := Scalar.muli v114 c48_i32_953
  let c0_i32_960 : BitVec 32 := 0#32
  ![0, v1502.toNat, 0]
def k0_dev28 (d0 : Dev nD) : Nat :=
  let c0_i32_959 : BitVec 32 := 0#32
  let c8_i32_333 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c0_i32_319 : BitVec 32 := 0#32
  let v646 : BitVec 1 := Scalar.cmpi .sgt v51 c0_i32_319
  let v647 : BitVec 32 := Scalar.extui v646
  let c0_i32_320 : BitVec 32 := 0#32
  let v648 : BitVec 1 := Scalar.cmpi .slt v51 c0_i32_320
  let v649 : BitVec 32 := Scalar.extui v648
  let v650 : BitVec 32 := Scalar.subi v647 v649
  let c4_i32_318 : BitVec 32 := 4#32
  let c0_i32_321 : BitVec 32 := 0#32
  let v651 : BitVec 1 := Scalar.cmpi .sgt c4_i32_318 c0_i32_321
  let v652 : BitVec 32 := Scalar.extui v651
  let c0_i32_322 : BitVec 32 := 0#32
  let v653 : BitVec 1 := Scalar.cmpi .slt c4_i32_318 c0_i32_322
  let v654 : BitVec 32 := Scalar.extui v653
  let v655 : BitVec 32 := Scalar.subi v652 v654
  let v656 : BitVec 1 := Scalar.cmpi .ne v650 v655
  let v657 : BitVec 32 := Scalar.remsi v51 c4_i32_318
  let c0_i32_323 : BitVec 32 := 0#32
  let v658 : BitVec 1 := Scalar.cmpi .ne v657 c0_i32_323
  let v659 : BitVec 1 := Scalar.andi v656 v658
  let v645 : BitVec 32 := Scalar.divsi v51 c4_i32_318
  let c1_i32_324 : BitVec 32 := 1#32
  let v660 : BitVec 32 := Scalar.subi v645 c1_i32_324
  let v661 : BitVec 32 := Scalar.select v659 v660 v645
  let c2_i32_332 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c1_i32_298 : BitVec 32 := 1#32
  let v612 : BitVec 32 := Scalar.addi v114 c1_i32_298
  let c4_i32_299 : BitVec 32 := 4#32
  let c0_i32_300 : BitVec 32 := 0#32
  let v613 : BitVec 1 := Scalar.cmpi .eq c4_i32_299 c0_i32_300
  let c1_i32_301 : BitVec 32 := 1#32
  let v614 : BitVec 32 := Scalar.select v613 c1_i32_301 c4_i32_299
  let v615 : BitVec 32 := Scalar.remsi v612 v614
  let c0_i32_303 : BitVec 32 := 0#32
  let v617 : BitVec 1 := Scalar.cmpi .slt v615 c0_i32_303
  let c0_i32_304 : BitVec 32 := 0#32
  let v618 : BitVec 1 := Scalar.cmpi .slt v614 c0_i32_304
  let v619 : BitVec 1 := Scalar.xori v617 v618
  let c0_i32_302 : BitVec 32 := 0#32
  let v616 : BitVec 1 := Scalar.cmpi .ne v615 c0_i32_302
  let v620 : BitVec 1 := Scalar.andi v619 v616
  let v621 : BitVec 32 := Scalar.addi v615 v614
  let v622 : BitVec 32 := Scalar.select v620 v621 v615
  let c0_i32_326 : BitVec 32 := 0#32
  let v663 : BitVec 1 := Scalar.cmpi .sgt v622 c0_i32_326
  let v664 : BitVec 32 := Scalar.extui v663
  let c0_i32_327 : BitVec 32 := 0#32
  let v665 : BitVec 1 := Scalar.cmpi .slt v622 c0_i32_327
  let v666 : BitVec 32 := Scalar.extui v665
  let v667 : BitVec 32 := Scalar.subi v664 v666
  let c2_i32_325 : BitVec 32 := 2#32
  let c0_i32_328 : BitVec 32 := 0#32
  let v668 : BitVec 1 := Scalar.cmpi .sgt c2_i32_325 c0_i32_328
  let v669 : BitVec 32 := Scalar.extui v668
  let c0_i32_329 : BitVec 32 := 0#32
  let v670 : BitVec 1 := Scalar.cmpi .slt c2_i32_325 c0_i32_329
  let v671 : BitVec 32 := Scalar.extui v670
  let v672 : BitVec 32 := Scalar.subi v669 v671
  let v673 : BitVec 1 := Scalar.cmpi .ne v667 v672
  let v674 : BitVec 32 := Scalar.remsi v622 c2_i32_325
  let c0_i32_330 : BitVec 32 := 0#32
  let v675 : BitVec 1 := Scalar.cmpi .ne v674 c0_i32_330
  let v676 : BitVec 1 := Scalar.andi v673 v675
  let v662 : BitVec 32 := Scalar.divsi v622 c2_i32_325
  let c1_i32_331 : BitVec 32 := 1#32
  let v677 : BitVec 32 := Scalar.subi v662 c1_i32_331
  let v678 : BitVec 32 := Scalar.select v676 v677 v662
  let v679 : BitVec 32 := Scalar.muli c2_i32_332 v678
  let v680 : BitVec 32 := Scalar.addi v661 v679
  let v681 : BitVec 32 := Scalar.muli c8_i32_333 v680
  let c4_i32_305 : BitVec 32 := 4#32
  let c0_i32_306 : BitVec 32 := 0#32
  let v623 : BitVec 1 := Scalar.cmpi .eq c4_i32_305 c0_i32_306
  let c1_i32_307 : BitVec 32 := 1#32
  let v624 : BitVec 32 := Scalar.select v623 c1_i32_307 c4_i32_305
  let v625 : BitVec 32 := Scalar.remsi v51 v624
  let c0_i32_309 : BitVec 32 := 0#32
  let v627 : BitVec 1 := Scalar.cmpi .slt v625 c0_i32_309
  let c0_i32_310 : BitVec 32 := 0#32
  let v628 : BitVec 1 := Scalar.cmpi .slt v624 c0_i32_310
  let v629 : BitVec 1 := Scalar.xori v627 v628
  let c0_i32_308 : BitVec 32 := 0#32
  let v626 : BitVec 1 := Scalar.cmpi .ne v625 c0_i32_308
  let v630 : BitVec 1 := Scalar.andi v629 v626
  let v631 : BitVec 32 := Scalar.addi v625 v624
  let v632 : BitVec 32 := Scalar.select v630 v631 v625
  let c4_i32_317 : BitVec 32 := 4#32
  let c2_i32_311 : BitVec 32 := 2#32
  let c0_i32_312 : BitVec 32 := 0#32
  let v633 : BitVec 1 := Scalar.cmpi .eq c2_i32_311 c0_i32_312
  let c1_i32_313 : BitVec 32 := 1#32
  let v634 : BitVec 32 := Scalar.select v633 c1_i32_313 c2_i32_311
  let v635 : BitVec 32 := Scalar.remsi v622 v634
  let c0_i32_315 : BitVec 32 := 0#32
  let v637 : BitVec 1 := Scalar.cmpi .slt v635 c0_i32_315
  let c0_i32_316 : BitVec 32 := 0#32
  let v638 : BitVec 1 := Scalar.cmpi .slt v634 c0_i32_316
  let v639 : BitVec 1 := Scalar.xori v637 v638
  let c0_i32_314 : BitVec 32 := 0#32
  let v636 : BitVec 1 := Scalar.cmpi .ne v635 c0_i32_314
  let v640 : BitVec 1 := Scalar.andi v639 v636
  let v641 : BitVec 32 := Scalar.addi v635 v634
  let v642 : BitVec 32 := Scalar.select v640 v641 v635
  let v643 : BitVec 32 := Scalar.muli c4_i32_317 v642
  let v644 : BitVec 32 := Scalar.addi v632 v643
  let v682 : BitVec 32 := Scalar.addi v681 v644
  let c1_i32_958 : BitVec 32 := 1#32
  let v1503 : BitVec 32 := Scalar.muli v682 c1_i32_958
  let v1504 : BitVec 32 := Scalar.addi c0_i32_959 v1503
  v1504.toNat
def k0_dev29 (d0 : Dev nD) : Nat :=
  let c0_i32_969 : BitVec 32 := 0#32
  let c8_i32_369 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c0_i32_355 : BitVec 32 := 0#32
  let v717 : BitVec 1 := Scalar.cmpi .sgt v51 c0_i32_355
  let v718 : BitVec 32 := Scalar.extui v717
  let c0_i32_356 : BitVec 32 := 0#32
  let v719 : BitVec 1 := Scalar.cmpi .slt v51 c0_i32_356
  let v720 : BitVec 32 := Scalar.extui v719
  let v721 : BitVec 32 := Scalar.subi v718 v720
  let c4_i32_354 : BitVec 32 := 4#32
  let c0_i32_357 : BitVec 32 := 0#32
  let v722 : BitVec 1 := Scalar.cmpi .sgt c4_i32_354 c0_i32_357
  let v723 : BitVec 32 := Scalar.extui v722
  let c0_i32_358 : BitVec 32 := 0#32
  let v724 : BitVec 1 := Scalar.cmpi .slt c4_i32_354 c0_i32_358
  let v725 : BitVec 32 := Scalar.extui v724
  let v726 : BitVec 32 := Scalar.subi v723 v725
  let v727 : BitVec 1 := Scalar.cmpi .ne v721 v726
  let v728 : BitVec 32 := Scalar.remsi v51 c4_i32_354
  let c0_i32_359 : BitVec 32 := 0#32
  let v729 : BitVec 1 := Scalar.cmpi .ne v728 c0_i32_359
  let v730 : BitVec 1 := Scalar.andi v727 v729
  let v716 : BitVec 32 := Scalar.divsi v51 c4_i32_354
  let c1_i32_360 : BitVec 32 := 1#32
  let v731 : BitVec 32 := Scalar.subi v716 c1_i32_360
  let v732 : BitVec 32 := Scalar.select v730 v731 v716
  let c2_i32_368 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c2_i32_334 : BitVec 32 := 2#32
  let v683 : BitVec 32 := Scalar.addi v114 c2_i32_334
  let c4_i32_335 : BitVec 32 := 4#32
  let c0_i32_336 : BitVec 32 := 0#32
  let v684 : BitVec 1 := Scalar.cmpi .eq c4_i32_335 c0_i32_336
  let c1_i32_337 : BitVec 32 := 1#32
  let v685 : BitVec 32 := Scalar.select v684 c1_i32_337 c4_i32_335
  let v686 : BitVec 32 := Scalar.remsi v683 v685
  let c0_i32_339 : BitVec 32 := 0#32
  let v688 : BitVec 1 := Scalar.cmpi .slt v686 c0_i32_339
  let c0_i32_340 : BitVec 32 := 0#32
  let v689 : BitVec 1 := Scalar.cmpi .slt v685 c0_i32_340
  let v690 : BitVec 1 := Scalar.xori v688 v689
  let c0_i32_338 : BitVec 32 := 0#32
  let v687 : BitVec 1 := Scalar.cmpi .ne v686 c0_i32_338
  let v691 : BitVec 1 := Scalar.andi v690 v687
  let v692 : BitVec 32 := Scalar.addi v686 v685
  let v693 : BitVec 32 := Scalar.select v691 v692 v686
  let c0_i32_362 : BitVec 32 := 0#32
  let v734 : BitVec 1 := Scalar.cmpi .sgt v693 c0_i32_362
  let v735 : BitVec 32 := Scalar.extui v734
  let c0_i32_363 : BitVec 32 := 0#32
  let v736 : BitVec 1 := Scalar.cmpi .slt v693 c0_i32_363
  let v737 : BitVec 32 := Scalar.extui v736
  let v738 : BitVec 32 := Scalar.subi v735 v737
  let c2_i32_361 : BitVec 32 := 2#32
  let c0_i32_364 : BitVec 32 := 0#32
  let v739 : BitVec 1 := Scalar.cmpi .sgt c2_i32_361 c0_i32_364
  let v740 : BitVec 32 := Scalar.extui v739
  let c0_i32_365 : BitVec 32 := 0#32
  let v741 : BitVec 1 := Scalar.cmpi .slt c2_i32_361 c0_i32_365
  let v742 : BitVec 32 := Scalar.extui v741
  let v743 : BitVec 32 := Scalar.subi v740 v742
  let v744 : BitVec 1 := Scalar.cmpi .ne v738 v743
  let v745 : BitVec 32 := Scalar.remsi v693 c2_i32_361
  let c0_i32_366 : BitVec 32 := 0#32
  let v746 : BitVec 1 := Scalar.cmpi .ne v745 c0_i32_366
  let v747 : BitVec 1 := Scalar.andi v744 v746
  let v733 : BitVec 32 := Scalar.divsi v693 c2_i32_361
  let c1_i32_367 : BitVec 32 := 1#32
  let v748 : BitVec 32 := Scalar.subi v733 c1_i32_367
  let v749 : BitVec 32 := Scalar.select v747 v748 v733
  let v750 : BitVec 32 := Scalar.muli c2_i32_368 v749
  let v751 : BitVec 32 := Scalar.addi v732 v750
  let v752 : BitVec 32 := Scalar.muli c8_i32_369 v751
  let c4_i32_341 : BitVec 32 := 4#32
  let c0_i32_342 : BitVec 32 := 0#32
  let v694 : BitVec 1 := Scalar.cmpi .eq c4_i32_341 c0_i32_342
  let c1_i32_343 : BitVec 32 := 1#32
  let v695 : BitVec 32 := Scalar.select v694 c1_i32_343 c4_i32_341
  let v696 : BitVec 32 := Scalar.remsi v51 v695
  let c0_i32_345 : BitVec 32 := 0#32
  let v698 : BitVec 1 := Scalar.cmpi .slt v696 c0_i32_345
  let c0_i32_346 : BitVec 32 := 0#32
  let v699 : BitVec 1 := Scalar.cmpi .slt v695 c0_i32_346
  let v700 : BitVec 1 := Scalar.xori v698 v699
  let c0_i32_344 : BitVec 32 := 0#32
  let v697 : BitVec 1 := Scalar.cmpi .ne v696 c0_i32_344
  let v701 : BitVec 1 := Scalar.andi v700 v697
  let v702 : BitVec 32 := Scalar.addi v696 v695
  let v703 : BitVec 32 := Scalar.select v701 v702 v696
  let c4_i32_353 : BitVec 32 := 4#32
  let c2_i32_347 : BitVec 32 := 2#32
  let c0_i32_348 : BitVec 32 := 0#32
  let v704 : BitVec 1 := Scalar.cmpi .eq c2_i32_347 c0_i32_348
  let c1_i32_349 : BitVec 32 := 1#32
  let v705 : BitVec 32 := Scalar.select v704 c1_i32_349 c2_i32_347
  let v706 : BitVec 32 := Scalar.remsi v693 v705
  let c0_i32_351 : BitVec 32 := 0#32
  let v708 : BitVec 1 := Scalar.cmpi .slt v706 c0_i32_351
  let c0_i32_352 : BitVec 32 := 0#32
  let v709 : BitVec 1 := Scalar.cmpi .slt v705 c0_i32_352
  let v710 : BitVec 1 := Scalar.xori v708 v709
  let c0_i32_350 : BitVec 32 := 0#32
  let v707 : BitVec 1 := Scalar.cmpi .ne v706 c0_i32_350
  let v711 : BitVec 1 := Scalar.andi v710 v707
  let v712 : BitVec 32 := Scalar.addi v706 v705
  let v713 : BitVec 32 := Scalar.select v711 v712 v706
  let v714 : BitVec 32 := Scalar.muli c4_i32_353 v713
  let v715 : BitVec 32 := Scalar.addi v703 v714
  let v753 : BitVec 32 := Scalar.addi v752 v715
  let c1_i32_968 : BitVec 32 := 1#32
  let v1515 : BitVec 32 := Scalar.muli v753 c1_i32_968
  let v1516 : BitVec 32 := Scalar.addi c0_i32_969 v1515
  v1516.toNat
def k0_dev30 (d0 : Dev nD) : Nat :=
  let c0_i32_979 : BitVec 32 := 0#32
  let c8_i32_405 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c0_i32_391 : BitVec 32 := 0#32
  let v788 : BitVec 1 := Scalar.cmpi .sgt v51 c0_i32_391
  let v789 : BitVec 32 := Scalar.extui v788
  let c0_i32_392 : BitVec 32 := 0#32
  let v790 : BitVec 1 := Scalar.cmpi .slt v51 c0_i32_392
  let v791 : BitVec 32 := Scalar.extui v790
  let v792 : BitVec 32 := Scalar.subi v789 v791
  let c4_i32_390 : BitVec 32 := 4#32
  let c0_i32_393 : BitVec 32 := 0#32
  let v793 : BitVec 1 := Scalar.cmpi .sgt c4_i32_390 c0_i32_393
  let v794 : BitVec 32 := Scalar.extui v793
  let c0_i32_394 : BitVec 32 := 0#32
  let v795 : BitVec 1 := Scalar.cmpi .slt c4_i32_390 c0_i32_394
  let v796 : BitVec 32 := Scalar.extui v795
  let v797 : BitVec 32 := Scalar.subi v794 v796
  let v798 : BitVec 1 := Scalar.cmpi .ne v792 v797
  let v799 : BitVec 32 := Scalar.remsi v51 c4_i32_390
  let c0_i32_395 : BitVec 32 := 0#32
  let v800 : BitVec 1 := Scalar.cmpi .ne v799 c0_i32_395
  let v801 : BitVec 1 := Scalar.andi v798 v800
  let v787 : BitVec 32 := Scalar.divsi v51 c4_i32_390
  let c1_i32_396 : BitVec 32 := 1#32
  let v802 : BitVec 32 := Scalar.subi v787 c1_i32_396
  let v803 : BitVec 32 := Scalar.select v801 v802 v787
  let c2_i32_404 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c3_i32_370 : BitVec 32 := 3#32
  let v754 : BitVec 32 := Scalar.addi v114 c3_i32_370
  let c4_i32_371 : BitVec 32 := 4#32
  let c0_i32_372 : BitVec 32 := 0#32
  let v755 : BitVec 1 := Scalar.cmpi .eq c4_i32_371 c0_i32_372
  let c1_i32_373 : BitVec 32 := 1#32
  let v756 : BitVec 32 := Scalar.select v755 c1_i32_373 c4_i32_371
  let v757 : BitVec 32 := Scalar.remsi v754 v756
  let c0_i32_375 : BitVec 32 := 0#32
  let v759 : BitVec 1 := Scalar.cmpi .slt v757 c0_i32_375
  let c0_i32_376 : BitVec 32 := 0#32
  let v760 : BitVec 1 := Scalar.cmpi .slt v756 c0_i32_376
  let v761 : BitVec 1 := Scalar.xori v759 v760
  let c0_i32_374 : BitVec 32 := 0#32
  let v758 : BitVec 1 := Scalar.cmpi .ne v757 c0_i32_374
  let v762 : BitVec 1 := Scalar.andi v761 v758
  let v763 : BitVec 32 := Scalar.addi v757 v756
  let v764 : BitVec 32 := Scalar.select v762 v763 v757
  let c0_i32_398 : BitVec 32 := 0#32
  let v805 : BitVec 1 := Scalar.cmpi .sgt v764 c0_i32_398
  let v806 : BitVec 32 := Scalar.extui v805
  let c0_i32_399 : BitVec 32 := 0#32
  let v807 : BitVec 1 := Scalar.cmpi .slt v764 c0_i32_399
  let v808 : BitVec 32 := Scalar.extui v807
  let v809 : BitVec 32 := Scalar.subi v806 v808
  let c2_i32_397 : BitVec 32 := 2#32
  let c0_i32_400 : BitVec 32 := 0#32
  let v810 : BitVec 1 := Scalar.cmpi .sgt c2_i32_397 c0_i32_400
  let v811 : BitVec 32 := Scalar.extui v810
  let c0_i32_401 : BitVec 32 := 0#32
  let v812 : BitVec 1 := Scalar.cmpi .slt c2_i32_397 c0_i32_401
  let v813 : BitVec 32 := Scalar.extui v812
  let v814 : BitVec 32 := Scalar.subi v811 v813
  let v815 : BitVec 1 := Scalar.cmpi .ne v809 v814
  let v816 : BitVec 32 := Scalar.remsi v764 c2_i32_397
  let c0_i32_402 : BitVec 32 := 0#32
  let v817 : BitVec 1 := Scalar.cmpi .ne v816 c0_i32_402
  let v818 : BitVec 1 := Scalar.andi v815 v817
  let v804 : BitVec 32 := Scalar.divsi v764 c2_i32_397
  let c1_i32_403 : BitVec 32 := 1#32
  let v819 : BitVec 32 := Scalar.subi v804 c1_i32_403
  let v820 : BitVec 32 := Scalar.select v818 v819 v804
  let v821 : BitVec 32 := Scalar.muli c2_i32_404 v820
  let v822 : BitVec 32 := Scalar.addi v803 v821
  let v823 : BitVec 32 := Scalar.muli c8_i32_405 v822
  let c4_i32_377 : BitVec 32 := 4#32
  let c0_i32_378 : BitVec 32 := 0#32
  let v765 : BitVec 1 := Scalar.cmpi .eq c4_i32_377 c0_i32_378
  let c1_i32_379 : BitVec 32 := 1#32
  let v766 : BitVec 32 := Scalar.select v765 c1_i32_379 c4_i32_377
  let v767 : BitVec 32 := Scalar.remsi v51 v766
  let c0_i32_381 : BitVec 32 := 0#32
  let v769 : BitVec 1 := Scalar.cmpi .slt v767 c0_i32_381
  let c0_i32_382 : BitVec 32 := 0#32
  let v770 : BitVec 1 := Scalar.cmpi .slt v766 c0_i32_382
  let v771 : BitVec 1 := Scalar.xori v769 v770
  let c0_i32_380 : BitVec 32 := 0#32
  let v768 : BitVec 1 := Scalar.cmpi .ne v767 c0_i32_380
  let v772 : BitVec 1 := Scalar.andi v771 v768
  let v773 : BitVec 32 := Scalar.addi v767 v766
  let v774 : BitVec 32 := Scalar.select v772 v773 v767
  let c4_i32_389 : BitVec 32 := 4#32
  let c2_i32_383 : BitVec 32 := 2#32
  let c0_i32_384 : BitVec 32 := 0#32
  let v775 : BitVec 1 := Scalar.cmpi .eq c2_i32_383 c0_i32_384
  let c1_i32_385 : BitVec 32 := 1#32
  let v776 : BitVec 32 := Scalar.select v775 c1_i32_385 c2_i32_383
  let v777 : BitVec 32 := Scalar.remsi v764 v776
  let c0_i32_387 : BitVec 32 := 0#32
  let v779 : BitVec 1 := Scalar.cmpi .slt v777 c0_i32_387
  let c0_i32_388 : BitVec 32 := 0#32
  let v780 : BitVec 1 := Scalar.cmpi .slt v776 c0_i32_388
  let v781 : BitVec 1 := Scalar.xori v779 v780
  let c0_i32_386 : BitVec 32 := 0#32
  let v778 : BitVec 1 := Scalar.cmpi .ne v777 c0_i32_386
  let v782 : BitVec 1 := Scalar.andi v781 v778
  let v783 : BitVec 32 := Scalar.addi v777 v776
  let v784 : BitVec 32 := Scalar.select v782 v783 v777
  let v785 : BitVec 32 := Scalar.muli c4_i32_389 v784
  let v786 : BitVec 32 := Scalar.addi v774 v785
  let v824 : BitVec 32 := Scalar.addi v823 v786
  let c1_i32_978 : BitVec 32 := 1#32
  let v1527 : BitVec 32 := Scalar.muli v824 c1_i32_978
  let v1528 : BitVec 32 := Scalar.addi c0_i32_979 v1527
  v1528.toNat
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c192_i32_1009 : BitVec 32 := 192#32
  let v1563 : BitVec 32 := Scalar.muli v51 c192_i32_1009
  let v1564 : Index := Scalar.indexCast v1563
  let c0_1010 : Index := 0#32
  ![v1564.toNat, 0]
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c192_i32_1011 : BitVec 32 := 192#32
  let v1566 : BitVec 32 := Scalar.muli v51 c192_i32_1011
  let c0_i32_1017 : BitVec 32 := 0#32
  ![v1566.toNat, 0]
def k0_dev31 (d0 : Dev nD) : Nat :=
  let c0_i32_1016 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c1_i32_50 : BitVec 32 := 1#32
  let v115 : BitVec 32 := Scalar.addi v51 c1_i32_50
  let c8_i32_51 : BitVec 32 := 8#32
  let c0_i32_52 : BitVec 32 := 0#32
  let v116 : BitVec 1 := Scalar.cmpi .eq c8_i32_51 c0_i32_52
  let c1_i32_53 : BitVec 32 := 1#32
  let v117 : BitVec 32 := Scalar.select v116 c1_i32_53 c8_i32_51
  let v118 : BitVec 32 := Scalar.remsi v115 v117
  let c0_i32_55 : BitVec 32 := 0#32
  let v120 : BitVec 1 := Scalar.cmpi .slt v118 c0_i32_55
  let c0_i32_56 : BitVec 32 := 0#32
  let v121 : BitVec 1 := Scalar.cmpi .slt v117 c0_i32_56
  let v122 : BitVec 1 := Scalar.xori v120 v121
  let c0_i32_54 : BitVec 32 := 0#32
  let v119 : BitVec 1 := Scalar.cmpi .ne v118 c0_i32_54
  let v123 : BitVec 1 := Scalar.andi v122 v119
  let v124 : BitVec 32 := Scalar.addi v118 v117
  let v125 : BitVec 32 := Scalar.select v123 v124 v118
  let c0_i32_71 : BitVec 32 := 0#32
  let v149 : BitVec 1 := Scalar.cmpi .sgt v125 c0_i32_71
  let v150 : BitVec 32 := Scalar.extui v149
  let c0_i32_72 : BitVec 32 := 0#32
  let v151 : BitVec 1 := Scalar.cmpi .slt v125 c0_i32_72
  let v152 : BitVec 32 := Scalar.extui v151
  let v153 : BitVec 32 := Scalar.subi v150 v152
  let c4_i32_70 : BitVec 32 := 4#32
  let c0_i32_73 : BitVec 32 := 0#32
  let v154 : BitVec 1 := Scalar.cmpi .sgt c4_i32_70 c0_i32_73
  let v155 : BitVec 32 := Scalar.extui v154
  let c0_i32_74 : BitVec 32 := 0#32
  let v156 : BitVec 1 := Scalar.cmpi .slt c4_i32_70 c0_i32_74
  let v157 : BitVec 32 := Scalar.extui v156
  let v158 : BitVec 32 := Scalar.subi v155 v157
  let v159 : BitVec 1 := Scalar.cmpi .ne v153 v158
  let v160 : BitVec 32 := Scalar.remsi v125 c4_i32_70
  let c0_i32_75 : BitVec 32 := 0#32
  let v161 : BitVec 1 := Scalar.cmpi .ne v160 c0_i32_75
  let v162 : BitVec 1 := Scalar.andi v159 v161
  let v148 : BitVec 32 := Scalar.divsi v125 c4_i32_70
  let c1_i32_76 : BitVec 32 := 1#32
  let v163 : BitVec 32 := Scalar.subi v148 c1_i32_76
  let v164 : BitVec 32 := Scalar.select v162 v163 v148
  let c2_i32_84 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_78 : BitVec 32 := 0#32
  let v166 : BitVec 1 := Scalar.cmpi .sgt v114 c0_i32_78
  let v167 : BitVec 32 := Scalar.extui v166
  let c0_i32_79 : BitVec 32 := 0#32
  let v168 : BitVec 1 := Scalar.cmpi .slt v114 c0_i32_79
  let v169 : BitVec 32 := Scalar.extui v168
  let v170 : BitVec 32 := Scalar.subi v167 v169
  let c2_i32_77 : BitVec 32 := 2#32
  let c0_i32_80 : BitVec 32 := 0#32
  let v171 : BitVec 1 := Scalar.cmpi .sgt c2_i32_77 c0_i32_80
  let v172 : BitVec 32 := Scalar.extui v171
  let c0_i32_81 : BitVec 32 := 0#32
  let v173 : BitVec 1 := Scalar.cmpi .slt c2_i32_77 c0_i32_81
  let v174 : BitVec 32 := Scalar.extui v173
  let v175 : BitVec 32 := Scalar.subi v172 v174
  let v176 : BitVec 1 := Scalar.cmpi .ne v170 v175
  let v177 : BitVec 32 := Scalar.remsi v114 c2_i32_77
  let c0_i32_82 : BitVec 32 := 0#32
  let v178 : BitVec 1 := Scalar.cmpi .ne v177 c0_i32_82
  let v179 : BitVec 1 := Scalar.andi v176 v178
  let v165 : BitVec 32 := Scalar.divsi v114 c2_i32_77
  let c1_i32_83 : BitVec 32 := 1#32
  let v180 : BitVec 32 := Scalar.subi v165 c1_i32_83
  let v181 : BitVec 32 := Scalar.select v179 v180 v165
  let v182 : BitVec 32 := Scalar.muli c2_i32_84 v181
  let v183 : BitVec 32 := Scalar.addi v164 v182
  let v184 : BitVec 32 := Scalar.muli c8_i32_85 v183
  let c4_i32_57 : BitVec 32 := 4#32
  let c0_i32_58 : BitVec 32 := 0#32
  let v126 : BitVec 1 := Scalar.cmpi .eq c4_i32_57 c0_i32_58
  let c1_i32_59 : BitVec 32 := 1#32
  let v127 : BitVec 32 := Scalar.select v126 c1_i32_59 c4_i32_57
  let v128 : BitVec 32 := Scalar.remsi v125 v127
  let c0_i32_61 : BitVec 32 := 0#32
  let v130 : BitVec 1 := Scalar.cmpi .slt v128 c0_i32_61
  let c0_i32_62 : BitVec 32 := 0#32
  let v131 : BitVec 1 := Scalar.cmpi .slt v127 c0_i32_62
  let v132 : BitVec 1 := Scalar.xori v130 v131
  let c0_i32_60 : BitVec 32 := 0#32
  let v129 : BitVec 1 := Scalar.cmpi .ne v128 c0_i32_60
  let v133 : BitVec 1 := Scalar.andi v132 v129
  let v134 : BitVec 32 := Scalar.addi v128 v127
  let v135 : BitVec 32 := Scalar.select v133 v134 v128
  let c4_i32_69 : BitVec 32 := 4#32
  let c2_i32_63 : BitVec 32 := 2#32
  let c0_i32_64 : BitVec 32 := 0#32
  let v136 : BitVec 1 := Scalar.cmpi .eq c2_i32_63 c0_i32_64
  let c1_i32_65 : BitVec 32 := 1#32
  let v137 : BitVec 32 := Scalar.select v136 c1_i32_65 c2_i32_63
  let v138 : BitVec 32 := Scalar.remsi v114 v137
  let c0_i32_67 : BitVec 32 := 0#32
  let v140 : BitVec 1 := Scalar.cmpi .slt v138 c0_i32_67
  let c0_i32_68 : BitVec 32 := 0#32
  let v141 : BitVec 1 := Scalar.cmpi .slt v137 c0_i32_68
  let v142 : BitVec 1 := Scalar.xori v140 v141
  let c0_i32_66 : BitVec 32 := 0#32
  let v139 : BitVec 1 := Scalar.cmpi .ne v138 c0_i32_66
  let v143 : BitVec 1 := Scalar.andi v142 v139
  let v144 : BitVec 32 := Scalar.addi v138 v137
  let v145 : BitVec 32 := Scalar.select v143 v144 v138
  let v146 : BitVec 32 := Scalar.muli c4_i32_69 v145
  let v147 : BitVec 32 := Scalar.addi v135 v146
  let v185 : BitVec 32 := Scalar.addi v184 v147
  let c1_i32_1015 : BitVec 32 := 1#32
  let v1567 : BitVec 32 := Scalar.muli v185 c1_i32_1015
  let v1568 : BitVec 32 := Scalar.addi c0_i32_1016 v1567
  v1568.toNat
def k0_dev32 (d0 : Dev nD) : Nat :=
  let c0_i32_1025 : BitVec 32 := 0#32
  let c8_i32_121 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c2_i32_86 : BitVec 32 := 2#32
  let v186 : BitVec 32 := Scalar.addi v51 c2_i32_86
  let c8_i32_87 : BitVec 32 := 8#32
  let c0_i32_88 : BitVec 32 := 0#32
  let v187 : BitVec 1 := Scalar.cmpi .eq c8_i32_87 c0_i32_88
  let c1_i32_89 : BitVec 32 := 1#32
  let v188 : BitVec 32 := Scalar.select v187 c1_i32_89 c8_i32_87
  let v189 : BitVec 32 := Scalar.remsi v186 v188
  let c0_i32_91 : BitVec 32 := 0#32
  let v191 : BitVec 1 := Scalar.cmpi .slt v189 c0_i32_91
  let c0_i32_92 : BitVec 32 := 0#32
  let v192 : BitVec 1 := Scalar.cmpi .slt v188 c0_i32_92
  let v193 : BitVec 1 := Scalar.xori v191 v192
  let c0_i32_90 : BitVec 32 := 0#32
  let v190 : BitVec 1 := Scalar.cmpi .ne v189 c0_i32_90
  let v194 : BitVec 1 := Scalar.andi v193 v190
  let v195 : BitVec 32 := Scalar.addi v189 v188
  let v196 : BitVec 32 := Scalar.select v194 v195 v189
  let c0_i32_107 : BitVec 32 := 0#32
  let v220 : BitVec 1 := Scalar.cmpi .sgt v196 c0_i32_107
  let v221 : BitVec 32 := Scalar.extui v220
  let c0_i32_108 : BitVec 32 := 0#32
  let v222 : BitVec 1 := Scalar.cmpi .slt v196 c0_i32_108
  let v223 : BitVec 32 := Scalar.extui v222
  let v224 : BitVec 32 := Scalar.subi v221 v223
  let c4_i32_106 : BitVec 32 := 4#32
  let c0_i32_109 : BitVec 32 := 0#32
  let v225 : BitVec 1 := Scalar.cmpi .sgt c4_i32_106 c0_i32_109
  let v226 : BitVec 32 := Scalar.extui v225
  let c0_i32_110 : BitVec 32 := 0#32
  let v227 : BitVec 1 := Scalar.cmpi .slt c4_i32_106 c0_i32_110
  let v228 : BitVec 32 := Scalar.extui v227
  let v229 : BitVec 32 := Scalar.subi v226 v228
  let v230 : BitVec 1 := Scalar.cmpi .ne v224 v229
  let v231 : BitVec 32 := Scalar.remsi v196 c4_i32_106
  let c0_i32_111 : BitVec 32 := 0#32
  let v232 : BitVec 1 := Scalar.cmpi .ne v231 c0_i32_111
  let v233 : BitVec 1 := Scalar.andi v230 v232
  let v219 : BitVec 32 := Scalar.divsi v196 c4_i32_106
  let c1_i32_112 : BitVec 32 := 1#32
  let v234 : BitVec 32 := Scalar.subi v219 c1_i32_112
  let v235 : BitVec 32 := Scalar.select v233 v234 v219
  let c2_i32_120 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_114 : BitVec 32 := 0#32
  let v237 : BitVec 1 := Scalar.cmpi .sgt v114 c0_i32_114
  let v238 : BitVec 32 := Scalar.extui v237
  let c0_i32_115 : BitVec 32 := 0#32
  let v239 : BitVec 1 := Scalar.cmpi .slt v114 c0_i32_115
  let v240 : BitVec 32 := Scalar.extui v239
  let v241 : BitVec 32 := Scalar.subi v238 v240
  let c2_i32_113 : BitVec 32 := 2#32
  let c0_i32_116 : BitVec 32 := 0#32
  let v242 : BitVec 1 := Scalar.cmpi .sgt c2_i32_113 c0_i32_116
  let v243 : BitVec 32 := Scalar.extui v242
  let c0_i32_117 : BitVec 32 := 0#32
  let v244 : BitVec 1 := Scalar.cmpi .slt c2_i32_113 c0_i32_117
  let v245 : BitVec 32 := Scalar.extui v244
  let v246 : BitVec 32 := Scalar.subi v243 v245
  let v247 : BitVec 1 := Scalar.cmpi .ne v241 v246
  let v248 : BitVec 32 := Scalar.remsi v114 c2_i32_113
  let c0_i32_118 : BitVec 32 := 0#32
  let v249 : BitVec 1 := Scalar.cmpi .ne v248 c0_i32_118
  let v250 : BitVec 1 := Scalar.andi v247 v249
  let v236 : BitVec 32 := Scalar.divsi v114 c2_i32_113
  let c1_i32_119 : BitVec 32 := 1#32
  let v251 : BitVec 32 := Scalar.subi v236 c1_i32_119
  let v252 : BitVec 32 := Scalar.select v250 v251 v236
  let v253 : BitVec 32 := Scalar.muli c2_i32_120 v252
  let v254 : BitVec 32 := Scalar.addi v235 v253
  let v255 : BitVec 32 := Scalar.muli c8_i32_121 v254
  let c4_i32_93 : BitVec 32 := 4#32
  let c0_i32_94 : BitVec 32 := 0#32
  let v197 : BitVec 1 := Scalar.cmpi .eq c4_i32_93 c0_i32_94
  let c1_i32_95 : BitVec 32 := 1#32
  let v198 : BitVec 32 := Scalar.select v197 c1_i32_95 c4_i32_93
  let v199 : BitVec 32 := Scalar.remsi v196 v198
  let c0_i32_97 : BitVec 32 := 0#32
  let v201 : BitVec 1 := Scalar.cmpi .slt v199 c0_i32_97
  let c0_i32_98 : BitVec 32 := 0#32
  let v202 : BitVec 1 := Scalar.cmpi .slt v198 c0_i32_98
  let v203 : BitVec 1 := Scalar.xori v201 v202
  let c0_i32_96 : BitVec 32 := 0#32
  let v200 : BitVec 1 := Scalar.cmpi .ne v199 c0_i32_96
  let v204 : BitVec 1 := Scalar.andi v203 v200
  let v205 : BitVec 32 := Scalar.addi v199 v198
  let v206 : BitVec 32 := Scalar.select v204 v205 v199
  let c4_i32_105 : BitVec 32 := 4#32
  let c2_i32_99 : BitVec 32 := 2#32
  let c0_i32_100 : BitVec 32 := 0#32
  let v207 : BitVec 1 := Scalar.cmpi .eq c2_i32_99 c0_i32_100
  let c1_i32_101 : BitVec 32 := 1#32
  let v208 : BitVec 32 := Scalar.select v207 c1_i32_101 c2_i32_99
  let v209 : BitVec 32 := Scalar.remsi v114 v208
  let c0_i32_103 : BitVec 32 := 0#32
  let v211 : BitVec 1 := Scalar.cmpi .slt v209 c0_i32_103
  let c0_i32_104 : BitVec 32 := 0#32
  let v212 : BitVec 1 := Scalar.cmpi .slt v208 c0_i32_104
  let v213 : BitVec 1 := Scalar.xori v211 v212
  let c0_i32_102 : BitVec 32 := 0#32
  let v210 : BitVec 1 := Scalar.cmpi .ne v209 c0_i32_102
  let v214 : BitVec 1 := Scalar.andi v213 v210
  let v215 : BitVec 32 := Scalar.addi v209 v208
  let v216 : BitVec 32 := Scalar.select v214 v215 v209
  let v217 : BitVec 32 := Scalar.muli c4_i32_105 v216
  let v218 : BitVec 32 := Scalar.addi v206 v217
  let v256 : BitVec 32 := Scalar.addi v255 v218
  let c1_i32_1024 : BitVec 32 := 1#32
  let v1577 : BitVec 32 := Scalar.muli v256 c1_i32_1024
  let v1578 : BitVec 32 := Scalar.addi c0_i32_1025 v1577
  v1578.toNat
def k0_dev33 (d0 : Dev nD) : Nat :=
  let c0_i32_1034 : BitVec 32 := 0#32
  let c8_i32_156 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c3_i32 : BitVec 32 := 3#32
  let v257 : BitVec 32 := Scalar.addi v51 c3_i32
  let c8_i32_122 : BitVec 32 := 8#32
  let c0_i32_123 : BitVec 32 := 0#32
  let v258 : BitVec 1 := Scalar.cmpi .eq c8_i32_122 c0_i32_123
  let c1_i32_124 : BitVec 32 := 1#32
  let v259 : BitVec 32 := Scalar.select v258 c1_i32_124 c8_i32_122
  let v260 : BitVec 32 := Scalar.remsi v257 v259
  let c0_i32_126 : BitVec 32 := 0#32
  let v262 : BitVec 1 := Scalar.cmpi .slt v260 c0_i32_126
  let c0_i32_127 : BitVec 32 := 0#32
  let v263 : BitVec 1 := Scalar.cmpi .slt v259 c0_i32_127
  let v264 : BitVec 1 := Scalar.xori v262 v263
  let c0_i32_125 : BitVec 32 := 0#32
  let v261 : BitVec 1 := Scalar.cmpi .ne v260 c0_i32_125
  let v265 : BitVec 1 := Scalar.andi v264 v261
  let v266 : BitVec 32 := Scalar.addi v260 v259
  let v267 : BitVec 32 := Scalar.select v265 v266 v260
  let c0_i32_142 : BitVec 32 := 0#32
  let v291 : BitVec 1 := Scalar.cmpi .sgt v267 c0_i32_142
  let v292 : BitVec 32 := Scalar.extui v291
  let c0_i32_143 : BitVec 32 := 0#32
  let v293 : BitVec 1 := Scalar.cmpi .slt v267 c0_i32_143
  let v294 : BitVec 32 := Scalar.extui v293
  let v295 : BitVec 32 := Scalar.subi v292 v294
  let c4_i32_141 : BitVec 32 := 4#32
  let c0_i32_144 : BitVec 32 := 0#32
  let v296 : BitVec 1 := Scalar.cmpi .sgt c4_i32_141 c0_i32_144
  let v297 : BitVec 32 := Scalar.extui v296
  let c0_i32_145 : BitVec 32 := 0#32
  let v298 : BitVec 1 := Scalar.cmpi .slt c4_i32_141 c0_i32_145
  let v299 : BitVec 32 := Scalar.extui v298
  let v300 : BitVec 32 := Scalar.subi v297 v299
  let v301 : BitVec 1 := Scalar.cmpi .ne v295 v300
  let v302 : BitVec 32 := Scalar.remsi v267 c4_i32_141
  let c0_i32_146 : BitVec 32 := 0#32
  let v303 : BitVec 1 := Scalar.cmpi .ne v302 c0_i32_146
  let v304 : BitVec 1 := Scalar.andi v301 v303
  let v290 : BitVec 32 := Scalar.divsi v267 c4_i32_141
  let c1_i32_147 : BitVec 32 := 1#32
  let v305 : BitVec 32 := Scalar.subi v290 c1_i32_147
  let v306 : BitVec 32 := Scalar.select v304 v305 v290
  let c2_i32_155 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_149 : BitVec 32 := 0#32
  let v308 : BitVec 1 := Scalar.cmpi .sgt v114 c0_i32_149
  let v309 : BitVec 32 := Scalar.extui v308
  let c0_i32_150 : BitVec 32 := 0#32
  let v310 : BitVec 1 := Scalar.cmpi .slt v114 c0_i32_150
  let v311 : BitVec 32 := Scalar.extui v310
  let v312 : BitVec 32 := Scalar.subi v309 v311
  let c2_i32_148 : BitVec 32 := 2#32
  let c0_i32_151 : BitVec 32 := 0#32
  let v313 : BitVec 1 := Scalar.cmpi .sgt c2_i32_148 c0_i32_151
  let v314 : BitVec 32 := Scalar.extui v313
  let c0_i32_152 : BitVec 32 := 0#32
  let v315 : BitVec 1 := Scalar.cmpi .slt c2_i32_148 c0_i32_152
  let v316 : BitVec 32 := Scalar.extui v315
  let v317 : BitVec 32 := Scalar.subi v314 v316
  let v318 : BitVec 1 := Scalar.cmpi .ne v312 v317
  let v319 : BitVec 32 := Scalar.remsi v114 c2_i32_148
  let c0_i32_153 : BitVec 32 := 0#32
  let v320 : BitVec 1 := Scalar.cmpi .ne v319 c0_i32_153
  let v321 : BitVec 1 := Scalar.andi v318 v320
  let v307 : BitVec 32 := Scalar.divsi v114 c2_i32_148
  let c1_i32_154 : BitVec 32 := 1#32
  let v322 : BitVec 32 := Scalar.subi v307 c1_i32_154
  let v323 : BitVec 32 := Scalar.select v321 v322 v307
  let v324 : BitVec 32 := Scalar.muli c2_i32_155 v323
  let v325 : BitVec 32 := Scalar.addi v306 v324
  let v326 : BitVec 32 := Scalar.muli c8_i32_156 v325
  let c4_i32_128 : BitVec 32 := 4#32
  let c0_i32_129 : BitVec 32 := 0#32
  let v268 : BitVec 1 := Scalar.cmpi .eq c4_i32_128 c0_i32_129
  let c1_i32_130 : BitVec 32 := 1#32
  let v269 : BitVec 32 := Scalar.select v268 c1_i32_130 c4_i32_128
  let v270 : BitVec 32 := Scalar.remsi v267 v269
  let c0_i32_132 : BitVec 32 := 0#32
  let v272 : BitVec 1 := Scalar.cmpi .slt v270 c0_i32_132
  let c0_i32_133 : BitVec 32 := 0#32
  let v273 : BitVec 1 := Scalar.cmpi .slt v269 c0_i32_133
  let v274 : BitVec 1 := Scalar.xori v272 v273
  let c0_i32_131 : BitVec 32 := 0#32
  let v271 : BitVec 1 := Scalar.cmpi .ne v270 c0_i32_131
  let v275 : BitVec 1 := Scalar.andi v274 v271
  let v276 : BitVec 32 := Scalar.addi v270 v269
  let v277 : BitVec 32 := Scalar.select v275 v276 v270
  let c4_i32_140 : BitVec 32 := 4#32
  let c2_i32_134 : BitVec 32 := 2#32
  let c0_i32_135 : BitVec 32 := 0#32
  let v278 : BitVec 1 := Scalar.cmpi .eq c2_i32_134 c0_i32_135
  let c1_i32_136 : BitVec 32 := 1#32
  let v279 : BitVec 32 := Scalar.select v278 c1_i32_136 c2_i32_134
  let v280 : BitVec 32 := Scalar.remsi v114 v279
  let c0_i32_138 : BitVec 32 := 0#32
  let v282 : BitVec 1 := Scalar.cmpi .slt v280 c0_i32_138
  let c0_i32_139 : BitVec 32 := 0#32
  let v283 : BitVec 1 := Scalar.cmpi .slt v279 c0_i32_139
  let v284 : BitVec 1 := Scalar.xori v282 v283
  let c0_i32_137 : BitVec 32 := 0#32
  let v281 : BitVec 1 := Scalar.cmpi .ne v280 c0_i32_137
  let v285 : BitVec 1 := Scalar.andi v284 v281
  let v286 : BitVec 32 := Scalar.addi v280 v279
  let v287 : BitVec 32 := Scalar.select v285 v286 v280
  let v288 : BitVec 32 := Scalar.muli c4_i32_140 v287
  let v289 : BitVec 32 := Scalar.addi v277 v288
  let v327 : BitVec 32 := Scalar.addi v326 v289
  let c1_i32_1033 : BitVec 32 := 1#32
  let v1587 : BitVec 32 := Scalar.muli v327 c1_i32_1033
  let v1588 : BitVec 32 := Scalar.addi c0_i32_1034 v1587
  v1588.toNat
def k0_dev34 (d0 : Dev nD) : Nat :=
  let c0_i32_1043 : BitVec 32 := 0#32
  let c8_i32_192 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c4_i32_157 : BitVec 32 := 4#32
  let v328 : BitVec 32 := Scalar.addi v51 c4_i32_157
  let c8_i32_158 : BitVec 32 := 8#32
  let c0_i32_159 : BitVec 32 := 0#32
  let v329 : BitVec 1 := Scalar.cmpi .eq c8_i32_158 c0_i32_159
  let c1_i32_160 : BitVec 32 := 1#32
  let v330 : BitVec 32 := Scalar.select v329 c1_i32_160 c8_i32_158
  let v331 : BitVec 32 := Scalar.remsi v328 v330
  let c0_i32_162 : BitVec 32 := 0#32
  let v333 : BitVec 1 := Scalar.cmpi .slt v331 c0_i32_162
  let c0_i32_163 : BitVec 32 := 0#32
  let v334 : BitVec 1 := Scalar.cmpi .slt v330 c0_i32_163
  let v335 : BitVec 1 := Scalar.xori v333 v334
  let c0_i32_161 : BitVec 32 := 0#32
  let v332 : BitVec 1 := Scalar.cmpi .ne v331 c0_i32_161
  let v336 : BitVec 1 := Scalar.andi v335 v332
  let v337 : BitVec 32 := Scalar.addi v331 v330
  let v338 : BitVec 32 := Scalar.select v336 v337 v331
  let c0_i32_178 : BitVec 32 := 0#32
  let v362 : BitVec 1 := Scalar.cmpi .sgt v338 c0_i32_178
  let v363 : BitVec 32 := Scalar.extui v362
  let c0_i32_179 : BitVec 32 := 0#32
  let v364 : BitVec 1 := Scalar.cmpi .slt v338 c0_i32_179
  let v365 : BitVec 32 := Scalar.extui v364
  let v366 : BitVec 32 := Scalar.subi v363 v365
  let c4_i32_177 : BitVec 32 := 4#32
  let c0_i32_180 : BitVec 32 := 0#32
  let v367 : BitVec 1 := Scalar.cmpi .sgt c4_i32_177 c0_i32_180
  let v368 : BitVec 32 := Scalar.extui v367
  let c0_i32_181 : BitVec 32 := 0#32
  let v369 : BitVec 1 := Scalar.cmpi .slt c4_i32_177 c0_i32_181
  let v370 : BitVec 32 := Scalar.extui v369
  let v371 : BitVec 32 := Scalar.subi v368 v370
  let v372 : BitVec 1 := Scalar.cmpi .ne v366 v371
  let v373 : BitVec 32 := Scalar.remsi v338 c4_i32_177
  let c0_i32_182 : BitVec 32 := 0#32
  let v374 : BitVec 1 := Scalar.cmpi .ne v373 c0_i32_182
  let v375 : BitVec 1 := Scalar.andi v372 v374
  let v361 : BitVec 32 := Scalar.divsi v338 c4_i32_177
  let c1_i32_183 : BitVec 32 := 1#32
  let v376 : BitVec 32 := Scalar.subi v361 c1_i32_183
  let v377 : BitVec 32 := Scalar.select v375 v376 v361
  let c2_i32_191 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_185 : BitVec 32 := 0#32
  let v379 : BitVec 1 := Scalar.cmpi .sgt v114 c0_i32_185
  let v380 : BitVec 32 := Scalar.extui v379
  let c0_i32_186 : BitVec 32 := 0#32
  let v381 : BitVec 1 := Scalar.cmpi .slt v114 c0_i32_186
  let v382 : BitVec 32 := Scalar.extui v381
  let v383 : BitVec 32 := Scalar.subi v380 v382
  let c2_i32_184 : BitVec 32 := 2#32
  let c0_i32_187 : BitVec 32 := 0#32
  let v384 : BitVec 1 := Scalar.cmpi .sgt c2_i32_184 c0_i32_187
  let v385 : BitVec 32 := Scalar.extui v384
  let c0_i32_188 : BitVec 32 := 0#32
  let v386 : BitVec 1 := Scalar.cmpi .slt c2_i32_184 c0_i32_188
  let v387 : BitVec 32 := Scalar.extui v386
  let v388 : BitVec 32 := Scalar.subi v385 v387
  let v389 : BitVec 1 := Scalar.cmpi .ne v383 v388
  let v390 : BitVec 32 := Scalar.remsi v114 c2_i32_184
  let c0_i32_189 : BitVec 32 := 0#32
  let v391 : BitVec 1 := Scalar.cmpi .ne v390 c0_i32_189
  let v392 : BitVec 1 := Scalar.andi v389 v391
  let v378 : BitVec 32 := Scalar.divsi v114 c2_i32_184
  let c1_i32_190 : BitVec 32 := 1#32
  let v393 : BitVec 32 := Scalar.subi v378 c1_i32_190
  let v394 : BitVec 32 := Scalar.select v392 v393 v378
  let v395 : BitVec 32 := Scalar.muli c2_i32_191 v394
  let v396 : BitVec 32 := Scalar.addi v377 v395
  let v397 : BitVec 32 := Scalar.muli c8_i32_192 v396
  let c4_i32_164 : BitVec 32 := 4#32
  let c0_i32_165 : BitVec 32 := 0#32
  let v339 : BitVec 1 := Scalar.cmpi .eq c4_i32_164 c0_i32_165
  let c1_i32_166 : BitVec 32 := 1#32
  let v340 : BitVec 32 := Scalar.select v339 c1_i32_166 c4_i32_164
  let v341 : BitVec 32 := Scalar.remsi v338 v340
  let c0_i32_168 : BitVec 32 := 0#32
  let v343 : BitVec 1 := Scalar.cmpi .slt v341 c0_i32_168
  let c0_i32_169 : BitVec 32 := 0#32
  let v344 : BitVec 1 := Scalar.cmpi .slt v340 c0_i32_169
  let v345 : BitVec 1 := Scalar.xori v343 v344
  let c0_i32_167 : BitVec 32 := 0#32
  let v342 : BitVec 1 := Scalar.cmpi .ne v341 c0_i32_167
  let v346 : BitVec 1 := Scalar.andi v345 v342
  let v347 : BitVec 32 := Scalar.addi v341 v340
  let v348 : BitVec 32 := Scalar.select v346 v347 v341
  let c4_i32_176 : BitVec 32 := 4#32
  let c2_i32_170 : BitVec 32 := 2#32
  let c0_i32_171 : BitVec 32 := 0#32
  let v349 : BitVec 1 := Scalar.cmpi .eq c2_i32_170 c0_i32_171
  let c1_i32_172 : BitVec 32 := 1#32
  let v350 : BitVec 32 := Scalar.select v349 c1_i32_172 c2_i32_170
  let v351 : BitVec 32 := Scalar.remsi v114 v350
  let c0_i32_174 : BitVec 32 := 0#32
  let v353 : BitVec 1 := Scalar.cmpi .slt v351 c0_i32_174
  let c0_i32_175 : BitVec 32 := 0#32
  let v354 : BitVec 1 := Scalar.cmpi .slt v350 c0_i32_175
  let v355 : BitVec 1 := Scalar.xori v353 v354
  let c0_i32_173 : BitVec 32 := 0#32
  let v352 : BitVec 1 := Scalar.cmpi .ne v351 c0_i32_173
  let v356 : BitVec 1 := Scalar.andi v355 v352
  let v357 : BitVec 32 := Scalar.addi v351 v350
  let v358 : BitVec 32 := Scalar.select v356 v357 v351
  let v359 : BitVec 32 := Scalar.muli c4_i32_176 v358
  let v360 : BitVec 32 := Scalar.addi v348 v359
  let v398 : BitVec 32 := Scalar.addi v397 v360
  let c1_i32_1042 : BitVec 32 := 1#32
  let v1597 : BitVec 32 := Scalar.muli v398 c1_i32_1042
  let v1598 : BitVec 32 := Scalar.addi c0_i32_1043 v1597
  v1598.toNat
def k0_dev35 (d0 : Dev nD) : Nat :=
  let c0_i32_1052 : BitVec 32 := 0#32
  let c8_i32_227 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c5_i32 : BitVec 32 := 5#32
  let v399 : BitVec 32 := Scalar.addi v51 c5_i32
  let c8_i32_193 : BitVec 32 := 8#32
  let c0_i32_194 : BitVec 32 := 0#32
  let v400 : BitVec 1 := Scalar.cmpi .eq c8_i32_193 c0_i32_194
  let c1_i32_195 : BitVec 32 := 1#32
  let v401 : BitVec 32 := Scalar.select v400 c1_i32_195 c8_i32_193
  let v402 : BitVec 32 := Scalar.remsi v399 v401
  let c0_i32_197 : BitVec 32 := 0#32
  let v404 : BitVec 1 := Scalar.cmpi .slt v402 c0_i32_197
  let c0_i32_198 : BitVec 32 := 0#32
  let v405 : BitVec 1 := Scalar.cmpi .slt v401 c0_i32_198
  let v406 : BitVec 1 := Scalar.xori v404 v405
  let c0_i32_196 : BitVec 32 := 0#32
  let v403 : BitVec 1 := Scalar.cmpi .ne v402 c0_i32_196
  let v407 : BitVec 1 := Scalar.andi v406 v403
  let v408 : BitVec 32 := Scalar.addi v402 v401
  let v409 : BitVec 32 := Scalar.select v407 v408 v402
  let c0_i32_213 : BitVec 32 := 0#32
  let v433 : BitVec 1 := Scalar.cmpi .sgt v409 c0_i32_213
  let v434 : BitVec 32 := Scalar.extui v433
  let c0_i32_214 : BitVec 32 := 0#32
  let v435 : BitVec 1 := Scalar.cmpi .slt v409 c0_i32_214
  let v436 : BitVec 32 := Scalar.extui v435
  let v437 : BitVec 32 := Scalar.subi v434 v436
  let c4_i32_212 : BitVec 32 := 4#32
  let c0_i32_215 : BitVec 32 := 0#32
  let v438 : BitVec 1 := Scalar.cmpi .sgt c4_i32_212 c0_i32_215
  let v439 : BitVec 32 := Scalar.extui v438
  let c0_i32_216 : BitVec 32 := 0#32
  let v440 : BitVec 1 := Scalar.cmpi .slt c4_i32_212 c0_i32_216
  let v441 : BitVec 32 := Scalar.extui v440
  let v442 : BitVec 32 := Scalar.subi v439 v441
  let v443 : BitVec 1 := Scalar.cmpi .ne v437 v442
  let v444 : BitVec 32 := Scalar.remsi v409 c4_i32_212
  let c0_i32_217 : BitVec 32 := 0#32
  let v445 : BitVec 1 := Scalar.cmpi .ne v444 c0_i32_217
  let v446 : BitVec 1 := Scalar.andi v443 v445
  let v432 : BitVec 32 := Scalar.divsi v409 c4_i32_212
  let c1_i32_218 : BitVec 32 := 1#32
  let v447 : BitVec 32 := Scalar.subi v432 c1_i32_218
  let v448 : BitVec 32 := Scalar.select v446 v447 v432
  let c2_i32_226 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_220 : BitVec 32 := 0#32
  let v450 : BitVec 1 := Scalar.cmpi .sgt v114 c0_i32_220
  let v451 : BitVec 32 := Scalar.extui v450
  let c0_i32_221 : BitVec 32 := 0#32
  let v452 : BitVec 1 := Scalar.cmpi .slt v114 c0_i32_221
  let v453 : BitVec 32 := Scalar.extui v452
  let v454 : BitVec 32 := Scalar.subi v451 v453
  let c2_i32_219 : BitVec 32 := 2#32
  let c0_i32_222 : BitVec 32 := 0#32
  let v455 : BitVec 1 := Scalar.cmpi .sgt c2_i32_219 c0_i32_222
  let v456 : BitVec 32 := Scalar.extui v455
  let c0_i32_223 : BitVec 32 := 0#32
  let v457 : BitVec 1 := Scalar.cmpi .slt c2_i32_219 c0_i32_223
  let v458 : BitVec 32 := Scalar.extui v457
  let v459 : BitVec 32 := Scalar.subi v456 v458
  let v460 : BitVec 1 := Scalar.cmpi .ne v454 v459
  let v461 : BitVec 32 := Scalar.remsi v114 c2_i32_219
  let c0_i32_224 : BitVec 32 := 0#32
  let v462 : BitVec 1 := Scalar.cmpi .ne v461 c0_i32_224
  let v463 : BitVec 1 := Scalar.andi v460 v462
  let v449 : BitVec 32 := Scalar.divsi v114 c2_i32_219
  let c1_i32_225 : BitVec 32 := 1#32
  let v464 : BitVec 32 := Scalar.subi v449 c1_i32_225
  let v465 : BitVec 32 := Scalar.select v463 v464 v449
  let v466 : BitVec 32 := Scalar.muli c2_i32_226 v465
  let v467 : BitVec 32 := Scalar.addi v448 v466
  let v468 : BitVec 32 := Scalar.muli c8_i32_227 v467
  let c4_i32_199 : BitVec 32 := 4#32
  let c0_i32_200 : BitVec 32 := 0#32
  let v410 : BitVec 1 := Scalar.cmpi .eq c4_i32_199 c0_i32_200
  let c1_i32_201 : BitVec 32 := 1#32
  let v411 : BitVec 32 := Scalar.select v410 c1_i32_201 c4_i32_199
  let v412 : BitVec 32 := Scalar.remsi v409 v411
  let c0_i32_203 : BitVec 32 := 0#32
  let v414 : BitVec 1 := Scalar.cmpi .slt v412 c0_i32_203
  let c0_i32_204 : BitVec 32 := 0#32
  let v415 : BitVec 1 := Scalar.cmpi .slt v411 c0_i32_204
  let v416 : BitVec 1 := Scalar.xori v414 v415
  let c0_i32_202 : BitVec 32 := 0#32
  let v413 : BitVec 1 := Scalar.cmpi .ne v412 c0_i32_202
  let v417 : BitVec 1 := Scalar.andi v416 v413
  let v418 : BitVec 32 := Scalar.addi v412 v411
  let v419 : BitVec 32 := Scalar.select v417 v418 v412
  let c4_i32_211 : BitVec 32 := 4#32
  let c2_i32_205 : BitVec 32 := 2#32
  let c0_i32_206 : BitVec 32 := 0#32
  let v420 : BitVec 1 := Scalar.cmpi .eq c2_i32_205 c0_i32_206
  let c1_i32_207 : BitVec 32 := 1#32
  let v421 : BitVec 32 := Scalar.select v420 c1_i32_207 c2_i32_205
  let v422 : BitVec 32 := Scalar.remsi v114 v421
  let c0_i32_209 : BitVec 32 := 0#32
  let v424 : BitVec 1 := Scalar.cmpi .slt v422 c0_i32_209
  let c0_i32_210 : BitVec 32 := 0#32
  let v425 : BitVec 1 := Scalar.cmpi .slt v421 c0_i32_210
  let v426 : BitVec 1 := Scalar.xori v424 v425
  let c0_i32_208 : BitVec 32 := 0#32
  let v423 : BitVec 1 := Scalar.cmpi .ne v422 c0_i32_208
  let v427 : BitVec 1 := Scalar.andi v426 v423
  let v428 : BitVec 32 := Scalar.addi v422 v421
  let v429 : BitVec 32 := Scalar.select v427 v428 v422
  let v430 : BitVec 32 := Scalar.muli c4_i32_211 v429
  let v431 : BitVec 32 := Scalar.addi v419 v430
  let v469 : BitVec 32 := Scalar.addi v468 v431
  let c1_i32_1051 : BitVec 32 := 1#32
  let v1607 : BitVec 32 := Scalar.muli v469 c1_i32_1051
  let v1608 : BitVec 32 := Scalar.addi c0_i32_1052 v1607
  v1608.toNat
def k0_dev36 (d0 : Dev nD) : Nat :=
  let c0_i32_1061 : BitVec 32 := 0#32
  let c8_i32_262 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c6_i32 : BitVec 32 := 6#32
  let v470 : BitVec 32 := Scalar.addi v51 c6_i32
  let c8_i32_228 : BitVec 32 := 8#32
  let c0_i32_229 : BitVec 32 := 0#32
  let v471 : BitVec 1 := Scalar.cmpi .eq c8_i32_228 c0_i32_229
  let c1_i32_230 : BitVec 32 := 1#32
  let v472 : BitVec 32 := Scalar.select v471 c1_i32_230 c8_i32_228
  let v473 : BitVec 32 := Scalar.remsi v470 v472
  let c0_i32_232 : BitVec 32 := 0#32
  let v475 : BitVec 1 := Scalar.cmpi .slt v473 c0_i32_232
  let c0_i32_233 : BitVec 32 := 0#32
  let v476 : BitVec 1 := Scalar.cmpi .slt v472 c0_i32_233
  let v477 : BitVec 1 := Scalar.xori v475 v476
  let c0_i32_231 : BitVec 32 := 0#32
  let v474 : BitVec 1 := Scalar.cmpi .ne v473 c0_i32_231
  let v478 : BitVec 1 := Scalar.andi v477 v474
  let v479 : BitVec 32 := Scalar.addi v473 v472
  let v480 : BitVec 32 := Scalar.select v478 v479 v473
  let c0_i32_248 : BitVec 32 := 0#32
  let v504 : BitVec 1 := Scalar.cmpi .sgt v480 c0_i32_248
  let v505 : BitVec 32 := Scalar.extui v504
  let c0_i32_249 : BitVec 32 := 0#32
  let v506 : BitVec 1 := Scalar.cmpi .slt v480 c0_i32_249
  let v507 : BitVec 32 := Scalar.extui v506
  let v508 : BitVec 32 := Scalar.subi v505 v507
  let c4_i32_247 : BitVec 32 := 4#32
  let c0_i32_250 : BitVec 32 := 0#32
  let v509 : BitVec 1 := Scalar.cmpi .sgt c4_i32_247 c0_i32_250
  let v510 : BitVec 32 := Scalar.extui v509
  let c0_i32_251 : BitVec 32 := 0#32
  let v511 : BitVec 1 := Scalar.cmpi .slt c4_i32_247 c0_i32_251
  let v512 : BitVec 32 := Scalar.extui v511
  let v513 : BitVec 32 := Scalar.subi v510 v512
  let v514 : BitVec 1 := Scalar.cmpi .ne v508 v513
  let v515 : BitVec 32 := Scalar.remsi v480 c4_i32_247
  let c0_i32_252 : BitVec 32 := 0#32
  let v516 : BitVec 1 := Scalar.cmpi .ne v515 c0_i32_252
  let v517 : BitVec 1 := Scalar.andi v514 v516
  let v503 : BitVec 32 := Scalar.divsi v480 c4_i32_247
  let c1_i32_253 : BitVec 32 := 1#32
  let v518 : BitVec 32 := Scalar.subi v503 c1_i32_253
  let v519 : BitVec 32 := Scalar.select v517 v518 v503
  let c2_i32_261 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_255 : BitVec 32 := 0#32
  let v521 : BitVec 1 := Scalar.cmpi .sgt v114 c0_i32_255
  let v522 : BitVec 32 := Scalar.extui v521
  let c0_i32_256 : BitVec 32 := 0#32
  let v523 : BitVec 1 := Scalar.cmpi .slt v114 c0_i32_256
  let v524 : BitVec 32 := Scalar.extui v523
  let v525 : BitVec 32 := Scalar.subi v522 v524
  let c2_i32_254 : BitVec 32 := 2#32
  let c0_i32_257 : BitVec 32 := 0#32
  let v526 : BitVec 1 := Scalar.cmpi .sgt c2_i32_254 c0_i32_257
  let v527 : BitVec 32 := Scalar.extui v526
  let c0_i32_258 : BitVec 32 := 0#32
  let v528 : BitVec 1 := Scalar.cmpi .slt c2_i32_254 c0_i32_258
  let v529 : BitVec 32 := Scalar.extui v528
  let v530 : BitVec 32 := Scalar.subi v527 v529
  let v531 : BitVec 1 := Scalar.cmpi .ne v525 v530
  let v532 : BitVec 32 := Scalar.remsi v114 c2_i32_254
  let c0_i32_259 : BitVec 32 := 0#32
  let v533 : BitVec 1 := Scalar.cmpi .ne v532 c0_i32_259
  let v534 : BitVec 1 := Scalar.andi v531 v533
  let v520 : BitVec 32 := Scalar.divsi v114 c2_i32_254
  let c1_i32_260 : BitVec 32 := 1#32
  let v535 : BitVec 32 := Scalar.subi v520 c1_i32_260
  let v536 : BitVec 32 := Scalar.select v534 v535 v520
  let v537 : BitVec 32 := Scalar.muli c2_i32_261 v536
  let v538 : BitVec 32 := Scalar.addi v519 v537
  let v539 : BitVec 32 := Scalar.muli c8_i32_262 v538
  let c4_i32_234 : BitVec 32 := 4#32
  let c0_i32_235 : BitVec 32 := 0#32
  let v481 : BitVec 1 := Scalar.cmpi .eq c4_i32_234 c0_i32_235
  let c1_i32_236 : BitVec 32 := 1#32
  let v482 : BitVec 32 := Scalar.select v481 c1_i32_236 c4_i32_234
  let v483 : BitVec 32 := Scalar.remsi v480 v482
  let c0_i32_238 : BitVec 32 := 0#32
  let v485 : BitVec 1 := Scalar.cmpi .slt v483 c0_i32_238
  let c0_i32_239 : BitVec 32 := 0#32
  let v486 : BitVec 1 := Scalar.cmpi .slt v482 c0_i32_239
  let v487 : BitVec 1 := Scalar.xori v485 v486
  let c0_i32_237 : BitVec 32 := 0#32
  let v484 : BitVec 1 := Scalar.cmpi .ne v483 c0_i32_237
  let v488 : BitVec 1 := Scalar.andi v487 v484
  let v489 : BitVec 32 := Scalar.addi v483 v482
  let v490 : BitVec 32 := Scalar.select v488 v489 v483
  let c4_i32_246 : BitVec 32 := 4#32
  let c2_i32_240 : BitVec 32 := 2#32
  let c0_i32_241 : BitVec 32 := 0#32
  let v491 : BitVec 1 := Scalar.cmpi .eq c2_i32_240 c0_i32_241
  let c1_i32_242 : BitVec 32 := 1#32
  let v492 : BitVec 32 := Scalar.select v491 c1_i32_242 c2_i32_240
  let v493 : BitVec 32 := Scalar.remsi v114 v492
  let c0_i32_244 : BitVec 32 := 0#32
  let v495 : BitVec 1 := Scalar.cmpi .slt v493 c0_i32_244
  let c0_i32_245 : BitVec 32 := 0#32
  let v496 : BitVec 1 := Scalar.cmpi .slt v492 c0_i32_245
  let v497 : BitVec 1 := Scalar.xori v495 v496
  let c0_i32_243 : BitVec 32 := 0#32
  let v494 : BitVec 1 := Scalar.cmpi .ne v493 c0_i32_243
  let v498 : BitVec 1 := Scalar.andi v497 v494
  let v499 : BitVec 32 := Scalar.addi v493 v492
  let v500 : BitVec 32 := Scalar.select v498 v499 v493
  let v501 : BitVec 32 := Scalar.muli c4_i32_246 v500
  let v502 : BitVec 32 := Scalar.addi v490 v501
  let v540 : BitVec 32 := Scalar.addi v539 v502
  let c1_i32_1060 : BitVec 32 := 1#32
  let v1617 : BitVec 32 := Scalar.muli v540 c1_i32_1060
  let v1618 : BitVec 32 := Scalar.addi c0_i32_1061 v1617
  v1618.toNat
def k0_dev37 (d0 : Dev nD) : Nat :=
  let c0_i32_1070 : BitVec 32 := 0#32
  let c8_i32_297 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c7_i32 : BitVec 32 := 7#32
  let v541 : BitVec 32 := Scalar.addi v51 c7_i32
  let c8_i32_263 : BitVec 32 := 8#32
  let c0_i32_264 : BitVec 32 := 0#32
  let v542 : BitVec 1 := Scalar.cmpi .eq c8_i32_263 c0_i32_264
  let c1_i32_265 : BitVec 32 := 1#32
  let v543 : BitVec 32 := Scalar.select v542 c1_i32_265 c8_i32_263
  let v544 : BitVec 32 := Scalar.remsi v541 v543
  let c0_i32_267 : BitVec 32 := 0#32
  let v546 : BitVec 1 := Scalar.cmpi .slt v544 c0_i32_267
  let c0_i32_268 : BitVec 32 := 0#32
  let v547 : BitVec 1 := Scalar.cmpi .slt v543 c0_i32_268
  let v548 : BitVec 1 := Scalar.xori v546 v547
  let c0_i32_266 : BitVec 32 := 0#32
  let v545 : BitVec 1 := Scalar.cmpi .ne v544 c0_i32_266
  let v549 : BitVec 1 := Scalar.andi v548 v545
  let v550 : BitVec 32 := Scalar.addi v544 v543
  let v551 : BitVec 32 := Scalar.select v549 v550 v544
  let c0_i32_283 : BitVec 32 := 0#32
  let v575 : BitVec 1 := Scalar.cmpi .sgt v551 c0_i32_283
  let v576 : BitVec 32 := Scalar.extui v575
  let c0_i32_284 : BitVec 32 := 0#32
  let v577 : BitVec 1 := Scalar.cmpi .slt v551 c0_i32_284
  let v578 : BitVec 32 := Scalar.extui v577
  let v579 : BitVec 32 := Scalar.subi v576 v578
  let c4_i32_282 : BitVec 32 := 4#32
  let c0_i32_285 : BitVec 32 := 0#32
  let v580 : BitVec 1 := Scalar.cmpi .sgt c4_i32_282 c0_i32_285
  let v581 : BitVec 32 := Scalar.extui v580
  let c0_i32_286 : BitVec 32 := 0#32
  let v582 : BitVec 1 := Scalar.cmpi .slt c4_i32_282 c0_i32_286
  let v583 : BitVec 32 := Scalar.extui v582
  let v584 : BitVec 32 := Scalar.subi v581 v583
  let v585 : BitVec 1 := Scalar.cmpi .ne v579 v584
  let v586 : BitVec 32 := Scalar.remsi v551 c4_i32_282
  let c0_i32_287 : BitVec 32 := 0#32
  let v587 : BitVec 1 := Scalar.cmpi .ne v586 c0_i32_287
  let v588 : BitVec 1 := Scalar.andi v585 v587
  let v574 : BitVec 32 := Scalar.divsi v551 c4_i32_282
  let c1_i32_288 : BitVec 32 := 1#32
  let v589 : BitVec 32 := Scalar.subi v574 c1_i32_288
  let v590 : BitVec 32 := Scalar.select v588 v589 v574
  let c2_i32_296 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_290 : BitVec 32 := 0#32
  let v592 : BitVec 1 := Scalar.cmpi .sgt v114 c0_i32_290
  let v593 : BitVec 32 := Scalar.extui v592
  let c0_i32_291 : BitVec 32 := 0#32
  let v594 : BitVec 1 := Scalar.cmpi .slt v114 c0_i32_291
  let v595 : BitVec 32 := Scalar.extui v594
  let v596 : BitVec 32 := Scalar.subi v593 v595
  let c2_i32_289 : BitVec 32 := 2#32
  let c0_i32_292 : BitVec 32 := 0#32
  let v597 : BitVec 1 := Scalar.cmpi .sgt c2_i32_289 c0_i32_292
  let v598 : BitVec 32 := Scalar.extui v597
  let c0_i32_293 : BitVec 32 := 0#32
  let v599 : BitVec 1 := Scalar.cmpi .slt c2_i32_289 c0_i32_293
  let v600 : BitVec 32 := Scalar.extui v599
  let v601 : BitVec 32 := Scalar.subi v598 v600
  let v602 : BitVec 1 := Scalar.cmpi .ne v596 v601
  let v603 : BitVec 32 := Scalar.remsi v114 c2_i32_289
  let c0_i32_294 : BitVec 32 := 0#32
  let v604 : BitVec 1 := Scalar.cmpi .ne v603 c0_i32_294
  let v605 : BitVec 1 := Scalar.andi v602 v604
  let v591 : BitVec 32 := Scalar.divsi v114 c2_i32_289
  let c1_i32_295 : BitVec 32 := 1#32
  let v606 : BitVec 32 := Scalar.subi v591 c1_i32_295
  let v607 : BitVec 32 := Scalar.select v605 v606 v591
  let v608 : BitVec 32 := Scalar.muli c2_i32_296 v607
  let v609 : BitVec 32 := Scalar.addi v590 v608
  let v610 : BitVec 32 := Scalar.muli c8_i32_297 v609
  let c4_i32_269 : BitVec 32 := 4#32
  let c0_i32_270 : BitVec 32 := 0#32
  let v552 : BitVec 1 := Scalar.cmpi .eq c4_i32_269 c0_i32_270
  let c1_i32_271 : BitVec 32 := 1#32
  let v553 : BitVec 32 := Scalar.select v552 c1_i32_271 c4_i32_269
  let v554 : BitVec 32 := Scalar.remsi v551 v553
  let c0_i32_273 : BitVec 32 := 0#32
  let v556 : BitVec 1 := Scalar.cmpi .slt v554 c0_i32_273
  let c0_i32_274 : BitVec 32 := 0#32
  let v557 : BitVec 1 := Scalar.cmpi .slt v553 c0_i32_274
  let v558 : BitVec 1 := Scalar.xori v556 v557
  let c0_i32_272 : BitVec 32 := 0#32
  let v555 : BitVec 1 := Scalar.cmpi .ne v554 c0_i32_272
  let v559 : BitVec 1 := Scalar.andi v558 v555
  let v560 : BitVec 32 := Scalar.addi v554 v553
  let v561 : BitVec 32 := Scalar.select v559 v560 v554
  let c4_i32_281 : BitVec 32 := 4#32
  let c2_i32_275 : BitVec 32 := 2#32
  let c0_i32_276 : BitVec 32 := 0#32
  let v562 : BitVec 1 := Scalar.cmpi .eq c2_i32_275 c0_i32_276
  let c1_i32_277 : BitVec 32 := 1#32
  let v563 : BitVec 32 := Scalar.select v562 c1_i32_277 c2_i32_275
  let v564 : BitVec 32 := Scalar.remsi v114 v563
  let c0_i32_279 : BitVec 32 := 0#32
  let v566 : BitVec 1 := Scalar.cmpi .slt v564 c0_i32_279
  let c0_i32_280 : BitVec 32 := 0#32
  let v567 : BitVec 1 := Scalar.cmpi .slt v563 c0_i32_280
  let v568 : BitVec 1 := Scalar.xori v566 v567
  let c0_i32_278 : BitVec 32 := 0#32
  let v565 : BitVec 1 := Scalar.cmpi .ne v564 c0_i32_278
  let v569 : BitVec 1 := Scalar.andi v568 v565
  let v570 : BitVec 32 := Scalar.addi v564 v563
  let v571 : BitVec 32 := Scalar.select v569 v570 v564
  let v572 : BitVec 32 := Scalar.muli c4_i32_281 v571
  let v573 : BitVec 32 := Scalar.addi v561 v572
  let v611 : BitVec 32 := Scalar.addi v610 v573
  let c1_i32_1069 : BitVec 32 := 1#32
  let v1627 : BitVec 32 := Scalar.muli v611 c1_i32_1069
  let v1628 : BitVec 32 := Scalar.addi c0_i32_1070 v1627
  v1628.toNat
def k0_off12 (d0 : Dev nD) (c1_i32_1192 : BitVec 32) : Fin 3 → Nat :=
  let c1_i32_1200 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let v1746 : BitVec 32 := Scalar.addi v114 c1_i32_1192
  let c4_i32_1193 : BitVec 32 := 4#32
  let c0_i32_1194 : BitVec 32 := 0#32
  let v1747 : BitVec 1 := Scalar.cmpi .eq c4_i32_1193 c0_i32_1194
  let c1_i32_1195 : BitVec 32 := 1#32
  let v1748 : BitVec 32 := Scalar.select v1747 c1_i32_1195 c4_i32_1193
  let v1749 : BitVec 32 := Scalar.remsi v1746 v1748
  let c0_i32_1197 : BitVec 32 := 0#32
  let v1751 : BitVec 1 := Scalar.cmpi .slt v1749 c0_i32_1197
  let c0_i32_1198 : BitVec 32 := 0#32
  let v1752 : BitVec 1 := Scalar.cmpi .slt v1748 c0_i32_1198
  let v1753 : BitVec 1 := Scalar.xori v1751 v1752
  let c0_i32_1196 : BitVec 32 := 0#32
  let v1750 : BitVec 1 := Scalar.cmpi .ne v1749 c0_i32_1196
  let v1754 : BitVec 1 := Scalar.andi v1753 v1750
  let v1755 : BitVec 32 := Scalar.addi v1749 v1748
  let v1756 : BitVec 32 := Scalar.select v1754 v1755 v1749
  let c48_i32_1199 : BitVec 32 := 48#32
  let v1757 : BitVec 32 := Scalar.muli v1756 c48_i32_1199
  let c0_i32_1208 : BitVec 32 := 0#32
  ![1, v1757.toNat, 0]
def k0_dev38 (d0 : Dev nD) : Nat :=
  let c0_i32_1205 : BitVec 32 := 0#32
  let c8_i32_333 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c0_i32_319 : BitVec 32 := 0#32
  let v646 : BitVec 1 := Scalar.cmpi .sgt v51 c0_i32_319
  let v647 : BitVec 32 := Scalar.extui v646
  let c0_i32_320 : BitVec 32 := 0#32
  let v648 : BitVec 1 := Scalar.cmpi .slt v51 c0_i32_320
  let v649 : BitVec 32 := Scalar.extui v648
  let v650 : BitVec 32 := Scalar.subi v647 v649
  let c4_i32_318 : BitVec 32 := 4#32
  let c0_i32_321 : BitVec 32 := 0#32
  let v651 : BitVec 1 := Scalar.cmpi .sgt c4_i32_318 c0_i32_321
  let v652 : BitVec 32 := Scalar.extui v651
  let c0_i32_322 : BitVec 32 := 0#32
  let v653 : BitVec 1 := Scalar.cmpi .slt c4_i32_318 c0_i32_322
  let v654 : BitVec 32 := Scalar.extui v653
  let v655 : BitVec 32 := Scalar.subi v652 v654
  let v656 : BitVec 1 := Scalar.cmpi .ne v650 v655
  let v657 : BitVec 32 := Scalar.remsi v51 c4_i32_318
  let c0_i32_323 : BitVec 32 := 0#32
  let v658 : BitVec 1 := Scalar.cmpi .ne v657 c0_i32_323
  let v659 : BitVec 1 := Scalar.andi v656 v658
  let v645 : BitVec 32 := Scalar.divsi v51 c4_i32_318
  let c1_i32_324 : BitVec 32 := 1#32
  let v660 : BitVec 32 := Scalar.subi v645 c1_i32_324
  let v661 : BitVec 32 := Scalar.select v659 v660 v645
  let c2_i32_332 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c1_i32_298 : BitVec 32 := 1#32
  let v612 : BitVec 32 := Scalar.addi v114 c1_i32_298
  let c4_i32_299 : BitVec 32 := 4#32
  let c0_i32_300 : BitVec 32 := 0#32
  let v613 : BitVec 1 := Scalar.cmpi .eq c4_i32_299 c0_i32_300
  let c1_i32_301 : BitVec 32 := 1#32
  let v614 : BitVec 32 := Scalar.select v613 c1_i32_301 c4_i32_299
  let v615 : BitVec 32 := Scalar.remsi v612 v614
  let c0_i32_303 : BitVec 32 := 0#32
  let v617 : BitVec 1 := Scalar.cmpi .slt v615 c0_i32_303
  let c0_i32_304 : BitVec 32 := 0#32
  let v618 : BitVec 1 := Scalar.cmpi .slt v614 c0_i32_304
  let v619 : BitVec 1 := Scalar.xori v617 v618
  let c0_i32_302 : BitVec 32 := 0#32
  let v616 : BitVec 1 := Scalar.cmpi .ne v615 c0_i32_302
  let v620 : BitVec 1 := Scalar.andi v619 v616
  let v621 : BitVec 32 := Scalar.addi v615 v614
  let v622 : BitVec 32 := Scalar.select v620 v621 v615
  let c0_i32_326 : BitVec 32 := 0#32
  let v663 : BitVec 1 := Scalar.cmpi .sgt v622 c0_i32_326
  let v664 : BitVec 32 := Scalar.extui v663
  let c0_i32_327 : BitVec 32 := 0#32
  let v665 : BitVec 1 := Scalar.cmpi .slt v622 c0_i32_327
  let v666 : BitVec 32 := Scalar.extui v665
  let v667 : BitVec 32 := Scalar.subi v664 v666
  let c2_i32_325 : BitVec 32 := 2#32
  let c0_i32_328 : BitVec 32 := 0#32
  let v668 : BitVec 1 := Scalar.cmpi .sgt c2_i32_325 c0_i32_328
  let v669 : BitVec 32 := Scalar.extui v668
  let c0_i32_329 : BitVec 32 := 0#32
  let v670 : BitVec 1 := Scalar.cmpi .slt c2_i32_325 c0_i32_329
  let v671 : BitVec 32 := Scalar.extui v670
  let v672 : BitVec 32 := Scalar.subi v669 v671
  let v673 : BitVec 1 := Scalar.cmpi .ne v667 v672
  let v674 : BitVec 32 := Scalar.remsi v622 c2_i32_325
  let c0_i32_330 : BitVec 32 := 0#32
  let v675 : BitVec 1 := Scalar.cmpi .ne v674 c0_i32_330
  let v676 : BitVec 1 := Scalar.andi v673 v675
  let v662 : BitVec 32 := Scalar.divsi v622 c2_i32_325
  let c1_i32_331 : BitVec 32 := 1#32
  let v677 : BitVec 32 := Scalar.subi v662 c1_i32_331
  let v678 : BitVec 32 := Scalar.select v676 v677 v662
  let v679 : BitVec 32 := Scalar.muli c2_i32_332 v678
  let v680 : BitVec 32 := Scalar.addi v661 v679
  let v681 : BitVec 32 := Scalar.muli c8_i32_333 v680
  let c4_i32_305 : BitVec 32 := 4#32
  let c0_i32_306 : BitVec 32 := 0#32
  let v623 : BitVec 1 := Scalar.cmpi .eq c4_i32_305 c0_i32_306
  let c1_i32_307 : BitVec 32 := 1#32
  let v624 : BitVec 32 := Scalar.select v623 c1_i32_307 c4_i32_305
  let v625 : BitVec 32 := Scalar.remsi v51 v624
  let c0_i32_309 : BitVec 32 := 0#32
  let v627 : BitVec 1 := Scalar.cmpi .slt v625 c0_i32_309
  let c0_i32_310 : BitVec 32 := 0#32
  let v628 : BitVec 1 := Scalar.cmpi .slt v624 c0_i32_310
  let v629 : BitVec 1 := Scalar.xori v627 v628
  let c0_i32_308 : BitVec 32 := 0#32
  let v626 : BitVec 1 := Scalar.cmpi .ne v625 c0_i32_308
  let v630 : BitVec 1 := Scalar.andi v629 v626
  let v631 : BitVec 32 := Scalar.addi v625 v624
  let v632 : BitVec 32 := Scalar.select v630 v631 v625
  let c4_i32_317 : BitVec 32 := 4#32
  let c2_i32_311 : BitVec 32 := 2#32
  let c0_i32_312 : BitVec 32 := 0#32
  let v633 : BitVec 1 := Scalar.cmpi .eq c2_i32_311 c0_i32_312
  let c1_i32_313 : BitVec 32 := 1#32
  let v634 : BitVec 32 := Scalar.select v633 c1_i32_313 c2_i32_311
  let v635 : BitVec 32 := Scalar.remsi v622 v634
  let c0_i32_315 : BitVec 32 := 0#32
  let v637 : BitVec 1 := Scalar.cmpi .slt v635 c0_i32_315
  let c0_i32_316 : BitVec 32 := 0#32
  let v638 : BitVec 1 := Scalar.cmpi .slt v634 c0_i32_316
  let v639 : BitVec 1 := Scalar.xori v637 v638
  let c0_i32_314 : BitVec 32 := 0#32
  let v636 : BitVec 1 := Scalar.cmpi .ne v635 c0_i32_314
  let v640 : BitVec 1 := Scalar.andi v639 v636
  let v641 : BitVec 32 := Scalar.addi v635 v634
  let v642 : BitVec 32 := Scalar.select v640 v641 v635
  let v643 : BitVec 32 := Scalar.muli c4_i32_317 v642
  let v644 : BitVec 32 := Scalar.addi v632 v643
  let v682 : BitVec 32 := Scalar.addi v681 v644
  let c1_i32_1204 : BitVec 32 := 1#32
  let v1758 : BitVec 32 := Scalar.muli v682 c1_i32_1204
  let v1759 : BitVec 32 := Scalar.addi c0_i32_1205 v1758
  v1759.toNat
def k0_dev39 (d0 : Dev nD) : Nat :=
  let c0_i32_1222 : BitVec 32 := 0#32
  let c8_i32_369 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c0_i32_355 : BitVec 32 := 0#32
  let v717 : BitVec 1 := Scalar.cmpi .sgt v51 c0_i32_355
  let v718 : BitVec 32 := Scalar.extui v717
  let c0_i32_356 : BitVec 32 := 0#32
  let v719 : BitVec 1 := Scalar.cmpi .slt v51 c0_i32_356
  let v720 : BitVec 32 := Scalar.extui v719
  let v721 : BitVec 32 := Scalar.subi v718 v720
  let c4_i32_354 : BitVec 32 := 4#32
  let c0_i32_357 : BitVec 32 := 0#32
  let v722 : BitVec 1 := Scalar.cmpi .sgt c4_i32_354 c0_i32_357
  let v723 : BitVec 32 := Scalar.extui v722
  let c0_i32_358 : BitVec 32 := 0#32
  let v724 : BitVec 1 := Scalar.cmpi .slt c4_i32_354 c0_i32_358
  let v725 : BitVec 32 := Scalar.extui v724
  let v726 : BitVec 32 := Scalar.subi v723 v725
  let v727 : BitVec 1 := Scalar.cmpi .ne v721 v726
  let v728 : BitVec 32 := Scalar.remsi v51 c4_i32_354
  let c0_i32_359 : BitVec 32 := 0#32
  let v729 : BitVec 1 := Scalar.cmpi .ne v728 c0_i32_359
  let v730 : BitVec 1 := Scalar.andi v727 v729
  let v716 : BitVec 32 := Scalar.divsi v51 c4_i32_354
  let c1_i32_360 : BitVec 32 := 1#32
  let v731 : BitVec 32 := Scalar.subi v716 c1_i32_360
  let v732 : BitVec 32 := Scalar.select v730 v731 v716
  let c2_i32_368 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c2_i32_334 : BitVec 32 := 2#32
  let v683 : BitVec 32 := Scalar.addi v114 c2_i32_334
  let c4_i32_335 : BitVec 32 := 4#32
  let c0_i32_336 : BitVec 32 := 0#32
  let v684 : BitVec 1 := Scalar.cmpi .eq c4_i32_335 c0_i32_336
  let c1_i32_337 : BitVec 32 := 1#32
  let v685 : BitVec 32 := Scalar.select v684 c1_i32_337 c4_i32_335
  let v686 : BitVec 32 := Scalar.remsi v683 v685
  let c0_i32_339 : BitVec 32 := 0#32
  let v688 : BitVec 1 := Scalar.cmpi .slt v686 c0_i32_339
  let c0_i32_340 : BitVec 32 := 0#32
  let v689 : BitVec 1 := Scalar.cmpi .slt v685 c0_i32_340
  let v690 : BitVec 1 := Scalar.xori v688 v689
  let c0_i32_338 : BitVec 32 := 0#32
  let v687 : BitVec 1 := Scalar.cmpi .ne v686 c0_i32_338
  let v691 : BitVec 1 := Scalar.andi v690 v687
  let v692 : BitVec 32 := Scalar.addi v686 v685
  let v693 : BitVec 32 := Scalar.select v691 v692 v686
  let c0_i32_362 : BitVec 32 := 0#32
  let v734 : BitVec 1 := Scalar.cmpi .sgt v693 c0_i32_362
  let v735 : BitVec 32 := Scalar.extui v734
  let c0_i32_363 : BitVec 32 := 0#32
  let v736 : BitVec 1 := Scalar.cmpi .slt v693 c0_i32_363
  let v737 : BitVec 32 := Scalar.extui v736
  let v738 : BitVec 32 := Scalar.subi v735 v737
  let c2_i32_361 : BitVec 32 := 2#32
  let c0_i32_364 : BitVec 32 := 0#32
  let v739 : BitVec 1 := Scalar.cmpi .sgt c2_i32_361 c0_i32_364
  let v740 : BitVec 32 := Scalar.extui v739
  let c0_i32_365 : BitVec 32 := 0#32
  let v741 : BitVec 1 := Scalar.cmpi .slt c2_i32_361 c0_i32_365
  let v742 : BitVec 32 := Scalar.extui v741
  let v743 : BitVec 32 := Scalar.subi v740 v742
  let v744 : BitVec 1 := Scalar.cmpi .ne v738 v743
  let v745 : BitVec 32 := Scalar.remsi v693 c2_i32_361
  let c0_i32_366 : BitVec 32 := 0#32
  let v746 : BitVec 1 := Scalar.cmpi .ne v745 c0_i32_366
  let v747 : BitVec 1 := Scalar.andi v744 v746
  let v733 : BitVec 32 := Scalar.divsi v693 c2_i32_361
  let c1_i32_367 : BitVec 32 := 1#32
  let v748 : BitVec 32 := Scalar.subi v733 c1_i32_367
  let v749 : BitVec 32 := Scalar.select v747 v748 v733
  let v750 : BitVec 32 := Scalar.muli c2_i32_368 v749
  let v751 : BitVec 32 := Scalar.addi v732 v750
  let v752 : BitVec 32 := Scalar.muli c8_i32_369 v751
  let c4_i32_341 : BitVec 32 := 4#32
  let c0_i32_342 : BitVec 32 := 0#32
  let v694 : BitVec 1 := Scalar.cmpi .eq c4_i32_341 c0_i32_342
  let c1_i32_343 : BitVec 32 := 1#32
  let v695 : BitVec 32 := Scalar.select v694 c1_i32_343 c4_i32_341
  let v696 : BitVec 32 := Scalar.remsi v51 v695
  let c0_i32_345 : BitVec 32 := 0#32
  let v698 : BitVec 1 := Scalar.cmpi .slt v696 c0_i32_345
  let c0_i32_346 : BitVec 32 := 0#32
  let v699 : BitVec 1 := Scalar.cmpi .slt v695 c0_i32_346
  let v700 : BitVec 1 := Scalar.xori v698 v699
  let c0_i32_344 : BitVec 32 := 0#32
  let v697 : BitVec 1 := Scalar.cmpi .ne v696 c0_i32_344
  let v701 : BitVec 1 := Scalar.andi v700 v697
  let v702 : BitVec 32 := Scalar.addi v696 v695
  let v703 : BitVec 32 := Scalar.select v701 v702 v696
  let c4_i32_353 : BitVec 32 := 4#32
  let c2_i32_347 : BitVec 32 := 2#32
  let c0_i32_348 : BitVec 32 := 0#32
  let v704 : BitVec 1 := Scalar.cmpi .eq c2_i32_347 c0_i32_348
  let c1_i32_349 : BitVec 32 := 1#32
  let v705 : BitVec 32 := Scalar.select v704 c1_i32_349 c2_i32_347
  let v706 : BitVec 32 := Scalar.remsi v693 v705
  let c0_i32_351 : BitVec 32 := 0#32
  let v708 : BitVec 1 := Scalar.cmpi .slt v706 c0_i32_351
  let c0_i32_352 : BitVec 32 := 0#32
  let v709 : BitVec 1 := Scalar.cmpi .slt v705 c0_i32_352
  let v710 : BitVec 1 := Scalar.xori v708 v709
  let c0_i32_350 : BitVec 32 := 0#32
  let v707 : BitVec 1 := Scalar.cmpi .ne v706 c0_i32_350
  let v711 : BitVec 1 := Scalar.andi v710 v707
  let v712 : BitVec 32 := Scalar.addi v706 v705
  let v713 : BitVec 32 := Scalar.select v711 v712 v706
  let v714 : BitVec 32 := Scalar.muli c4_i32_353 v713
  let v715 : BitVec 32 := Scalar.addi v703 v714
  let v753 : BitVec 32 := Scalar.addi v752 v715
  let c1_i32_1221 : BitVec 32 := 1#32
  let v1780 : BitVec 32 := Scalar.muli v753 c1_i32_1221
  let v1781 : BitVec 32 := Scalar.addi c0_i32_1222 v1780
  v1781.toNat
def k0_dev40 (d0 : Dev nD) : Nat :=
  let c0_i32_1239 : BitVec 32 := 0#32
  let c8_i32_405 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c0_i32_391 : BitVec 32 := 0#32
  let v788 : BitVec 1 := Scalar.cmpi .sgt v51 c0_i32_391
  let v789 : BitVec 32 := Scalar.extui v788
  let c0_i32_392 : BitVec 32 := 0#32
  let v790 : BitVec 1 := Scalar.cmpi .slt v51 c0_i32_392
  let v791 : BitVec 32 := Scalar.extui v790
  let v792 : BitVec 32 := Scalar.subi v789 v791
  let c4_i32_390 : BitVec 32 := 4#32
  let c0_i32_393 : BitVec 32 := 0#32
  let v793 : BitVec 1 := Scalar.cmpi .sgt c4_i32_390 c0_i32_393
  let v794 : BitVec 32 := Scalar.extui v793
  let c0_i32_394 : BitVec 32 := 0#32
  let v795 : BitVec 1 := Scalar.cmpi .slt c4_i32_390 c0_i32_394
  let v796 : BitVec 32 := Scalar.extui v795
  let v797 : BitVec 32 := Scalar.subi v794 v796
  let v798 : BitVec 1 := Scalar.cmpi .ne v792 v797
  let v799 : BitVec 32 := Scalar.remsi v51 c4_i32_390
  let c0_i32_395 : BitVec 32 := 0#32
  let v800 : BitVec 1 := Scalar.cmpi .ne v799 c0_i32_395
  let v801 : BitVec 1 := Scalar.andi v798 v800
  let v787 : BitVec 32 := Scalar.divsi v51 c4_i32_390
  let c1_i32_396 : BitVec 32 := 1#32
  let v802 : BitVec 32 := Scalar.subi v787 c1_i32_396
  let v803 : BitVec 32 := Scalar.select v801 v802 v787
  let c2_i32_404 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c3_i32_370 : BitVec 32 := 3#32
  let v754 : BitVec 32 := Scalar.addi v114 c3_i32_370
  let c4_i32_371 : BitVec 32 := 4#32
  let c0_i32_372 : BitVec 32 := 0#32
  let v755 : BitVec 1 := Scalar.cmpi .eq c4_i32_371 c0_i32_372
  let c1_i32_373 : BitVec 32 := 1#32
  let v756 : BitVec 32 := Scalar.select v755 c1_i32_373 c4_i32_371
  let v757 : BitVec 32 := Scalar.remsi v754 v756
  let c0_i32_375 : BitVec 32 := 0#32
  let v759 : BitVec 1 := Scalar.cmpi .slt v757 c0_i32_375
  let c0_i32_376 : BitVec 32 := 0#32
  let v760 : BitVec 1 := Scalar.cmpi .slt v756 c0_i32_376
  let v761 : BitVec 1 := Scalar.xori v759 v760
  let c0_i32_374 : BitVec 32 := 0#32
  let v758 : BitVec 1 := Scalar.cmpi .ne v757 c0_i32_374
  let v762 : BitVec 1 := Scalar.andi v761 v758
  let v763 : BitVec 32 := Scalar.addi v757 v756
  let v764 : BitVec 32 := Scalar.select v762 v763 v757
  let c0_i32_398 : BitVec 32 := 0#32
  let v805 : BitVec 1 := Scalar.cmpi .sgt v764 c0_i32_398
  let v806 : BitVec 32 := Scalar.extui v805
  let c0_i32_399 : BitVec 32 := 0#32
  let v807 : BitVec 1 := Scalar.cmpi .slt v764 c0_i32_399
  let v808 : BitVec 32 := Scalar.extui v807
  let v809 : BitVec 32 := Scalar.subi v806 v808
  let c2_i32_397 : BitVec 32 := 2#32
  let c0_i32_400 : BitVec 32 := 0#32
  let v810 : BitVec 1 := Scalar.cmpi .sgt c2_i32_397 c0_i32_400
  let v811 : BitVec 32 := Scalar.extui v810
  let c0_i32_401 : BitVec 32 := 0#32
  let v812 : BitVec 1 := Scalar.cmpi .slt c2_i32_397 c0_i32_401
  let v813 : BitVec 32 := Scalar.extui v812
  let v814 : BitVec 32 := Scalar.subi v811 v813
  let v815 : BitVec 1 := Scalar.cmpi .ne v809 v814
  let v816 : BitVec 32 := Scalar.remsi v764 c2_i32_397
  let c0_i32_402 : BitVec 32 := 0#32
  let v817 : BitVec 1 := Scalar.cmpi .ne v816 c0_i32_402
  let v818 : BitVec 1 := Scalar.andi v815 v817
  let v804 : BitVec 32 := Scalar.divsi v764 c2_i32_397
  let c1_i32_403 : BitVec 32 := 1#32
  let v819 : BitVec 32 := Scalar.subi v804 c1_i32_403
  let v820 : BitVec 32 := Scalar.select v818 v819 v804
  let v821 : BitVec 32 := Scalar.muli c2_i32_404 v820
  let v822 : BitVec 32 := Scalar.addi v803 v821
  let v823 : BitVec 32 := Scalar.muli c8_i32_405 v822
  let c4_i32_377 : BitVec 32 := 4#32
  let c0_i32_378 : BitVec 32 := 0#32
  let v765 : BitVec 1 := Scalar.cmpi .eq c4_i32_377 c0_i32_378
  let c1_i32_379 : BitVec 32 := 1#32
  let v766 : BitVec 32 := Scalar.select v765 c1_i32_379 c4_i32_377
  let v767 : BitVec 32 := Scalar.remsi v51 v766
  let c0_i32_381 : BitVec 32 := 0#32
  let v769 : BitVec 1 := Scalar.cmpi .slt v767 c0_i32_381
  let c0_i32_382 : BitVec 32 := 0#32
  let v770 : BitVec 1 := Scalar.cmpi .slt v766 c0_i32_382
  let v771 : BitVec 1 := Scalar.xori v769 v770
  let c0_i32_380 : BitVec 32 := 0#32
  let v768 : BitVec 1 := Scalar.cmpi .ne v767 c0_i32_380
  let v772 : BitVec 1 := Scalar.andi v771 v768
  let v773 : BitVec 32 := Scalar.addi v767 v766
  let v774 : BitVec 32 := Scalar.select v772 v773 v767
  let c4_i32_389 : BitVec 32 := 4#32
  let c2_i32_383 : BitVec 32 := 2#32
  let c0_i32_384 : BitVec 32 := 0#32
  let v775 : BitVec 1 := Scalar.cmpi .eq c2_i32_383 c0_i32_384
  let c1_i32_385 : BitVec 32 := 1#32
  let v776 : BitVec 32 := Scalar.select v775 c1_i32_385 c2_i32_383
  let v777 : BitVec 32 := Scalar.remsi v764 v776
  let c0_i32_387 : BitVec 32 := 0#32
  let v779 : BitVec 1 := Scalar.cmpi .slt v777 c0_i32_387
  let c0_i32_388 : BitVec 32 := 0#32
  let v780 : BitVec 1 := Scalar.cmpi .slt v776 c0_i32_388
  let v781 : BitVec 1 := Scalar.xori v779 v780
  let c0_i32_386 : BitVec 32 := 0#32
  let v778 : BitVec 1 := Scalar.cmpi .ne v777 c0_i32_386
  let v782 : BitVec 1 := Scalar.andi v781 v778
  let v783 : BitVec 32 := Scalar.addi v777 v776
  let v784 : BitVec 32 := Scalar.select v782 v783 v777
  let v785 : BitVec 32 := Scalar.muli c4_i32_389 v784
  let v786 : BitVec 32 := Scalar.addi v774 v785
  let v824 : BitVec 32 := Scalar.addi v823 v786
  let c1_i32_1238 : BitVec 32 := 1#32
  let v1802 : BitVec 32 := Scalar.muli v824 c1_i32_1238
  let v1803 : BitVec 32 := Scalar.addi c0_i32_1239 v1802
  v1803.toNat
def k0_off13 (d0 : Dev nD) : Fin 3 → Nat :=
  let c1_1244 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c48_i32_1243 : BitVec 32 := 48#32
  let v1812 : BitVec 32 := Scalar.muli v114 c48_i32_1243
  let v1813 : Index := Scalar.indexCast v1812
  let c0_1245 : Index := 0#32
  ![1, v1813.toNat, 0]
def k0_off14 (d0 : Dev nD) : Fin 3 → Nat :=
  let c1_i32_1296 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c48_i32_1294 : BitVec 32 := 48#32
  let v1866 : BitVec 32 := Scalar.muli v114 c48_i32_1294
  let c0_i32_1301 : BitVec 32 := 0#32
  ![1, v1866.toNat, 0]
def k0_dev41 (d0 : Dev nD) : Nat :=
  let c0_i32_1300 : BitVec 32 := 0#32
  let c8_i32_333 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c0_i32_319 : BitVec 32 := 0#32
  let v646 : BitVec 1 := Scalar.cmpi .sgt v51 c0_i32_319
  let v647 : BitVec 32 := Scalar.extui v646
  let c0_i32_320 : BitVec 32 := 0#32
  let v648 : BitVec 1 := Scalar.cmpi .slt v51 c0_i32_320
  let v649 : BitVec 32 := Scalar.extui v648
  let v650 : BitVec 32 := Scalar.subi v647 v649
  let c4_i32_318 : BitVec 32 := 4#32
  let c0_i32_321 : BitVec 32 := 0#32
  let v651 : BitVec 1 := Scalar.cmpi .sgt c4_i32_318 c0_i32_321
  let v652 : BitVec 32 := Scalar.extui v651
  let c0_i32_322 : BitVec 32 := 0#32
  let v653 : BitVec 1 := Scalar.cmpi .slt c4_i32_318 c0_i32_322
  let v654 : BitVec 32 := Scalar.extui v653
  let v655 : BitVec 32 := Scalar.subi v652 v654
  let v656 : BitVec 1 := Scalar.cmpi .ne v650 v655
  let v657 : BitVec 32 := Scalar.remsi v51 c4_i32_318
  let c0_i32_323 : BitVec 32 := 0#32
  let v658 : BitVec 1 := Scalar.cmpi .ne v657 c0_i32_323
  let v659 : BitVec 1 := Scalar.andi v656 v658
  let v645 : BitVec 32 := Scalar.divsi v51 c4_i32_318
  let c1_i32_324 : BitVec 32 := 1#32
  let v660 : BitVec 32 := Scalar.subi v645 c1_i32_324
  let v661 : BitVec 32 := Scalar.select v659 v660 v645
  let c2_i32_332 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c1_i32_298 : BitVec 32 := 1#32
  let v612 : BitVec 32 := Scalar.addi v114 c1_i32_298
  let c4_i32_299 : BitVec 32 := 4#32
  let c0_i32_300 : BitVec 32 := 0#32
  let v613 : BitVec 1 := Scalar.cmpi .eq c4_i32_299 c0_i32_300
  let c1_i32_301 : BitVec 32 := 1#32
  let v614 : BitVec 32 := Scalar.select v613 c1_i32_301 c4_i32_299
  let v615 : BitVec 32 := Scalar.remsi v612 v614
  let c0_i32_303 : BitVec 32 := 0#32
  let v617 : BitVec 1 := Scalar.cmpi .slt v615 c0_i32_303
  let c0_i32_304 : BitVec 32 := 0#32
  let v618 : BitVec 1 := Scalar.cmpi .slt v614 c0_i32_304
  let v619 : BitVec 1 := Scalar.xori v617 v618
  let c0_i32_302 : BitVec 32 := 0#32
  let v616 : BitVec 1 := Scalar.cmpi .ne v615 c0_i32_302
  let v620 : BitVec 1 := Scalar.andi v619 v616
  let v621 : BitVec 32 := Scalar.addi v615 v614
  let v622 : BitVec 32 := Scalar.select v620 v621 v615
  let c0_i32_326 : BitVec 32 := 0#32
  let v663 : BitVec 1 := Scalar.cmpi .sgt v622 c0_i32_326
  let v664 : BitVec 32 := Scalar.extui v663
  let c0_i32_327 : BitVec 32 := 0#32
  let v665 : BitVec 1 := Scalar.cmpi .slt v622 c0_i32_327
  let v666 : BitVec 32 := Scalar.extui v665
  let v667 : BitVec 32 := Scalar.subi v664 v666
  let c2_i32_325 : BitVec 32 := 2#32
  let c0_i32_328 : BitVec 32 := 0#32
  let v668 : BitVec 1 := Scalar.cmpi .sgt c2_i32_325 c0_i32_328
  let v669 : BitVec 32 := Scalar.extui v668
  let c0_i32_329 : BitVec 32 := 0#32
  let v670 : BitVec 1 := Scalar.cmpi .slt c2_i32_325 c0_i32_329
  let v671 : BitVec 32 := Scalar.extui v670
  let v672 : BitVec 32 := Scalar.subi v669 v671
  let v673 : BitVec 1 := Scalar.cmpi .ne v667 v672
  let v674 : BitVec 32 := Scalar.remsi v622 c2_i32_325
  let c0_i32_330 : BitVec 32 := 0#32
  let v675 : BitVec 1 := Scalar.cmpi .ne v674 c0_i32_330
  let v676 : BitVec 1 := Scalar.andi v673 v675
  let v662 : BitVec 32 := Scalar.divsi v622 c2_i32_325
  let c1_i32_331 : BitVec 32 := 1#32
  let v677 : BitVec 32 := Scalar.subi v662 c1_i32_331
  let v678 : BitVec 32 := Scalar.select v676 v677 v662
  let v679 : BitVec 32 := Scalar.muli c2_i32_332 v678
  let v680 : BitVec 32 := Scalar.addi v661 v679
  let v681 : BitVec 32 := Scalar.muli c8_i32_333 v680
  let c4_i32_305 : BitVec 32 := 4#32
  let c0_i32_306 : BitVec 32 := 0#32
  let v623 : BitVec 1 := Scalar.cmpi .eq c4_i32_305 c0_i32_306
  let c1_i32_307 : BitVec 32 := 1#32
  let v624 : BitVec 32 := Scalar.select v623 c1_i32_307 c4_i32_305
  let v625 : BitVec 32 := Scalar.remsi v51 v624
  let c0_i32_309 : BitVec 32 := 0#32
  let v627 : BitVec 1 := Scalar.cmpi .slt v625 c0_i32_309
  let c0_i32_310 : BitVec 32 := 0#32
  let v628 : BitVec 1 := Scalar.cmpi .slt v624 c0_i32_310
  let v629 : BitVec 1 := Scalar.xori v627 v628
  let c0_i32_308 : BitVec 32 := 0#32
  let v626 : BitVec 1 := Scalar.cmpi .ne v625 c0_i32_308
  let v630 : BitVec 1 := Scalar.andi v629 v626
  let v631 : BitVec 32 := Scalar.addi v625 v624
  let v632 : BitVec 32 := Scalar.select v630 v631 v625
  let c4_i32_317 : BitVec 32 := 4#32
  let c2_i32_311 : BitVec 32 := 2#32
  let c0_i32_312 : BitVec 32 := 0#32
  let v633 : BitVec 1 := Scalar.cmpi .eq c2_i32_311 c0_i32_312
  let c1_i32_313 : BitVec 32 := 1#32
  let v634 : BitVec 32 := Scalar.select v633 c1_i32_313 c2_i32_311
  let v635 : BitVec 32 := Scalar.remsi v622 v634
  let c0_i32_315 : BitVec 32 := 0#32
  let v637 : BitVec 1 := Scalar.cmpi .slt v635 c0_i32_315
  let c0_i32_316 : BitVec 32 := 0#32
  let v638 : BitVec 1 := Scalar.cmpi .slt v634 c0_i32_316
  let v639 : BitVec 1 := Scalar.xori v637 v638
  let c0_i32_314 : BitVec 32 := 0#32
  let v636 : BitVec 1 := Scalar.cmpi .ne v635 c0_i32_314
  let v640 : BitVec 1 := Scalar.andi v639 v636
  let v641 : BitVec 32 := Scalar.addi v635 v634
  let v642 : BitVec 32 := Scalar.select v640 v641 v635
  let v643 : BitVec 32 := Scalar.muli c4_i32_317 v642
  let v644 : BitVec 32 := Scalar.addi v632 v643
  let v682 : BitVec 32 := Scalar.addi v681 v644
  let c1_i32_1299 : BitVec 32 := 1#32
  let v1867 : BitVec 32 := Scalar.muli v682 c1_i32_1299
  let v1868 : BitVec 32 := Scalar.addi c0_i32_1300 v1867
  v1868.toNat
def k0_dev42 (d0 : Dev nD) : Nat :=
  let c0_i32_1310 : BitVec 32 := 0#32
  let c8_i32_369 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c0_i32_355 : BitVec 32 := 0#32
  let v717 : BitVec 1 := Scalar.cmpi .sgt v51 c0_i32_355
  let v718 : BitVec 32 := Scalar.extui v717
  let c0_i32_356 : BitVec 32 := 0#32
  let v719 : BitVec 1 := Scalar.cmpi .slt v51 c0_i32_356
  let v720 : BitVec 32 := Scalar.extui v719
  let v721 : BitVec 32 := Scalar.subi v718 v720
  let c4_i32_354 : BitVec 32 := 4#32
  let c0_i32_357 : BitVec 32 := 0#32
  let v722 : BitVec 1 := Scalar.cmpi .sgt c4_i32_354 c0_i32_357
  let v723 : BitVec 32 := Scalar.extui v722
  let c0_i32_358 : BitVec 32 := 0#32
  let v724 : BitVec 1 := Scalar.cmpi .slt c4_i32_354 c0_i32_358
  let v725 : BitVec 32 := Scalar.extui v724
  let v726 : BitVec 32 := Scalar.subi v723 v725
  let v727 : BitVec 1 := Scalar.cmpi .ne v721 v726
  let v728 : BitVec 32 := Scalar.remsi v51 c4_i32_354
  let c0_i32_359 : BitVec 32 := 0#32
  let v729 : BitVec 1 := Scalar.cmpi .ne v728 c0_i32_359
  let v730 : BitVec 1 := Scalar.andi v727 v729
  let v716 : BitVec 32 := Scalar.divsi v51 c4_i32_354
  let c1_i32_360 : BitVec 32 := 1#32
  let v731 : BitVec 32 := Scalar.subi v716 c1_i32_360
  let v732 : BitVec 32 := Scalar.select v730 v731 v716
  let c2_i32_368 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c2_i32_334 : BitVec 32 := 2#32
  let v683 : BitVec 32 := Scalar.addi v114 c2_i32_334
  let c4_i32_335 : BitVec 32 := 4#32
  let c0_i32_336 : BitVec 32 := 0#32
  let v684 : BitVec 1 := Scalar.cmpi .eq c4_i32_335 c0_i32_336
  let c1_i32_337 : BitVec 32 := 1#32
  let v685 : BitVec 32 := Scalar.select v684 c1_i32_337 c4_i32_335
  let v686 : BitVec 32 := Scalar.remsi v683 v685
  let c0_i32_339 : BitVec 32 := 0#32
  let v688 : BitVec 1 := Scalar.cmpi .slt v686 c0_i32_339
  let c0_i32_340 : BitVec 32 := 0#32
  let v689 : BitVec 1 := Scalar.cmpi .slt v685 c0_i32_340
  let v690 : BitVec 1 := Scalar.xori v688 v689
  let c0_i32_338 : BitVec 32 := 0#32
  let v687 : BitVec 1 := Scalar.cmpi .ne v686 c0_i32_338
  let v691 : BitVec 1 := Scalar.andi v690 v687
  let v692 : BitVec 32 := Scalar.addi v686 v685
  let v693 : BitVec 32 := Scalar.select v691 v692 v686
  let c0_i32_362 : BitVec 32 := 0#32
  let v734 : BitVec 1 := Scalar.cmpi .sgt v693 c0_i32_362
  let v735 : BitVec 32 := Scalar.extui v734
  let c0_i32_363 : BitVec 32 := 0#32
  let v736 : BitVec 1 := Scalar.cmpi .slt v693 c0_i32_363
  let v737 : BitVec 32 := Scalar.extui v736
  let v738 : BitVec 32 := Scalar.subi v735 v737
  let c2_i32_361 : BitVec 32 := 2#32
  let c0_i32_364 : BitVec 32 := 0#32
  let v739 : BitVec 1 := Scalar.cmpi .sgt c2_i32_361 c0_i32_364
  let v740 : BitVec 32 := Scalar.extui v739
  let c0_i32_365 : BitVec 32 := 0#32
  let v741 : BitVec 1 := Scalar.cmpi .slt c2_i32_361 c0_i32_365
  let v742 : BitVec 32 := Scalar.extui v741
  let v743 : BitVec 32 := Scalar.subi v740 v742
  let v744 : BitVec 1 := Scalar.cmpi .ne v738 v743
  let v745 : BitVec 32 := Scalar.remsi v693 c2_i32_361
  let c0_i32_366 : BitVec 32 := 0#32
  let v746 : BitVec 1 := Scalar.cmpi .ne v745 c0_i32_366
  let v747 : BitVec 1 := Scalar.andi v744 v746
  let v733 : BitVec 32 := Scalar.divsi v693 c2_i32_361
  let c1_i32_367 : BitVec 32 := 1#32
  let v748 : BitVec 32 := Scalar.subi v733 c1_i32_367
  let v749 : BitVec 32 := Scalar.select v747 v748 v733
  let v750 : BitVec 32 := Scalar.muli c2_i32_368 v749
  let v751 : BitVec 32 := Scalar.addi v732 v750
  let v752 : BitVec 32 := Scalar.muli c8_i32_369 v751
  let c4_i32_341 : BitVec 32 := 4#32
  let c0_i32_342 : BitVec 32 := 0#32
  let v694 : BitVec 1 := Scalar.cmpi .eq c4_i32_341 c0_i32_342
  let c1_i32_343 : BitVec 32 := 1#32
  let v695 : BitVec 32 := Scalar.select v694 c1_i32_343 c4_i32_341
  let v696 : BitVec 32 := Scalar.remsi v51 v695
  let c0_i32_345 : BitVec 32 := 0#32
  let v698 : BitVec 1 := Scalar.cmpi .slt v696 c0_i32_345
  let c0_i32_346 : BitVec 32 := 0#32
  let v699 : BitVec 1 := Scalar.cmpi .slt v695 c0_i32_346
  let v700 : BitVec 1 := Scalar.xori v698 v699
  let c0_i32_344 : BitVec 32 := 0#32
  let v697 : BitVec 1 := Scalar.cmpi .ne v696 c0_i32_344
  let v701 : BitVec 1 := Scalar.andi v700 v697
  let v702 : BitVec 32 := Scalar.addi v696 v695
  let v703 : BitVec 32 := Scalar.select v701 v702 v696
  let c4_i32_353 : BitVec 32 := 4#32
  let c2_i32_347 : BitVec 32 := 2#32
  let c0_i32_348 : BitVec 32 := 0#32
  let v704 : BitVec 1 := Scalar.cmpi .eq c2_i32_347 c0_i32_348
  let c1_i32_349 : BitVec 32 := 1#32
  let v705 : BitVec 32 := Scalar.select v704 c1_i32_349 c2_i32_347
  let v706 : BitVec 32 := Scalar.remsi v693 v705
  let c0_i32_351 : BitVec 32 := 0#32
  let v708 : BitVec 1 := Scalar.cmpi .slt v706 c0_i32_351
  let c0_i32_352 : BitVec 32 := 0#32
  let v709 : BitVec 1 := Scalar.cmpi .slt v705 c0_i32_352
  let v710 : BitVec 1 := Scalar.xori v708 v709
  let c0_i32_350 : BitVec 32 := 0#32
  let v707 : BitVec 1 := Scalar.cmpi .ne v706 c0_i32_350
  let v711 : BitVec 1 := Scalar.andi v710 v707
  let v712 : BitVec 32 := Scalar.addi v706 v705
  let v713 : BitVec 32 := Scalar.select v711 v712 v706
  let v714 : BitVec 32 := Scalar.muli c4_i32_353 v713
  let v715 : BitVec 32 := Scalar.addi v703 v714
  let v753 : BitVec 32 := Scalar.addi v752 v715
  let c1_i32_1309 : BitVec 32 := 1#32
  let v1879 : BitVec 32 := Scalar.muli v753 c1_i32_1309
  let v1880 : BitVec 32 := Scalar.addi c0_i32_1310 v1879
  v1880.toNat
def k0_dev43 (d0 : Dev nD) : Nat :=
  let c0_i32_1320 : BitVec 32 := 0#32
  let c8_i32_405 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c0_i32_391 : BitVec 32 := 0#32
  let v788 : BitVec 1 := Scalar.cmpi .sgt v51 c0_i32_391
  let v789 : BitVec 32 := Scalar.extui v788
  let c0_i32_392 : BitVec 32 := 0#32
  let v790 : BitVec 1 := Scalar.cmpi .slt v51 c0_i32_392
  let v791 : BitVec 32 := Scalar.extui v790
  let v792 : BitVec 32 := Scalar.subi v789 v791
  let c4_i32_390 : BitVec 32 := 4#32
  let c0_i32_393 : BitVec 32 := 0#32
  let v793 : BitVec 1 := Scalar.cmpi .sgt c4_i32_390 c0_i32_393
  let v794 : BitVec 32 := Scalar.extui v793
  let c0_i32_394 : BitVec 32 := 0#32
  let v795 : BitVec 1 := Scalar.cmpi .slt c4_i32_390 c0_i32_394
  let v796 : BitVec 32 := Scalar.extui v795
  let v797 : BitVec 32 := Scalar.subi v794 v796
  let v798 : BitVec 1 := Scalar.cmpi .ne v792 v797
  let v799 : BitVec 32 := Scalar.remsi v51 c4_i32_390
  let c0_i32_395 : BitVec 32 := 0#32
  let v800 : BitVec 1 := Scalar.cmpi .ne v799 c0_i32_395
  let v801 : BitVec 1 := Scalar.andi v798 v800
  let v787 : BitVec 32 := Scalar.divsi v51 c4_i32_390
  let c1_i32_396 : BitVec 32 := 1#32
  let v802 : BitVec 32 := Scalar.subi v787 c1_i32_396
  let v803 : BitVec 32 := Scalar.select v801 v802 v787
  let c2_i32_404 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c3_i32_370 : BitVec 32 := 3#32
  let v754 : BitVec 32 := Scalar.addi v114 c3_i32_370
  let c4_i32_371 : BitVec 32 := 4#32
  let c0_i32_372 : BitVec 32 := 0#32
  let v755 : BitVec 1 := Scalar.cmpi .eq c4_i32_371 c0_i32_372
  let c1_i32_373 : BitVec 32 := 1#32
  let v756 : BitVec 32 := Scalar.select v755 c1_i32_373 c4_i32_371
  let v757 : BitVec 32 := Scalar.remsi v754 v756
  let c0_i32_375 : BitVec 32 := 0#32
  let v759 : BitVec 1 := Scalar.cmpi .slt v757 c0_i32_375
  let c0_i32_376 : BitVec 32 := 0#32
  let v760 : BitVec 1 := Scalar.cmpi .slt v756 c0_i32_376
  let v761 : BitVec 1 := Scalar.xori v759 v760
  let c0_i32_374 : BitVec 32 := 0#32
  let v758 : BitVec 1 := Scalar.cmpi .ne v757 c0_i32_374
  let v762 : BitVec 1 := Scalar.andi v761 v758
  let v763 : BitVec 32 := Scalar.addi v757 v756
  let v764 : BitVec 32 := Scalar.select v762 v763 v757
  let c0_i32_398 : BitVec 32 := 0#32
  let v805 : BitVec 1 := Scalar.cmpi .sgt v764 c0_i32_398
  let v806 : BitVec 32 := Scalar.extui v805
  let c0_i32_399 : BitVec 32 := 0#32
  let v807 : BitVec 1 := Scalar.cmpi .slt v764 c0_i32_399
  let v808 : BitVec 32 := Scalar.extui v807
  let v809 : BitVec 32 := Scalar.subi v806 v808
  let c2_i32_397 : BitVec 32 := 2#32
  let c0_i32_400 : BitVec 32 := 0#32
  let v810 : BitVec 1 := Scalar.cmpi .sgt c2_i32_397 c0_i32_400
  let v811 : BitVec 32 := Scalar.extui v810
  let c0_i32_401 : BitVec 32 := 0#32
  let v812 : BitVec 1 := Scalar.cmpi .slt c2_i32_397 c0_i32_401
  let v813 : BitVec 32 := Scalar.extui v812
  let v814 : BitVec 32 := Scalar.subi v811 v813
  let v815 : BitVec 1 := Scalar.cmpi .ne v809 v814
  let v816 : BitVec 32 := Scalar.remsi v764 c2_i32_397
  let c0_i32_402 : BitVec 32 := 0#32
  let v817 : BitVec 1 := Scalar.cmpi .ne v816 c0_i32_402
  let v818 : BitVec 1 := Scalar.andi v815 v817
  let v804 : BitVec 32 := Scalar.divsi v764 c2_i32_397
  let c1_i32_403 : BitVec 32 := 1#32
  let v819 : BitVec 32 := Scalar.subi v804 c1_i32_403
  let v820 : BitVec 32 := Scalar.select v818 v819 v804
  let v821 : BitVec 32 := Scalar.muli c2_i32_404 v820
  let v822 : BitVec 32 := Scalar.addi v803 v821
  let v823 : BitVec 32 := Scalar.muli c8_i32_405 v822
  let c4_i32_377 : BitVec 32 := 4#32
  let c0_i32_378 : BitVec 32 := 0#32
  let v765 : BitVec 1 := Scalar.cmpi .eq c4_i32_377 c0_i32_378
  let c1_i32_379 : BitVec 32 := 1#32
  let v766 : BitVec 32 := Scalar.select v765 c1_i32_379 c4_i32_377
  let v767 : BitVec 32 := Scalar.remsi v51 v766
  let c0_i32_381 : BitVec 32 := 0#32
  let v769 : BitVec 1 := Scalar.cmpi .slt v767 c0_i32_381
  let c0_i32_382 : BitVec 32 := 0#32
  let v770 : BitVec 1 := Scalar.cmpi .slt v766 c0_i32_382
  let v771 : BitVec 1 := Scalar.xori v769 v770
  let c0_i32_380 : BitVec 32 := 0#32
  let v768 : BitVec 1 := Scalar.cmpi .ne v767 c0_i32_380
  let v772 : BitVec 1 := Scalar.andi v771 v768
  let v773 : BitVec 32 := Scalar.addi v767 v766
  let v774 : BitVec 32 := Scalar.select v772 v773 v767
  let c4_i32_389 : BitVec 32 := 4#32
  let c2_i32_383 : BitVec 32 := 2#32
  let c0_i32_384 : BitVec 32 := 0#32
  let v775 : BitVec 1 := Scalar.cmpi .eq c2_i32_383 c0_i32_384
  let c1_i32_385 : BitVec 32 := 1#32
  let v776 : BitVec 32 := Scalar.select v775 c1_i32_385 c2_i32_383
  let v777 : BitVec 32 := Scalar.remsi v764 v776
  let c0_i32_387 : BitVec 32 := 0#32
  let v779 : BitVec 1 := Scalar.cmpi .slt v777 c0_i32_387
  let c0_i32_388 : BitVec 32 := 0#32
  let v780 : BitVec 1 := Scalar.cmpi .slt v776 c0_i32_388
  let v781 : BitVec 1 := Scalar.xori v779 v780
  let c0_i32_386 : BitVec 32 := 0#32
  let v778 : BitVec 1 := Scalar.cmpi .ne v777 c0_i32_386
  let v782 : BitVec 1 := Scalar.andi v781 v778
  let v783 : BitVec 32 := Scalar.addi v777 v776
  let v784 : BitVec 32 := Scalar.select v782 v783 v777
  let v785 : BitVec 32 := Scalar.muli c4_i32_389 v784
  let v786 : BitVec 32 := Scalar.addi v774 v785
  let v824 : BitVec 32 := Scalar.addi v823 v786
  let c1_i32_1319 : BitVec 32 := 1#32
  let v1891 : BitVec 32 := Scalar.muli v824 c1_i32_1319
  let v1892 : BitVec 32 := Scalar.addi c0_i32_1320 v1891
  v1892.toNat
def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c192_i32_1350 : BitVec 32 := 192#32
  let v1927 : BitVec 32 := Scalar.muli v51 c192_i32_1350
  let v1928 : Index := Scalar.indexCast v1927
  let c768_1351 : Index := 768#32
  ![v1928.toNat, 768]
def k0_off16 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c192_i32_1352 : BitVec 32 := 192#32
  let v1930 : BitVec 32 := Scalar.muli v51 c192_i32_1352
  let c768_i32_1358 : BitVec 32 := 768#32
  ![v1930.toNat, 768]
def k0_dev44 (d0 : Dev nD) : Nat :=
  let c0_i32_1357 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c1_i32_50 : BitVec 32 := 1#32
  let v115 : BitVec 32 := Scalar.addi v51 c1_i32_50
  let c8_i32_51 : BitVec 32 := 8#32
  let c0_i32_52 : BitVec 32 := 0#32
  let v116 : BitVec 1 := Scalar.cmpi .eq c8_i32_51 c0_i32_52
  let c1_i32_53 : BitVec 32 := 1#32
  let v117 : BitVec 32 := Scalar.select v116 c1_i32_53 c8_i32_51
  let v118 : BitVec 32 := Scalar.remsi v115 v117
  let c0_i32_55 : BitVec 32 := 0#32
  let v120 : BitVec 1 := Scalar.cmpi .slt v118 c0_i32_55
  let c0_i32_56 : BitVec 32 := 0#32
  let v121 : BitVec 1 := Scalar.cmpi .slt v117 c0_i32_56
  let v122 : BitVec 1 := Scalar.xori v120 v121
  let c0_i32_54 : BitVec 32 := 0#32
  let v119 : BitVec 1 := Scalar.cmpi .ne v118 c0_i32_54
  let v123 : BitVec 1 := Scalar.andi v122 v119
  let v124 : BitVec 32 := Scalar.addi v118 v117
  let v125 : BitVec 32 := Scalar.select v123 v124 v118
  let c0_i32_71 : BitVec 32 := 0#32
  let v149 : BitVec 1 := Scalar.cmpi .sgt v125 c0_i32_71
  let v150 : BitVec 32 := Scalar.extui v149
  let c0_i32_72 : BitVec 32 := 0#32
  let v151 : BitVec 1 := Scalar.cmpi .slt v125 c0_i32_72
  let v152 : BitVec 32 := Scalar.extui v151
  let v153 : BitVec 32 := Scalar.subi v150 v152
  let c4_i32_70 : BitVec 32 := 4#32
  let c0_i32_73 : BitVec 32 := 0#32
  let v154 : BitVec 1 := Scalar.cmpi .sgt c4_i32_70 c0_i32_73
  let v155 : BitVec 32 := Scalar.extui v154
  let c0_i32_74 : BitVec 32 := 0#32
  let v156 : BitVec 1 := Scalar.cmpi .slt c4_i32_70 c0_i32_74
  let v157 : BitVec 32 := Scalar.extui v156
  let v158 : BitVec 32 := Scalar.subi v155 v157
  let v159 : BitVec 1 := Scalar.cmpi .ne v153 v158
  let v160 : BitVec 32 := Scalar.remsi v125 c4_i32_70
  let c0_i32_75 : BitVec 32 := 0#32
  let v161 : BitVec 1 := Scalar.cmpi .ne v160 c0_i32_75
  let v162 : BitVec 1 := Scalar.andi v159 v161
  let v148 : BitVec 32 := Scalar.divsi v125 c4_i32_70
  let c1_i32_76 : BitVec 32 := 1#32
  let v163 : BitVec 32 := Scalar.subi v148 c1_i32_76
  let v164 : BitVec 32 := Scalar.select v162 v163 v148
  let c2_i32_84 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_78 : BitVec 32 := 0#32
  let v166 : BitVec 1 := Scalar.cmpi .sgt v114 c0_i32_78
  let v167 : BitVec 32 := Scalar.extui v166
  let c0_i32_79 : BitVec 32 := 0#32
  let v168 : BitVec 1 := Scalar.cmpi .slt v114 c0_i32_79
  let v169 : BitVec 32 := Scalar.extui v168
  let v170 : BitVec 32 := Scalar.subi v167 v169
  let c2_i32_77 : BitVec 32 := 2#32
  let c0_i32_80 : BitVec 32 := 0#32
  let v171 : BitVec 1 := Scalar.cmpi .sgt c2_i32_77 c0_i32_80
  let v172 : BitVec 32 := Scalar.extui v171
  let c0_i32_81 : BitVec 32 := 0#32
  let v173 : BitVec 1 := Scalar.cmpi .slt c2_i32_77 c0_i32_81
  let v174 : BitVec 32 := Scalar.extui v173
  let v175 : BitVec 32 := Scalar.subi v172 v174
  let v176 : BitVec 1 := Scalar.cmpi .ne v170 v175
  let v177 : BitVec 32 := Scalar.remsi v114 c2_i32_77
  let c0_i32_82 : BitVec 32 := 0#32
  let v178 : BitVec 1 := Scalar.cmpi .ne v177 c0_i32_82
  let v179 : BitVec 1 := Scalar.andi v176 v178
  let v165 : BitVec 32 := Scalar.divsi v114 c2_i32_77
  let c1_i32_83 : BitVec 32 := 1#32
  let v180 : BitVec 32 := Scalar.subi v165 c1_i32_83
  let v181 : BitVec 32 := Scalar.select v179 v180 v165
  let v182 : BitVec 32 := Scalar.muli c2_i32_84 v181
  let v183 : BitVec 32 := Scalar.addi v164 v182
  let v184 : BitVec 32 := Scalar.muli c8_i32_85 v183
  let c4_i32_57 : BitVec 32 := 4#32
  let c0_i32_58 : BitVec 32 := 0#32
  let v126 : BitVec 1 := Scalar.cmpi .eq c4_i32_57 c0_i32_58
  let c1_i32_59 : BitVec 32 := 1#32
  let v127 : BitVec 32 := Scalar.select v126 c1_i32_59 c4_i32_57
  let v128 : BitVec 32 := Scalar.remsi v125 v127
  let c0_i32_61 : BitVec 32 := 0#32
  let v130 : BitVec 1 := Scalar.cmpi .slt v128 c0_i32_61
  let c0_i32_62 : BitVec 32 := 0#32
  let v131 : BitVec 1 := Scalar.cmpi .slt v127 c0_i32_62
  let v132 : BitVec 1 := Scalar.xori v130 v131
  let c0_i32_60 : BitVec 32 := 0#32
  let v129 : BitVec 1 := Scalar.cmpi .ne v128 c0_i32_60
  let v133 : BitVec 1 := Scalar.andi v132 v129
  let v134 : BitVec 32 := Scalar.addi v128 v127
  let v135 : BitVec 32 := Scalar.select v133 v134 v128
  let c4_i32_69 : BitVec 32 := 4#32
  let c2_i32_63 : BitVec 32 := 2#32
  let c0_i32_64 : BitVec 32 := 0#32
  let v136 : BitVec 1 := Scalar.cmpi .eq c2_i32_63 c0_i32_64
  let c1_i32_65 : BitVec 32 := 1#32
  let v137 : BitVec 32 := Scalar.select v136 c1_i32_65 c2_i32_63
  let v138 : BitVec 32 := Scalar.remsi v114 v137
  let c0_i32_67 : BitVec 32 := 0#32
  let v140 : BitVec 1 := Scalar.cmpi .slt v138 c0_i32_67
  let c0_i32_68 : BitVec 32 := 0#32
  let v141 : BitVec 1 := Scalar.cmpi .slt v137 c0_i32_68
  let v142 : BitVec 1 := Scalar.xori v140 v141
  let c0_i32_66 : BitVec 32 := 0#32
  let v139 : BitVec 1 := Scalar.cmpi .ne v138 c0_i32_66
  let v143 : BitVec 1 := Scalar.andi v142 v139
  let v144 : BitVec 32 := Scalar.addi v138 v137
  let v145 : BitVec 32 := Scalar.select v143 v144 v138
  let v146 : BitVec 32 := Scalar.muli c4_i32_69 v145
  let v147 : BitVec 32 := Scalar.addi v135 v146
  let v185 : BitVec 32 := Scalar.addi v184 v147
  let c1_i32_1356 : BitVec 32 := 1#32
  let v1931 : BitVec 32 := Scalar.muli v185 c1_i32_1356
  let v1932 : BitVec 32 := Scalar.addi c0_i32_1357 v1931
  v1932.toNat
def k0_dev45 (d0 : Dev nD) : Nat :=
  let c0_i32_1366 : BitVec 32 := 0#32
  let c8_i32_121 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c2_i32_86 : BitVec 32 := 2#32
  let v186 : BitVec 32 := Scalar.addi v51 c2_i32_86
  let c8_i32_87 : BitVec 32 := 8#32
  let c0_i32_88 : BitVec 32 := 0#32
  let v187 : BitVec 1 := Scalar.cmpi .eq c8_i32_87 c0_i32_88
  let c1_i32_89 : BitVec 32 := 1#32
  let v188 : BitVec 32 := Scalar.select v187 c1_i32_89 c8_i32_87
  let v189 : BitVec 32 := Scalar.remsi v186 v188
  let c0_i32_91 : BitVec 32 := 0#32
  let v191 : BitVec 1 := Scalar.cmpi .slt v189 c0_i32_91
  let c0_i32_92 : BitVec 32 := 0#32
  let v192 : BitVec 1 := Scalar.cmpi .slt v188 c0_i32_92
  let v193 : BitVec 1 := Scalar.xori v191 v192
  let c0_i32_90 : BitVec 32 := 0#32
  let v190 : BitVec 1 := Scalar.cmpi .ne v189 c0_i32_90
  let v194 : BitVec 1 := Scalar.andi v193 v190
  let v195 : BitVec 32 := Scalar.addi v189 v188
  let v196 : BitVec 32 := Scalar.select v194 v195 v189
  let c0_i32_107 : BitVec 32 := 0#32
  let v220 : BitVec 1 := Scalar.cmpi .sgt v196 c0_i32_107
  let v221 : BitVec 32 := Scalar.extui v220
  let c0_i32_108 : BitVec 32 := 0#32
  let v222 : BitVec 1 := Scalar.cmpi .slt v196 c0_i32_108
  let v223 : BitVec 32 := Scalar.extui v222
  let v224 : BitVec 32 := Scalar.subi v221 v223
  let c4_i32_106 : BitVec 32 := 4#32
  let c0_i32_109 : BitVec 32 := 0#32
  let v225 : BitVec 1 := Scalar.cmpi .sgt c4_i32_106 c0_i32_109
  let v226 : BitVec 32 := Scalar.extui v225
  let c0_i32_110 : BitVec 32 := 0#32
  let v227 : BitVec 1 := Scalar.cmpi .slt c4_i32_106 c0_i32_110
  let v228 : BitVec 32 := Scalar.extui v227
  let v229 : BitVec 32 := Scalar.subi v226 v228
  let v230 : BitVec 1 := Scalar.cmpi .ne v224 v229
  let v231 : BitVec 32 := Scalar.remsi v196 c4_i32_106
  let c0_i32_111 : BitVec 32 := 0#32
  let v232 : BitVec 1 := Scalar.cmpi .ne v231 c0_i32_111
  let v233 : BitVec 1 := Scalar.andi v230 v232
  let v219 : BitVec 32 := Scalar.divsi v196 c4_i32_106
  let c1_i32_112 : BitVec 32 := 1#32
  let v234 : BitVec 32 := Scalar.subi v219 c1_i32_112
  let v235 : BitVec 32 := Scalar.select v233 v234 v219
  let c2_i32_120 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_114 : BitVec 32 := 0#32
  let v237 : BitVec 1 := Scalar.cmpi .sgt v114 c0_i32_114
  let v238 : BitVec 32 := Scalar.extui v237
  let c0_i32_115 : BitVec 32 := 0#32
  let v239 : BitVec 1 := Scalar.cmpi .slt v114 c0_i32_115
  let v240 : BitVec 32 := Scalar.extui v239
  let v241 : BitVec 32 := Scalar.subi v238 v240
  let c2_i32_113 : BitVec 32 := 2#32
  let c0_i32_116 : BitVec 32 := 0#32
  let v242 : BitVec 1 := Scalar.cmpi .sgt c2_i32_113 c0_i32_116
  let v243 : BitVec 32 := Scalar.extui v242
  let c0_i32_117 : BitVec 32 := 0#32
  let v244 : BitVec 1 := Scalar.cmpi .slt c2_i32_113 c0_i32_117
  let v245 : BitVec 32 := Scalar.extui v244
  let v246 : BitVec 32 := Scalar.subi v243 v245
  let v247 : BitVec 1 := Scalar.cmpi .ne v241 v246
  let v248 : BitVec 32 := Scalar.remsi v114 c2_i32_113
  let c0_i32_118 : BitVec 32 := 0#32
  let v249 : BitVec 1 := Scalar.cmpi .ne v248 c0_i32_118
  let v250 : BitVec 1 := Scalar.andi v247 v249
  let v236 : BitVec 32 := Scalar.divsi v114 c2_i32_113
  let c1_i32_119 : BitVec 32 := 1#32
  let v251 : BitVec 32 := Scalar.subi v236 c1_i32_119
  let v252 : BitVec 32 := Scalar.select v250 v251 v236
  let v253 : BitVec 32 := Scalar.muli c2_i32_120 v252
  let v254 : BitVec 32 := Scalar.addi v235 v253
  let v255 : BitVec 32 := Scalar.muli c8_i32_121 v254
  let c4_i32_93 : BitVec 32 := 4#32
  let c0_i32_94 : BitVec 32 := 0#32
  let v197 : BitVec 1 := Scalar.cmpi .eq c4_i32_93 c0_i32_94
  let c1_i32_95 : BitVec 32 := 1#32
  let v198 : BitVec 32 := Scalar.select v197 c1_i32_95 c4_i32_93
  let v199 : BitVec 32 := Scalar.remsi v196 v198
  let c0_i32_97 : BitVec 32 := 0#32
  let v201 : BitVec 1 := Scalar.cmpi .slt v199 c0_i32_97
  let c0_i32_98 : BitVec 32 := 0#32
  let v202 : BitVec 1 := Scalar.cmpi .slt v198 c0_i32_98
  let v203 : BitVec 1 := Scalar.xori v201 v202
  let c0_i32_96 : BitVec 32 := 0#32
  let v200 : BitVec 1 := Scalar.cmpi .ne v199 c0_i32_96
  let v204 : BitVec 1 := Scalar.andi v203 v200
  let v205 : BitVec 32 := Scalar.addi v199 v198
  let v206 : BitVec 32 := Scalar.select v204 v205 v199
  let c4_i32_105 : BitVec 32 := 4#32
  let c2_i32_99 : BitVec 32 := 2#32
  let c0_i32_100 : BitVec 32 := 0#32
  let v207 : BitVec 1 := Scalar.cmpi .eq c2_i32_99 c0_i32_100
  let c1_i32_101 : BitVec 32 := 1#32
  let v208 : BitVec 32 := Scalar.select v207 c1_i32_101 c2_i32_99
  let v209 : BitVec 32 := Scalar.remsi v114 v208
  let c0_i32_103 : BitVec 32 := 0#32
  let v211 : BitVec 1 := Scalar.cmpi .slt v209 c0_i32_103
  let c0_i32_104 : BitVec 32 := 0#32
  let v212 : BitVec 1 := Scalar.cmpi .slt v208 c0_i32_104
  let v213 : BitVec 1 := Scalar.xori v211 v212
  let c0_i32_102 : BitVec 32 := 0#32
  let v210 : BitVec 1 := Scalar.cmpi .ne v209 c0_i32_102
  let v214 : BitVec 1 := Scalar.andi v213 v210
  let v215 : BitVec 32 := Scalar.addi v209 v208
  let v216 : BitVec 32 := Scalar.select v214 v215 v209
  let v217 : BitVec 32 := Scalar.muli c4_i32_105 v216
  let v218 : BitVec 32 := Scalar.addi v206 v217
  let v256 : BitVec 32 := Scalar.addi v255 v218
  let c1_i32_1365 : BitVec 32 := 1#32
  let v1941 : BitVec 32 := Scalar.muli v256 c1_i32_1365
  let v1942 : BitVec 32 := Scalar.addi c0_i32_1366 v1941
  v1942.toNat
def k0_dev46 (d0 : Dev nD) : Nat :=
  let c0_i32_1375 : BitVec 32 := 0#32
  let c8_i32_156 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c3_i32 : BitVec 32 := 3#32
  let v257 : BitVec 32 := Scalar.addi v51 c3_i32
  let c8_i32_122 : BitVec 32 := 8#32
  let c0_i32_123 : BitVec 32 := 0#32
  let v258 : BitVec 1 := Scalar.cmpi .eq c8_i32_122 c0_i32_123
  let c1_i32_124 : BitVec 32 := 1#32
  let v259 : BitVec 32 := Scalar.select v258 c1_i32_124 c8_i32_122
  let v260 : BitVec 32 := Scalar.remsi v257 v259
  let c0_i32_126 : BitVec 32 := 0#32
  let v262 : BitVec 1 := Scalar.cmpi .slt v260 c0_i32_126
  let c0_i32_127 : BitVec 32 := 0#32
  let v263 : BitVec 1 := Scalar.cmpi .slt v259 c0_i32_127
  let v264 : BitVec 1 := Scalar.xori v262 v263
  let c0_i32_125 : BitVec 32 := 0#32
  let v261 : BitVec 1 := Scalar.cmpi .ne v260 c0_i32_125
  let v265 : BitVec 1 := Scalar.andi v264 v261
  let v266 : BitVec 32 := Scalar.addi v260 v259
  let v267 : BitVec 32 := Scalar.select v265 v266 v260
  let c0_i32_142 : BitVec 32 := 0#32
  let v291 : BitVec 1 := Scalar.cmpi .sgt v267 c0_i32_142
  let v292 : BitVec 32 := Scalar.extui v291
  let c0_i32_143 : BitVec 32 := 0#32
  let v293 : BitVec 1 := Scalar.cmpi .slt v267 c0_i32_143
  let v294 : BitVec 32 := Scalar.extui v293
  let v295 : BitVec 32 := Scalar.subi v292 v294
  let c4_i32_141 : BitVec 32 := 4#32
  let c0_i32_144 : BitVec 32 := 0#32
  let v296 : BitVec 1 := Scalar.cmpi .sgt c4_i32_141 c0_i32_144
  let v297 : BitVec 32 := Scalar.extui v296
  let c0_i32_145 : BitVec 32 := 0#32
  let v298 : BitVec 1 := Scalar.cmpi .slt c4_i32_141 c0_i32_145
  let v299 : BitVec 32 := Scalar.extui v298
  let v300 : BitVec 32 := Scalar.subi v297 v299
  let v301 : BitVec 1 := Scalar.cmpi .ne v295 v300
  let v302 : BitVec 32 := Scalar.remsi v267 c4_i32_141
  let c0_i32_146 : BitVec 32 := 0#32
  let v303 : BitVec 1 := Scalar.cmpi .ne v302 c0_i32_146
  let v304 : BitVec 1 := Scalar.andi v301 v303
  let v290 : BitVec 32 := Scalar.divsi v267 c4_i32_141
  let c1_i32_147 : BitVec 32 := 1#32
  let v305 : BitVec 32 := Scalar.subi v290 c1_i32_147
  let v306 : BitVec 32 := Scalar.select v304 v305 v290
  let c2_i32_155 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_149 : BitVec 32 := 0#32
  let v308 : BitVec 1 := Scalar.cmpi .sgt v114 c0_i32_149
  let v309 : BitVec 32 := Scalar.extui v308
  let c0_i32_150 : BitVec 32 := 0#32
  let v310 : BitVec 1 := Scalar.cmpi .slt v114 c0_i32_150
  let v311 : BitVec 32 := Scalar.extui v310
  let v312 : BitVec 32 := Scalar.subi v309 v311
  let c2_i32_148 : BitVec 32 := 2#32
  let c0_i32_151 : BitVec 32 := 0#32
  let v313 : BitVec 1 := Scalar.cmpi .sgt c2_i32_148 c0_i32_151
  let v314 : BitVec 32 := Scalar.extui v313
  let c0_i32_152 : BitVec 32 := 0#32
  let v315 : BitVec 1 := Scalar.cmpi .slt c2_i32_148 c0_i32_152
  let v316 : BitVec 32 := Scalar.extui v315
  let v317 : BitVec 32 := Scalar.subi v314 v316
  let v318 : BitVec 1 := Scalar.cmpi .ne v312 v317
  let v319 : BitVec 32 := Scalar.remsi v114 c2_i32_148
  let c0_i32_153 : BitVec 32 := 0#32
  let v320 : BitVec 1 := Scalar.cmpi .ne v319 c0_i32_153
  let v321 : BitVec 1 := Scalar.andi v318 v320
  let v307 : BitVec 32 := Scalar.divsi v114 c2_i32_148
  let c1_i32_154 : BitVec 32 := 1#32
  let v322 : BitVec 32 := Scalar.subi v307 c1_i32_154
  let v323 : BitVec 32 := Scalar.select v321 v322 v307
  let v324 : BitVec 32 := Scalar.muli c2_i32_155 v323
  let v325 : BitVec 32 := Scalar.addi v306 v324
  let v326 : BitVec 32 := Scalar.muli c8_i32_156 v325
  let c4_i32_128 : BitVec 32 := 4#32
  let c0_i32_129 : BitVec 32 := 0#32
  let v268 : BitVec 1 := Scalar.cmpi .eq c4_i32_128 c0_i32_129
  let c1_i32_130 : BitVec 32 := 1#32
  let v269 : BitVec 32 := Scalar.select v268 c1_i32_130 c4_i32_128
  let v270 : BitVec 32 := Scalar.remsi v267 v269
  let c0_i32_132 : BitVec 32 := 0#32
  let v272 : BitVec 1 := Scalar.cmpi .slt v270 c0_i32_132
  let c0_i32_133 : BitVec 32 := 0#32
  let v273 : BitVec 1 := Scalar.cmpi .slt v269 c0_i32_133
  let v274 : BitVec 1 := Scalar.xori v272 v273
  let c0_i32_131 : BitVec 32 := 0#32
  let v271 : BitVec 1 := Scalar.cmpi .ne v270 c0_i32_131
  let v275 : BitVec 1 := Scalar.andi v274 v271
  let v276 : BitVec 32 := Scalar.addi v270 v269
  let v277 : BitVec 32 := Scalar.select v275 v276 v270
  let c4_i32_140 : BitVec 32 := 4#32
  let c2_i32_134 : BitVec 32 := 2#32
  let c0_i32_135 : BitVec 32 := 0#32
  let v278 : BitVec 1 := Scalar.cmpi .eq c2_i32_134 c0_i32_135
  let c1_i32_136 : BitVec 32 := 1#32
  let v279 : BitVec 32 := Scalar.select v278 c1_i32_136 c2_i32_134
  let v280 : BitVec 32 := Scalar.remsi v114 v279
  let c0_i32_138 : BitVec 32 := 0#32
  let v282 : BitVec 1 := Scalar.cmpi .slt v280 c0_i32_138
  let c0_i32_139 : BitVec 32 := 0#32
  let v283 : BitVec 1 := Scalar.cmpi .slt v279 c0_i32_139
  let v284 : BitVec 1 := Scalar.xori v282 v283
  let c0_i32_137 : BitVec 32 := 0#32
  let v281 : BitVec 1 := Scalar.cmpi .ne v280 c0_i32_137
  let v285 : BitVec 1 := Scalar.andi v284 v281
  let v286 : BitVec 32 := Scalar.addi v280 v279
  let v287 : BitVec 32 := Scalar.select v285 v286 v280
  let v288 : BitVec 32 := Scalar.muli c4_i32_140 v287
  let v289 : BitVec 32 := Scalar.addi v277 v288
  let v327 : BitVec 32 := Scalar.addi v326 v289
  let c1_i32_1374 : BitVec 32 := 1#32
  let v1951 : BitVec 32 := Scalar.muli v327 c1_i32_1374
  let v1952 : BitVec 32 := Scalar.addi c0_i32_1375 v1951
  v1952.toNat
def k0_dev47 (d0 : Dev nD) : Nat :=
  let c0_i32_1384 : BitVec 32 := 0#32
  let c8_i32_192 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c4_i32_157 : BitVec 32 := 4#32
  let v328 : BitVec 32 := Scalar.addi v51 c4_i32_157
  let c8_i32_158 : BitVec 32 := 8#32
  let c0_i32_159 : BitVec 32 := 0#32
  let v329 : BitVec 1 := Scalar.cmpi .eq c8_i32_158 c0_i32_159
  let c1_i32_160 : BitVec 32 := 1#32
  let v330 : BitVec 32 := Scalar.select v329 c1_i32_160 c8_i32_158
  let v331 : BitVec 32 := Scalar.remsi v328 v330
  let c0_i32_162 : BitVec 32 := 0#32
  let v333 : BitVec 1 := Scalar.cmpi .slt v331 c0_i32_162
  let c0_i32_163 : BitVec 32 := 0#32
  let v334 : BitVec 1 := Scalar.cmpi .slt v330 c0_i32_163
  let v335 : BitVec 1 := Scalar.xori v333 v334
  let c0_i32_161 : BitVec 32 := 0#32
  let v332 : BitVec 1 := Scalar.cmpi .ne v331 c0_i32_161
  let v336 : BitVec 1 := Scalar.andi v335 v332
  let v337 : BitVec 32 := Scalar.addi v331 v330
  let v338 : BitVec 32 := Scalar.select v336 v337 v331
  let c0_i32_178 : BitVec 32 := 0#32
  let v362 : BitVec 1 := Scalar.cmpi .sgt v338 c0_i32_178
  let v363 : BitVec 32 := Scalar.extui v362
  let c0_i32_179 : BitVec 32 := 0#32
  let v364 : BitVec 1 := Scalar.cmpi .slt v338 c0_i32_179
  let v365 : BitVec 32 := Scalar.extui v364
  let v366 : BitVec 32 := Scalar.subi v363 v365
  let c4_i32_177 : BitVec 32 := 4#32
  let c0_i32_180 : BitVec 32 := 0#32
  let v367 : BitVec 1 := Scalar.cmpi .sgt c4_i32_177 c0_i32_180
  let v368 : BitVec 32 := Scalar.extui v367
  let c0_i32_181 : BitVec 32 := 0#32
  let v369 : BitVec 1 := Scalar.cmpi .slt c4_i32_177 c0_i32_181
  let v370 : BitVec 32 := Scalar.extui v369
  let v371 : BitVec 32 := Scalar.subi v368 v370
  let v372 : BitVec 1 := Scalar.cmpi .ne v366 v371
  let v373 : BitVec 32 := Scalar.remsi v338 c4_i32_177
  let c0_i32_182 : BitVec 32 := 0#32
  let v374 : BitVec 1 := Scalar.cmpi .ne v373 c0_i32_182
  let v375 : BitVec 1 := Scalar.andi v372 v374
  let v361 : BitVec 32 := Scalar.divsi v338 c4_i32_177
  let c1_i32_183 : BitVec 32 := 1#32
  let v376 : BitVec 32 := Scalar.subi v361 c1_i32_183
  let v377 : BitVec 32 := Scalar.select v375 v376 v361
  let c2_i32_191 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_185 : BitVec 32 := 0#32
  let v379 : BitVec 1 := Scalar.cmpi .sgt v114 c0_i32_185
  let v380 : BitVec 32 := Scalar.extui v379
  let c0_i32_186 : BitVec 32 := 0#32
  let v381 : BitVec 1 := Scalar.cmpi .slt v114 c0_i32_186
  let v382 : BitVec 32 := Scalar.extui v381
  let v383 : BitVec 32 := Scalar.subi v380 v382
  let c2_i32_184 : BitVec 32 := 2#32
  let c0_i32_187 : BitVec 32 := 0#32
  let v384 : BitVec 1 := Scalar.cmpi .sgt c2_i32_184 c0_i32_187
  let v385 : BitVec 32 := Scalar.extui v384
  let c0_i32_188 : BitVec 32 := 0#32
  let v386 : BitVec 1 := Scalar.cmpi .slt c2_i32_184 c0_i32_188
  let v387 : BitVec 32 := Scalar.extui v386
  let v388 : BitVec 32 := Scalar.subi v385 v387
  let v389 : BitVec 1 := Scalar.cmpi .ne v383 v388
  let v390 : BitVec 32 := Scalar.remsi v114 c2_i32_184
  let c0_i32_189 : BitVec 32 := 0#32
  let v391 : BitVec 1 := Scalar.cmpi .ne v390 c0_i32_189
  let v392 : BitVec 1 := Scalar.andi v389 v391
  let v378 : BitVec 32 := Scalar.divsi v114 c2_i32_184
  let c1_i32_190 : BitVec 32 := 1#32
  let v393 : BitVec 32 := Scalar.subi v378 c1_i32_190
  let v394 : BitVec 32 := Scalar.select v392 v393 v378
  let v395 : BitVec 32 := Scalar.muli c2_i32_191 v394
  let v396 : BitVec 32 := Scalar.addi v377 v395
  let v397 : BitVec 32 := Scalar.muli c8_i32_192 v396
  let c4_i32_164 : BitVec 32 := 4#32
  let c0_i32_165 : BitVec 32 := 0#32
  let v339 : BitVec 1 := Scalar.cmpi .eq c4_i32_164 c0_i32_165
  let c1_i32_166 : BitVec 32 := 1#32
  let v340 : BitVec 32 := Scalar.select v339 c1_i32_166 c4_i32_164
  let v341 : BitVec 32 := Scalar.remsi v338 v340
  let c0_i32_168 : BitVec 32 := 0#32
  let v343 : BitVec 1 := Scalar.cmpi .slt v341 c0_i32_168
  let c0_i32_169 : BitVec 32 := 0#32
  let v344 : BitVec 1 := Scalar.cmpi .slt v340 c0_i32_169
  let v345 : BitVec 1 := Scalar.xori v343 v344
  let c0_i32_167 : BitVec 32 := 0#32
  let v342 : BitVec 1 := Scalar.cmpi .ne v341 c0_i32_167
  let v346 : BitVec 1 := Scalar.andi v345 v342
  let v347 : BitVec 32 := Scalar.addi v341 v340
  let v348 : BitVec 32 := Scalar.select v346 v347 v341
  let c4_i32_176 : BitVec 32 := 4#32
  let c2_i32_170 : BitVec 32 := 2#32
  let c0_i32_171 : BitVec 32 := 0#32
  let v349 : BitVec 1 := Scalar.cmpi .eq c2_i32_170 c0_i32_171
  let c1_i32_172 : BitVec 32 := 1#32
  let v350 : BitVec 32 := Scalar.select v349 c1_i32_172 c2_i32_170
  let v351 : BitVec 32 := Scalar.remsi v114 v350
  let c0_i32_174 : BitVec 32 := 0#32
  let v353 : BitVec 1 := Scalar.cmpi .slt v351 c0_i32_174
  let c0_i32_175 : BitVec 32 := 0#32
  let v354 : BitVec 1 := Scalar.cmpi .slt v350 c0_i32_175
  let v355 : BitVec 1 := Scalar.xori v353 v354
  let c0_i32_173 : BitVec 32 := 0#32
  let v352 : BitVec 1 := Scalar.cmpi .ne v351 c0_i32_173
  let v356 : BitVec 1 := Scalar.andi v355 v352
  let v357 : BitVec 32 := Scalar.addi v351 v350
  let v358 : BitVec 32 := Scalar.select v356 v357 v351
  let v359 : BitVec 32 := Scalar.muli c4_i32_176 v358
  let v360 : BitVec 32 := Scalar.addi v348 v359
  let v398 : BitVec 32 := Scalar.addi v397 v360
  let c1_i32_1383 : BitVec 32 := 1#32
  let v1961 : BitVec 32 := Scalar.muli v398 c1_i32_1383
  let v1962 : BitVec 32 := Scalar.addi c0_i32_1384 v1961
  v1962.toNat
def k0_dev48 (d0 : Dev nD) : Nat :=
  let c0_i32_1393 : BitVec 32 := 0#32
  let c8_i32_227 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c5_i32 : BitVec 32 := 5#32
  let v399 : BitVec 32 := Scalar.addi v51 c5_i32
  let c8_i32_193 : BitVec 32 := 8#32
  let c0_i32_194 : BitVec 32 := 0#32
  let v400 : BitVec 1 := Scalar.cmpi .eq c8_i32_193 c0_i32_194
  let c1_i32_195 : BitVec 32 := 1#32
  let v401 : BitVec 32 := Scalar.select v400 c1_i32_195 c8_i32_193
  let v402 : BitVec 32 := Scalar.remsi v399 v401
  let c0_i32_197 : BitVec 32 := 0#32
  let v404 : BitVec 1 := Scalar.cmpi .slt v402 c0_i32_197
  let c0_i32_198 : BitVec 32 := 0#32
  let v405 : BitVec 1 := Scalar.cmpi .slt v401 c0_i32_198
  let v406 : BitVec 1 := Scalar.xori v404 v405
  let c0_i32_196 : BitVec 32 := 0#32
  let v403 : BitVec 1 := Scalar.cmpi .ne v402 c0_i32_196
  let v407 : BitVec 1 := Scalar.andi v406 v403
  let v408 : BitVec 32 := Scalar.addi v402 v401
  let v409 : BitVec 32 := Scalar.select v407 v408 v402
  let c0_i32_213 : BitVec 32 := 0#32
  let v433 : BitVec 1 := Scalar.cmpi .sgt v409 c0_i32_213
  let v434 : BitVec 32 := Scalar.extui v433
  let c0_i32_214 : BitVec 32 := 0#32
  let v435 : BitVec 1 := Scalar.cmpi .slt v409 c0_i32_214
  let v436 : BitVec 32 := Scalar.extui v435
  let v437 : BitVec 32 := Scalar.subi v434 v436
  let c4_i32_212 : BitVec 32 := 4#32
  let c0_i32_215 : BitVec 32 := 0#32
  let v438 : BitVec 1 := Scalar.cmpi .sgt c4_i32_212 c0_i32_215
  let v439 : BitVec 32 := Scalar.extui v438
  let c0_i32_216 : BitVec 32 := 0#32
  let v440 : BitVec 1 := Scalar.cmpi .slt c4_i32_212 c0_i32_216
  let v441 : BitVec 32 := Scalar.extui v440
  let v442 : BitVec 32 := Scalar.subi v439 v441
  let v443 : BitVec 1 := Scalar.cmpi .ne v437 v442
  let v444 : BitVec 32 := Scalar.remsi v409 c4_i32_212
  let c0_i32_217 : BitVec 32 := 0#32
  let v445 : BitVec 1 := Scalar.cmpi .ne v444 c0_i32_217
  let v446 : BitVec 1 := Scalar.andi v443 v445
  let v432 : BitVec 32 := Scalar.divsi v409 c4_i32_212
  let c1_i32_218 : BitVec 32 := 1#32
  let v447 : BitVec 32 := Scalar.subi v432 c1_i32_218
  let v448 : BitVec 32 := Scalar.select v446 v447 v432
  let c2_i32_226 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_220 : BitVec 32 := 0#32
  let v450 : BitVec 1 := Scalar.cmpi .sgt v114 c0_i32_220
  let v451 : BitVec 32 := Scalar.extui v450
  let c0_i32_221 : BitVec 32 := 0#32
  let v452 : BitVec 1 := Scalar.cmpi .slt v114 c0_i32_221
  let v453 : BitVec 32 := Scalar.extui v452
  let v454 : BitVec 32 := Scalar.subi v451 v453
  let c2_i32_219 : BitVec 32 := 2#32
  let c0_i32_222 : BitVec 32 := 0#32
  let v455 : BitVec 1 := Scalar.cmpi .sgt c2_i32_219 c0_i32_222
  let v456 : BitVec 32 := Scalar.extui v455
  let c0_i32_223 : BitVec 32 := 0#32
  let v457 : BitVec 1 := Scalar.cmpi .slt c2_i32_219 c0_i32_223
  let v458 : BitVec 32 := Scalar.extui v457
  let v459 : BitVec 32 := Scalar.subi v456 v458
  let v460 : BitVec 1 := Scalar.cmpi .ne v454 v459
  let v461 : BitVec 32 := Scalar.remsi v114 c2_i32_219
  let c0_i32_224 : BitVec 32 := 0#32
  let v462 : BitVec 1 := Scalar.cmpi .ne v461 c0_i32_224
  let v463 : BitVec 1 := Scalar.andi v460 v462
  let v449 : BitVec 32 := Scalar.divsi v114 c2_i32_219
  let c1_i32_225 : BitVec 32 := 1#32
  let v464 : BitVec 32 := Scalar.subi v449 c1_i32_225
  let v465 : BitVec 32 := Scalar.select v463 v464 v449
  let v466 : BitVec 32 := Scalar.muli c2_i32_226 v465
  let v467 : BitVec 32 := Scalar.addi v448 v466
  let v468 : BitVec 32 := Scalar.muli c8_i32_227 v467
  let c4_i32_199 : BitVec 32 := 4#32
  let c0_i32_200 : BitVec 32 := 0#32
  let v410 : BitVec 1 := Scalar.cmpi .eq c4_i32_199 c0_i32_200
  let c1_i32_201 : BitVec 32 := 1#32
  let v411 : BitVec 32 := Scalar.select v410 c1_i32_201 c4_i32_199
  let v412 : BitVec 32 := Scalar.remsi v409 v411
  let c0_i32_203 : BitVec 32 := 0#32
  let v414 : BitVec 1 := Scalar.cmpi .slt v412 c0_i32_203
  let c0_i32_204 : BitVec 32 := 0#32
  let v415 : BitVec 1 := Scalar.cmpi .slt v411 c0_i32_204
  let v416 : BitVec 1 := Scalar.xori v414 v415
  let c0_i32_202 : BitVec 32 := 0#32
  let v413 : BitVec 1 := Scalar.cmpi .ne v412 c0_i32_202
  let v417 : BitVec 1 := Scalar.andi v416 v413
  let v418 : BitVec 32 := Scalar.addi v412 v411
  let v419 : BitVec 32 := Scalar.select v417 v418 v412
  let c4_i32_211 : BitVec 32 := 4#32
  let c2_i32_205 : BitVec 32 := 2#32
  let c0_i32_206 : BitVec 32 := 0#32
  let v420 : BitVec 1 := Scalar.cmpi .eq c2_i32_205 c0_i32_206
  let c1_i32_207 : BitVec 32 := 1#32
  let v421 : BitVec 32 := Scalar.select v420 c1_i32_207 c2_i32_205
  let v422 : BitVec 32 := Scalar.remsi v114 v421
  let c0_i32_209 : BitVec 32 := 0#32
  let v424 : BitVec 1 := Scalar.cmpi .slt v422 c0_i32_209
  let c0_i32_210 : BitVec 32 := 0#32
  let v425 : BitVec 1 := Scalar.cmpi .slt v421 c0_i32_210
  let v426 : BitVec 1 := Scalar.xori v424 v425
  let c0_i32_208 : BitVec 32 := 0#32
  let v423 : BitVec 1 := Scalar.cmpi .ne v422 c0_i32_208
  let v427 : BitVec 1 := Scalar.andi v426 v423
  let v428 : BitVec 32 := Scalar.addi v422 v421
  let v429 : BitVec 32 := Scalar.select v427 v428 v422
  let v430 : BitVec 32 := Scalar.muli c4_i32_211 v429
  let v431 : BitVec 32 := Scalar.addi v419 v430
  let v469 : BitVec 32 := Scalar.addi v468 v431
  let c1_i32_1392 : BitVec 32 := 1#32
  let v1971 : BitVec 32 := Scalar.muli v469 c1_i32_1392
  let v1972 : BitVec 32 := Scalar.addi c0_i32_1393 v1971
  v1972.toNat
def k0_dev49 (d0 : Dev nD) : Nat :=
  let c0_i32_1402 : BitVec 32 := 0#32
  let c8_i32_262 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c6_i32 : BitVec 32 := 6#32
  let v470 : BitVec 32 := Scalar.addi v51 c6_i32
  let c8_i32_228 : BitVec 32 := 8#32
  let c0_i32_229 : BitVec 32 := 0#32
  let v471 : BitVec 1 := Scalar.cmpi .eq c8_i32_228 c0_i32_229
  let c1_i32_230 : BitVec 32 := 1#32
  let v472 : BitVec 32 := Scalar.select v471 c1_i32_230 c8_i32_228
  let v473 : BitVec 32 := Scalar.remsi v470 v472
  let c0_i32_232 : BitVec 32 := 0#32
  let v475 : BitVec 1 := Scalar.cmpi .slt v473 c0_i32_232
  let c0_i32_233 : BitVec 32 := 0#32
  let v476 : BitVec 1 := Scalar.cmpi .slt v472 c0_i32_233
  let v477 : BitVec 1 := Scalar.xori v475 v476
  let c0_i32_231 : BitVec 32 := 0#32
  let v474 : BitVec 1 := Scalar.cmpi .ne v473 c0_i32_231
  let v478 : BitVec 1 := Scalar.andi v477 v474
  let v479 : BitVec 32 := Scalar.addi v473 v472
  let v480 : BitVec 32 := Scalar.select v478 v479 v473
  let c0_i32_248 : BitVec 32 := 0#32
  let v504 : BitVec 1 := Scalar.cmpi .sgt v480 c0_i32_248
  let v505 : BitVec 32 := Scalar.extui v504
  let c0_i32_249 : BitVec 32 := 0#32
  let v506 : BitVec 1 := Scalar.cmpi .slt v480 c0_i32_249
  let v507 : BitVec 32 := Scalar.extui v506
  let v508 : BitVec 32 := Scalar.subi v505 v507
  let c4_i32_247 : BitVec 32 := 4#32
  let c0_i32_250 : BitVec 32 := 0#32
  let v509 : BitVec 1 := Scalar.cmpi .sgt c4_i32_247 c0_i32_250
  let v510 : BitVec 32 := Scalar.extui v509
  let c0_i32_251 : BitVec 32 := 0#32
  let v511 : BitVec 1 := Scalar.cmpi .slt c4_i32_247 c0_i32_251
  let v512 : BitVec 32 := Scalar.extui v511
  let v513 : BitVec 32 := Scalar.subi v510 v512
  let v514 : BitVec 1 := Scalar.cmpi .ne v508 v513
  let v515 : BitVec 32 := Scalar.remsi v480 c4_i32_247
  let c0_i32_252 : BitVec 32 := 0#32
  let v516 : BitVec 1 := Scalar.cmpi .ne v515 c0_i32_252
  let v517 : BitVec 1 := Scalar.andi v514 v516
  let v503 : BitVec 32 := Scalar.divsi v480 c4_i32_247
  let c1_i32_253 : BitVec 32 := 1#32
  let v518 : BitVec 32 := Scalar.subi v503 c1_i32_253
  let v519 : BitVec 32 := Scalar.select v517 v518 v503
  let c2_i32_261 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_255 : BitVec 32 := 0#32
  let v521 : BitVec 1 := Scalar.cmpi .sgt v114 c0_i32_255
  let v522 : BitVec 32 := Scalar.extui v521
  let c0_i32_256 : BitVec 32 := 0#32
  let v523 : BitVec 1 := Scalar.cmpi .slt v114 c0_i32_256
  let v524 : BitVec 32 := Scalar.extui v523
  let v525 : BitVec 32 := Scalar.subi v522 v524
  let c2_i32_254 : BitVec 32 := 2#32
  let c0_i32_257 : BitVec 32 := 0#32
  let v526 : BitVec 1 := Scalar.cmpi .sgt c2_i32_254 c0_i32_257
  let v527 : BitVec 32 := Scalar.extui v526
  let c0_i32_258 : BitVec 32 := 0#32
  let v528 : BitVec 1 := Scalar.cmpi .slt c2_i32_254 c0_i32_258
  let v529 : BitVec 32 := Scalar.extui v528
  let v530 : BitVec 32 := Scalar.subi v527 v529
  let v531 : BitVec 1 := Scalar.cmpi .ne v525 v530
  let v532 : BitVec 32 := Scalar.remsi v114 c2_i32_254
  let c0_i32_259 : BitVec 32 := 0#32
  let v533 : BitVec 1 := Scalar.cmpi .ne v532 c0_i32_259
  let v534 : BitVec 1 := Scalar.andi v531 v533
  let v520 : BitVec 32 := Scalar.divsi v114 c2_i32_254
  let c1_i32_260 : BitVec 32 := 1#32
  let v535 : BitVec 32 := Scalar.subi v520 c1_i32_260
  let v536 : BitVec 32 := Scalar.select v534 v535 v520
  let v537 : BitVec 32 := Scalar.muli c2_i32_261 v536
  let v538 : BitVec 32 := Scalar.addi v519 v537
  let v539 : BitVec 32 := Scalar.muli c8_i32_262 v538
  let c4_i32_234 : BitVec 32 := 4#32
  let c0_i32_235 : BitVec 32 := 0#32
  let v481 : BitVec 1 := Scalar.cmpi .eq c4_i32_234 c0_i32_235
  let c1_i32_236 : BitVec 32 := 1#32
  let v482 : BitVec 32 := Scalar.select v481 c1_i32_236 c4_i32_234
  let v483 : BitVec 32 := Scalar.remsi v480 v482
  let c0_i32_238 : BitVec 32 := 0#32
  let v485 : BitVec 1 := Scalar.cmpi .slt v483 c0_i32_238
  let c0_i32_239 : BitVec 32 := 0#32
  let v486 : BitVec 1 := Scalar.cmpi .slt v482 c0_i32_239
  let v487 : BitVec 1 := Scalar.xori v485 v486
  let c0_i32_237 : BitVec 32 := 0#32
  let v484 : BitVec 1 := Scalar.cmpi .ne v483 c0_i32_237
  let v488 : BitVec 1 := Scalar.andi v487 v484
  let v489 : BitVec 32 := Scalar.addi v483 v482
  let v490 : BitVec 32 := Scalar.select v488 v489 v483
  let c4_i32_246 : BitVec 32 := 4#32
  let c2_i32_240 : BitVec 32 := 2#32
  let c0_i32_241 : BitVec 32 := 0#32
  let v491 : BitVec 1 := Scalar.cmpi .eq c2_i32_240 c0_i32_241
  let c1_i32_242 : BitVec 32 := 1#32
  let v492 : BitVec 32 := Scalar.select v491 c1_i32_242 c2_i32_240
  let v493 : BitVec 32 := Scalar.remsi v114 v492
  let c0_i32_244 : BitVec 32 := 0#32
  let v495 : BitVec 1 := Scalar.cmpi .slt v493 c0_i32_244
  let c0_i32_245 : BitVec 32 := 0#32
  let v496 : BitVec 1 := Scalar.cmpi .slt v492 c0_i32_245
  let v497 : BitVec 1 := Scalar.xori v495 v496
  let c0_i32_243 : BitVec 32 := 0#32
  let v494 : BitVec 1 := Scalar.cmpi .ne v493 c0_i32_243
  let v498 : BitVec 1 := Scalar.andi v497 v494
  let v499 : BitVec 32 := Scalar.addi v493 v492
  let v500 : BitVec 32 := Scalar.select v498 v499 v493
  let v501 : BitVec 32 := Scalar.muli c4_i32_246 v500
  let v502 : BitVec 32 := Scalar.addi v490 v501
  let v540 : BitVec 32 := Scalar.addi v539 v502
  let c1_i32_1401 : BitVec 32 := 1#32
  let v1981 : BitVec 32 := Scalar.muli v540 c1_i32_1401
  let v1982 : BitVec 32 := Scalar.addi c0_i32_1402 v1981
  v1982.toNat
def k0_dev50 (d0 : Dev nD) : Nat :=
  let c0_i32_1411 : BitVec 32 := 0#32
  let c8_i32_297 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let c0_i32_4 : BitVec 32 := 0#32
  let v13 : BitVec 1 := Scalar.cmpi .eq c4_i32 c0_i32_4
  let c1_i32_5 : BitVec 32 := 1#32
  let v14 : BitVec 32 := Scalar.select v13 c1_i32_5 c4_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_21 : BitVec 32 := 4#32
  let c0_i32_10 : BitVec 32 := 0#32
  let v24 : BitVec 1 := Scalar.cmpi .sgt v2 c0_i32_10
  let v25 : BitVec 32 := Scalar.extui v24
  let c0_i32_11 : BitVec 32 := 0#32
  let v26 : BitVec 1 := Scalar.cmpi .slt v2 c0_i32_11
  let v27 : BitVec 32 := Scalar.extui v26
  let v28 : BitVec 32 := Scalar.subi v25 v27
  let c8_i32_9 : BitVec 32 := 8#32
  let c0_i32_12 : BitVec 32 := 0#32
  let v29 : BitVec 1 := Scalar.cmpi .sgt c8_i32_9 c0_i32_12
  let v30 : BitVec 32 := Scalar.extui v29
  let c0_i32_13 : BitVec 32 := 0#32
  let v31 : BitVec 1 := Scalar.cmpi .slt c8_i32_9 c0_i32_13
  let v32 : BitVec 32 := Scalar.extui v31
  let v33 : BitVec 32 := Scalar.subi v30 v32
  let v34 : BitVec 1 := Scalar.cmpi .ne v28 v33
  let v35 : BitVec 32 := Scalar.remsi v2 c8_i32_9
  let c0_i32_14 : BitVec 32 := 0#32
  let v36 : BitVec 1 := Scalar.cmpi .ne v35 c0_i32_14
  let v37 : BitVec 1 := Scalar.andi v34 v36
  let v23 : BitVec 32 := Scalar.divsi v2 c8_i32_9
  let c1_i32_15 : BitVec 32 := 1#32
  let v38 : BitVec 32 := Scalar.subi v23 c1_i32_15
  let v39 : BitVec 32 := Scalar.select v37 v38 v23
  let c2_i32 : BitVec 32 := 2#32
  let c0_i32_16 : BitVec 32 := 0#32
  let v40 : BitVec 1 := Scalar.cmpi .eq c2_i32 c0_i32_16
  let c1_i32_17 : BitVec 32 := 1#32
  let v41 : BitVec 32 := Scalar.select v40 c1_i32_17 c2_i32
  let v42 : BitVec 32 := Scalar.remsi v39 v41
  let c0_i32_19 : BitVec 32 := 0#32
  let v44 : BitVec 1 := Scalar.cmpi .slt v42 c0_i32_19
  let c0_i32_20 : BitVec 32 := 0#32
  let v45 : BitVec 1 := Scalar.cmpi .slt v41 c0_i32_20
  let v46 : BitVec 1 := Scalar.xori v44 v45
  let c0_i32_18 : BitVec 32 := 0#32
  let v43 : BitVec 1 := Scalar.cmpi .ne v42 c0_i32_18
  let v47 : BitVec 1 := Scalar.andi v46 v43
  let v48 : BitVec 32 := Scalar.addi v42 v41
  let v49 : BitVec 32 := Scalar.select v47 v48 v42
  let v50 : BitVec 32 := Scalar.muli c4_i32_21 v49
  let v51 : BitVec 32 := Scalar.addi v22 v50
  let c7_i32 : BitVec 32 := 7#32
  let v541 : BitVec 32 := Scalar.addi v51 c7_i32
  let c8_i32_263 : BitVec 32 := 8#32
  let c0_i32_264 : BitVec 32 := 0#32
  let v542 : BitVec 1 := Scalar.cmpi .eq c8_i32_263 c0_i32_264
  let c1_i32_265 : BitVec 32 := 1#32
  let v543 : BitVec 32 := Scalar.select v542 c1_i32_265 c8_i32_263
  let v544 : BitVec 32 := Scalar.remsi v541 v543
  let c0_i32_267 : BitVec 32 := 0#32
  let v546 : BitVec 1 := Scalar.cmpi .slt v544 c0_i32_267
  let c0_i32_268 : BitVec 32 := 0#32
  let v547 : BitVec 1 := Scalar.cmpi .slt v543 c0_i32_268
  let v548 : BitVec 1 := Scalar.xori v546 v547
  let c0_i32_266 : BitVec 32 := 0#32
  let v545 : BitVec 1 := Scalar.cmpi .ne v544 c0_i32_266
  let v549 : BitVec 1 := Scalar.andi v548 v545
  let v550 : BitVec 32 := Scalar.addi v544 v543
  let v551 : BitVec 32 := Scalar.select v549 v550 v544
  let c0_i32_283 : BitVec 32 := 0#32
  let v575 : BitVec 1 := Scalar.cmpi .sgt v551 c0_i32_283
  let v576 : BitVec 32 := Scalar.extui v575
  let c0_i32_284 : BitVec 32 := 0#32
  let v577 : BitVec 1 := Scalar.cmpi .slt v551 c0_i32_284
  let v578 : BitVec 32 := Scalar.extui v577
  let v579 : BitVec 32 := Scalar.subi v576 v578
  let c4_i32_282 : BitVec 32 := 4#32
  let c0_i32_285 : BitVec 32 := 0#32
  let v580 : BitVec 1 := Scalar.cmpi .sgt c4_i32_282 c0_i32_285
  let v581 : BitVec 32 := Scalar.extui v580
  let c0_i32_286 : BitVec 32 := 0#32
  let v582 : BitVec 1 := Scalar.cmpi .slt c4_i32_282 c0_i32_286
  let v583 : BitVec 32 := Scalar.extui v582
  let v584 : BitVec 32 := Scalar.subi v581 v583
  let v585 : BitVec 1 := Scalar.cmpi .ne v579 v584
  let v586 : BitVec 32 := Scalar.remsi v551 c4_i32_282
  let c0_i32_287 : BitVec 32 := 0#32
  let v587 : BitVec 1 := Scalar.cmpi .ne v586 c0_i32_287
  let v588 : BitVec 1 := Scalar.andi v585 v587
  let v574 : BitVec 32 := Scalar.divsi v551 c4_i32_282
  let c1_i32_288 : BitVec 32 := 1#32
  let v589 : BitVec 32 := Scalar.subi v574 c1_i32_288
  let v590 : BitVec 32 := Scalar.select v588 v589 v574
  let c2_i32_296 : BitVec 32 := 2#32
  let c8_i32_22 : BitVec 32 := 8#32
  let c0_i32_23 : BitVec 32 := 0#32
  let v52 : BitVec 1 := Scalar.cmpi .eq c8_i32_22 c0_i32_23
  let c1_i32_24 : BitVec 32 := 1#32
  let v53 : BitVec 32 := Scalar.select v52 c1_i32_24 c8_i32_22
  let v54 : BitVec 32 := Scalar.remsi v2 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c4_i32_28 : BitVec 32 := 4#32
  let c0_i32_31 : BitVec 32 := 0#32
  let v68 : BitVec 1 := Scalar.cmpi .sgt c4_i32_28 c0_i32_31
  let v69 : BitVec 32 := Scalar.extui v68
  let c0_i32_32 : BitVec 32 := 0#32
  let v70 : BitVec 1 := Scalar.cmpi .slt c4_i32_28 c0_i32_32
  let v71 : BitVec 32 := Scalar.extui v70
  let v72 : BitVec 32 := Scalar.subi v69 v71
  let v73 : BitVec 1 := Scalar.cmpi .ne v67 v72
  let v74 : BitVec 32 := Scalar.remsi v61 c4_i32_28
  let c0_i32_33 : BitVec 32 := 0#32
  let v75 : BitVec 1 := Scalar.cmpi .ne v74 c0_i32_33
  let v76 : BitVec 1 := Scalar.andi v73 v75
  let v62 : BitVec 32 := Scalar.divsi v61 c4_i32_28
  let c1_i32_34 : BitVec 32 := 1#32
  let v77 : BitVec 32 := Scalar.subi v62 c1_i32_34
  let v78 : BitVec 32 := Scalar.select v76 v77 v62
  let c2_i32_49 : BitVec 32 := 2#32
  let c0_i32_36 : BitVec 32 := 0#32
  let v80 : BitVec 1 := Scalar.cmpi .sgt v2 c0_i32_36
  let v81 : BitVec 32 := Scalar.extui v80
  let c0_i32_37 : BitVec 32 := 0#32
  let v82 : BitVec 1 := Scalar.cmpi .slt v2 c0_i32_37
  let v83 : BitVec 32 := Scalar.extui v82
  let v84 : BitVec 32 := Scalar.subi v81 v83
  let c8_i32_35 : BitVec 32 := 8#32
  let c0_i32_38 : BitVec 32 := 0#32
  let v85 : BitVec 1 := Scalar.cmpi .sgt c8_i32_35 c0_i32_38
  let v86 : BitVec 32 := Scalar.extui v85
  let c0_i32_39 : BitVec 32 := 0#32
  let v87 : BitVec 1 := Scalar.cmpi .slt c8_i32_35 c0_i32_39
  let v88 : BitVec 32 := Scalar.extui v87
  let v89 : BitVec 32 := Scalar.subi v86 v88
  let v90 : BitVec 1 := Scalar.cmpi .ne v84 v89
  let v91 : BitVec 32 := Scalar.remsi v2 c8_i32_35
  let c0_i32_40 : BitVec 32 := 0#32
  let v92 : BitVec 1 := Scalar.cmpi .ne v91 c0_i32_40
  let v93 : BitVec 1 := Scalar.andi v90 v92
  let v79 : BitVec 32 := Scalar.divsi v2 c8_i32_35
  let c1_i32_41 : BitVec 32 := 1#32
  let v94 : BitVec 32 := Scalar.subi v79 c1_i32_41
  let v95 : BitVec 32 := Scalar.select v93 v94 v79
  let c0_i32_43 : BitVec 32 := 0#32
  let v97 : BitVec 1 := Scalar.cmpi .sgt v95 c0_i32_43
  let v98 : BitVec 32 := Scalar.extui v97
  let c0_i32_44 : BitVec 32 := 0#32
  let v99 : BitVec 1 := Scalar.cmpi .slt v95 c0_i32_44
  let v100 : BitVec 32 := Scalar.extui v99
  let v101 : BitVec 32 := Scalar.subi v98 v100
  let c2_i32_42 : BitVec 32 := 2#32
  let c0_i32_45 : BitVec 32 := 0#32
  let v102 : BitVec 1 := Scalar.cmpi .sgt c2_i32_42 c0_i32_45
  let v103 : BitVec 32 := Scalar.extui v102
  let c0_i32_46 : BitVec 32 := 0#32
  let v104 : BitVec 1 := Scalar.cmpi .slt c2_i32_42 c0_i32_46
  let v105 : BitVec 32 := Scalar.extui v104
  let v106 : BitVec 32 := Scalar.subi v103 v105
  let v107 : BitVec 1 := Scalar.cmpi .ne v101 v106
  let v108 : BitVec 32 := Scalar.remsi v95 c2_i32_42
  let c0_i32_47 : BitVec 32 := 0#32
  let v109 : BitVec 1 := Scalar.cmpi .ne v108 c0_i32_47
  let v110 : BitVec 1 := Scalar.andi v107 v109
  let v96 : BitVec 32 := Scalar.divsi v95 c2_i32_42
  let c1_i32_48 : BitVec 32 := 1#32
  let v111 : BitVec 32 := Scalar.subi v96 c1_i32_48
  let v112 : BitVec 32 := Scalar.select v110 v111 v96
  let v113 : BitVec 32 := Scalar.muli c2_i32_49 v112
  let v114 : BitVec 32 := Scalar.addi v78 v113
  let c0_i32_290 : BitVec 32 := 0#32
  let v592 : BitVec 1 := Scalar.cmpi .sgt v114 c0_i32_290
  let v593 : BitVec 32 := Scalar.extui v592
  let c0_i32_291 : BitVec 32 := 0#32
  let v594 : BitVec 1 := Scalar.cmpi .slt v114 c0_i32_291
  let v595 : BitVec 32 := Scalar.extui v594
  let v596 : BitVec 32 := Scalar.subi v593 v595
  let c2_i32_289 : BitVec 32 := 2#32
  let c0_i32_292 : BitVec 32 := 0#32
  let v597 : BitVec 1 := Scalar.cmpi .sgt c2_i32_289 c0_i32_292
  let v598 : BitVec 32 := Scalar.extui v597
  let c0_i32_293 : BitVec 32 := 0#32
  let v599 : BitVec 1 := Scalar.cmpi .slt c2_i32_289 c0_i32_293
  let v600 : BitVec 32 := Scalar.extui v599
  let v601 : BitVec 32 := Scalar.subi v598 v600
  let v602 : BitVec 1 := Scalar.cmpi .ne v596 v601
  let v603 : BitVec 32 := Scalar.remsi v114 c2_i32_289
  let c0_i32_294 : BitVec 32 := 0#32
  let v604 : BitVec 1 := Scalar.cmpi .ne v603 c0_i32_294
  let v605 : BitVec 1 := Scalar.andi v602 v604
  let v591 : BitVec 32 := Scalar.divsi v114 c2_i32_289
  let c1_i32_295 : BitVec 32 := 1#32
  let v606 : BitVec 32 := Scalar.subi v591 c1_i32_295
  let v607 : BitVec 32 := Scalar.select v605 v606 v591
  let v608 : BitVec 32 := Scalar.muli c2_i32_296 v607
  let v609 : BitVec 32 := Scalar.addi v590 v608
  let v610 : BitVec 32 := Scalar.muli c8_i32_297 v609
  let c4_i32_269 : BitVec 32 := 4#32
  let c0_i32_270 : BitVec 32 := 0#32
  let v552 : BitVec 1 := Scalar.cmpi .eq c4_i32_269 c0_i32_270
  let c1_i32_271 : BitVec 32 := 1#32
  let v553 : BitVec 32 := Scalar.select v552 c1_i32_271 c4_i32_269
  let v554 : BitVec 32 := Scalar.remsi v551 v553
  let c0_i32_273 : BitVec 32 := 0#32
  let v556 : BitVec 1 := Scalar.cmpi .slt v554 c0_i32_273
  let c0_i32_274 : BitVec 32 := 0#32
  let v557 : BitVec 1 := Scalar.cmpi .slt v553 c0_i32_274
  let v558 : BitVec 1 := Scalar.xori v556 v557
  let c0_i32_272 : BitVec 32 := 0#32
  let v555 : BitVec 1 := Scalar.cmpi .ne v554 c0_i32_272
  let v559 : BitVec 1 := Scalar.andi v558 v555
  let v560 : BitVec 32 := Scalar.addi v554 v553
  let v561 : BitVec 32 := Scalar.select v559 v560 v554
  let c4_i32_281 : BitVec 32 := 4#32
  let c2_i32_275 : BitVec 32 := 2#32
  let c0_i32_276 : BitVec 32 := 0#32
  let v562 : BitVec 1 := Scalar.cmpi .eq c2_i32_275 c0_i32_276
  let c1_i32_277 : BitVec 32 := 1#32
  let v563 : BitVec 32 := Scalar.select v562 c1_i32_277 c2_i32_275
  let v564 : BitVec 32 := Scalar.remsi v114 v563
  let c0_i32_279 : BitVec 32 := 0#32
  let v566 : BitVec 1 := Scalar.cmpi .slt v564 c0_i32_279
  let c0_i32_280 : BitVec 32 := 0#32
  let v567 : BitVec 1 := Scalar.cmpi .slt v563 c0_i32_280
  let v568 : BitVec 1 := Scalar.xori v566 v567
  let c0_i32_278 : BitVec 32 := 0#32
  let v565 : BitVec 1 := Scalar.cmpi .ne v564 c0_i32_278
  let v569 : BitVec 1 := Scalar.andi v568 v565
  let v570 : BitVec 32 := Scalar.addi v564 v563
  let v571 : BitVec 32 := Scalar.select v569 v570 v564
  let v572 : BitVec 32 := Scalar.muli c4_i32_281 v571
  let v573 : BitVec 32 := Scalar.addi v561 v572
  let v611 : BitVec 32 := Scalar.addi v610 v573
  let c1_i32_1410 : BitVec 32 := 1#32
  let v1991 : BitVec 32 := Scalar.muli v611 c1_i32_1410
  let v1992 : BitVec 32 := Scalar.addi c0_i32_1411 v1991
  v1992.toNat
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x24576 : Shape := ⟨2, ![1536, 24576]⟩
abbrev S24576x1536 : Shape := ⟨2, ![24576, 1536]⟩
abbrev S1536x1536 : Shape := ⟨2, ![1536, 1536]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1536x24576, .f32⟩
  | .hbm, ⟨1, _⟩ => ⟨S24576x1536, .f32⟩
  | .hbm, ⟨2, _⟩ => ⟨S1536x1536, .f32⟩
  | .hbm, ⟨3, _⟩ => ⟨S1536x1536, .f32⟩
  | .hbm, ⟨4, _⟩ => ⟨S1536x1536, .f32⟩
  | .hbm, ⟨5, _⟩ => ⟨S_, .f32⟩
  | .hbm, ⟨6, _⟩ => ⟨S1536x1536, .f32⟩
  | .hbm, ⟨7, _⟩ => ⟨S1536x1536, .f32⟩
  | .hbm, ⟨8, _⟩ => ⟨S1536x1536, .f32⟩
  | _, _ => ⟨S1536x24576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.KernelIdeal.Topo.lean ====
/-
  The mesh the kernel talks over. The 32 devices are four cubes of eight members. A device's mates are the seven other
  members of its cube, its partners the three devices that sit at its own place in the other cubes. Here the printed
  device numbers and block offsets are read as these.
-/
module

public import proofs.«01_k».proof.Proof.Gen.KernelIdeal

@[expose] public section

set_option synthInstance.maxSize 4096

noncomputable section

namespace Cert.KernelIdeal.Hand

open Idealize.ShloMosaic Idealize.SL.Sem
open Cert.KernelIdeal Cert.KernelIdeal.Gen

/-- The device at place `mm` of cube `q`. -/
def idx (q : Fin 4) (mm : Fin 8) : Dev nD :=
  ⟨8 * (mm.val / 4 + 2 * (q.val / 2)) + (mm.val % 4 + 4 * (q.val % 2)), by
    have := q.isLt; have := mm.isLt; show _ < 32; omega⟩

/-- The cube a device belongs to. -/
def cube (c : Dev nD) : Fin 4 := ⟨(c.val % 8) / 4 + 2 * ((c.val / 8) / 2), by have : c.val < 32 := c.isLt; omega⟩

/-- A device's place in its cube. -/
def mem (c : Dev nD) : Fin 8 := ⟨(c.val % 8) % 4 + 4 * ((c.val / 8) % 2), by omega⟩

/-- The mate `d + 1` places further round the cube. -/
def mate (d : Fin 7) (c : Dev nD) : Dev nD := idx (cube c) ⟨((mem c).val + (d.val + 1)) % 8, Nat.mod_lt _ (by omega)⟩

/-- The partner `e + 1` cubes further round. -/
def partner (e : Fin 3) (c : Dev nD) : Dev nD := idx ⟨((cube c).val + (e.val + 1)) % 4, Nat.mod_lt _ (by omega)⟩ (mem c)

theorem idx_cube_mem : ∀ c, idx (cube c) (mem c) = c := by decide +kernel
theorem cube_idx : ∀ q mm, cube (idx q mm) = q := by decide +kernel
theorem mem_idx : ∀ q mm, mem (idx q mm) = mm := by decide +kernel

/-- A mate's mate at the opposite distance is the device itself, -/
theorem mate_rev : ∀ (d : Fin 7) (c : Dev nD), mate d.rev (mate d c) = c := by decide +kernel
/-- and the same among partners. -/
theorem partner_rev : ∀ (e : Fin 3) (c : Dev nD), partner e.rev (partner e c) = c := by decide +kernel
theorem rev_mate (d : Fin 7) (c : Dev nD) : mate d (mate d.rev c) = c := by
  have := mate_rev d.rev c; rwa [Fin.rev_rev] at this
theorem rev_partner (e : Fin 3) (c : Dev nD) : partner e (partner e.rev c) = c := by
  have := partner_rev e.rev c; rwa [Fin.rev_rev] at this

/-- Going to the mate at a fixed distance permutes the devices, -/
def mateE (d : Fin 7) : Dev nD ≃ Dev nD := ⟨mate d, mate d.rev, mate_rev d, rev_mate d⟩
/-- and so does going to the partner. -/
def partnerE (e : Fin 3) : Dev nD ≃ Dev nD := ⟨partner e, partner e.rev, partner_rev e, rev_partner e⟩

theorem cube_mate : ∀ (d : Fin 7) (c : Dev nD), cube (mate d c) = cube c := by decide +kernel
theorem mem_partner : ∀ (e : Fin 3) (c : Dev nD), mem (partner e c) = mem c := by decide +kernel

/-- The member places other than its own are its mates', one each. -/
theorem mem_cases : ∀ (c : Dev nD) (mm : Fin 8), mm = mem c ∨ ∃ d : Fin 7, mm = mem (mate d c) := by decide +kernel
theorem cube_cases : ∀ (c : Dev nD) (q : Fin 4), q = cube c ∨ ∃ e : Fin 3, q = cube (partner e c) := by decide +kernel
theorem mem_mate_ne : ∀ (c : Dev nD) (d : Fin 7), mem (mate d c) ≠ mem c := by decide +kernel
theorem mem_mate_inj : ∀ (c : Dev nD) (d d' : Fin 7), mem (mate d c) = mem (mate d' c) → d = d' := by decide +kernel
theorem cube_partner_ne : ∀ (c : Dev nD) (e : Fin 3), cube (partner e c) ≠ cube c := by decide +kernel
theorem cube_partner_inj : ∀ (c : Dev nD) (e e' : Fin 3), cube (partner e c) = cube (partner e' c) → e = e' := by decide +kernel

/-! ## The printed device numbers -/

/-- The word the printed offsets take at the distance `n + 1`. -/
abbrev dist (n : ℕ) : BitVec 32 := BitVec.ofNat 32 (1 + n)

/-- The devices the ten opening signals go to: seven mates, -/
def sigDev : Fin 7 → Dev nD → Dev nD :=
  ![fun c => ⟨k0_dev1 c, k0_dev1_lt c⟩, fun c => ⟨k0_dev2 c, k0_dev2_lt c⟩, fun c => ⟨k0_dev3 c, k0_dev3_lt c⟩,
    fun c => ⟨k0_dev4 c, k0_dev4_lt c⟩, fun c => ⟨k0_dev5 c, k0_dev5_lt c⟩, fun c => ⟨k0_dev6 c, k0_dev6_lt c⟩,
    fun c => ⟨k0_dev7 c, k0_dev7_lt c⟩]
/-- and three partners. -/
def sigDev' : Fin 3 → Dev nD → Dev nD :=
  ![fun c => ⟨k0_dev8 c, k0_dev8_lt c⟩, fun c => ⟨k0_dev9 c, k0_dev9_lt c⟩, fun c => ⟨k0_dev10 c, k0_dev10_lt c⟩]
/-- Where the first reduction's blocks go, -/
def s1Dev : Fin 2 → Fin 7 → Dev nD → Dev nD :=
  ![![fun c => ⟨k0_dev11 c, k0_dev11_lt c⟩, fun c => ⟨k0_dev12 c, k0_dev12_lt c⟩, fun c => ⟨k0_dev13 c, k0_dev13_lt c⟩,
      fun c => ⟨k0_dev14 c, k0_dev14_lt c⟩, fun c => ⟨k0_dev15 c, k0_dev15_lt c⟩, fun c => ⟨k0_dev16 c, k0_dev16_lt c⟩,
      fun c => ⟨k0_dev17 c, k0_dev17_lt c⟩],
    ![fun c => ⟨k0_dev18 c, k0_dev18_lt c⟩, fun c => ⟨k0_dev19 c, k0_dev19_lt c⟩, fun c => ⟨k0_dev20 c, k0_dev20_lt c⟩,
      fun c => ⟨k0_dev21 c, k0_dev21_lt c⟩, fun c => ⟨k0_dev22 c, k0_dev22_lt c⟩, fun c => ⟨k0_dev23 c, k0_dev23_lt c⟩,
      fun c => ⟨k0_dev24 c, k0_dev24_lt c⟩]]
/-- the second reduction's strips, -/
def s2Dev : Fin 2 → Fin 3 → Dev nD → Dev nD :=
  ![![fun c => ⟨k0_dev25 c, k0_dev25_lt c⟩, fun c => ⟨k0_dev26 c, k0_dev26_lt c⟩, fun c => ⟨k0_dev27 c, k0_dev27_lt c⟩],
    ![fun c => ⟨k0_dev38 c, k0_dev38_lt c⟩, fun c => ⟨k0_dev39 c, k0_dev39_lt c⟩, fun c => ⟨k0_dev40 c, k0_dev40_lt c⟩]]
/-- the finished strips -/
def g2Dev : Fin 2 → Fin 3 → Dev nD → Dev nD :=
  ![![fun c => ⟨k0_dev28 c, k0_dev28_lt c⟩, fun c => ⟨k0_dev29 c, k0_dev29_lt c⟩, fun c => ⟨k0_dev30 c, k0_dev30_lt c⟩],
    ![fun c => ⟨k0_dev41 c, k0_dev41_lt c⟩, fun c => ⟨k0_dev42 c, k0_dev42_lt c⟩, fun c => ⟨k0_dev43 c, k0_dev43_lt c⟩]]
/-- and the finished blocks. -/
def g1Dev : Fin 2 → Fin 7 → Dev nD → Dev nD :=
  ![![fun c => ⟨k0_dev31 c, k0_dev31_lt c⟩, fun c => ⟨k0_dev32 c, k0_dev32_lt c⟩, fun c => ⟨k0_dev33 c, k0_dev33_lt c⟩,
      fun c => ⟨k0_dev34 c, k0_dev34_lt c⟩, fun c => ⟨k0_dev35 c, k0_dev35_lt c⟩, fun c => ⟨k0_dev36 c, k0_dev36_lt c⟩,
      fun c => ⟨k0_dev37 c, k0_dev37_lt c⟩],
    ![fun c => ⟨k0_dev44 c, k0_dev44_lt c⟩, fun c => ⟨k0_dev45 c, k0_dev45_lt c⟩, fun c => ⟨k0_dev46 c, k0_dev46_lt c⟩,
      fun c => ⟨k0_dev47 c, k0_dev47_lt c⟩, fun c => ⟨k0_dev48 c, k0_dev48_lt c⟩, fun c => ⟨k0_dev49 c, k0_dev49_lt c⟩,
      fun c => ⟨k0_dev50 c, k0_dev50_lt c⟩]]

theorem sigDev_eq : ∀ d c, sigDev d c = mate d c := by decide +kernel
theorem sigDev'_eq : ∀ e c, sigDev' e c = partner e c := by decide +kernel
theorem s1Dev_eq : ∀ h d c, s1Dev h d c = mate d c := by decide +kernel
theorem s2Dev_eq : ∀ h e c, s2Dev h e c = partner e c := by decide +kernel
theorem g2Dev_eq : ∀ h e c, g2Dev h e c = partner e c := by decide +kernel
theorem g1Dev_eq : ∀ h d c, g1Dev h d c = mate d c := by decide +kernel

/-! ## The printed offsets -/

/-- Where block `mm` of half `h` of the result starts, -/
abbrev oOff (h : Fin 2) (mm : Fin 8) : Fin 2 → ℕ := ![192 * mm.val, 768 * h.val]
/-- where the rows of block `mm` of the left factor start, -/
abbrev aOff (mm : Fin 8) : Fin 2 → ℕ := ![192 * mm.val, 0]
/-- where half `h` of the right factor starts, -/
abbrev bOff (h : Fin 2) : Fin 2 → ℕ := ![0, 768 * h.val]
/-- where slot `s` of half `h` starts in the first reduction's buffer -/
abbrev rOff (h : Fin 2) (s : Fin 8) : Fin 3 → ℕ := ![8 * h.val + s.val, 0, 0]
/-- and in the second's, -/
abbrev sOff (h : Fin 2) (s : Fin 4) : Fin 3 → ℕ := ![4 * h.val + s.val, 0, 0]
/-- where strip `q` of half `h` starts in a block buffer, -/
abbrev kOff (h : Fin 2) (q : Fin 4) : Fin 3 → ℕ := ![h.val, 48 * q.val, 0]
/-- and where half `h` itself does. -/
abbrev hOff (h : Fin 2) : Fin 3 → ℕ := ![h.val, 0, 0]

def fA (d : Fin 7) (c : Dev nD) : Fin 2 → ℕ := k0_off1 c (dist d)
def fAown (c : Dev nD) : Fin 2 → ℕ := k0_off4 c
def fO (h : Fin 2) (d : Fin 7) (c : Dev nD) : Fin 2 → ℕ :=
  (![k0_off2, k0_off5] : Fin 2 → Dev nD → BitVec 32 → Fin 2 → ℕ) h c (dist d)
def fO' (h : Fin 2) (d : Fin 7) (c : Dev nD) : Fin 2 → ℕ :=
  (![k0_off3, k0_off6] : Fin 2 → Dev nD → BitVec 32 → Fin 2 → ℕ) h c (dist d)
def fC (h : Fin 2) (e : Fin 3) (c : Dev nD) : Fin 3 → ℕ :=
  (![k0_off7, k0_off12] : Fin 2 → Dev nD → BitVec 32 → Fin 3 → ℕ) h c (dist e)
def fCown (h : Fin 2) (c : Dev nD) : Fin 3 → ℕ := (![k0_off8, k0_off13] : Fin 2 → Dev nD → Fin 3 → ℕ) h c
def fK (h : Fin 2) (c : Dev nD) : Fin 3 → ℕ := (![k0_off9, k0_off14] : Fin 2 → Dev nD → Fin 3 → ℕ) h c
def fOown (h : Fin 2) (c : Dev nD) : Fin 2 → ℕ := (![k0_off10, k0_off15] : Fin 2 → Dev nD → Fin 2 → ℕ) h c
def fOown' (h : Fin 2) (c : Dev nD) : Fin 2 → ℕ := (![k0_off11, k0_off16] : Fin 2 → Dev nD → Fin 2 → ℕ) h c

theorem fA_eq : ∀ d c, fA d c = aOff (mem (mate d c)) := by decide +kernel
theorem fAown_eq : ∀ c, fAown c = aOff (mem c) := by decide +kernel
theorem fO_eq : ∀ h d c, fO h d c = oOff h (mem (mate d c)) := by decide +kernel
theorem fO'_eq : ∀ h d c, fO' h d c = oOff h (mem (mate d c)) := by decide +kernel
theorem fC_eq : ∀ h e c, fC h e c = kOff h (cube (partner e c)) := by decide +kernel
theorem fCown_eq : ∀ h c, fCown h c = kOff h (cube c) := by decide +kernel
theorem fK_eq : ∀ h c, fK h c = kOff h (cube c) := by decide +kernel
theorem fOown_eq : ∀ h c, fOown h c = oOff h (mem c) := by decide +kernel
theorem fOown'_eq : ∀ h c, fOown' h c = oOff h (mem c) := by decide +kernel

theorem oOff_inb (h : Fin 2) (mm : Fin 8) : ∀ a, oOff h mm a + S192x768.size a ≤ S1536x1536.size a := by
  revert h mm; decide +kernel
theorem aOff_inb (mm : Fin 8) : ∀ a, aOff mm a + S192x768.size a ≤ S1536x768.size a := by revert mm; decide +kernel
theorem bOff_inb (h : Fin 2) : ∀ a, bOff h a + S768x768.size a ≤ S768x1536.size a := by revert h; decide +kernel
theorem rOff_inb (h : Fin 2) (s : Fin 8) : ∀ a, rOff h s a + S1x192x768.size a ≤ S16x192x768.size a := by
  revert h s; decide +kernel
theorem sOff_inb (h : Fin 2) (s : Fin 4) : ∀ a, sOff h s a + S1x48x768.size a ≤ S8x48x768.size a := by
  revert h s; decide +kernel
theorem kOff_inb (h : Fin 2) (q : Fin 4) : ∀ a, kOff h q a + S1x48x768.size a ≤ S2x192x768.size a := by
  revert h q; decide +kernel
theorem hOff_inb (h : Fin 2) : ∀ a, hOff h a + S1x192x768.size a ≤ S2x192x768.size a := by revert h; decide +kernel

theorem fA_inb (d : Fin 7) (c : Dev nD) : ∀ a, fA d c a + S192x768.size a ≤ S1536x768.size a := by rw [fA_eq]; exact aOff_inb _
theorem fAown_inb (c : Dev nD) : ∀ a, fAown c a + S192x768.size a ≤ S1536x768.size a := by rw [fAown_eq]; exact aOff_inb _
theorem fO_inb (h : Fin 2) (d : Fin 7) (c : Dev nD) : ∀ a, fO h d c a + S192x768.size a ≤ S1536x1536.size a := by
  rw [fO_eq]; exact oOff_inb _ _
theorem fO'_inb (h : Fin 2) (d : Fin 7) (c : Dev nD) : ∀ a, fO' h d c a + S192x768.size a ≤ S1536x1536.size a := by
  rw [fO'_eq]; exact oOff_inb _ _
theorem fC_inb (h : Fin 2) (e : Fin 3) (c : Dev nD) : ∀ a, fC h e c a + S1x48x768.size a ≤ S2x192x768.size a := by
  rw [fC_eq]; exact kOff_inb _ _
theorem fCown_inb (h : Fin 2) (c : Dev nD) : ∀ a, fCown h c a + S1x48x768.size a ≤ S2x192x768.size a := by
  rw [fCown_eq]; exact kOff_inb _ _
theorem fK_inb (h : Fin 2) (c : Dev nD) : ∀ a, fK h c a + S1x48x768.size a ≤ S2x192x768.size a := by
  rw [fK_eq]; exact kOff_inb _ _
theorem fOown_inb (h : Fin 2) (c : Dev nD) : ∀ a, fOown h c a + S192x768.size a ≤ S1536x1536.size a := by
  rw [fOown_eq]; exact oOff_inb _ _
theorem fOown'_inb (h : Fin 2) (c : Dev nD) : ∀ a, fOown' h c a + S192x768.size a ≤ S1536x1536.size a := by
  rw [fOown'_eq]; exact oOff_inb _ _

/-! ## The kernel's semaphores -/

/-- A transfer's semaphore on a device: one of the four kinds of the cube's exchanges at half and distance, or one of
the four kinds of the partners'. Kinds count: sends of the reduction, its arrivals, sends of the gather, its arrivals. -/
abbrev Tag := (Fin 4 × Fin 2 × Fin 7) ⊕ (Fin 4 × Fin 2 × Fin 3)

/-- The semaphore a tag names. -/
def semOf : Tag → DmaSem sig
  | .inl (k, h, d) => ⟨(![3, 19, 67, 83] : Fin 4 → ℕ) k + (8 * h.val + (d.val + 1)), by revert k h d; decide +kernel⟩
  | .inr (k, h, e) => ⟨(![35, 43, 51, 59] : Fin 4 → ℕ) k + (4 * h.val + (e.val + 1)), by revert k h e; decide +kernel⟩

theorem semOf_inj : ∀ t t', semOf t = semOf t' → t = t' := by decide +kernel

/-- The barrier's semaphore. -/
abbrev barS : Sem sig := (SemArray.scalar (sig.barrier 0 rfl) : Sems sig S_).sem

end Cert.KernelIdeal.Hand

end
-- ==== Proof.KernelIdeal.Flat.lean ====
/-
  The kernel body as a chain of steps. A step is one exchange: the loads, the store and the transfer of one block, or
  one wait and what is done with what arrived. The printed body, which is cut into windows at arbitrary statements, is
  shown to be this chain.
-/
module

public import proofs.«01_k».proof.Proof.Gen.KernelIdeal.Skeleton
public import proofs.«01_k».proof.Proof.Gen.KernelIdeal.Points
public import proofs.«01_k».proof.Proof.KernelIdeal.Topo

@[expose] public section

set_option synthInstance.maxSize 4096

noncomputable section

namespace Cert.KernelIdeal.Hand

open Idealize.ShloMosaic Idealize.SL.Sem
open Cert.KernelIdeal Cert.KernelIdeal.Gen

variable {F : FTy → Type} [FloatOps F]

/-- A stretch of the kernel. -/
abbrev KProg (F : FTy → Type) [FloatOps F] := Prog (TpuEff nD τ sig (Elt F) Λ₀ .tc) PUnit

/-! ## The buffers -/

abbrev aM : Memref sig .tc .vmem S1536x768 .f32 := Memref.whole cc0_stg0_0
abbrev bM : Memref sig .tc .vmem S768x1536 .f32 := Memref.whole cc0_stg1_0
abbrev oM : Memref sig .tc .vmem S1536x1536 .f32 := Memref.whole cc0_stg2_0
abbrev rM : Memref sig .tc .vmem S16x192x768 .f32 := Memref.whole cc0_scratch0
abbrev cM : Memref sig .tc .vmem S2x192x768 .f32 := Memref.whole cc0_scratch1
abbrev sM : Memref sig .tc .vmem S8x48x768 .f32 := Memref.whole cc0_scratch2
abbrev kM : Memref sig .tc .vmem S2x192x768 .f32 := Memref.whole cc0_scratch3

/-! ## The rectangles and the pieces transfers move -/

section
variable (o2 : Fin 2 → ℕ) (o3 : Fin 3 → ℕ)

abbrev aRect (i : ∀ a, o2 a + S192x768.size a ≤ S1536x768.size a) : Rect S1536x768 := Rect.unit o2 S192x768.size i
abbrev bRect (i : ∀ a, o2 a + S768x768.size a ≤ S768x1536.size a) : Rect S768x1536 := Rect.unit o2 S768x768.size i
abbrev oRect (i : ∀ a, o2 a + S192x768.size a ≤ S1536x1536.size a) : Rect S1536x1536 := Rect.unit o2 S192x768.size i
abbrev rRect (i : ∀ a, o3 a + S1x192x768.size a ≤ S16x192x768.size a) : Rect S16x192x768 := Rect.unit o3 S1x192x768.size i
abbrev hRect (i : ∀ a, o3 a + S1x192x768.size a ≤ S2x192x768.size a) : Rect S2x192x768 := Rect.unit o3 S1x192x768.size i
abbrev qRect (i : ∀ a, o3 a + S1x48x768.size a ≤ S2x192x768.size a) : Rect S2x192x768 := Rect.unit o3 S1x48x768.size i
abbrev sRect (i : ∀ a, o3 a + S1x48x768.size a ≤ S8x48x768.size a) : Rect S8x48x768 := Rect.unit o3 S1x48x768.size i

abbrev oBlk (i : ∀ a, o2 a + S192x768.size a ≤ S1536x1536.size a) : Memref sig .tc .vmem S192x768 .f32 :=
  oM.slice (oRect o2 i) (fun _ => rfl)
abbrev rSlot (i : ∀ a, o3 a + S1x192x768.size a ≤ S16x192x768.size a) : Memref sig .tc .vmem S192x768 .f32 :=
  (rM.slice (rRect o3 i) (fun _ => rfl)).squeeze S192x768 squeezes_S1x192x768_S192x768
abbrev cStrip (i : ∀ a, o3 a + S1x48x768.size a ≤ S2x192x768.size a) : Memref sig .tc .vmem S48x768 .f32 :=
  (cM.slice (qRect o3 i) (fun _ => rfl)).squeeze S48x768 squeezes_S1x48x768_S48x768
abbrev kStrip (i : ∀ a, o3 a + S1x48x768.size a ≤ S2x192x768.size a) : Memref sig .tc .vmem S48x768 .f32 :=
  (kM.slice (qRect o3 i) (fun _ => rfl)).squeeze S48x768 squeezes_S1x48x768_S48x768
abbrev sSlot (i : ∀ a, o3 a + S1x48x768.size a ≤ S8x48x768.size a) : Memref sig .tc .vmem S48x768 .f32 :=
  (sM.slice (sRect o3 i) (fun _ => rfl)).squeeze S48x768 squeezes_S1x48x768_S48x768
abbrev kHalf (i : ∀ a, o3 a + S1x192x768.size a ≤ S2x192x768.size a) : Memref sig .tc .vmem S192x768 .f32 :=
  (kM.slice (hRect o3 i) (fun _ => rfl)).squeeze S192x768 squeezes_S1x192x768_S192x768
end

/-! ## The steps -/

section
variable {oA oB oO oO' : Fin 2 → ℕ} {oR oR' oC oS oS' oK oH : Fin 3 → ℕ}

/-- A block product stored in the result and sent to a mate. -/
def stepS1 (dst : Dev nD) (iA : ∀ a, oA a + S192x768.size a ≤ S1536x768.size a)
    (iB : ∀ a, oB a + S768x768.size a ≤ S768x1536.size a) (iO : ∀ a, oO a + S192x768.size a ≤ S1536x1536.size a)
    (iO' : ∀ a, oO' a + S192x768.size a ≤ S1536x1536.size a) (iR : ∀ a, oR a + S1x192x768.size a ≤ S16x192x768.size a)
    (s r : DmaSem sig) : KProg F := do
  let a : Vec F S192x768 .f32 ← Prog.lift (.load aM (aRect oA iA).toLoadRect (View.loadsAt_vmem h_S192x768))
  let b : Vec F S768x768 .f32 ← Prog.lift (.load bM (bRect oB iB).toLoadRect (View.loadsAt_vmem h_S768x768))
  let _o : Vec F S192x768 .f32 ← Prog.lift (.load oM (oRect oO iO).toLoadRect (View.loadsAt_vmem h_S192x768))
  Prog.lift (.store oM (oRect oO iO) (k0_pay1 a b) Finset.univ (View.stores_vmem_bits_univ h_S192x768 rfl) (.inl rfl))
  Prog.lift (.enqueueDma (oBlk oO' iO') (.remote (Dev.tc dst) (rSlot oR iR) (.dma s)) (.dma r) (View.wordExact_bits rfl)
    ((View.wordExact_bits rfl).reshape _ _) ⟨⟨rfl, Or.inl rfl⟩, trivial⟩)

/-- The device's own block product, kept. -/
def stepOwn1 (iA : ∀ a, oA a + S192x768.size a ≤ S1536x768.size a) (iB : ∀ a, oB a + S768x768.size a ≤ S768x1536.size a)
    (iR : ∀ a, oR a + S1x192x768.size a ≤ S16x192x768.size a) : KProg F := do
  let a : Vec F S192x768 .f32 ← Prog.lift (.load aM (aRect oA iA).toLoadRect (View.loadsAt_vmem h_S192x768))
  let b : Vec F S768x768 .f32 ← Prog.lift (.load bM (bRect oB iB).toLoadRect (View.loadsAt_vmem h_S768x768))
  let _o : Vec F S1x192x768 .f32 ← Prog.lift (.load rM (rRect oR iR).toLoadRect (View.loadsAt_vmem h_S1x192x768))
  Prog.lift (.store rM (rRect oR iR) (k0_pay18 a b) Finset.univ (View.stores_vmem_bits_univ h_S1x192x768 rfl) (.inl rfl))

/-- The accumulator started on the device's own product. -/
def stepAcc0 (iR : ∀ a, oR a + S1x192x768.size a ≤ S16x192x768.size a)
    (iH : ∀ a, oH a + S1x192x768.size a ≤ S2x192x768.size a) : KProg F := do
  let v : Vec F S1x192x768 .f32 ← Prog.lift (.load rM (rRect oR iR).toLoadRect (View.loadsAt_vmem h_S1x192x768))
  let _o : Vec F S1x192x768 .f32 ← Prog.lift (.load cM (hRect oH iH).toLoadRect (View.loadsAt_vmem h_S1x192x768))
  Prog.lift (.store cM (hRect oH iH) (k0_pay19 v) Finset.univ (View.stores_vmem_bits_univ h_S1x192x768 rfl) (.inl rfl))

/-- A mate's product awaited and added. -/
def stepAcc (iO : ∀ a, oO a + S192x768.size a ≤ S1536x1536.size a) (iR : ∀ a, oR a + S1x192x768.size a ≤ S16x192x768.size a)
    (iH : ∀ a, oH a + S1x192x768.size a ≤ S2x192x768.size a) (r : DmaSem sig) : KProg F := do
  Prog.lift (.waitDma2 r (oBlk oO iO) (rSlot oR iR) (View.wordExact_bits rfl) ((View.wordExact_bits rfl).reshape _ _))
  let a : Vec F S1x192x768 .f32 ← Prog.lift (.load cM (hRect oH iH).toLoadRect (View.loadsAt_vmem h_S1x192x768))
  let v : Vec F S1x192x768 .f32 ← Prog.lift (.load rM (rRect oR iR).toLoadRect (View.loadsAt_vmem h_S1x192x768))
  let _o : Vec F S1x192x768 .f32 ← Prog.lift (.load cM (hRect oH iH).toLoadRect (View.loadsAt_vmem h_S1x192x768))
  Prog.lift (.store cM (hRect oH iH) (k0_pay20 a v) Finset.univ (View.stores_vmem_bits_univ h_S1x192x768 rfl) (.inl rfl))

/-- A strip of the accumulated block sent to a partner. -/
def stepS2 (dst : Dev nD) (iC : ∀ a, oC a + S1x48x768.size a ≤ S2x192x768.size a)
    (iS : ∀ a, oS a + S1x48x768.size a ≤ S8x48x768.size a) (s r : DmaSem sig) : KProg F :=
  Prog.lift (.enqueueDma (cStrip oC iC) (.remote (Dev.tc dst) (sSlot oS iS) (.dma s)) (.dma r)
    ((View.wordExact_bits rfl).reshape _ _) ((View.wordExact_bits rfl).reshape _ _) ⟨⟨rfl, Or.inl rfl⟩, trivial⟩)

/-- The device's own strip, kept. -/
def stepOwn2 (iC : ∀ a, oC a + S1x48x768.size a ≤ S2x192x768.size a)
    (iS : ∀ a, oS a + S1x48x768.size a ≤ S8x48x768.size a) : KProg F := do
  let v : Vec F S1x48x768 .f32 ← Prog.lift (.load cM (qRect oC iC).toLoadRect (View.loadsAt_vmem h_S1x48x768))
  let _o : Vec F S1x48x768 .f32 ← Prog.lift (.load sM (sRect oS iS).toLoadRect (View.loadsAt_vmem h_S1x48x768))
  Prog.lift (.store sM (sRect oS iS) (k0_pay29 v) Finset.univ (View.stores_vmem_bits_univ h_S1x48x768 rfl) (.inl rfl))

/-- A wait whose source is a block of the result and whose destination a slot of the first reduction's buffer, -/
def waitOR (iO : ∀ a, oO a + S192x768.size a ≤ S1536x1536.size a) (iR : ∀ a, oR a + S1x192x768.size a ≤ S16x192x768.size a)
    (r : DmaSem sig) : KProg F :=
  Prog.lift (.waitDma2 r (rSlot oR iR) (oBlk oO iO) ((View.wordExact_bits rfl).reshape _ _) (View.wordExact_bits rfl))
/-- one of a strip of the accumulator and a slot of the second reduction's buffer, -/
def waitCS (iC : ∀ a, oC a + S1x48x768.size a ≤ S2x192x768.size a) (iS : ∀ a, oS a + S1x48x768.size a ≤ S8x48x768.size a)
    (r : DmaSem sig) : KProg F :=
  Prog.lift (.waitDma2 r (cStrip oC iC) (sSlot oS iS) ((View.wordExact_bits rfl).reshape _ _) ((View.wordExact_bits rfl).reshape _ _))
/-- the same two the other way round, -/
def waitSC (iC : ∀ a, oC a + S1x48x768.size a ≤ S2x192x768.size a) (iS : ∀ a, oS a + S1x48x768.size a ≤ S8x48x768.size a)
    (r : DmaSem sig) : KProg F :=
  Prog.lift (.waitDma2 r (sSlot oS iS) (cStrip oC iC) ((View.wordExact_bits rfl).reshape _ _) ((View.wordExact_bits rfl).reshape _ _))
/-- one of a finished strip, -/
def waitKK (iK : ∀ a, oK a + S1x48x768.size a ≤ S2x192x768.size a) (r : DmaSem sig) : KProg F :=
  Prog.lift (.waitDma2 r (kStrip oK iK) (kStrip oK iK) ((View.wordExact_bits rfl).reshape _ _) ((View.wordExact_bits rfl).reshape _ _))
/-- one of a finished block and its place in the result, -/
def waitHO (iH : ∀ a, oH a + S1x192x768.size a ≤ S2x192x768.size a) (iO : ∀ a, oO a + S192x768.size a ≤ S1536x1536.size a)
    (r : DmaSem sig) : KProg F :=
  Prog.lift (.waitDma2 r (kHalf oH iH) (oBlk oO iO) ((View.wordExact_bits rfl).reshape _ _) (View.wordExact_bits rfl))
/-- and those the other way round. -/
def waitOH (iH : ∀ a, oH a + S1x192x768.size a ≤ S2x192x768.size a) (iO : ∀ a, oO a + S192x768.size a ≤ S1536x1536.size a)
    (r : DmaSem sig) : KProg F :=
  Prog.lift (.waitDma2 r (oBlk oO iO) (kHalf oH iH) (View.wordExact_bits rfl) ((View.wordExact_bits rfl).reshape _ _))

/-- The four arrived strips summed and put through the activation. -/
def stepAct {oS₀ oS₁ oS₂ oS₃ : Fin 3 → ℕ} (i₀ : ∀ a, oS₀ a + S1x48x768.size a ≤ S8x48x768.size a)
    (i₁ : ∀ a, oS₁ a + S1x48x768.size a ≤ S8x48x768.size a) (i₂ : ∀ a, oS₂ a + S1x48x768.size a ≤ S8x48x768.size a)
    (i₃ : ∀ a, oS₃ a + S1x48x768.size a ≤ S8x48x768.size a) (iK : ∀ a, oK a + S1x48x768.size a ≤ S2x192x768.size a) : KProg F := do
  let v₀ : Vec F S1x48x768 .f32 ← Prog.lift (.load sM (sRect oS₀ i₀).toLoadRect (View.loadsAt_vmem h_S1x48x768))
  let v₁ : Vec F S1x48x768 .f32 ← Prog.lift (.load sM (sRect oS₁ i₁).toLoadRect (View.loadsAt_vmem h_S1x48x768))
  let v₂ : Vec F S1x48x768 .f32 ← Prog.lift (.load sM (sRect oS₂ i₂).toLoadRect (View.loadsAt_vmem h_S1x48x768))
  let v₃ : Vec F S1x48x768 .f32 ← Prog.lift (.load sM (sRect oS₃ i₃).toLoadRect (View.loadsAt_vmem h_S1x48x768))
  let _o : Vec F S1x48x768 .f32 ← Prog.lift (.load kM (qRect oK iK).toLoadRect (View.loadsAt_vmem h_S1x48x768))
  Prog.lift (.store kM (qRect oK iK) (k0_pay45 v₀ v₁ v₂ v₃) Finset.univ (View.stores_vmem_bits_univ h_S1x48x768 rfl) (.inl rfl))

/-- The finished strip sent to a partner. -/
def stepG2 (dst : Dev nD) (iK : ∀ a, oK a + S1x48x768.size a ≤ S2x192x768.size a) (s r : DmaSem sig) : KProg F :=
  Prog.lift (.enqueueDma (kStrip oK iK) (.remote (Dev.tc dst) (kStrip oK iK) (.dma s)) (.dma r)
    ((View.wordExact_bits rfl).reshape _ _) ((View.wordExact_bits rfl).reshape _ _) ⟨⟨rfl, Or.inl rfl⟩, trivial⟩)

/-- The device's finished block copied into the result. -/
def stepCopy (iH : ∀ a, oH a + S1x192x768.size a ≤ S2x192x768.size a) (iO : ∀ a, oO a + S192x768.size a ≤ S1536x1536.size a) :
    KProg F := do
  let v : Vec F S1x192x768 .f32 ← Prog.lift (.load kM (hRect oH iH).toLoadRect (View.loadsAt_vmem h_S1x192x768))
  let _o : Vec F S192x768 .f32 ← Prog.lift (.load oM (oRect oO iO).toLoadRect (View.loadsAt_vmem h_S192x768))
  Prog.lift (.store oM (oRect oO iO) (k0_pay33 v) Finset.univ (View.stores_vmem_bits_univ h_S192x768 rfl) (.inl rfl))

/-- The finished block sent to a mate. -/
def stepG1 (dst : Dev nD) (iH : ∀ a, oH a + S1x192x768.size a ≤ S2x192x768.size a)
    (iO : ∀ a, oO a + S192x768.size a ≤ S1536x1536.size a) (s r : DmaSem sig) : KProg F :=
  Prog.lift (.enqueueDma (kHalf oH iH) (.remote (Dev.tc dst) (oBlk oO iO) (.dma s)) (.dma r)
    ((View.wordExact_bits rfl).reshape _ _) (View.wordExact_bits rfl) ⟨⟨rfl, Or.inl rfl⟩, trivial⟩)
end

/-! ## The chain -/

/-- `f` at each of a list's members in turn, and then `k`. -/
def each {ι : Type} (f : ι → KProg F) : List ι → KProg F → KProg F
  | [], k => k
  | i :: l, k => f i >>= fun _ => each f l k

/-- The seven distances in order, -/
abbrev d7 : List (Fin 7) := [0, 1, 2, 3, 4, 5, 6]
/-- and the three. -/
abbrev d3 : List (Fin 3) := [0, 1, 2]

variable (c : Dev nD) (h : Fin 2)

def pSig (d : Fin 7) : KProg F := semSignalWord (sigDev d c) barS 1#32
def pSig' (e : Fin 3) : KProg F := semSignalWord (sigDev' e c) barS 1#32
def pS1 (d : Fin 7) : KProg F :=
  stepS1 (s1Dev h d c) (fA_inb d c) (bOff_inb h) (fO_inb h d c) (fO'_inb h d c) (rOff_inb h d.succ)
    (semOf (.inl (0, h, d))) (semOf (.inl (1, h, d)))
def pOwn1 : KProg F := stepOwn1 (fAown_inb c) (bOff_inb h) (rOff_inb h 0)
def pAcc (d : Fin 7) : KProg F :=
  stepAcc (fO'_inb h d c) (rOff_inb h d.succ) (hOff_inb h) (semOf (.inl (1, h, d)))
def pS2 (e : Fin 3) : KProg F :=
  stepS2 (s2Dev h e c) (fC_inb h e c) (sOff_inb h e.succ) (semOf (.inr (0, h, e))) (semOf (.inr (1, h, e)))
def pW2 (e : Fin 3) : KProg F := waitCS (fC_inb h e c) (sOff_inb h e.succ) (semOf (.inr (1, h, e)))
def pG2 (e : Fin 3) : KProg F := stepG2 (g2Dev h e c) (fK_inb h c) (semOf (.inr (2, h, e))) (semOf (.inr (3, h, e)))
def pWG2 (e : Fin 3) : KProg F := waitKK (fK_inb h c) (semOf (.inr (3, h, e)))
def pG1 (d : Fin 7) : KProg F :=
  stepG1 (g1Dev h d c) (hOff_inb h) (fOown'_inb h c) (semOf (.inl (2, h, d))) (semOf (.inl (3, h, d)))
def pWG1 (d : Fin 7) : KProg F := waitHO (hOff_inb h) (fOown'_inb h c) (semOf (.inl (3, h, d)))
def pWs1 (d : Fin 7) : KProg F := waitOR (fO'_inb h d c) (rOff_inb h d.succ) (semOf (.inl (0, h, d)))
def pWs2 (e : Fin 3) : KProg F := waitSC (fC_inb h e c) (sOff_inb h e.succ) (semOf (.inr (0, h, e)))
def pWg2 (e : Fin 3) : KProg F := waitKK (fK_inb h c) (semOf (.inr (2, h, e)))
def pWg1 (d : Fin 7) : KProg F := waitOH (hOff_inb h) (fOown'_inb h c) (semOf (.inl (2, h, d)))

/-- The first stage at one half: seven products sent, the own one kept. -/
def stage1 (k : KProg F) : KProg F := each (pS1 c h) d7 (pOwn1 c h >>= fun _ => k)

/-- The rest of one half: the sum over the cube, the exchange of strips, the activation, the gather. -/
def stage2 (k : KProg F) : KProg F :=
  stepAcc0 (rOff_inb h 0) (hOff_inb h) >>= fun _ =>
  each (pAcc c h) d7 <| each (pS2 c h) d3 <|
  stepOwn2 (fCown_inb h c) (sOff_inb h 0) >>= fun _ =>
  each (pW2 c h) d3 <|
  stepAct (sOff_inb h 0) (sOff_inb h 1) (sOff_inb h 2) (sOff_inb h 3) (fK_inb h c) >>= fun _ =>
  each (pG2 c h) d3 <| each (pWG2 c h) d3 <|
  stepCopy (hOff_inb h) (fOown_inb h c) >>= fun _ =>
  each (pG1 c h) d7 k

/-- The closing waits. -/
def closing : KProg F :=
  each (pWG1 c 1) d7 <| each (pWG1 c 0) d7 <|
  each (pWs1 c 0) d7 <| each (pWs1 c 1) d7 <| each (pWs2 c 0) d3 <| each (pWg2 c 0) d3 <| each (pWg1 c 0) d7 <|
  each (pWs2 c 1) d3 <| each (pWg2 c 1) d3 <| each (pWg1 c 1) d7 <| pure ⟨⟩

/-- The kernel body on device `c`, after the device has learnt its number. -/
def flatFrom : KProg F :=
  each (pSig c) d7 <| each (pSig' c) d3 <| semWaitWord barS 10#32 >>= fun _ =>
  stage1 c 0 <| stage1 c 1 <| stage2 c 0 <| stage2 c 1 <| closing c

/-- The kernel body. -/
def flat : KProg F := Prog.lift .deviceId >>= fun c => flatFrom c

set_option maxRecDepth 65536 in
set_option maxHeartbeats 4000000 in
/-- The printed body is the chain of steps. -/
theorem body_eq_flat (t : Fin cfg0.N) : bodyAt0 (F := F) t = flat := by
  rfl

end Cert.KernelIdeal.Hand

end
-- ==== Proof.KernelIdeal.Cont.lean ====
/-
  What the buffers hold. Every buffer has one whole content per stage of the kernel, a function of the staged factors of
  all devices; a block, slot or strip of a buffer is that function read through the piece's view. Each transfer and each
  store is then one equation between two such readings.
-/
module

public import proofs.«01_k».proof.Proof.KernelIdeal.Flat
public import Idealize.ShloMosaic.Lib.ValueLayout

@[expose] public section

set_option synthInstance.maxSize 4096

noncomputable section

namespace Cert.KernelIdeal.Hand

open Idealize.ShloMosaic Idealize.SL.Sem Idealize.ShloMosaic.ValueIdx
open Cert.KernelIdeal Cert.KernelIdeal.Gen

variable {F : FTy → Type} [FloatOps F]

/-! ## The pieces at their places -/

section
variable (h : Fin 2)
abbrev mO (mm : Fin 8) : Memref sig .tc .vmem S192x768 .f32 := oBlk (oOff h mm) (oOff_inb h mm)
abbrev mR (s : Fin 8) : Memref sig .tc .vmem S192x768 .f32 := rSlot (rOff h s) (rOff_inb h s)
abbrev mC (q : Fin 4) : Memref sig .tc .vmem S48x768 .f32 := cStrip (kOff h q) (kOff_inb h q)
abbrev mK (q : Fin 4) : Memref sig .tc .vmem S48x768 .f32 := kStrip (kOff h q) (kOff_inb h q)
abbrev mS (s : Fin 4) : Memref sig .tc .vmem S48x768 .f32 := sSlot (sOff h s) (sOff_inb h s)
abbrev mH : Memref sig .tc .vmem S192x768 .f32 := kHalf (hOff h) (hOff_inb h)
abbrev rA (s : Fin 8) := rM.access (rRect (rOff h s) (rOff_inb h s))
abbrev cA := cM.access (hRect (hOff h) (hOff_inb h))
abbrev cQ (q : Fin 4) := cM.access (qRect (kOff h q) (kOff_inb h q))
abbrev kA := kM.access (hRect (hOff h) (hOff_inb h))
abbrev kQ (q : Fin 4) := kM.access (qRect (kOff h q) (kOff_inb h q))
abbrev sA (s : Fin 4) := sM.access (sRect (sOff h s) (sOff_inb h s))
end
abbrev aA (mm : Fin 8) := aM.access (aRect (aOff mm) (aOff_inb mm))
abbrev bA (h : Fin 2) := bM.access (bRect (bOff h) (bOff_inb h))

/-! ## Where a piece's entries lie -/

section
variable (h : Fin 2) (j : Fin 768)

theorem rd_aA (mm : Fin 8) (i : Fin 192) (G : S1536x768.Idx → Elt F .f32) :
    (aA mm).read (Elt F) G (ix2 i j) = G (ix2 ⟨192 * mm.val + i.val, by omega⟩ j) := by
  rw [View.read_apply]
  refine congrArg G (funext fun a => Fin.ext ?_)
  match a with
  | ⟨0, _⟩ => show 192 * mm.val + 1 * i.val = 192 * mm.val + i.val; omega
  | ⟨1, _⟩ => show 0 + 1 * j.val = j.val; omega

theorem rd_bA (i : Fin 768) (G : S768x1536.Idx → Elt F .f32) :
    (bA h).read (Elt F) G (ix2 i j) = G (ix2 i ⟨768 * h.val + j.val, by omega⟩) := by
  rw [View.read_apply]
  refine congrArg G (funext fun a => Fin.ext ?_)
  match a with
  | ⟨0, _⟩ => show 0 + 1 * i.val = i.val; omega
  | ⟨1, _⟩ => show 768 * h.val + 1 * j.val = 768 * h.val + j.val; omega

theorem rd_mO (mm : Fin 8) (i : Fin 192) (G : S1536x1536.Idx → Elt F .f32) :
    (mO h mm).view.read (Elt F) G (ix2 i j) = G (ix2 ⟨192 * mm.val + i.val, by omega⟩ ⟨768 * h.val + j.val, by omega⟩) := by
  rw [View.read_apply]
  refine congrArg G (funext fun a => Fin.ext ?_)
  match a with
  | ⟨0, _⟩ => show 192 * mm.val + 1 * i.val = 192 * mm.val + i.val; omega
  | ⟨1, _⟩ => show 768 * h.val + 1 * j.val = 768 * h.val + j.val; omega

theorem rd_rA (s : Fin 8) (u : Fin 1) (i : Fin 192) (G : S16x192x768.Idx → Elt F .f32) :
    (rA h s).read (Elt F) G (ix3 u i j) = G (ix3 ⟨8 * h.val + s.val, by omega⟩ i j) := by
  rw [View.read_apply]
  refine congrArg G (funext fun a => Fin.ext ?_)
  match a with
  | ⟨0, _⟩ => show 8 * h.val + s.val + 1 * u.val = 8 * h.val + s.val; omega
  | ⟨1, _⟩ => show 0 + 1 * i.val = i.val; omega
  | ⟨2, _⟩ => show 0 + 1 * j.val = j.val; omega

theorem rd_mR (s : Fin 8) (i : Fin 192) (G : S16x192x768.Idx → Elt F .f32) :
    (mR h s).view.read (Elt F) G (ix2 i j) = G (ix3 ⟨8 * h.val + s.val, by omega⟩ i j) := by
  refine Eq.trans ?_ (rd_rA h j s (⟨0, Nat.one_pos⟩ : Fin 1) i G)
  rw [← reshapeEquiv_ix2_1ab (squeezes_S1x192x768_S192x768.numel_eq) i j]
  rfl

theorem rd_cA (u : Fin 1) (i : Fin 192) (G : S2x192x768.Idx → Elt F .f32) :
    (cA h).read (Elt F) G (ix3 u i j) = G (ix3 h i j) := by
  rw [View.read_apply]
  refine congrArg G (funext fun a => Fin.ext ?_)
  match a with
  | ⟨0, _⟩ => show h.val + 1 * u.val = h.val; omega
  | ⟨1, _⟩ => show 0 + 1 * i.val = i.val; omega
  | ⟨2, _⟩ => show 0 + 1 * j.val = j.val; omega

theorem rd_kA (u : Fin 1) (i : Fin 192) (G : S2x192x768.Idx → Elt F .f32) :
    (kA h).read (Elt F) G (ix3 u i j) = G (ix3 h i j) := rd_cA h j u i G

theorem rd_mH (i : Fin 192) (G : S2x192x768.Idx → Elt F .f32) :
    (mH h).view.read (Elt F) G (ix2 i j) = G (ix3 h i j) := by
  refine Eq.trans ?_ (rd_kA h j (⟨0, Nat.one_pos⟩ : Fin 1) i G)
  rw [← reshapeEquiv_ix2_1ab (squeezes_S1x192x768_S192x768.numel_eq) i j]
  rfl

theorem rd_cQ (q : Fin 4) (u : Fin 1) (i : Fin 48) (G : S2x192x768.Idx → Elt F .f32) :
    (cQ h q).read (Elt F) G (ix3 u i j) = G (ix3 h ⟨48 * q.val + i.val, by omega⟩ j) := by
  rw [View.read_apply]
  refine congrArg G (funext fun a => Fin.ext ?_)
  match a with
  | ⟨0, _⟩ => show h.val + 1 * u.val = h.val; omega
  | ⟨1, _⟩ => show 48 * q.val + 1 * i.val = 48 * q.val + i.val; omega
  | ⟨2, _⟩ => show 0 + 1 * j.val = j.val; omega

theorem rd_kQ (q : Fin 4) (u : Fin 1) (i : Fin 48) (G : S2x192x768.Idx → Elt F .f32) :
    (kQ h q).read (Elt F) G (ix3 u i j) = G (ix3 h ⟨48 * q.val + i.val, by omega⟩ j) := rd_cQ h j q u i G

theorem rd_mC (q : Fin 4) (i : Fin 48) (G : S2x192x768.Idx → Elt F .f32) :
    (mC h q).view.read (Elt F) G (ix2 i j) = G (ix3 h ⟨48 * q.val + i.val, by omega⟩ j) := by
  refine Eq.trans ?_ (rd_cQ h j q (⟨0, Nat.one_pos⟩ : Fin 1) i G)
  rw [← reshapeEquiv_ix2_1ab (squeezes_S1x48x768_S48x768.numel_eq) i j]
  rfl

theorem rd_sA (s : Fin 4) (u : Fin 1) (i : Fin 48) (G : S8x48x768.Idx → Elt F .f32) :
    (sA h s).read (Elt F) G (ix3 u i j) = G (ix3 ⟨4 * h.val + s.val, by omega⟩ i j) := by
  rw [View.read_apply]
  refine congrArg G (funext fun a => Fin.ext ?_)
  match a with
  | ⟨0, _⟩ => show 4 * h.val + s.val + 1 * u.val = 4 * h.val + s.val; omega
  | ⟨1, _⟩ => show 0 + 1 * i.val = i.val; omega
  | ⟨2, _⟩ => show 0 + 1 * j.val = j.val; omega

theorem rd_mS (s : Fin 4) (i : Fin 48) (G : S8x48x768.Idx → Elt F .f32) :
    (mS h s).view.read (Elt F) G (ix2 i j) = G (ix3 ⟨4 * h.val + s.val, by omega⟩ i j) := by
  refine Eq.trans ?_ (rd_sA h j s (⟨0, Nat.one_pos⟩ : Fin 1) i G)
  rw [← reshapeEquiv_ix2_1ab (squeezes_S1x48x768_S48x768.numel_eq) i j]
  rfl
end

/-! ## The contents -/

section
variable (XA : Dev nD → S1536x768.Idx → Elt F .f32) (XB : Dev nD → S768x1536.Idx → Elt F .f32)

/-- Device `c`'s product of its block `mm` of rows with its half `h` of columns. -/
def prodBlk (c : Dev nD) (mm : Fin 8) (h : Fin 2) : FVec F S192x768 .f32 :=
  k0_pay1 ((aA mm).read (Elt F) (XA c)) ((bA h).read (Elt F) (XB c))

/-- The mate a slot of `x`'s first buffer comes from, -/
def from1 (x : Dev nD) (s : Fin 8) : Dev nD := idx (cube x) ⟨((mem x).val + 8 - s.val) % 8, Nat.mod_lt _ (by omega)⟩
/-- and the partner one of its second. -/
def from2 (x : Dev nD) (s : Fin 4) : Dev nD := idx ⟨((cube x).val + 4 - s.val) % 4, Nat.mod_lt _ (by omega)⟩ (mem x)

theorem from1_zero : ∀ c, from1 c 0 = c := by decide +kernel
theorem from1_mate : ∀ (d : Fin 7) c, from1 (mate d c) d.succ = c := by decide +kernel
theorem from2_zero : ∀ c, from2 c 0 = c := by decide +kernel
theorem from2_partner : ∀ (e : Fin 3) c, from2 (partner e c) e.succ = c := by decide +kernel

/-- The result's buffer while it holds the products to be sent. -/
def out1F (c : Dev nD) : S1536x1536.Idx → Elt F .f32 := fun i =>
  prodBlk XA XB c ⟨(i 0).val / 192, by have : (i 0).val < 1536 := (i 0).isLt; omega⟩
    ⟨(i 1).val / 768, by have : (i 1).val < 1536 := (i 1).isLt; omega⟩
    (ix2 ⟨(i 0).val % 192, Nat.mod_lt _ (by omega)⟩ ⟨(i 1).val % 768, Nat.mod_lt _ (by omega)⟩)

/-- The first reduction's buffer once everything has arrived. -/
def rs1F (x : Dev nD) : S16x192x768.Idx → Elt F .f32 := fun i =>
  prodBlk XA XB (from1 x ⟨(i 0).val % 8, Nat.mod_lt _ (by omega)⟩) (mem x)
    ⟨(i 0).val / 8, by have : (i 0).val < 16 := (i 0).isLt; omega⟩ (ix2 (i 1) (i 2))

/-- The accumulated block of half `h` after the own product and `n` arrived ones. -/
def accV (x : Dev nD) (h : Fin 2) : ℕ → FVec F S1x192x768 .f32
  | 0 => k0_pay19 ((rA h 0).read (Elt F) (rs1F XA XB x))
  | n + 1 => k0_pay20 (accV x h n) ((rA h ⟨(n + 1) % 8, Nat.mod_lt _ (by omega)⟩).read (Elt F) (rs1F XA XB x))

/-- The accumulator after `n` arrivals. -/
def accF (x : Dev nD) (n : ℕ) : S2x192x768.Idx → Elt F .f32 := fun i => accV XA XB x (i 0) n (ix3 (0 : Fin 1) (i 1) (i 2))

/-- The second reduction's buffer once everything has arrived. -/
def rs2F (x : Dev nD) : S8x48x768.Idx → Elt F .f32 := fun i =>
  accF XA XB (from2 x ⟨(i 0).val % 4, Nat.mod_lt _ (by omega)⟩) 7
    (ix3 ⟨(i 0).val / 4, by have : (i 0).val < 8 := (i 0).isLt; omega⟩
      ⟨48 * (cube x).val + (i 1).val, by have : (i 1).val < 48 := (i 1).isLt; omega⟩ (i 2))

/-- The finished strip of half `h` at device `x`. -/
def actV (x : Dev nD) (h : Fin 2) : FVec F S1x48x768 .f32 :=
  k0_pay45 ((sA h 0).read (Elt F) (rs2F XA XB x)) ((sA h 1).read (Elt F) (rs2F XA XB x))
    ((sA h 2).read (Elt F) (rs2F XA XB x)) ((sA h 3).read (Elt F) (rs2F XA XB x))

/-- The block buffer once the strips of every cube are there. -/
def blkF (x : Dev nD) : S2x192x768.Idx → Elt F .f32 := fun i =>
  actV XA XB (idx ⟨(i 1).val / 48, by have : (i 1).val < 192 := (i 1).isLt; omega⟩ (mem x)) (i 0)
    (ix3 (0 : Fin 1) ⟨(i 1).val % 48, Nat.mod_lt _ (by omega)⟩ (i 2))

/-- The result, the same on every device. -/
def outF : S1536x1536.Idx → Elt F .f32 := fun i =>
  blkF XA XB (idx 0 ⟨(i 0).val / 192, by have : (i 0).val < 1536 := (i 0).isLt; omega⟩)
    (ix3 ⟨(i 1).val / 768, by have : (i 1).val < 1536 := (i 1).isLt; omega⟩
      ⟨(i 0).val % 192, Nat.mod_lt _ (by omega)⟩ ⟨(i 1).val % 768, Nat.mod_lt _ (by omega)⟩)

/-! ## The equations of the stores and the transfers -/

theorem out1_at (c : Dev nD) (h : Fin 2) (mm : Fin 8) :
    (mO h mm).view.read (Elt F) (out1F XA XB c) = prodBlk XA XB c mm h := by
  funext x
  obtain ⟨i, j, rfl⟩ : ∃ a b, x = ix2 a b := ⟨_, _, eq_ix2 x⟩
  rw [rd_mO]
  show prodBlk XA XB c ⟨(192 * mm.val + i.val) / 192, _⟩ ⟨(768 * h.val + j.val) / 768, _⟩
    (ix2 ⟨(192 * mm.val + i.val) % 192, _⟩ ⟨(768 * h.val + j.val) % 768, _⟩) = _
  congr 1
  · exact Fin.ext (by show (192 * mm.val + i.val) / 192 = mm.val; omega)
  · exact Fin.ext (by show (768 * h.val + j.val) / 768 = h.val; omega)
  · congr 1
    · exact Fin.ext (by show (192 * mm.val + i.val) % 192 = i.val; omega)
    · exact Fin.ext (by show (768 * h.val + j.val) % 768 = j.val; omega)

theorem rs1_entry (x : Dev nD) (h : Fin 2) (s : Fin 8) (i : Fin 192) (j : Fin 768) :
    rs1F XA XB x (ix3 ⟨8 * h.val + s.val, by omega⟩ i j) = prodBlk XA XB (from1 x s) (mem x) h (ix2 i j) := by
  show prodBlk XA XB (from1 x ⟨(8 * h.val + s.val) % 8, _⟩) (mem x) ⟨(8 * h.val + s.val) / 8, _⟩ (ix2 i j) = _
  congr 1
  · congr 1
    exact Fin.ext (by show (8 * h.val + s.val) % 8 = s.val; omega)
  · exact Fin.ext (by show (8 * h.val + s.val) / 8 = h.val; omega)

/-- What a mate is sent is what its slot then holds. -/
theorem send1 (c : Dev nD) (h : Fin 2) (d : Fin 7) :
    (mR h d.succ).view.read (Elt F) (rs1F XA XB (mate d c)) = (mO h (mem (mate d c))).view.read (Elt F) (out1F XA XB c) := by
  rw [out1_at]
  funext x
  obtain ⟨i, j, rfl⟩ : ∃ a b, x = ix2 a b := ⟨_, _, eq_ix2 x⟩
  rw [rd_mR, rs1_entry, from1_mate]

/-- The own product is what slot 0 then holds. -/
theorem own1 (c : Dev nD) (h : Fin 2) :
    (rA h 0).read (Elt F) (rs1F XA XB c)
      = k0_pay18 ((aA (mem c)).read (Elt F) (XA c)) ((bA h).read (Elt F) (XB c)) := by
  funext x
  obtain ⟨u, i, j, rfl⟩ : ∃ u a b, x = ix3 u a b := ⟨_, _, _, eq_ix3 x⟩
  rw [rd_rA, rs1_entry, from1_zero]
  exact (shapeCast_ab_1ab_apply (k0_pay1 ((aA (mem c)).read (Elt F) (XA c)) ((bA h).read (Elt F) (XB c)))
    shapeCasts_S192x768_S1x192x768 u i j).symm

theorem acc_at (x : Dev nD) (h : Fin 2) (n : ℕ) : (cA h).read (Elt F) (accF XA XB x n) = accV XA XB x h n := by
  funext y
  obtain ⟨u, i, j, rfl⟩ : ∃ u a b, y = ix3 u a b := ⟨_, _, _, eq_ix3 y⟩
  rw [rd_cA]
  show accV XA XB x h n (ix3 (0 : Fin 1) i j) = _
  rw [Subsingleton.elim u 0]

theorem rs2_entry (x : Dev nD) (h : Fin 2) (s : Fin 4) (i : Fin 48) (j : Fin 768) :
    rs2F XA XB x (ix3 ⟨4 * h.val + s.val, by omega⟩ i j)
      = accF XA XB (from2 x s) 7 (ix3 h ⟨48 * (cube x).val + i.val, by omega⟩ j) := by
  show accF XA XB (from2 x ⟨(4 * h.val + s.val) % 4, _⟩) 7
    (ix3 ⟨(4 * h.val + s.val) / 4, _⟩ ⟨48 * (cube x).val + i.val, _⟩ j) = _
  congr 1
  · congr 1
    exact Fin.ext (by show (4 * h.val + s.val) % 4 = s.val; omega)
  · congr 1
    exact Fin.ext (by show (4 * h.val + s.val) / 4 = h.val; omega)

/-- What a partner is sent is what its slot then holds. -/
theorem send2 (c : Dev nD) (h : Fin 2) (e : Fin 3) :
    (mS h e.succ).view.read (Elt F) (rs2F XA XB (partner e c))
      = (mC h (cube (partner e c))).view.read (Elt F) (accF XA XB c 7) := by
  funext x
  obtain ⟨i, j, rfl⟩ : ∃ a b, x = ix2 a b := ⟨_, _, eq_ix2 x⟩
  rw [rd_mS, rs2_entry, from2_partner, rd_mC]

/-- The own strip is stored as it is read, -/
theorem pay29_self (v : Vec F S1x48x768 .f32) : k0_pay29 v = v := by
  unfold k0_pay29
  exact shapeCast_shapeCast _ _ _

/-- and the finished block only loses its leading axis. -/
theorem pay33_at (v : Vec F S1x192x768 .f32) (i : Fin 192) (j : Fin 768) : k0_pay33 v (ix2 i j) = v (ix3 (0 : Fin 1) i j) := by
  unfold k0_pay33
  exact shapeCast_1ab_ab_apply v shapeCasts_S1x192x768_S192x768 i j

/-- The own strip is what slot 0 then holds. -/
theorem own2 (c : Dev nD) (h : Fin 2) :
    (sA h 0).read (Elt F) (rs2F XA XB c) = k0_pay29 ((cQ h (cube c)).read (Elt F) (accF XA XB c 7)) := by
  funext x
  obtain ⟨u, i, j, rfl⟩ : ∃ u a b, x = ix3 u a b := ⟨_, _, _, eq_ix3 x⟩
  rw [rd_sA, rs2_entry, from2_zero]
  rw [pay29_self, rd_cQ]

theorem blk_entry (x : Dev nD) (h : Fin 2) (q : Fin 4) (i : Fin 48) (j : Fin 768) :
    blkF XA XB x (ix3 h ⟨48 * q.val + i.val, by omega⟩ j) = actV XA XB (idx q (mem x)) h (ix3 (0 : Fin 1) i j) := by
  show actV XA XB (idx ⟨(48 * q.val + i.val) / 48, _⟩ (mem x)) h (ix3 (0 : Fin 1) ⟨(48 * q.val + i.val) % 48, _⟩ j) = _
  congr 1
  · refine congrArg (fun q => idx q (mem x)) (Fin.ext ?_)
    show (48 * q.val + i.val) / 48 = q.val
    omega
  · refine congrArg (fun i => ix3 (0 : Fin 1) i j) ?_
    exact Fin.ext (by show (48 * q.val + i.val) % 48 = i.val; omega)

/-- The activated strip is what the block buffer then holds. -/
theorem act_at (c : Dev nD) (h : Fin 2) :
    (kQ h (cube c)).read (Elt F) (blkF XA XB c)
      = k0_pay45 ((sA h 0).read (Elt F) (rs2F XA XB c)) ((sA h 1).read (Elt F) (rs2F XA XB c))
          ((sA h 2).read (Elt F) (rs2F XA XB c)) ((sA h 3).read (Elt F) (rs2F XA XB c)) := by
  funext x
  obtain ⟨u, i, j, rfl⟩ : ∃ u a b, x = ix3 u a b := ⟨_, _, _, eq_ix3 x⟩
  rw [rd_kQ, blk_entry, idx_cube_mem, Subsingleton.elim u 0]
  rfl

/-- Partners' block buffers come to hold the same. -/
theorem blk_congr {x y : Dev nD} (hm : mem x = mem y) : blkF XA XB x = blkF XA XB y := by
  funext i
  show actV XA XB (idx _ (mem x)) _ _ = actV XA XB (idx _ (mem y)) _ _
  rw [hm]

theorem out_entry (h : Fin 2) (c : Dev nD) (i : Fin 192) (j : Fin 768) :
    outF XA XB (ix2 ⟨192 * (mem c).val + i.val, by omega⟩ ⟨768 * h.val + j.val, by omega⟩) = blkF XA XB c (ix3 h i j) := by
  show blkF XA XB (idx 0 ⟨(192 * (mem c).val + i.val) / 192, _⟩)
    (ix3 ⟨(768 * h.val + j.val) / 768, _⟩ ⟨(192 * (mem c).val + i.val) % 192, _⟩ ⟨(768 * h.val + j.val) % 768, _⟩) = _
  rw [blk_congr XA XB (y := c) (by rw [mem_idx]; exact Fin.ext (by show (192 * (mem c).val + i.val) / 192 = (mem c).val; omega))]
  congr 1
  congr 1
  · exact Fin.ext (by show (768 * h.val + j.val) / 768 = h.val; omega)
  · exact Fin.ext (by show (192 * (mem c).val + i.val) % 192 = i.val; omega)
  · exact Fin.ext (by show (768 * h.val + j.val) % 768 = j.val; omega)

/-- The device's finished block is what the result then holds at its place. -/
theorem copy_at (c : Dev nD) (h : Fin 2) :
    (mO h (mem c)).view.read (Elt F) (outF XA XB) = k0_pay33 ((kA h).read (Elt F) (blkF XA XB c)) := by
  funext x
  obtain ⟨i, j, rfl⟩ : ∃ a b, x = ix2 a b := ⟨_, _, eq_ix2 x⟩
  rw [rd_mO, out_entry, pay33_at, rd_kA]

/-- What every mate is sent is what the result then holds at the sender's place. -/
theorem send3 (c : Dev nD) (h : Fin 2) :
    (mO h (mem c)).view.read (Elt F) (outF XA XB) = (mH h).view.read (Elt F) (blkF XA XB c) := by
  funext x
  obtain ⟨i, j, rfl⟩ : ∃ a b, x = ix2 a b := ⟨_, _, eq_ix2 x⟩
  rw [rd_mO, out_entry, rd_mH]
end

/-- A view written over with what `G` reads through it agrees with `G` on the view's elements. -/
theorem write_agrees {κ : Kind} {sp : Space} {s : Shape} {e : EltTy} (v : View sig κ sp s e) (f G : v.ty.Contents (Elt F))
    (w : s.Idx → Elt F e) (hw : v.read (Elt F) G = w) : ∀ i ∈ v.set, v.write (Elt F) f w Finset.univ i = G i := by
  intro i hi
  obtain ⟨x, -, rfl⟩ := Finset.mem_map.mp hi
  rw [View.write_emb_of_mem _ _ (Finset.mem_univ x), ← hw, View.read_apply, cast_cast, cast_eq]

end Cert.KernelIdeal.Hand

end
-- ==== Proof.KernelIdeal.Sched.lean ====
/-
  The protocol. Every transfer's two semaphores and the barrier's have one round. A device's barrier has one duty for each
  device that signals it, and with the signal come the buffers that device lets it write. A transfer's arrival hands the
  receiver what was written, and for the first reduction the sender's block too, which is where the finished block is
  gathered later. The return of a send hands back what was read.
-/
module

public import proofs.«01_k».proof.Proof.KernelIdeal.Cont
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

set_option synthInstance.maxSize 4096

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok pointsTo_toks_split pointsTo_toks_join)

variable {F : FTy → Type} [FloatOps F]

/-! ## The resources -/

/-- Who pays a barrier: the mates and the partners. -/
abbrev Duty := Fin 7 ⊕ Fin 3
abbrev UB : Type := URounds (GSem nD τ sig) Duty
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The cells -/

/-- The barrier, or a transfer's semaphore. -/
def csem : Option Tag → SemLoc sig
  | none => .reg barS
  | some t => .dma (semOf t)

theorem csem_inj : Function.Injective csem := by
  rintro (_ | t) (_ | t') h
  · rfl
  · cases h
  · cases h
  · have : semOf t = semOf t' := by simpa [csem] using h
    rw [semOf_inj _ _ this]

/-- What a semaphore is in the protocol, if anything. -/
def dec (s : SemLoc sig) : Option (Option Tag) :=
  open Classical in if h : ∃ o, csem o = s then some h.choose else none

theorem dec_csem (o : Option Tag) : dec (csem o) = some o := by
  have h : ∃ o', csem o' = csem o := ⟨o, rfl⟩
  unfold dec
  rw [dif_pos h, csem_inj h.choose_spec]

theorem dec_none (s : SemLoc sig) (h : ∀ o, csem o ≠ s) : dec s = none := by
  unfold dec
  rw [dif_neg (fun ⟨o, ho⟩ => h o ho)]

abbrev cell (c : Dev nD) (o : Option Tag) : GSem nD τ sig := ((c : Thread nD τ), csem o)
abbrev bcell (c : Dev nD) : GSem nD τ sig := ((c : Thread nD τ), .reg barS)
abbrev tcell (c : Dev nD) (t : Tag) : GSem nD τ sig := ((c : Thread nD τ), .dma (semOf t))

/-- The credit of a block and of a strip. -/
abbrev N1 : ℕ := (mR 0 0).view.dmaCredit
abbrev N2 : ℕ := (mS 0 0).view.dmaCredit

def amt : Tag → ℕ
  | .inl _ => N1
  | .inr _ => N2

theorem amt_pos (t : Tag) : 0 < amt t := by
  rcases t with t | t
  · exact View.dmaCredit_pos _ (by decide)
  · exact View.dmaCredit_pos _ (by decide)

/-! ## The pieces as resources -/

section
variable (x : Dev nD) (h : Fin 2) (q : PosShare TreeShare)

def ptO (mm : Fin 8) (f : S1536x1536.Idx → Elt F .f32) : sProp 𝕄 :=
  (mO h mm).view.loc (x : Thread nD τ) ↦[(mO h mm).view.set]{fullShare} f
def ptR (s : Fin 8) (f : S16x192x768.Idx → Elt F .f32) : sProp 𝕄 :=
  (mR h s).view.loc (x : Thread nD τ) ↦[(mR h s).view.set]{fullShare} f
def ptA (f : S2x192x768.Idx → Elt F .f32) : sProp 𝕄 :=
  (cA h).loc (x : Thread nD τ) ↦[(cA h).set]{fullShare} f
def ptC (s : Fin 4) (f : S2x192x768.Idx → Elt F .f32) : sProp 𝕄 :=
  (mC h s).view.loc (x : Thread nD τ) ↦[(mC h s).view.set]{fullShare} f
def ptS (s : Fin 4) (f : S8x48x768.Idx → Elt F .f32) : sProp 𝕄 :=
  (mS h s).view.loc (x : Thread nD τ) ↦[(mS h s).view.set]{fullShare} f
def ptK (s : Fin 4) (f : S2x192x768.Idx → Elt F .f32) : sProp 𝕄 :=
  (mK h s).view.loc (x : Thread nD τ) ↦[(mK h s).view.set]{q} f
def ptH (f : S2x192x768.Idx → Elt F .f32) : sProp 𝕄 :=
  (mH h).view.loc (x : Thread nD τ) ↦[(mH h).view.set]{q} f

instance ptO_storable (mm) (f) : BI.Storable (upEmb : UEmb _ 𝕄) (ptO (F := F) x h mm f) := by unfold ptO; infer_instance
instance ptR_storable (s) (f) : BI.Storable (upEmb : UEmb _ 𝕄) (ptR (F := F) x h s f) := by unfold ptR; infer_instance
instance ptC_storable (s) (f) : BI.Storable (upEmb : UEmb _ 𝕄) (ptC (F := F) x h s f) := by unfold ptC; infer_instance
instance ptS_storable (s) (f) : BI.Storable (upEmb : UEmb _ 𝕄) (ptS (F := F) x h s f) := by unfold ptS; infer_instance
instance ptK_storable (s) (f) : BI.Storable (upEmb : UEmb _ 𝕄) (ptK (F := F) x h q s f) := by unfold ptK; infer_instance
instance ptH_storable (f) : BI.Storable (upEmb : UEmb _ 𝕄) (ptH (F := F) x h q f) := by unfold ptH; infer_instance
end

/-- The share of its strip a device keeps while it sends it, and the share it lends to each send; -/
abbrev q3 : PosShare TreeShare := shareDrop fullShare 3
abbrev t3 (e : Fin 3) : PosShare TreeShare := shareTok fullShare 3 e
/-- the same of the finished block. -/
abbrev q7 : PosShare TreeShare := shareDrop q3 7
abbrev t7 (d : Fin 7) : PosShare TreeShare := shareTok q3 7 d

section
variable (XA : Dev nD → S1536x768.Idx → Elt F .f32) (XB : Dev nD → S768x1536.Idx → Elt F .f32)

/-- What the signal of `y`'s mate or partner brings. -/
def barPay (y : Dev nD) : Duty → sProp 𝕄
  | .inl d => iprop((∃ f, ptR (mate d y) 0 d.succ f) ∗ (∃ f, ptR (mate d y) 1 d.succ f))
  | .inr e => iprop(((∃ f, ptS (partner e y) 0 e.succ f) ∗ (∃ f, ptS (partner e y) 1 e.succ f))
      ∗ (∃ f, ptK (partner e y) 0 fullShare (cube y) f) ∗ (∃ f, ptK (partner e y) 1 fullShare (cube y) f))

/-- What a transfer's semaphore at `x` hands out. -/
def tagPay (x : Dev nD) : Tag → sProp 𝕄
  | .inl (k, h, d) => (![iprop(emp), iprop(ptR x h d.succ (rs1F XA XB x) ∗ ∃ f, ptO (mate d.rev x) h (mem x) f),
      ptH x h (t7 d) (blkF XA XB x), ptO x h (mem (mate d.rev x)) (outF XA XB)] : Fin 4 → sProp 𝕄) k
  | .inr (k, h, e) => (![ptC x h (cube (partner e x)) (accF XA XB x 7), ptS x h e.succ (rs2F XA XB x),
      ptK x h (t3 e) (cube x) (blkF XA XB x), ptK x h fullShare (cube (partner e.rev x)) (blkF XA XB x)] : Fin 4 → sProp 𝕄) k

instance barPay_storable (y : Dev nD) (δ : Duty) : BI.Storable (upEmb : UEmb _ 𝕄) (barPay (F := F) y δ) := by
  rcases δ with d | e <;> unfold barPay <;> infer_instance

instance tagPay_storable (x : Dev nD) (t : Tag) : BI.Storable (upEmb : UEmb _ 𝕄) (tagPay (F := F) XA XB x t) := by
  rcases t with ⟨k, h, d⟩ | ⟨k, h, e⟩ <;> unfold tagPay <;> fin_cases k
  · show BI.Storable (upEmb : UEmb _ 𝕄) iprop(emp); infer_instance
  · show BI.Storable (upEmb : UEmb _ 𝕄) iprop(ptR x h d.succ (rs1F XA XB x) ∗ ∃ f, ptO (mate d.rev x) h (mem x) f); infer_instance
  · show BI.Storable (upEmb : UEmb _ 𝕄) (ptH x h (t7 d) (blkF XA XB x)); infer_instance
  · show BI.Storable (upEmb : UEmb _ 𝕄) (ptO x h (mem (mate d.rev x)) (outF XA XB)); infer_instance
  · show BI.Storable (upEmb : UEmb _ 𝕄) (ptC x h (cube (partner e x)) (accF XA XB x 7)); infer_instance
  · show BI.Storable (upEmb : UEmb _ 𝕄) (ptS x h e.succ (rs2F XA XB x)); infer_instance
  · show BI.Storable (upEmb : UEmb _ 𝕄) (ptK x h (t3 e) (cube x) (blkF XA XB x)); infer_instance
  · show BI.Storable (upEmb : UEmb _ 𝕄) (ptK x h fullShare (cube (partner e.rev x)) (blkF XA XB x)); infer_instance

/-! ## The schedule -/

def dutiesOf : Option (Option Tag) → Finset Duty
  | some none => Finset.univ
  | some (some _) => {.inl 0}
  | none => ∅
def amtOf : Option (Option Tag) → ℕ
  | some (some t) => amt t
  | _ => 1
def payOf (x : Dev nD) (δ : Duty) : Option (Option Tag) → sProp 𝕄
  | some none => barPay x δ
  | some (some t) => tagPay XA XB x t
  | none => iprop(emp)

/-- One round: a barrier has ten duties of one unit, a transfer's semaphore one of its credit. -/
def Rd : Rounds.Schedule (GSem nD τ sig) Duty 𝕄 where
  duties g r := if r = 0 ∧ g.1.2 = .tc then dutiesOf (dec g.2) else ∅
  unitless _ := False
  amount g _ _ := amtOf (dec g.2)
  payload g _ δ := payOf XA XB g.1.1 δ (dec g.2)
  amount_pos g _ _ _ := by
    match dec g.2 with
    | some none => exact Nat.one_pos
    | some (some t) => exact amt_pos t
    | none => exact Nat.one_pos

instance Rd_storable (g : GSem nD τ sig) (r : ℕ) (δ : Duty) : BI.Storable (upEmb : UEmb _ 𝕄) ((Rd XA XB).payload g r δ) := by
  show BI.Storable upEmb (payOf XA XB g.1.1 δ (dec g.2))
  match dec g.2 with
  | some none => exact barPay_storable _ _
  | some (some t) => exact tagPay_storable XA XB _ _
  | none => show BI.Storable (upEmb : UEmb _ 𝕄) iprop(emp); infer_instance

section
variable (c : Dev nD) (t : Tag)

theorem duties_bar : (Rd XA XB).duties (bcell c) 0 = Finset.univ := by
  show (if (0 : ℕ) = 0 ∧ (c : Thread nD τ).2 = .tc then dutiesOf (dec (csem none)) else ∅) = _
  rw [if_pos ⟨rfl, rfl⟩, dec_csem]; rfl
theorem duties_tag : (Rd XA XB).duties (tcell c t) 0 = {.inl 0} := by
  show (if (0 : ℕ) = 0 ∧ (c : Thread nD τ).2 = .tc then dutiesOf (dec (csem (some t))) else ∅) = _
  rw [if_pos ⟨rfl, rfl⟩, dec_csem]; rfl
theorem duties_later (g : GSem nD τ sig) : ∀ r, 1 ≤ r → (Rd XA XB).duties g r = ∅ :=
  fun r hr => if_neg fun h => by omega
theorem amount_bar (δ : Duty) : (Rd XA XB).amount (bcell c) 0 δ = 1 := by
  show amtOf (dec (csem none)) = _; rw [dec_csem]; rfl
theorem amount_tag (δ : Duty) : (Rd XA XB).amount (tcell c t) 0 δ = amt t := by
  show amtOf (dec (csem (some t))) = _; rw [dec_csem]; rfl
theorem payload_bar (δ : Duty) : (Rd XA XB).payload (bcell c) 0 δ = barPay c δ := by
  show payOf XA XB c δ (dec (csem none)) = _; rw [dec_csem]; rfl
theorem payload_tag (δ : Duty) : (Rd XA XB).payload (tcell c t) 0 δ = tagPay XA XB c t := by
  show payOf XA XB c δ (dec (csem (some t))) = _; rw [dec_csem]; rfl
theorem expect_bar : (Rd XA XB).expect (bcell c) 0 = 10 := by
  unfold Schedule.expect Schedule.amountOf
  rw [duties_bar, Finset.sum_congr rfl fun d _ => amount_bar XA XB c d, Finset.sum_const, Finset.card_univ, smul_eq_mul]
  rfl
theorem expect_tag : (Rd XA XB).expect (tcell c t) 0 = amt t := by
  unfold Schedule.expect Schedule.amountOf; rw [duties_tag, Finset.sum_singleton, amount_tag]
theorem rest_bar : bigSep ((Rd XA XB).duties (bcell c) 0 \ ∅) (fun d => (Rd XA XB).payload (bcell c) 0 d)
    = bigSep Finset.univ (barPay (F := F) c) := by
  rw [Finset.sdiff_empty, duties_bar]; exact bigSep_congr fun d _ => payload_bar XA XB c d
theorem rest_tag : bigSep ((Rd XA XB).duties (tcell c t) 0 \ ∅) (fun d => (Rd XA XB).payload (tcell c t) 0 d) = tagPay XA XB c t := by
  rw [Finset.sdiff_empty, duties_tag, bigSep_singleton, payload_tag]
end
end

/-! ## The order of the waits -/

def tagLv : Tag → ℕ
  | .inl (k, _, _) => (![0, 2, 0, 7] : Fin 4 → ℕ) k
  | .inr (k, h, _) => (![0, 3 + 2 * h.val, 0, 4 + 2 * h.val] : Fin 4 → ℕ) k
def lvOf : Option (Option Tag) → ℕ
  | some none => 1
  | some (some t) => tagLv t
  | none => 0

def L (g : GSem nD τ sig) : Finset Unit := if g.1.2 = .tc then {()} else ∅
/-- A cell's place in the order. -/
def lv (g : GSem nD τ sig) (_ : Unit) : ℕ := lvOf (dec g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (o : Option Tag) : lv (cell c o) () = lvOf (some o) := by
  show lvOf (dec (csem o)) = _; rw [dec_csem]

abbrev CT := CellTallies nD τ sig Unit

/-- Everything owed lies on cells later than `n`. -/
def Above (n : ℕ) (O : CT) : Prop := ∀ g u, 0 < O g u → u ∈ L g ∧ n < lv g u

theorem above_zero (n : ℕ) : Above n 0 := fun g u h => absurd h (Nat.lt_irrefl 0)
theorem above_add {n : ℕ} {O O' : CT} (h : Above n O) (h' : Above n O') : Above n (O + O') := by
  intro g u hg
  rw [Pi.add_apply, Finsupp.add_apply] at hg
  rcases Nat.eq_zero_or_pos (O g u) with h0 | h0
  · exact h' g u (by omega)
  · exact h g u h0
theorem above_tally {n : ℕ} (c : Dev nD) (o : Option Tag) (k : ℕ) (h : n < lvOf (some o)) :
    Above n (tallyAt (cell c o) () k : CT) := by
  intro g u hg
  rw [tallyAt_apply] at hg
  by_cases hc : g = cell c o ∧ u = ()
  · rw [hc.1, L_tc, lv_cell]; exact ⟨Finset.mem_singleton_self _, h⟩
  · rw [if_neg hc] at hg; exact absurd hg (Nat.lt_irrefl 0)

theorem mayWait_of (c : Dev nD) (sm : SemLoc sig) (O : CT) (n : ℕ) (hn : lvOf (dec sm) ≤ n) (h : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (h g u hg).1) (fun p hp => by rw [Finset.mem_singleton.mp hp]; exact hn) (fun g u hg => (h g u hg).2)

/-! ## What is owed -/

/-- `O'` and what is owed at a list's members, the first member's on top. -/
def ows {ι : Type} (o : ι → CT) (O' : CT) : List ι → CT
  | [] => O'
  | i :: l => ows o O' l + o i

theorem above_ows {ι : Type} {n : ℕ} {o : ι → CT} {O' : CT} (h : ∀ i, Above n (o i)) (h' : Above n O') (l : List ι) :
    Above n (ows o O' l) := by
  induction l with
  | nil => exact h'
  | cons i l ih => exact above_add ih (h i)

theorem ows_sum {ι : Type} (o : ι → CT) (O' : CT) (l : List ι) : ows o O' l = O' + (l.map o).sum := by
  induction l with
  | nil => simp [ows]
  | cons i l ih => rw [ows, ih, List.map_cons, List.sum_cons, add_assoc, add_comm (o i)]

section
variable (c : Dev nD) (h : Fin 2)
def owBar (d : Fin 7) : CT := tallyAt (bcell (mate d c)) () 1
def owBar' (e : Fin 3) : CT := tallyAt (bcell (partner e c)) () 1
def owS1 (d : Fin 7) : CT := tallyAt (tcell (mate d c) (.inl (1, h, d))) () N1
def owS2 (e : Fin 3) : CT := tallyAt (tcell (partner e c) (.inr (1, h, e))) () N2
def owG2 (e : Fin 3) : CT := tallyAt (tcell (partner e c) (.inr (3, h, e))) () N2
def owG1 (d : Fin 7) : CT := tallyAt (tcell (mate d c) (.inl (3, h, d))) () N1
end

/-- What is owed before each stretch of the kernel, from the last back. -/
def oG1b (c : Dev nD) : CT := ows (owG1 c 1) 0 d7
def oG2b (c : Dev nD) : CT := ows (owG2 c 1) (oG1b c) d3
def oS2b (c : Dev nD) : CT := ows (owS2 c 1) (oG2b c) d3
def oG1a (c : Dev nD) : CT := ows (owG1 c 0) (oS2b c) d7
def oG2a (c : Dev nD) : CT := ows (owG2 c 0) (oG1a c) d3
def oS2a (c : Dev nD) : CT := ows (owS2 c 0) (oG2a c) d3
def oS1b (c : Dev nD) : CT := ows (owS1 c 1) (oS2a c) d7
def oS1a (c : Dev nD) : CT := ows (owS1 c 0) (oS1b c) d7
def oB' (c : Dev nD) : CT := ows (owBar' c) (oS1a c) d3
def O₀ (c : Dev nD) : CT := ows (owBar c) (oB' c) d7

section
variable (c : Dev nD) (h : Fin 2)
theorem ab_owBar (d : Fin 7) : Above 0 (owBar c d) := above_tally _ none _ (by decide)
theorem ab_owBar' (e : Fin 3) : Above 0 (owBar' c e) := above_tally _ none _ (by decide)
theorem ab_owS1 (d : Fin 7) : Above 1 (owS1 c h d) := above_tally _ (some (.inl (1, h, d))) _ (by revert h; revert d; decide)
theorem ab_owS2 (e : Fin 3) : Above (2 + 2 * h.val) (owS2 c h e) := above_tally _ (some (.inr (1, h, e))) _ (by revert h; revert e; decide)
theorem ab_owG2 (e : Fin 3) : Above (3 + 2 * h.val) (owG2 c h e) := above_tally _ (some (.inr (3, h, e))) _ (by revert h; revert e; decide)
theorem ab_owG1 (d : Fin 7) : Above 6 (owG1 c h d) := above_tally _ (some (.inl (3, h, d))) _ (by revert h; revert d; decide)
theorem above_le {n m : ℕ} {O : CT} (hm : m ≤ n) (h : Above n O) : Above m O := fun g u hg => ⟨(h g u hg).1, Nat.lt_of_le_of_lt hm (h g u hg).2⟩

theorem ab_oG1b : Above 6 (oG1b c) := above_ows (ab_owG1 c 1) (above_zero _) _
theorem ab_oG2b : Above 5 (oG2b c) := above_ows (ab_owG2 c 1) (above_le (by decide) (ab_oG1b c)) _
theorem ab_oS2b : Above 4 (oS2b c) := above_ows (ab_owS2 c 1) (above_le (by decide) (ab_oG2b c)) _
theorem ab_oG1a : Above 4 (oG1a c) := above_ows (fun d => above_le (by decide) (ab_owG1 c 0 d)) (ab_oS2b c) _
theorem ab_oG2a : Above 3 (oG2a c) := above_ows (ab_owG2 c 0) (above_le (by decide) (ab_oG1a c)) _
theorem ab_oS2a : Above 2 (oS2a c) := above_ows (ab_owS2 c 0) (above_le (by decide) (ab_oG2a c)) _
theorem ab_oS1b : Above 1 (oS1b c) := above_ows (ab_owS1 c 1) (above_le (by decide) (ab_oS2a c)) _
theorem ab_oS1a : Above 1 (oS1a c) := above_ows (ab_owS1 c 0) (ab_oS1b c) _
theorem ab_oB' : Above 0 (oB' c) := above_ows (ab_owBar' c) (above_le (by decide) (ab_oS1a c)) _
theorem ab_O₀ : Above 0 (O₀ c) := above_ows (ab_owBar c) (ab_oB' c) _
end

end Cert.KernelIdeal.Hand

end
-- ==== Proof.KernelIdeal.Steps.lean ====
/-
  The kernel's steps, one after another: what each takes and what it leaves.
-/
module

public import proofs.«01_k».proof.Proof.KernelIdeal.Sched

@[expose] public section

set_option synthInstance.maxSize 4096

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok pointsTo_toks_split pointsTo_toks_join)

variable {F : FTy → Type} [FloatOps F]

local notation "𝕄" => MT nD τ sig Unit (Elt F) ℕ UU ℕ

/-! ## The pieces through the views loads and stores go through -/

section
variable (x : Dev nD) (h : Fin 2) (q : PosShare TreeShare)

theorem set_mR (s : Fin 8) : (mR h s).view.set = (rA h s).set := View.set_reshape _ _
theorem set_mC (s : Fin 4) : (mC h s).view.set = (cQ h s).set := View.set_reshape _ _
theorem set_mK (s : Fin 4) : (mK h s).view.set = (kQ h s).set := View.set_reshape _ _
theorem set_mS (s : Fin 4) : (mS h s).view.set = (sA h s).set := View.set_reshape _ _
theorem set_mH : (mH h).view.set = (kA h).set := View.set_reshape _ _

theorem ptR_eq (s : Fin 8) (f : S16x192x768.Idx → Elt F .f32) :
    (ptR x h s f : sProp 𝕄) = ((rA h s).loc (x : Thread nD τ) ↦[(rA h s).set]{fullShare} f) :=
  congrArg (fun S => ((rA h s).loc (x : Thread nD τ) ↦[S]{fullShare} f : sProp 𝕄)) (set_mR h s)
theorem ptC_eq (s : Fin 4) (f : S2x192x768.Idx → Elt F .f32) :
    (ptC x h s f : sProp 𝕄) = ((cQ h s).loc (x : Thread nD τ) ↦[(cQ h s).set]{fullShare} f) :=
  congrArg (fun S => ((cQ h s).loc (x : Thread nD τ) ↦[S]{fullShare} f : sProp 𝕄)) (set_mC h s)
theorem ptK_eq (s : Fin 4) (f : S2x192x768.Idx → Elt F .f32) :
    (ptK x h q s f : sProp 𝕄) = ((kQ h s).loc (x : Thread nD τ) ↦[(kQ h s).set]{q} f) :=
  congrArg (fun S => ((kQ h s).loc (x : Thread nD τ) ↦[S]{q} f : sProp 𝕄)) (set_mK h s)
theorem ptS_eq (s : Fin 4) (f : S8x48x768.Idx → Elt F .f32) :
    (ptS x h s f : sProp 𝕄) = ((sA h s).loc (x : Thread nD τ) ↦[(sA h s).set]{fullShare} f) :=
  congrArg (fun S => ((sA h s).loc (x : Thread nD τ) ↦[S]{fullShare} f : sProp 𝕄)) (set_mS h s)
theorem ptH_eq (f : S2x192x768.Idx → Elt F .f32) :
    (ptH x h q f : sProp 𝕄) = ((kA h).loc (x : Thread nD τ) ↦[(kA h).set]{q} f) :=
  congrArg (fun S => ((kA h).loc (x : Thread nD τ) ↦[S]{q} f : sProp 𝕄)) (set_mH h)
end

/-- A piece written over with what `G` reads there holds `G`. -/
theorem written {sp : Space} {s : Shape} {e : EltTy} (v : View sig .tc sp s e) (c : Dev nD) (f G : v.ty.Contents (Elt F))
    (w : s.Idx → Elt F e) (hw : v.read (Elt F) G = w) :
    (v.loc (c : Thread nD τ) ↦[v.set]{fullShare} (v.write (Elt F) f w Finset.univ) : sProp 𝕄)
      = (v.loc (c : Thread nD τ) ↦[v.set]{fullShare} G) :=
  pointsTo_congr (write_agrees v f G w hw)

/-! ## What every step may use -/

section
variable (XA : Dev nD → S1536x768.Idx → Elt F .f32) (XB : Dev nD → S768x1536.Idx → Elt F .f32)
variable (K : Dev nD × Option Tag → ℕ)

/-- The cells' invariants, their first rounds, and their order. -/
def Ctx : sProp 𝕄 :=
  iprop((bigSep Finset.univ fun x : Dev nD × Option Tag => cellInv ER (Rd XA XB) (K x) (cell x.1 x.2))
    ∗ (bigSep Finset.univ fun x : Dev nD × Option Tag => reached ER (cell x.1 x.2) 0) ∗ levAts L lv)

instance Ctx_persistent : BI.Persistent (Ctx XA XB K) := by unfold Ctx; infer_instance

theorem ctx_inv (c : Dev nD) (o : Option Tag) : Ctx XA XB K ⊢ cellInv ER (Rd XA XB) (K (c, o)) (cell c o) := by
  unfold Ctx
  iintro ⟨H, -, -⟩
  iapply (show (bigSep Finset.univ fun x : Dev nD × Option Tag => (cellInv ER (Rd XA XB) (K x) (cell x.1 x.2) : sProp 𝕄)) ⊢ _ from
    bigSep_elim (Finset.mem_univ (c, o)))
  iexact H
theorem ctx_reached (c : Dev nD) (o : Option Tag) : Ctx XA XB K ⊢ reached ER (cell c o) 0 := by
  unfold Ctx
  iintro ⟨-, H, -⟩
  iapply (show (bigSep Finset.univ fun x : Dev nD × Option Tag => (reached ER (cell x.1 x.2) 0 : sProp 𝕄)) ⊢ _ from
    bigSep_elim (Finset.mem_univ (c, o)))
  iexact H
theorem ctx_lev : Ctx XA XB K ⊢ (levAts L lv : sProp 𝕄) := by
  unfold Ctx
  iintro ⟨-, -, H⟩
  iexact H

/-- What a device still owes, whatever it has waited for. -/
def St (c : Dev nD) (O : CT) : sProp 𝕄 := iprop(∃ W, owes (c : Thread nD τ) O W)

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A duty's token, a position and the credit at a transfer's semaphore. -/
abbrev tok (c : Dev nD) (t : Tag) : sProp 𝕄 := dutyTok ER (tcell c t) 0 (.inl 0)
abbrev pos (c : Dev nD) (t : Tag) : sProp 𝕄 := atPos ER (tcell c t) 0 ∅ 0
abbrev crd (c : Dev nD) (t : Tag) : sProp 𝕄 := cred (tallyAt (tcell c t) () (amt t))
abbrev zer (c : Dev nD) (t : Tag) : sProp 𝕄 := semVal (tcell c t) 0

/-- A stretch and what follows it. -/
theorem use {c : Dev nD} {p : KProg F} {B A : sProp 𝕄} (hp : B ⊢ WP c p fun _ => A) (k : KProg F) (Q : PUnit → sProp 𝕄) :
    B ⊢ iprop((A -∗ WP c k Q) -∗ WP c (p >>= fun _ => k) Q) := by
  unfold WP
  rw [wp_bind]
  iintro H Hk
  iapply (wp_wand (frame (nD := nD) (τ := τ) (sig := sig) (Ix := Unit) (Val := Elt F) (Name := ℕ) (U := UU) (Lvl := ℕ)) _) $$ [H]
  · iapply hp; iexact H
  · iintro %a HA
    iapply Hk; iexact HA

/-- A loop: each pass takes its own resources and moves the state on. -/
theorem each_use {ι : Type} [DecidableEq ι] {c : Dev nD} {f : ι → KProg F} {P : sProp 𝕄} [BI.Persistent P] {B A : ι → sProp 𝕄}
    {J : List ι → sProp 𝕄} (k : KProg F) (Q : PUnit → sProp 𝕄) (l : List ι) (hl : l.Nodup)
    (hstep : ∀ i l', (i :: l') <:+ l → iprop(P ∗ B i ∗ J (i :: l')) ⊢ WP c (f i) fun _ => iprop(A i ∗ J l')) :
    iprop(P ∗ bigSep l.toFinset B ∗ J l) ⊢ iprop(((bigSep l.toFinset A ∗ J []) -∗ WP c k Q) -∗ WP c (each f l k) Q) := by
  induction l with
  | nil =>
    iintro ⟨-, HB, HJ⟩ Hk
    iapply Hk
    isplitr
    · iapply (Entails.of_eq (show (iprop(emp) : sProp 𝕄) = bigSep (∅ : Finset ι) A from bigSep_empty.symm)); iempintro
    · iexact HJ
  | cons i l ih =>
    have hi : i ∉ l.toFinset := by rw [List.mem_toFinset]; exact (List.nodup_cons.mp hl).1
    have h2 := ih (List.nodup_cons.mp hl).2 (fun j l' hs => hstep j l' (hs.trans (List.suffix_cons i l)))
    have h1 := use (hstep i l (List.suffix_refl _)) (each f l k) Q
    rw [List.toFinset_cons, bigSep_insert hi, bigSep_insert hi]
    show iprop(P ∗ (B i ∗ bigSep l.toFinset B) ∗ J (i :: l))
      ⊢ iprop((((A i ∗ bigSep l.toFinset A) ∗ J []) -∗ WP c k Q) -∗ WP c (f i >>= fun _ => each f l k) Q)
    iintro ⟨#HP, ⟨HBi, HBl⟩, HJ⟩ Hk
    iapply h1 $$ [HBi HJ]
    · isplitr; · iexact HP
      isplitl [HBi]; · iexact HBi
      iexact HJ
    iintro ⟨HAi, HJ⟩
    iapply h2 $$ [HBl HJ]
    · isplitr; · iexact HP
      isplitl [HBl]; · iexact HBl
      iexact HJ
    iintro ⟨HAl, HJ⟩
    iapply Hk
    isplitl [HAi HAl]
    · isplitl [HAi]; · iexact HAi
      iexact HAl
    iexact HJ

/-! ## The three moves -/

variable {α : Type}

/-- A wait on a transfer's semaphore brings what it hands out, and closes it. -/
theorem wait_tag (c : Dev nD) (t : Tag) (O : CT) (n : ℕ) (hn : tagLv t ≤ n) (ha : Above n O)
    {w : TpuEff nD τ sig (Elt F) Λ₀ .tc PUnit}
    (hw : ∀ Kk : PUnit → sProp 𝕄, wpE (defs₀ (F := F)) 𝒱₀ (c : Thread nD τ) none Set.univ w Kk
      = waitSpec (c : Thread nD τ) Set.univ (.dma (semOf t)) (amt t) Kk)
    (k : PUnit → Prog (TpuEff nD τ sig (Elt F) Λ₀ .tc) α) (Q : α → sProp 𝕄) :
    iprop(Ctx XA XB K ∗ (pos c t ∗ crd c t) ∗ St c O)
      ⊢ iprop(((tagPay XA XB c t ∗ zer c t ∗ St c O) -∗ WP c (k ⟨⟩) Q) -∗ WP c (.op w k) Q) := by
  have h0 : lvOf (dec (.dma (semOf t))) ≤ n := by
    rw [show SemLoc.dma (semOf t) = csem (some t) from rfl, dec_csem]; exact hn
  have h1 := mayWait_of (F := F) c (.dma (semOf t)) O n h0 ha
  have h2 := @ctx_lev F _ XA XB K
  have hm := h2.trans h1
  unfold St
  iintro ⟨#HC, ⟨Hat, Hcr⟩, ⟨%W, HO⟩⟩ Hk
  iapply (Rounds.wp_wait_rest_token 𝒱₀ ER (Rd XA XB) (c : Thread nD τ) none (κ := K (c, some t)) hw (Set.mem_univ _) ()
      (O := O) (W := W) (R := 0) (m := 0) (T := ∅) (by rw [Nat.zero_add]; exact (expect_tag XA XB c t).symm)) $$ [Hat Hcr HO]
  · isplitr; · iapply (ctx_inv XA XB K c (some t)); iexact HC
    isplitl [Hcr]; · iexact Hcr
    isplitl [HO]; · iexact HO
    isplitr
    · iapply hm; iexact HC
    iexact Hat
  iintro ⟨HO, Hat, -, Hpay⟩
  ihave Hp := (Entails.of_eq (rest_tag XA XB c t)) $$ Hpay
  imod (Rounds.cell_close ER (Rd XA XB) (Set.mem_univ (K (c, some t))) (fun h => h) (R := 0 + 1) (duties_later XA XB (tcell c t))) $$ [Hat] with Hz
  · isplitr; · iapply (ctx_inv XA XB K c (some t)); iexact HC
    iexact Hat
  iapply Hk
  isplitl [Hp]; · iexact Hp
  isplitl [Hz]; · iexact Hz
  iexists _; iexact HO

section
variable {s : Shape} {e : EltTy} {c x : Dev nD} {src dst : Memref sig .tc .vmem s e} {t t' : Tag}
  {hsc : dst.view.ref.isScScratch = false} {hsrc : src.view.WordExact} {hdst : dst.view.WordExact}
  {hsem : DmaTarget.Typed .vmem (.dma (semOf t')) (.remote (Dev.tc x : Thread nD τ) dst (.dma (semOf t)) hsc)}

/-- A transfer whose source comes back when it has been read. -/
theorem send_back (q : PosShare TreeShare) (fs : Buf (Elt F) (src.view.loc (c : Thread nD τ))) (fd : Buf (Elt F) (dst.view.loc (x : Thread nD τ)))
    (hN : dst.view.dmaCredit = amt t) (ht : amt t' = amt t) (O : CT)
    (hp : (src.view.loc (c : Thread nD τ) ↦[src.view.set]{q} fs : sProp 𝕄) ⊢ tagPay XA XB c t)
    (hp' : (dst.view.loc (x : Thread nD τ) ↦[dst.view.set]{fullShare} (dst.view.write (Elt F) fd (src.view.read (Elt F) fs) Finset.univ) : sProp 𝕄)
      ⊢ tagPay XA XB x t')
    (k : PUnit → Prog (TpuEff nD τ sig (Elt F) Λ₀ .tc) α) (Q : α → sProp 𝕄) :
    iprop(Ctx XA XB K ∗ ((src.view.loc (c : Thread nD τ) ↦[src.view.set]{q} fs) ∗ (dst.view.loc (x : Thread nD τ) ↦[dst.view.set]{fullShare} fd)
        ∗ tok c t ∗ tok x t') ∗ St c (O + tallyAt (tcell x t') () (amt t)))
      ⊢ iprop(((crd c t ∗ St c O) -∗ WP c (k ⟨⟩) Q)
          -∗ WP c (.op (.enqueueDma src (.remote (Dev.tc x : Thread nD τ) dst (.dma (semOf t)) hsc) (.dma (semOf t')) hsrc hdst hsem) k) Q) := by
  unfold St
  iintro ⟨#HC, ⟨Hs, Hd, Ht, Ht'⟩, ⟨%W, HO⟩⟩ Hk
  iapply (Rounds.wp_send_pointsTo 𝒱₀ ER (Rd XA XB) (c : Thread nD τ) none (κ₁ := K (c, some t)) (κ₂ := K (x, some t'))
    (r₁ := 0) (r₂ := 0) (d₁ := .inl 0) (d₂ := .inl 0) (fs := fs) (fd := fd) (q := q)
    (by rw [duties_tag]; exact Finset.mem_singleton_self _) (by rw [duties_tag]; exact Finset.mem_singleton_self _)
    () () (amt t) (show dst.view.amount (.dma (semOf t')) = amt t from hN) (amount_tag XA XB c t _) ((amount_tag XA XB x t' _).trans ht) O rfl (W := W)
    (by rw [payload_tag]; exact hp) (by rw [payload_tag]; exact hp')) $$ [Hs Hd Ht Ht' HO]
  · isplitr; · iapply (ctx_inv XA XB K c (some t)); iexact HC
    isplitr; · iapply (ctx_inv XA XB K x (some t')); iexact HC
    isplitl [Hs]; · iexact Hs
    isplitl [Hd]; · iexact Hd
    isplitl [HO]; · iexact HO
    isplitl [Ht]; · iexact Ht
    isplitr; · iapply (ctx_reached XA XB K c (some t)); iexact HC
    isplitl [Ht']; · iexact Ht'
    iapply (ctx_reached XA XB K x (some t')); iexact HC
  iintro ⟨Hc, HO⟩
  iapply Hk
  isplitl [Hc]; · iexact Hc
  iexists W; iexact HO

/-- A transfer whose source goes to the receiver with what it wrote. -/
theorem send_give (q : PosShare TreeShare) (fs : Buf (Elt F) (src.view.loc (c : Thread nD τ))) (fd : Buf (Elt F) (dst.view.loc (x : Thread nD τ)))
    (hN : dst.view.dmaCredit = amt t) (ht : amt t' = amt t) (O : CT)
    (hp : (iprop(emp) : sProp 𝕄) ⊢ tagPay XA XB c t)
    (hp' : iprop((dst.view.loc (x : Thread nD τ) ↦[dst.view.set]{fullShare} (dst.view.write (Elt F) fd (src.view.read (Elt F) fs) Finset.univ))
      ∗ (src.view.loc (c : Thread nD τ) ↦[src.view.set]{q} fs) : sProp 𝕄) ⊢ tagPay XA XB x t')
    (k : PUnit → Prog (TpuEff nD τ sig (Elt F) Λ₀ .tc) α) (Q : α → sProp 𝕄) :
    iprop(Ctx XA XB K ∗ ((src.view.loc (c : Thread nD τ) ↦[src.view.set]{q} fs) ∗ (dst.view.loc (x : Thread nD τ) ↦[dst.view.set]{fullShare} fd)
        ∗ tok c t ∗ tok x t') ∗ St c (O + tallyAt (tcell x t') () (amt t)))
      ⊢ iprop(((crd c t ∗ St c O) -∗ WP c (k ⟨⟩) Q)
          -∗ WP c (.op (.enqueueDma src (.remote (Dev.tc x : Thread nD τ) dst (.dma (semOf t)) hsc) (.dma (semOf t')) hsrc hdst hsem) k) Q) := by
  unfold St
  iintro ⟨#HC, ⟨Hs, Hd, Ht, Ht'⟩, ⟨%W, HO⟩⟩ Hk
  iapply (Rounds.wp_send_landing_pointsTo 𝒱₀ ER (Rd XA XB) (c : Thread nD τ) none (κ₁ := K (c, some t)) (κ₂ := K (x, some t'))
    (r₁ := 0) (r₂ := 0) (d₁ := .inl 0) (d₂ := .inl 0) (fs := fs) (fd := fd) (q := q)
    (by rw [duties_tag]; exact Finset.mem_singleton_self _) (by rw [duties_tag]; exact Finset.mem_singleton_self _)
    () () (amt t) (show dst.view.amount (.dma (semOf t')) = amt t from hN) (amount_tag XA XB c t _) ((amount_tag XA XB x t' _).trans ht) O rfl (W := W)
    (by rw [payload_tag]; exact hp) (by rw [payload_tag]; exact hp')) $$ [Hs Hd Ht Ht' HO]
  · isplitr; · iapply (ctx_inv XA XB K c (some t)); iexact HC
    isplitr; · iapply (ctx_inv XA XB K x (some t')); iexact HC
    isplitl [Hs]; · iexact Hs
    isplitl [Hd]; · iexact Hd
    isplitl [HO]; · iexact HO
    isplitl [Ht]; · iexact Ht
    isplitr; · iapply (ctx_reached XA XB K c (some t)); iexact HC
    isplitl [Ht']; · iexact Ht'
    iapply (ctx_reached XA XB K x (some t')); iexact HC
  iintro ⟨Hc, HO⟩
  iapply Hk
  isplitl [Hc]; · iexact Hc
  iexists W; iexact HO
end

/-- A signal pays a duty of a barrier. -/
theorem signal_bar {c x x' : Dev nD} (hx : x' = x) (δ : Duty) (O : CT) (Q : PUnit → sProp 𝕄) :
    iprop(Ctx XA XB K ∗ (dutyTok ER (bcell x) 0 δ ∗ barPay x δ) ∗ St c (O + tallyAt (bcell x) () 1))
      ⊢ iprop(((emp ∗ St c O) -∗ Q ⟨⟩) -∗ WP c (semSignalWord x' barS 1#32 : KProg F) Q) := by
  subst hx
  unfold St
  iintro ⟨#HC, ⟨Ht, Hp⟩, ⟨%W, HO⟩⟩ Hk
  iapply (Rounds.wp_signal 𝒱₀ ER (Rd XA XB) (c : Thread nD τ) none (dst := (x' : Thread nD τ)) (κ := K (x', none)) (d := δ)
    (by rw [duties_bar]; exact Finset.mem_univ _) ((amount_bar XA XB x' δ).trans (by decide)) () O rfl (W := W)) $$ [Ht Hp HO]
  · isplitr; · iapply (ctx_inv XA XB K x' none); iexact HC
    isplitl [HO]; · iexact HO
    isplitl [Ht]; · iexact Ht
    isplitl [Hp]; · rw [payload_bar]; iexact Hp
    iapply (ctx_reached XA XB K x' none); iexact HC
  iintro HO
  rw [wp_ret]; imodintro
  iapply Hk
  isplitr; · iempintro
  iexists W; iexact HO

/-- The wait for all ten signals. -/
theorem wait_bar (c : Dev nD) (O : CT) (ha : Above 1 O) (Q : PUnit → sProp 𝕄) :
    iprop(Ctx XA XB K ∗ (atPos ER (bcell c) 0 ∅ 0 ∗ cred (tallyAt (bcell c) () 10)) ∗ St c O)
      ⊢ iprop(((bigSep Finset.univ (barPay (F := F) c) ∗ semVal (bcell c) 0 ∗ St c O) -∗ Q ⟨⟩) -∗ WP c (semWaitWord barS 10#32 : KProg F) Q) := by
  have hm := (@ctx_lev F _ XA XB K).trans (mayWait_of (F := F) c (.reg barS) O 1 (by rw [show SemLoc.reg barS = csem none from rfl, dec_csem]; exact Nat.le_refl 1) ha)
  unfold St
  iintro ⟨#HC, ⟨Hat, Hcr⟩, ⟨%W, HO⟩⟩ Hk
  iapply (Rounds.wp_wait_rest_token 𝒱₀ ER (Rd XA XB) (c : Thread nD τ) none (κ := K (c, none))
      (wpE_semWait_eq 𝒱₀ (c : Thread nD τ) none Set.univ) (Set.mem_univ _) ()
      (O := O) (W := W) (R := 0) (m := 0) (T := ∅) (by rw [expect_bar]; decide)) $$ [Hat Hcr HO]
  · isplitr; · iapply (ctx_inv XA XB K c none); iexact HC
    isplitl [Hcr]; · iexact Hcr
    isplitl [HO]; · iexact HO
    isplitr
    · iapply hm; iexact HC
    iexact Hat
  iintro ⟨HO, Hat, -, Hpay⟩
  ihave Hp := (Entails.of_eq (rest_bar XA XB c)) $$ Hpay
  imod (Rounds.cell_close ER (Rd XA XB) (Set.mem_univ (K (c, none))) (fun h => h) (R := 0 + 1) (duties_later XA XB (bcell c))) $$ [Hat] with Hz
  · isplitr; · iapply (ctx_inv XA XB K c none); iexact HC
    iexact Hat
  rw [wp_ret]; imodintro
  iapply Hk
  isplitl [Hp]; · iexact Hp
  isplitl [Hz]; · iexact Hz
  iexists _; iexact HO
end

end Cert.KernelIdeal.Hand

end
-- ==== Proof.KernelIdeal.Acts.lean ====
/-
  Each step of the kernel on its own: what it takes, what it leaves.
-/
module

public import proofs.«01_k».proof.Proof.KernelIdeal.Steps

@[expose] public section

set_option synthInstance.maxSize 4096

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok pointsTo_toks_split pointsTo_toks_join)

variable {F : FTy → Type} [FloatOps F]

local notation "𝕄" => MT nD τ sig Unit (Elt F) ℕ UU ℕ

variable (XA : Dev nD → S1536x768.Idx → Elt F .f32) (XB : Dev nD → S768x1536.Idx → Elt F .f32)
variable (K : Dev nD × Option Tag → ℕ) (c : Dev nD) (h : Fin 2)

/-! ## Loads, stores and waits at a piece -/

/-- The pieces' rectangles. -/
abbrev aR (mm : Fin 8) := aRect (aOff mm) (aOff_inb mm)
abbrev bR := bRect (bOff h) (bOff_inb h)
abbrev oR (mm : Fin 8) := oRect (oOff h mm) (oOff_inb h mm)
abbrev rR (s : Fin 8) := rRect (rOff h s) (rOff_inb h s)
abbrev hR := hRect (hOff h) (hOff_inb h)
abbrev qR (q : Fin 4) := qRect (kOff h q) (kOff_inb h q)
abbrev sR (s : Fin 4) := sRect (sOff h s) (sOff_inb h s)

section
variable {sp : CoreSpace} {s : Shape} {e : EltTy} {α : Type}

/-- A load of a piece, -/
theorem ld (m : Memref sig .tc sp s e) (r : Rect s) {hl : m.view.LoadsAt r.toLoadRect} (q : PosShare TreeShare)
    (f : Buf (Elt F) ((m.access r).loc (c : Thread nD τ))) (k : (r.shape.Idx → Elt F e) → Prog (TpuEff nD τ sig (Elt F) Λ₀ .tc) α) (Q : α → sProp 𝕄) :
    ((m.access r).loc (c : Thread nD τ) ↦[(m.access r).set]{q} f : sProp 𝕄)
      ⊢ iprop((((m.access r).loc (c : Thread nD τ) ↦[(m.access r).set]{q} f) -∗ WP c (k ((m.access r).read (Elt F) f)) Q)
        -∗ WP c (.op (.load m r.toLoadRect hl) k) Q) :=
  wp_load_rect 𝒱₀ (c : Thread nD τ) none Set.univ (Finset.Subset.refl _)
/-- and of a part of a whole buffer. -/
theorem ldW (m : Memref sig .tc sp s e) (r : Rect s) {hl : m.view.LoadsAt r.toLoadRect} (q : PosShare TreeShare)
    (f : Buf (Elt F) (m.view.loc (c : Thread nD τ))) (k : (r.shape.Idx → Elt F e) → Prog (TpuEff nD τ sig (Elt F) Λ₀ .tc) α) (Q : α → sProp 𝕄) :
    (m.view.loc (c : Thread nD τ) ↦[Finset.univ]{q} f : sProp 𝕄)
      ⊢ iprop(((m.view.loc (c : Thread nD τ) ↦[Finset.univ]{q} f) -∗ WP c (k ((m.access r).read (Elt F) f)) Q)
        -∗ WP c (.op (.load m r.toLoadRect hl) k) Q) :=
  wp_load_rect 𝒱₀ (c : Thread nD τ) none Set.univ (m := m) (r := r) (Finset.subset_univ _)
/-- A store over a piece of what `G` reads there. -/
theorem sto (m : Memref sig .tc sp s e) (r : Rect s) (w : r.shape.Idx → Elt F e) {hx : (m.access r).Stores Finset.univ}
    {hm : (Finset.univ : Finset r.shape.Idx) = Finset.univ ∨ ∀ a, r.stride a = 1}
    (f G : (m.access r).ty.Contents (Elt F)) (hw : (m.access r).read (Elt F) G = w)
    (k : PUnit → Prog (TpuEff nD τ sig (Elt F) Λ₀ .tc) α) (Q : α → sProp 𝕄) :
    ((m.access r).loc (c : Thread nD τ) ↦[(m.access r).set]{fullShare} f : sProp 𝕄)
      ⊢ iprop((((m.access r).loc (c : Thread nD τ) ↦[(m.access r).set]{fullShare} G) -∗ WP c (k ⟨⟩) Q)
        -∗ WP c (.op (.store m r w Finset.univ hx hm) k) Q) := by
  rw [← written (m.access r) c f G w hw]
  exact wp_store 𝒱₀ (c : Thread nD τ) none Set.univ (Finset.Subset.refl _)
end

/-- A wait on a transfer's semaphore. -/
theorem wait_dma {α : Type} (t : Tag) (O : CT) (n : ℕ) (hn : tagLv t ≤ n) (ha : Above n O) {sp sp' : Space} {s s' : Shape} {e e' : EltTy}
    {src : Memref sig .tc sp' s' e'} {dst : Memref sig .tc sp s e} {hs : src.view.WordExact} {hd : dst.view.WordExact}
    (hN : dst.view.dmaCredit = amt t) (k : PUnit → Prog (TpuEff nD τ sig (Elt F) Λ₀ .tc) α) (Q : α → sProp 𝕄) :
    iprop(Ctx XA XB K ∗ (pos c t ∗ crd c t) ∗ St c O)
      ⊢ iprop(((tagPay XA XB c t ∗ zer c t ∗ St c O) -∗ WP c (k ⟨⟩) Q) -∗ WP c (.op (.waitDma2 (semOf t) src dst hs hd) k) Q) :=
  wait_tag XA XB K c t O n hn ha (fun Kk => by rw [← hN]; exact wpE_waitDma2_eq 𝒱₀ (c : Thread nD τ) none Set.univ Kk) k Q

theorem cr_mR (s : Fin 8) : (mR h s).view.dmaCredit = N1 := rfl
theorem cr_mO (s : Fin 8) : (mO h s).view.dmaCredit = N1 := rfl
theorem cr_mH : (mH h).view.dmaCredit = N1 := rfl
theorem cr_mC (s : Fin 4) : (mC h s).view.dmaCredit = N2 := rfl
theorem cr_mK (s : Fin 4) : (mK h s).view.dmaCredit = N2 := rfl
theorem cr_mS (s : Fin 4) : (mS h s).view.dmaCredit = N2 := rfl

/-- The staged factors. -/
def stA : sProp 𝕄 := aM.view.loc (c : Thread nD τ) ↦[Finset.univ]{fullShare} XA c
def stB : sProp 𝕄 := bM.view.loc (c : Thread nD τ) ↦[Finset.univ]{fullShare} XB c

/-! ## The opening signals -/

theorem sig_act (d : Fin 7) (O : CT) :
    iprop(Ctx XA XB K ∗ (dutyTok ER (bcell (mate d c)) 0 (.inl d.rev)
        ∗ (∃ f, ptR c 0 d.rev.succ f) ∗ (∃ f, ptR c 1 d.rev.succ f)) ∗ St c (O + owBar c d))
      ⊢ WP c (pSig c d : KProg F) fun _ => iprop(emp ∗ St c O) := by
  have hm : mate d.rev (mate d c) = c := mate_rev d c
  unfold pSig owBar
  iintro ⟨#HC, ⟨Ht, Hp⟩, HO⟩
  iapply (signal_bar XA XB K (sigDev_eq d c) (.inl d.rev) O _) $$ [Ht Hp HO]
  · isplitr; · iexact HC
    isplitl [Ht Hp]
    · isplitl [Ht]; · iexact Ht
      unfold barPay; simp only [hm]; iexact Hp
    iexact HO
  iintro H; iexact H

theorem sig'_act (e : Fin 3) (O : CT) :
    iprop(Ctx XA XB K ∗ (dutyTok ER (bcell (partner e c)) 0 (.inr e.rev)
        ∗ ((∃ f, ptS c 0 e.rev.succ f) ∗ (∃ f, ptS c 1 e.rev.succ f))
        ∗ (∃ f, ptK c 0 fullShare (cube (partner e c)) f) ∗ (∃ f, ptK c 1 fullShare (cube (partner e c)) f)) ∗ St c (O + owBar' c e))
      ⊢ WP c (pSig' c e : KProg F) fun _ => iprop(emp ∗ St c O) := by
  have hm : partner e.rev (partner e c) = c := partner_rev e c
  unfold pSig' owBar'
  iintro ⟨#HC, ⟨Ht, Hp⟩, HO⟩
  iapply (signal_bar XA XB K (sigDev'_eq e c) (.inr e.rev) O _) $$ [Ht Hp HO]
  · isplitr; · iexact HC
    isplitl [Ht Hp]
    · isplitl [Ht]; · iexact Ht
      unfold barPay; simp only [hm]; iexact Hp
    iexact HO
  iintro H; iexact H

/-! ## The first reduction -/

/-- A product is stored where its place in the result is, and sent from there. -/
theorem s1_act (d : Fin 7) (O : CT) :
    iprop(Ctx XA XB K ∗ ((∃ f, ptO c h (mem (mate d c)) f) ∗ (∃ f, ptR (mate d c) h d.succ f) ∗ tok c (.inl (0, h, d)) ∗ tok (mate d c) (.inl (1, h, d)))
        ∗ stA XA c ∗ stB XB c ∗ St c (O + owS1 c h d))
      ⊢ WP c (pS1 c h d : KProg F) fun _ => iprop(crd c (.inl (0, h, d)) ∗ stA XA c ∗ stB XB c ∗ St c O) := by
  have key : ∀ (x : Dev nD) (hx : x = mate d c) {oA oO oO' : Fin 2 → ℕ} (eA : oA = aOff (mem (mate d c))) (eO : oO = oOff h (mem (mate d c)))
      (eO' : oO' = oOff h (mem (mate d c))) (iA : ∀ a, oA a + S192x768.size a ≤ S1536x768.size a)
      (iO : ∀ a, oO a + S192x768.size a ≤ S1536x1536.size a) (iO' : ∀ a, oO' a + S192x768.size a ≤ S1536x1536.size a),
      iprop(Ctx XA XB K ∗ ((∃ f, ptO c h (mem (mate d c)) f) ∗ (∃ f, ptR (mate d c) h d.succ f) ∗ tok c (.inl (0, h, d)) ∗ tok (mate d c) (.inl (1, h, d)))
        ∗ stA XA c ∗ stB XB c ∗ St c (O + owS1 c h d))
      ⊢ WP c (stepS1 x iA (bOff_inb h) iO iO' (rOff_inb h d.succ) (semOf (.inl (0, h, d))) (semOf (.inl (1, h, d))) : KProg F)
          fun _ => iprop(crd c (.inl (0, h, d)) ∗ stA XA c ∗ stB XB c ∗ St c O) := by
    intro x hx oA oO oO' eA eO eO' iA iO iO'
    subst hx eA eO eO'
    unfold stepS1
    simp only [Prog.lift, Prog.bind_op, Prog.bind_ret, Prog.pure_eq_ret]
    unfold stA stB ptO ptR
    iintro ⟨#HC, ⟨⟨%fo, Ho⟩, ⟨%fr, Hr⟩, Ht, Ht'⟩, HA, HB, HO⟩
    iapply (ldW c aM (aR (mem (mate d c))) fullShare _ _ _) $$ HA; iintro HA
    iapply (ldW c bM (bR h) fullShare _ _ _) $$ HB; iintro HB
    iapply (ld c oM (oR h (mem (mate d c))) _ _ _ _) $$ Ho; iintro Ho
    iapply (sto c oM (oR h (mem (mate d c))) _ _ (out1F XA XB c) (out1_at XA XB c h _) _ _) $$ Ho; iintro Ho
    iapply (send_give XA XB K (src := mO h (mem (mate d c))) (dst := mR h d.succ) (t := .inl (0, h, d)) (t' := .inl (1, h, d)) fullShare (out1F XA XB c) fr (cr_mR h _) rfl O
      (by unfold tagPay; exact Entails.refl _) (by
        unfold tagPay
        show _ ⊢ iprop(ptR (mate d c) h d.succ (rs1F XA XB (mate d c)) ∗ ∃ f, ptO (mate d.rev (mate d c)) h (mem (mate d c)) f)
        rw [mate_rev, written (mR h d.succ).view (mate d c) fr (rs1F XA XB (mate d c)) _ (send1 XA XB c h d)]
        unfold ptR ptO
        iintro ⟨H1, H2⟩
        isplitl [H1]; · iexact H1
        iexists _; iexact H2) _ _) $$ [Ho Hr Ht Ht' HO]
    · isplitr; · iexact HC
      isplitl [Ho Hr Ht Ht']
      · isplitl [Ho]; · iexact Ho
        isplitl [Hr]; · iexact Hr
        isplitl [Ht]; · iexact Ht
        iexact Ht'
      iexact HO
    iintro ⟨Hc, HO⟩
    unfold WP
    rw [wp_ret]; imodintro
    isplitl [Hc]; · iexact Hc
    isplitl [HA]; · iexact HA
    isplitl [HB]; · iexact HB
    iexact HO
  exact key _ (s1Dev_eq h d c) (fA_eq d c) (fO_eq h d c) (fO'_eq h d c) _ _ _

/-- The own product. -/
theorem own1_act :
    iprop((∃ f, ptR c h 0 f) ∗ stA XA c ∗ stB XB c)
      ⊢ WP c (pOwn1 c h : KProg F) fun _ => iprop(ptR c h 0 (rs1F XA XB c) ∗ stA XA c ∗ stB XB c) := by
  have key : ∀ {oA : Fin 2 → ℕ} (eA : oA = aOff (mem c)) (iA : ∀ a, oA a + S192x768.size a ≤ S1536x768.size a),
      iprop((∃ f, ptR c h 0 f) ∗ stA XA c ∗ stB XB c)
        ⊢ WP c (stepOwn1 iA (bOff_inb h) (rOff_inb h 0) : KProg F) fun _ => iprop(ptR c h 0 (rs1F XA XB c) ∗ stA XA c ∗ stB XB c) := by
    intro oA eA iA
    subst eA
    unfold stepOwn1
    simp only [Prog.lift, Prog.bind_op, Prog.bind_ret, Prog.pure_eq_ret, ptR_eq]
    unfold stA stB
    iintro ⟨⟨%fr, Hr⟩, HA, HB⟩
    iapply (ldW c aM (aR (mem c)) fullShare _ _ _) $$ HA; iintro HA
    iapply (ldW c bM (bR h) fullShare _ _ _) $$ HB; iintro HB
    iapply (ld c rM (rR h 0) _ _ _ _) $$ Hr; iintro Hr
    iapply (sto c rM (rR h 0) _ _ (rs1F XA XB c) (own1 XA XB c h) _ _) $$ Hr; iintro Hr
    unfold WP
    rw [wp_ret]; imodintro
    isplitl [Hr]; · iexact Hr
    isplitl [HA]; · iexact HA
    iexact HB
  exact key (fAown_eq c) _

/-- The accumulator starts on it. -/
theorem acc0_act :
    iprop(ptR c h 0 (rs1F XA XB c) ∗ ∃ f, ptA c h f)
      ⊢ WP c (stepAcc0 (rOff_inb h 0) (hOff_inb h) : KProg F) fun _ => iprop(ptR c h 0 (rs1F XA XB c) ∗ ptA c h (accF XA XB c 0)) := by
  unfold stepAcc0
  simp only [Prog.lift, Prog.bind_op, Prog.bind_ret, Prog.pure_eq_ret, ptR_eq]
  unfold ptA
  iintro ⟨Hr, ⟨%fc, Hc⟩⟩
  iapply (ld c rM (rR h 0) _ _ _ _) $$ Hr; iintro Hr
  iapply (ld c cM (hR h) _ _ _ _) $$ Hc; iintro Hc
  iapply (sto c cM (hR h) _ _ (accF XA XB c 0) (acc_at XA XB c h 0) _ _) $$ Hc; iintro Hc
  unfold WP
  rw [wp_ret]; imodintro
  isplitl [Hr]; · iexact Hr
  iexact Hc

/-- A mate's product arrives and is added; with it comes the block it was stored in on the mate. -/
theorem acc_act (d : Fin 7) (n : ℕ) (hn : n = d.val) (O : CT) (ha : Above 2 O) :
    iprop(Ctx XA XB K ∗ (pos c (.inl (1, h, d)) ∗ crd c (.inl (1, h, d))) ∗ ptA c h (accF XA XB c n) ∗ St c O)
      ⊢ WP c (pAcc c h d : KProg F) fun _ =>
        iprop((ptR c h d.succ (rs1F XA XB c) ∗ (∃ f, ptO (mate d.rev c) h (mem c) f) ∗ zer c (.inl (1, h, d)))
          ∗ ptA c h (accF XA XB c (n + 1)) ∗ St c O) := by
  subst hn
  have hacc : accV XA XB c h (d.val + 1)
      = k0_pay20 ((cA h).read (Elt F) (accF XA XB c d.val)) ((rA h d.succ).read (Elt F) (rs1F XA XB c)) := by
    rw [acc_at]
    show k0_pay20 _ ((rA h ⟨(d.val + 1) % 8, _⟩).read (Elt F) _) = _
    have : (⟨(d.val + 1) % 8, Nat.mod_lt _ (by omega)⟩ : Fin 8) = d.succ := Fin.ext (by show (d.val + 1) % 8 = d.val + 1; omega)
    rw [this]
  unfold pAcc stepAcc
  simp only [Prog.lift, Prog.bind_op, Prog.bind_ret, Prog.pure_eq_ret, ptR_eq]
  unfold ptA
  iintro ⟨#HC, Hw, HA, HO⟩
  iapply (wait_dma XA XB K c (.inl (1, h, d)) O 2 (Nat.le_refl 2) ha (dst := mR h d.succ) (cr_mR h _) _ _) $$ [Hw HO]
  · isplitr; · iexact HC
    isplitl [Hw]; · iexact Hw
    iexact HO
  iintro ⟨Hp, Hz, HO⟩
  ihave Hp := (show tagPay XA XB c (.inl (1, h, d)) ⊢ iprop(((rA h d.succ).loc (c : Thread nD τ) ↦[(rA h d.succ).set]{fullShare} rs1F XA XB c)
      ∗ ∃ f, ptO (mate d.rev c) h (mem c) f) from by rw [← ptR_eq]; exact Entails.refl _) $$ Hp
  icases Hp with ⟨Hr, Ho⟩
  iapply (ld c cM (hR h) _ _ _ _) $$ HA; iintro HA
  iapply (ld c rM (rR h d.succ) _ _ _ _) $$ Hr; iintro Hr
  iapply (ld c cM (hR h) _ _ _ _) $$ HA; iintro HA
  iapply (sto c cM (hR h) _ _ (accF XA XB c (d.val + 1)) ((acc_at XA XB c h _).trans hacc) _ _) $$ HA; iintro HA
  unfold WP
  rw [wp_ret]; imodintro
  isplitl [Hr Ho Hz]
  · isplitl [Hr]; · iexact Hr
    isplitl [Ho]; · iexact Ho
    iexact Hz
  isplitl [HA]; · iexact HA
  iexact HO

/-! ## The second reduction -/

/-- A strip is sent to a partner. -/
theorem s2_act (e : Fin 3) (O : CT) :
    iprop(Ctx XA XB K ∗ (ptC c h (cube (partner e c)) (accF XA XB c 7) ∗ (∃ f, ptS (partner e c) h e.succ f)
        ∗ tok c (.inr (0, h, e)) ∗ tok (partner e c) (.inr (1, h, e))) ∗ St c (O + owS2 c h e))
      ⊢ WP c (pS2 c h e : KProg F) fun _ => iprop(crd c (.inr (0, h, e)) ∗ St c O) := by
  have key : ∀ (x : Dev nD) (hx : x = partner e c) {oC : Fin 3 → ℕ} (eC : oC = kOff h (cube (partner e c)))
      (iC : ∀ a, oC a + S1x48x768.size a ≤ S2x192x768.size a),
      iprop(Ctx XA XB K ∗ (ptC c h (cube (partner e c)) (accF XA XB c 7) ∗ (∃ f, ptS (partner e c) h e.succ f)
        ∗ tok c (.inr (0, h, e)) ∗ tok (partner e c) (.inr (1, h, e))) ∗ St c (O + owS2 c h e))
      ⊢ WP c (stepS2 x iC (sOff_inb h e.succ) (semOf (.inr (0, h, e))) (semOf (.inr (1, h, e))) : KProg F)
          fun _ => iprop(crd c (.inr (0, h, e)) ∗ St c O) := by
    intro x hx oC eC iC
    subst hx eC
    unfold stepS2
    simp only [Prog.lift]
    unfold ptC ptS
    iintro ⟨#HC, ⟨Hs, ⟨%fd, Hd⟩, Ht, Ht'⟩, HO⟩
    iapply (send_back XA XB K (src := mC h (cube (partner e c))) (dst := mS h e.succ) (t := .inr (0, h, e)) (t' := .inr (1, h, e)) fullShare (accF XA XB c 7) fd (cr_mS h _) rfl O
      (by unfold tagPay ptC; exact Entails.refl _) (by
        unfold tagPay
        rw [written (mS h e.succ).view (partner e c) fd (rs2F XA XB (partner e c)) _ (send2 XA XB c h e)]
        unfold ptS; exact Entails.refl _) _ _) $$ [Hs Hd Ht Ht' HO]
    · isplitr; · iexact HC
      isplitl [Hs Hd Ht Ht']
      · isplitl [Hs]; · iexact Hs
        isplitl [Hd]; · iexact Hd
        isplitl [Ht]; · iexact Ht
        iexact Ht'
      iexact HO
    iintro H
    unfold WP
    rw [wp_ret]; imodintro
    iexact H
  exact key _ (s2Dev_eq h e c) (fC_eq h e c) _

/-- The own strip. -/
theorem own2_act :
    iprop(ptC c h (cube c) (accF XA XB c 7) ∗ ∃ f, ptS c h 0 f)
      ⊢ WP c (stepOwn2 (fCown_inb h c) (sOff_inb h 0) : KProg F) fun _ =>
        iprop(ptC c h (cube c) (accF XA XB c 7) ∗ ptS c h 0 (rs2F XA XB c)) := by
  have key : ∀ {oC : Fin 3 → ℕ} (eC : oC = kOff h (cube c)) (iC : ∀ a, oC a + S1x48x768.size a ≤ S2x192x768.size a),
      iprop(ptC c h (cube c) (accF XA XB c 7) ∗ ∃ f, ptS c h 0 f)
        ⊢ WP c (stepOwn2 iC (sOff_inb h 0) : KProg F) fun _ => iprop(ptC c h (cube c) (accF XA XB c 7) ∗ ptS c h 0 (rs2F XA XB c)) := by
    intro oC eC iC
    subst eC
    unfold stepOwn2
    simp only [Prog.lift, Prog.bind_op, Prog.bind_ret, Prog.pure_eq_ret, ptC_eq, ptS_eq]
    iintro ⟨Hc, ⟨%fs, Hs⟩⟩
    iapply (ld c cM (qR h (cube c)) _ _ _ _) $$ Hc; iintro Hc
    iapply (ld c sM (sR h 0) _ _ _ _) $$ Hs; iintro Hs
    iapply (sto c sM (sR h 0) _ _ (rs2F XA XB c) (own2 XA XB c h) _ _) $$ Hs; iintro Hs
    unfold WP
    rw [wp_ret]; imodintro
    isplitl [Hc]; · iexact Hc
    iexact Hs
  exact key (fCown_eq h c) _

/-- A wait that does nothing else. -/
theorem wait_act (t : Tag) (O : CT) (n : ℕ) (hn : tagLv t ≤ n) (ha : Above n O) {sp sp' : Space} {s s' : Shape} {e e' : EltTy}
    {src : Memref sig .tc sp' s' e'} {dst : Memref sig .tc sp s e} {hs : src.view.WordExact} {hd : dst.view.WordExact}
    (hN : dst.view.dmaCredit = amt t) :
    iprop(Ctx XA XB K ∗ (pos c t ∗ crd c t) ∗ St c O)
      ⊢ WP c (Prog.lift (.waitDma2 (semOf t) src dst hs hd) : KProg F) fun _ => iprop((tagPay XA XB c t ∗ zer c t) ∗ St c O) := by
  unfold Prog.lift
  have h1 := wait_dma XA XB K c t O n hn ha (hs := hs) (hd := hd) hN (fun a => (Prog.ret a : KProg F))
    (fun _ => iprop((tagPay XA XB c t ∗ zer c t) ∗ St c O))
  iintro H
  iapply h1 $$ H
  iintro ⟨H1, H2, H3⟩
  unfold WP
  rw [wp_ret]; imodintro
  isplitl [H1 H2]
  · isplitl [H1]; · iexact H1
    iexact H2
  iexact H3

theorem w2_act (e : Fin 3) (O : CT) (ha : Above (3 + 2 * h.val) O) :
    iprop(Ctx XA XB K ∗ (pos c (.inr (1, h, e)) ∗ crd c (.inr (1, h, e))) ∗ St c O)
      ⊢ WP c (pW2 c h e : KProg F) fun _ => iprop((ptS c h e.succ (rs2F XA XB c) ∗ zer c (.inr (1, h, e))) ∗ St c O) :=
  wait_act XA XB K c (.inr (1, h, e)) O _ (Nat.le_refl _) ha rfl

/-- The four strips summed and activated. -/
theorem act_act :
    iprop((ptS c h 0 (rs2F XA XB c) ∗ ptS c h 1 (rs2F XA XB c) ∗ ptS c h 2 (rs2F XA XB c) ∗ ptS c h 3 (rs2F XA XB c))
        ∗ ∃ f, ptK c h fullShare (cube c) f)
      ⊢ WP c (stepAct (sOff_inb h 0) (sOff_inb h 1) (sOff_inb h 2) (sOff_inb h 3) (fK_inb h c) : KProg F) fun _ =>
        iprop((ptS c h 0 (rs2F XA XB c) ∗ ptS c h 1 (rs2F XA XB c) ∗ ptS c h 2 (rs2F XA XB c) ∗ ptS c h 3 (rs2F XA XB c))
          ∗ ptK c h fullShare (cube c) (blkF XA XB c)) := by
  have key : ∀ {oK : Fin 3 → ℕ} (eK : oK = kOff h (cube c)) (iK : ∀ a, oK a + S1x48x768.size a ≤ S2x192x768.size a),
      iprop((ptS c h 0 (rs2F XA XB c) ∗ ptS c h 1 (rs2F XA XB c) ∗ ptS c h 2 (rs2F XA XB c) ∗ ptS c h 3 (rs2F XA XB c))
        ∗ ∃ f, ptK c h fullShare (cube c) f)
      ⊢ WP c (stepAct (sOff_inb h 0) (sOff_inb h 1) (sOff_inb h 2) (sOff_inb h 3) iK : KProg F) fun _ =>
        iprop((ptS c h 0 (rs2F XA XB c) ∗ ptS c h 1 (rs2F XA XB c) ∗ ptS c h 2 (rs2F XA XB c) ∗ ptS c h 3 (rs2F XA XB c))
          ∗ ptK c h fullShare (cube c) (blkF XA XB c)) := by
    intro oK eK iK
    subst eK
    unfold stepAct
    simp only [Prog.lift, Prog.bind_op, Prog.bind_ret, Prog.pure_eq_ret, ptK_eq, ptS_eq]
    iintro ⟨⟨H0, H1, H2, H3⟩, ⟨%fk, Hk⟩⟩
    iapply (ld c sM (sR h 0) _ _ _ _) $$ H0; iintro H0
    iapply (ld c sM (sR h 1) _ _ _ _) $$ H1; iintro H1
    iapply (ld c sM (sR h 2) _ _ _ _) $$ H2; iintro H2
    iapply (ld c sM (sR h 3) _ _ _ _) $$ H3; iintro H3
    iapply (ld c kM (qR h (cube c)) _ _ _ _) $$ Hk; iintro Hk
    iapply (sto c kM (qR h (cube c)) _ _ (blkF XA XB c) (act_at XA XB c h) _ _) $$ Hk; iintro Hk
    unfold WP
    rw [wp_ret]; imodintro
    isplitl [H0 H1 H2 H3]
    · isplitl [H0]; · iexact H0
      isplitl [H1]; · iexact H1
      isplitl [H2]; · iexact H2
      iexact H3
    iexact Hk
  exact key (fK_eq h c) _

/-! ## The gathers -/

/-- The finished strip is sent to a partner, at a share of it. -/
theorem g2_act (e : Fin 3) (O : CT) :
    iprop(Ctx XA XB K ∗ (ptK c h (t3 e) (cube c) (blkF XA XB c) ∗ (∃ f, ptK (partner e c) h fullShare (cube c) f)
        ∗ tok c (.inr (2, h, e)) ∗ tok (partner e c) (.inr (3, h, e))) ∗ St c (O + owG2 c h e))
      ⊢ WP c (pG2 c h e : KProg F) fun _ => iprop(crd c (.inr (2, h, e)) ∗ St c O) := by
  have key : ∀ (x : Dev nD) (hx : x = partner e c) {oK : Fin 3 → ℕ} (eK : oK = kOff h (cube c))
      (iK : ∀ a, oK a + S1x48x768.size a ≤ S2x192x768.size a),
      iprop(Ctx XA XB K ∗ (ptK c h (t3 e) (cube c) (blkF XA XB c) ∗ (∃ f, ptK (partner e c) h fullShare (cube c) f)
        ∗ tok c (.inr (2, h, e)) ∗ tok (partner e c) (.inr (3, h, e))) ∗ St c (O + owG2 c h e))
      ⊢ WP c (stepG2 x iK (semOf (.inr (2, h, e))) (semOf (.inr (3, h, e))) : KProg F) fun _ => iprop(crd c (.inr (2, h, e)) ∗ St c O) := by
    intro x hx oK eK iK
    subst hx eK
    unfold stepG2
    simp only [Prog.lift]
    unfold ptK
    iintro ⟨#HC, ⟨Hs, ⟨%fd, Hd⟩, Ht, Ht'⟩, HO⟩
    iapply (send_back XA XB K (src := mK h (cube c)) (dst := mK h (cube c)) (t := .inr (2, h, e)) (t' := .inr (3, h, e)) (t3 e) (blkF XA XB c) fd (cr_mK h _) rfl O
      (by unfold tagPay ptK; exact Entails.refl _) (by
        unfold tagPay
        show _ ⊢ ptK (partner e c) h fullShare (cube (partner e.rev (partner e c))) (blkF XA XB (partner e c))
        rw [partner_rev, blk_congr XA XB (mem_partner e c)]
        rw [written (mK h (cube c)).view (partner e c) fd (blkF XA XB c) _ rfl]
        unfold ptK; exact Entails.refl _) _ _) $$ [Hs Hd Ht Ht' HO]
    · isplitr; · iexact HC
      isplitl [Hs Hd Ht Ht']
      · isplitl [Hs]; · iexact Hs
        isplitl [Hd]; · iexact Hd
        isplitl [Ht]; · iexact Ht
        iexact Ht'
      iexact HO
    iintro H
    unfold WP
    rw [wp_ret]; imodintro
    iexact H
  exact key _ (g2Dev_eq h e c) (fK_eq h c) _

theorem wg2_act (e : Fin 3) (O : CT) (ha : Above (4 + 2 * h.val) O) :
    iprop(Ctx XA XB K ∗ (pos c (.inr (3, h, e)) ∗ crd c (.inr (3, h, e))) ∗ St c O)
      ⊢ WP c (pWG2 c h e : KProg F) fun _ =>
        iprop((ptK c h fullShare (cube (partner e.rev c)) (blkF XA XB c) ∗ zer c (.inr (3, h, e))) ∗ St c O) :=
  wait_act XA XB K c (.inr (3, h, e)) O _ (Nat.le_refl _) ha rfl

/-- The finished block goes into the result. -/
theorem copy_act :
    iprop(ptH c h q3 (blkF XA XB c) ∗ ∃ f, ptO c h (mem c) f)
      ⊢ WP c (stepCopy (hOff_inb h) (fOown_inb h c) : KProg F) fun _ => iprop(ptH c h q3 (blkF XA XB c) ∗ ptO c h (mem c) (outF XA XB)) := by
  have key : ∀ {oO : Fin 2 → ℕ} (eO : oO = oOff h (mem c)) (iO : ∀ a, oO a + S192x768.size a ≤ S1536x1536.size a),
      iprop(ptH c h q3 (blkF XA XB c) ∗ ∃ f, ptO c h (mem c) f)
        ⊢ WP c (stepCopy (hOff_inb h) iO : KProg F) fun _ => iprop(ptH c h q3 (blkF XA XB c) ∗ ptO c h (mem c) (outF XA XB)) := by
    intro oO eO iO
    subst eO
    unfold stepCopy
    simp only [Prog.lift, Prog.bind_op, Prog.bind_ret, Prog.pure_eq_ret, ptH_eq]
    unfold ptO
    iintro ⟨Hk, ⟨%fo, Ho⟩⟩
    iapply (ld c kM (hR h) _ _ _ _) $$ Hk; iintro Hk
    iapply (ld c oM (oR h (mem c)) _ _ _ _) $$ Ho; iintro Ho
    iapply (sto c oM (oR h (mem c)) _ _ (outF XA XB) (copy_at XA XB c h) _ _) $$ Ho; iintro Ho
    unfold WP
    rw [wp_ret]; imodintro
    isplitl [Hk]; · iexact Hk
    iexact Ho
  exact key (fOown_eq h c) _

/-- The finished block is sent to a mate, at a share of it. -/
theorem g1_act (d : Fin 7) (O : CT) :
    iprop(Ctx XA XB K ∗ (ptH c h (t7 d) (blkF XA XB c) ∗ (∃ f, ptO (mate d c) h (mem c) f)
        ∗ tok c (.inl (2, h, d)) ∗ tok (mate d c) (.inl (3, h, d))) ∗ St c (O + owG1 c h d))
      ⊢ WP c (pG1 c h d : KProg F) fun _ => iprop(crd c (.inl (2, h, d)) ∗ St c O) := by
  have key : ∀ (x : Dev nD) (hx : x = mate d c) {oO : Fin 2 → ℕ} (eO : oO = oOff h (mem c))
      (iO : ∀ a, oO a + S192x768.size a ≤ S1536x1536.size a),
      iprop(Ctx XA XB K ∗ (ptH c h (t7 d) (blkF XA XB c) ∗ (∃ f, ptO (mate d c) h (mem c) f)
        ∗ tok c (.inl (2, h, d)) ∗ tok (mate d c) (.inl (3, h, d))) ∗ St c (O + owG1 c h d))
      ⊢ WP c (stepG1 x (hOff_inb h) iO (semOf (.inl (2, h, d))) (semOf (.inl (3, h, d))) : KProg F)
          fun _ => iprop(crd c (.inl (2, h, d)) ∗ St c O) := by
    intro x hx oO eO iO
    subst hx eO
    unfold stepG1
    simp only [Prog.lift]
    unfold ptH ptO
    iintro ⟨#HC, ⟨Hs, ⟨%fd, Hd⟩, Ht, Ht'⟩, HO⟩
    iapply (send_back XA XB K (src := mH h) (dst := mO h (mem c)) (t := .inl (2, h, d)) (t' := .inl (3, h, d)) (t7 d) (blkF XA XB c) fd (cr_mO h _) rfl O
      (by unfold tagPay ptH; exact Entails.refl _) (by
        unfold tagPay
        show _ ⊢ ptO (mate d c) h (mem (mate d.rev (mate d c))) (outF XA XB)
        rw [mate_rev]
        rw [written (mO h (mem c)).view (mate d c) fd (outF XA XB) _ (send3 XA XB c h)]
        unfold ptO; exact Entails.refl _) _ _) $$ [Hs Hd Ht Ht' HO]
    · isplitr; · iexact HC
      isplitl [Hs Hd Ht Ht']
      · isplitl [Hs]; · iexact Hs
        isplitl [Hd]; · iexact Hd
        isplitl [Ht]; · iexact Ht
        iexact Ht'
      iexact HO
    iintro H
    unfold WP
    rw [wp_ret]; imodintro
    iexact H
  exact key _ (g1Dev_eq h d c) (fOown'_eq h c) _

/-! ## The closing waits -/

theorem wg1_act (d : Fin 7) :
    iprop(Ctx XA XB K ∗ (pos c (.inl (3, h, d)) ∗ crd c (.inl (3, h, d))) ∗ St c 0)
      ⊢ WP c (pWG1 c h d : KProg F) fun _ => iprop((ptO c h (mem (mate d.rev c)) (outF XA XB) ∗ zer c (.inl (3, h, d))) ∗ St c 0) :=
  wait_act XA XB K c (.inl (3, h, d)) 0 _ (Nat.le_refl _) (above_zero _) rfl
theorem ws1_act (d : Fin 7) :
    iprop(Ctx XA XB K ∗ (pos c (.inl (0, h, d)) ∗ crd c (.inl (0, h, d))) ∗ St c 0)
      ⊢ WP c (pWs1 c h d : KProg F) fun _ => iprop((emp ∗ zer c (.inl (0, h, d))) ∗ St c 0) :=
  wait_act XA XB K c (.inl (0, h, d)) 0 _ (Nat.le_refl _) (above_zero _) rfl
theorem ws2_act (e : Fin 3) :
    iprop(Ctx XA XB K ∗ (pos c (.inr (0, h, e)) ∗ crd c (.inr (0, h, e))) ∗ St c 0)
      ⊢ WP c (pWs2 c h e : KProg F) fun _ => iprop((ptC c h (cube (partner e c)) (accF XA XB c 7) ∗ zer c (.inr (0, h, e))) ∗ St c 0) :=
  wait_act XA XB K c (.inr (0, h, e)) 0 _ (Nat.le_refl _) (above_zero _) rfl
theorem wk2_act (e : Fin 3) :
    iprop(Ctx XA XB K ∗ (pos c (.inr (2, h, e)) ∗ crd c (.inr (2, h, e))) ∗ St c 0)
      ⊢ WP c (pWg2 c h e : KProg F) fun _ => iprop((ptK c h (t3 e) (cube c) (blkF XA XB c) ∗ zer c (.inr (2, h, e))) ∗ St c 0) :=
  wait_act XA XB K c (.inr (2, h, e)) 0 _ (Nat.le_refl _) (above_zero _) rfl
theorem wk1_act (d : Fin 7) :
    iprop(Ctx XA XB K ∗ (pos c (.inl (2, h, d)) ∗ crd c (.inl (2, h, d))) ∗ St c 0)
      ⊢ WP c (pWg1 c h d : KProg F) fun _ => iprop((ptH c h (t7 d) (blkF XA XB c) ∗ zer c (.inl (2, h, d))) ∗ St c 0) :=
  wait_act XA XB K c (.inl (2, h, d)) 0 _ (Nat.le_refl _) (above_zero _) rfl

end Cert.KernelIdeal.Hand

end
-- ==== Proof.KernelIdeal.Regions.lean ====
/-
  How the buffers fall into the pieces the kernel moves.
-/
module

public import proofs.«01_k».proof.Proof.KernelIdeal.Acts

@[expose] public section

set_option synthInstance.maxSize 4096

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (shareDrop shareTok pointsTo_toks_split pointsTo_toks_join)

variable {F : FTy → Type} [FloatOps F]

local notation "𝕄" => MT nD τ sig Unit (Elt F) ℕ UU ℕ

/-- A region labelled by its pieces is the pieces. -/
theorem split_by {T : Type} [Fintype T] {ℓ : Loc nD τ sig} {q : PosShare TreeShare} {f : Buf (Elt F) ℓ} {R : Finset (Idx ℓ)}
    {P : T → Finset (Idx ℓ)} (lab : Idx ℓ → T) (hP : ∀ t i, i ∈ P t ↔ i ∈ R ∧ lab i = t) :
    (ℓ ↦[R]{q} f : sProp 𝕄) = bigSep Finset.univ fun t => ℓ ↦[P t]{q} f := by
  classical
  rw [← pointsTo_biUnion Finset.univ P fun t _ t' _ hne => by
    rw [Finset.disjoint_left]
    intro i h1 h2
    exact hne (((hP t i).mp h1).2.symm.trans ((hP t' i).mp h2).2)]
  congr 1
  ext i
  rw [Finset.mem_biUnion]
  exact ⟨fun hi => ⟨lab i, Finset.mem_univ _, (hP _ i).mpr ⟨hi, rfl⟩⟩, fun ⟨t, _, ht⟩ => ((hP t i).mp ht).1⟩

theorem split_univ {T : Type} [Fintype T] {ℓ : Loc nD τ sig} {q : PosShare TreeShare} {f : Buf (Elt F) ℓ}
    {P : T → Finset (Idx ℓ)} (lab : Idx ℓ → T) (hP : ∀ t i, i ∈ P t ↔ lab i = t) :
    (ℓ ↦[Finset.univ]{q} f : sProp 𝕄) = bigSep Finset.univ fun t => ℓ ↦[P t]{q} f :=
  split_by lab fun t i => (hP t i).trans ⟨fun H => ⟨Finset.mem_univ _, H⟩, fun H => H.2⟩

/-- A family over everything, at one member and at the others, listed once each. -/
theorem bigSep_around {α : Type} [Fintype α] [DecidableEq α] {n : ℕ} (a : α) (g : Fin n → α) (hne : ∀ d, g d ≠ a)
    (hinj : ∀ d d', g d = g d' → d = d') (hall : ∀ b, b = a ∨ ∃ d, b = g d) (Φ : α → sProp 𝕄) :
    bigSep Finset.univ Φ = iprop(Φ a ∗ bigSep Finset.univ fun d => Φ (g d)) := by
  have h1 : (Finset.univ : Finset α) = insert a (Finset.univ.map ⟨g, fun d d' h => hinj d d' h⟩) := by
    ext b
    simp only [Finset.mem_univ, Finset.mem_insert, Finset.mem_map, true_and, Function.Embedding.coeFn_mk, true_iff]
    rcases hall b with h | ⟨d, h⟩
    · exact Or.inl h
    · exact Or.inr ⟨d, h.symm⟩
  have h2 : a ∉ Finset.univ.map ⟨g, fun d d' h => hinj d d' h⟩ := by
    simp only [Finset.mem_map, Finset.mem_univ, true_and, Function.Embedding.coeFn_mk, not_exists]
    exact hne
  rw [h1, bigSep_insert h2, bigSep_map]
  rfl

section
variable (c : Dev nD)
theorem around_mem (Φ : Fin 8 → sProp 𝕄) :
    bigSep Finset.univ Φ = iprop(Φ (mem c) ∗ bigSep Finset.univ fun d : Fin 7 => Φ (mem (mate d c))) :=
  bigSep_around _ _ (mem_mate_ne c) (mem_mate_inj c) (mem_cases c) Φ
theorem around_cube (Φ : Fin 4 → sProp 𝕄) :
    bigSep Finset.univ Φ = iprop(Φ (cube c) ∗ bigSep Finset.univ fun e : Fin 3 => Φ (cube (partner e c))) :=
  bigSep_around _ _ (cube_partner_ne c) (cube_partner_inj c) (cube_cases c) Φ
theorem around_succ {n : ℕ} (Φ : Fin (n + 1) → sProp 𝕄) :
    bigSep Finset.univ Φ = iprop(Φ 0 ∗ bigSep Finset.univ fun d : Fin n => Φ d.succ) :=
  bigSep_around _ _ Fin.succ_ne_zero (fun _ _ h => Fin.succ_injective _ h)
    (fun b => by rcases Fin.eq_zero_or_eq_succ b with h | h; exacts [Or.inl h, Or.inr h]) Φ
end

/-! ## The pieces' elements -/

section
variable (h : Fin 2)

theorem mem_mO (mm : Fin 8) (i : S1536x1536.Idx) : i ∈ (mO h mm).view.set ↔ (i 0).val / 192 = mm.val ∧ (i 1).val / 768 = h.val := by
  show i ∈ ((View.whole cc0_stg2_0).slice (oR h mm)).set ↔ _
  rw [View.set_slice_whole, Rect.mem_set_unit]
  refine ⟨fun H => ?_, fun H a => ?_⟩
  · have h0 : 192 * mm.val ≤ (i 0).val ∧ (i 0).val < 192 * mm.val + 192 := H 0
    have h1 : 768 * h.val ≤ (i 1).val ∧ (i 1).val < 768 * h.val + 768 := H 1
    omega
  · match a with
    | ⟨0, _⟩ => show 192 * mm.val ≤ (i 0).val ∧ (i 0).val < 192 * mm.val + 192; omega
    | ⟨1, _⟩ => show 768 * h.val ≤ (i 1).val ∧ (i 1).val < 768 * h.val + 768; omega

theorem mem_mR (s : Fin 8) (i : S16x192x768.Idx) : i ∈ (mR h s).view.set ↔ (i 0).val = 8 * h.val + s.val := by
  rw [set_mR]
  show i ∈ ((View.whole cc0_scratch0).slice (rR h s)).set ↔ _
  rw [View.set_slice_whole, Rect.mem_set_unit]
  refine ⟨fun H => ?_, fun H a => ?_⟩
  · have h0 : 8 * h.val + s.val ≤ (i 0).val ∧ (i 0).val < 8 * h.val + s.val + 1 := H 0
    omega
  · have h1 : (i 1).val < 192 := (i 1).isLt
    have h2 : (i 2).val < 768 := (i 2).isLt
    match a with
    | ⟨0, _⟩ => show 8 * h.val + s.val ≤ (i 0).val ∧ (i 0).val < 8 * h.val + s.val + 1; omega
    | ⟨1, _⟩ => show 0 ≤ (i 1).val ∧ (i 1).val < 0 + 192; omega
    | ⟨2, _⟩ => show 0 ≤ (i 2).val ∧ (i 2).val < 0 + 768; omega

theorem mem_mS (s : Fin 4) (i : S8x48x768.Idx) : i ∈ (mS h s).view.set ↔ (i 0).val = 4 * h.val + s.val := by
  rw [set_mS]
  show i ∈ ((View.whole cc0_scratch2).slice (sR h s)).set ↔ _
  rw [View.set_slice_whole, Rect.mem_set_unit]
  refine ⟨fun H => ?_, fun H a => ?_⟩
  · have h0 : 4 * h.val + s.val ≤ (i 0).val ∧ (i 0).val < 4 * h.val + s.val + 1 := H 0
    omega
  · have h1 : (i 1).val < 48 := (i 1).isLt
    have h2 : (i 2).val < 768 := (i 2).isLt
    match a with
    | ⟨0, _⟩ => show 4 * h.val + s.val ≤ (i 0).val ∧ (i 0).val < 4 * h.val + s.val + 1; omega
    | ⟨1, _⟩ => show 0 ≤ (i 1).val ∧ (i 1).val < 0 + 48; omega
    | ⟨2, _⟩ => show 0 ≤ (i 2).val ∧ (i 2).val < 0 + 768; omega

theorem mem_hR (i : S2x192x768.Idx) : i ∈ (hR h).set ↔ (i 0).val = h.val := by
  rw [Rect.mem_set_unit]
  refine ⟨fun H => ?_, fun H a => ?_⟩
  · have h0 : h.val ≤ (i 0).val ∧ (i 0).val < h.val + 1 := H 0
    omega
  · have h1 : (i 1).val < 192 := (i 1).isLt
    have h2 : (i 2).val < 768 := (i 2).isLt
    match a with
    | ⟨0, _⟩ => show h.val ≤ (i 0).val ∧ (i 0).val < h.val + 1; omega
    | ⟨1, _⟩ => show 0 ≤ (i 1).val ∧ (i 1).val < 0 + 192; omega
    | ⟨2, _⟩ => show 0 ≤ (i 2).val ∧ (i 2).val < 0 + 768; omega

theorem mem_qR (q : Fin 4) (i : S2x192x768.Idx) : i ∈ (qR h q).set ↔ (i 0).val = h.val ∧ (i 1).val / 48 = q.val := by
  rw [Rect.mem_set_unit]
  refine ⟨fun H => ?_, fun H a => ?_⟩
  · have h0 : h.val ≤ (i 0).val ∧ (i 0).val < h.val + 1 := H 0
    have h1 : 48 * q.val ≤ (i 1).val ∧ (i 1).val < 48 * q.val + 48 := H 1
    omega
  · have h2 : (i 2).val < 768 := (i 2).isLt
    match a with
    | ⟨0, _⟩ => show h.val ≤ (i 0).val ∧ (i 0).val < h.val + 1; omega
    | ⟨1, _⟩ => show 48 * q.val ≤ (i 1).val ∧ (i 1).val < 48 * q.val + 48; omega
    | ⟨2, _⟩ => show 0 ≤ (i 2).val ∧ (i 2).val < 0 + 768; omega

theorem set_cA : (cA h).set = (hR h).set := View.set_slice_whole _ _
theorem set_kA : (kA h).set = (hR h).set := View.set_slice_whole _ _
theorem set_cQ (q : Fin 4) : (cQ h q).set = (qR h q).set := View.set_slice_whole _ _
theorem set_kQ (q : Fin 4) : (kQ h q).set = (qR h q).set := View.set_slice_whole _ _
end

/-! ## The splits -/

/-- Which piece an element lies in. -/
def labO (i : S1536x1536.Idx) : Fin 2 × Fin 8 :=
  (⟨(i 1).val / 768, by have : (i 1).val < 1536 := (i 1).isLt; omega⟩, ⟨(i 0).val / 192, by have : (i 0).val < 1536 := (i 0).isLt; omega⟩)
def labR (i : S16x192x768.Idx) : Fin 2 × Fin 8 :=
  (⟨(i 0).val / 8, by have : (i 0).val < 16 := (i 0).isLt; omega⟩, ⟨(i 0).val % 8, Nat.mod_lt _ (by omega)⟩)
def labS (i : S8x48x768.Idx) : Fin 2 × Fin 4 :=
  (⟨(i 0).val / 4, by have : (i 0).val < 8 := (i 0).isLt; omega⟩, ⟨(i 0).val % 4, Nat.mod_lt _ (by omega)⟩)
def labH (i : S2x192x768.Idx) : Fin 2 := i 0
def labQ (i : S2x192x768.Idx) : Fin 4 := ⟨(i 1).val / 48, by have : (i 1).val < 192 := (i 1).isLt; omega⟩

theorem lab_mO (t : Fin 2 × Fin 8) (i : S1536x1536.Idx) : i ∈ (mO t.1 t.2).view.set ↔ labO i = t := by
  obtain ⟨h, mm⟩ := t
  rw [mem_mO]; unfold labO; rw [Prod.mk.injEq, Fin.ext_iff, Fin.ext_iff]
  exact ⟨fun H => ⟨H.2, H.1⟩, fun H => ⟨H.2, H.1⟩⟩
theorem lab_mR (t : Fin 2 × Fin 8) (i : S16x192x768.Idx) : i ∈ (mR t.1 t.2).view.set ↔ labR i = t := by
  obtain ⟨h, s⟩ := t
  rw [mem_mR]; unfold labR; rw [Prod.mk.injEq, Fin.ext_iff, Fin.ext_iff]
  show (i 0).val = 8 * h.val + s.val ↔ (i 0).val / 8 = h.val ∧ (i 0).val % 8 = s.val
  omega
theorem lab_mS (t : Fin 2 × Fin 4) (i : S8x48x768.Idx) : i ∈ (mS t.1 t.2).view.set ↔ labS i = t := by
  obtain ⟨h, s⟩ := t
  rw [mem_mS]; unfold labS; rw [Prod.mk.injEq, Fin.ext_iff, Fin.ext_iff]
  show (i 0).val = 4 * h.val + s.val ↔ (i 0).val / 4 = h.val ∧ (i 0).val % 4 = s.val
  omega
theorem lab_cA (h : Fin 2) (i : S2x192x768.Idx) : i ∈ (cA h).set ↔ labH i = h := by
  rw [set_cA, mem_hR]; exact Fin.ext_iff.symm
theorem lab_mH (h : Fin 2) (i : S2x192x768.Idx) : i ∈ (mH h).view.set ↔ labH i = h := by
  rw [set_mH, set_kA, mem_hR]; exact Fin.ext_iff.symm
theorem lab_mC (h : Fin 2) (q : Fin 4) (i : S2x192x768.Idx) : i ∈ (mC h q).view.set ↔ i ∈ (cA h).set ∧ labQ i = q := by
  rw [set_mC, set_cA, set_cQ, mem_hR, mem_qR]; exact and_congr_right fun _ => (Fin.ext_iff (a := labQ i) (b := q)).symm
theorem lab_mK (h : Fin 2) (q : Fin 4) (i : S2x192x768.Idx) : i ∈ (mK h q).view.set ↔ i ∈ (mH h).view.set ∧ labQ i = q := by
  rw [set_mK, set_mH, set_kA, set_kQ, mem_hR, mem_qR]; exact and_congr_right fun _ => (Fin.ext_iff (a := labQ i) (b := q)).symm

section
variable (x : Dev nD)

theorem splitO (f : S1536x1536.Idx → Elt F .f32) :
    (oM.view.loc (x : Thread nD τ) ↦[Finset.univ]{fullShare} f : sProp 𝕄)
      = bigSep Finset.univ fun h => iprop(ptO x h (mem x) f ∗ bigSep Finset.univ fun d : Fin 7 => ptO x h (mem (mate d x)) f) := by
  have h1 := split_univ (F := F) (ℓ := oM.view.loc (x : Thread nD τ)) (q := fullShare) (f := f) labO lab_mO
  rw [h1, bigSep_univ_prod]
  exact bigSep_congr fun h _ => around_mem x fun mm => ptO x h mm f

theorem splitR (f : S16x192x768.Idx → Elt F .f32) :
    (rM.view.loc (x : Thread nD τ) ↦[Finset.univ]{fullShare} f : sProp 𝕄)
      = bigSep Finset.univ fun h => iprop(ptR x h 0 f ∗ bigSep Finset.univ fun d : Fin 7 => ptR x h d.succ f) := by
  have h1 := split_univ (F := F) (ℓ := rM.view.loc (x : Thread nD τ)) (q := fullShare) (f := f) labR lab_mR
  rw [h1, bigSep_univ_prod]
  exact bigSep_congr fun h _ => around_succ fun s => ptR x h s f

theorem splitS (f : S8x48x768.Idx → Elt F .f32) :
    (sM.view.loc (x : Thread nD τ) ↦[Finset.univ]{fullShare} f : sProp 𝕄)
      = bigSep Finset.univ fun h => iprop(ptS x h 0 f ∗ bigSep Finset.univ fun e : Fin 3 => ptS x h e.succ f) := by
  have h1 := split_univ (F := F) (ℓ := sM.view.loc (x : Thread nD τ)) (q := fullShare) (f := f) labS lab_mS
  rw [h1, bigSep_univ_prod]
  exact bigSep_congr fun h _ => around_succ fun s => ptS x h s f

/-- A block buffer is its halves, -/
theorem splitA (f : S2x192x768.Idx → Elt F .f32) :
    (cM.view.loc (x : Thread nD τ) ↦[Finset.univ]{fullShare} f : sProp 𝕄) = bigSep Finset.univ fun h => ptA x h f :=
  split_univ (F := F) (ℓ := cM.view.loc (x : Thread nD τ)) (q := fullShare) (f := f) labH lab_cA
theorem splitH (q : PosShare TreeShare) (f : S2x192x768.Idx → Elt F .f32) :
    (kM.view.loc (x : Thread nD τ) ↦[Finset.univ]{q} f : sProp 𝕄) = bigSep Finset.univ fun h => ptH x h q f :=
  split_univ (F := F) (ℓ := kM.view.loc (x : Thread nD τ)) (q := q) (f := f) labH lab_mH

/-- and a half its strips. -/
theorem splitC (h : Fin 2) (f : S2x192x768.Idx → Elt F .f32) :
    (ptA x h f : sProp 𝕄) = iprop(ptC x h (cube x) f ∗ bigSep Finset.univ fun e : Fin 3 => ptC x h (cube (partner e x)) f) := by
  rw [← around_cube x fun s => ptC x h s f]
  exact split_by (F := F) (ℓ := cM.view.loc (x : Thread nD τ)) (q := fullShare) (f := f) (R := (cA h).set) labQ (lab_mC h)
theorem splitK (h : Fin 2) (q : PosShare TreeShare) (f : S2x192x768.Idx → Elt F .f32) :
    (ptH x h q f : sProp 𝕄)
      = iprop(ptK x h q (cube x) f ∗ bigSep Finset.univ fun e : Fin 3 => ptK x h q (cube (partner e x)) f) := by
  rw [← around_cube x fun s => ptK x h q s f]
  exact split_by (F := F) (ℓ := kM.view.loc (x : Thread nD τ)) (q := q) (f := f) (R := (mH h).view.set) labQ (lab_mK h)

/-- A family over the distances may be counted backwards. -/
theorem bigSep_rev {n : ℕ} (Φ : Fin n → sProp 𝕄) : bigSep Finset.univ Φ = bigSep Finset.univ fun d : Fin n => Φ d.rev :=
  bigSep_univ_equiv Fin.revPerm Φ

/-! ## Shares -/

theorem toksK (h : Fin 2) (q : Fin 4) (f : S2x192x768.Idx → Elt F .f32) :
    (ptK x h fullShare q f : sProp 𝕄) = iprop(ptK x h q3 q f ∗ bigSep Finset.univ fun e : Fin 3 => ptK x h (t3 e) q f) :=
  BI.Entails.antisymm (pointsTo_toks_split fullShare 3) (pointsTo_toks_join fullShare 3)
theorem toksH (h : Fin 2) (f : S2x192x768.Idx → Elt F .f32) :
    (ptH x h q3 f : sProp 𝕄) = iprop(ptH x h q7 f ∗ bigSep Finset.univ fun d : Fin 7 => ptH x h (t7 d) f) :=
  BI.Entails.antisymm (pointsTo_toks_split q3 7) (pointsTo_toks_join q3 7)
end

end Cert.KernelIdeal.Hand

end
-- ==== Proof.KernelIdeal.Chain.lean ====
/-
  The steps put together: the two stages of a half, and the closing waits.
-/
module

public import proofs.«01_k».proof.Proof.KernelIdeal.Regions

@[expose] public section

set_option synthInstance.maxSize 4096

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (XA : Dev nD → S1536x768.Idx → Elt F .f32) (XB : Dev nD → S768x1536.Idx → Elt F .f32)
variable (K : Dev nD × Option Tag → ℕ) (c : Dev nD) (h : Fin 2)

/-! ## Loops over all distances -/

/-- Each pass pays what is owed for it. -/
theorem each_owe {ι : Type} [DecidableEq ι] [Fintype ι] {f : ι → KProg F} {A B : ι → sProp 𝕄} {o : ι → CT} {O : CT}
    {l : List ι} (hl : l.Nodup) (hu : l.toFinset = Finset.univ)
    (hstep : ∀ i O', iprop(Ctx XA XB K ∗ B i ∗ St c (O' + o i)) ⊢ WP c (f i) fun _ => iprop(A i ∗ St c O'))
    (k : KProg F) (Q : PUnit → sProp 𝕄) :
    iprop(Ctx XA XB K ∗ bigSep Finset.univ B ∗ St c (ows o O l))
      ⊢ iprop(((bigSep Finset.univ A ∗ St c O) -∗ WP c k Q) -∗ WP c (each f l k) Q) := by
  rw [← hu]
  exact each_use (P := Ctx XA XB K) (J := fun l => St c (ows o O l)) k Q l hl fun i l' _ => hstep i (ows o O l')

/-- Each pass waits, and what is owed stays. -/
theorem each_wait {ι : Type} [DecidableEq ι] [Fintype ι] {f : ι → KProg F} {A B : ι → sProp 𝕄} {O : CT}
    {l : List ι} (hl : l.Nodup) (hu : l.toFinset = Finset.univ)
    (hstep : ∀ i, iprop(Ctx XA XB K ∗ B i ∗ St c O) ⊢ WP c (f i) fun _ => iprop(A i ∗ St c O))
    (k : KProg F) (Q : PUnit → sProp 𝕄) :
    iprop(Ctx XA XB K ∗ bigSep Finset.univ B ∗ St c O)
      ⊢ iprop(((bigSep Finset.univ A ∗ St c O) -∗ WP c k Q) -∗ WP c (each f l k) Q) := by
  rw [← hu]
  exact each_use (P := Ctx XA XB K) (J := fun _ => St c O) k Q l hl fun i l' _ => hstep i

theorem n7 : d7.Nodup := by decide
theorem u7 : d7.toFinset = Finset.univ := by decide
theorem n3 : d3.Nodup := by decide
theorem u3 : d3.toFinset = Finset.univ := by decide

/-! ## The first stage -/

/-- What a first-stage send takes. -/
def inS1 (d : Fin 7) : sProp 𝕄 :=
  iprop((∃ f, ptO c h (mem (mate d c)) f) ∗ (∃ f, ptR (mate d c) h d.succ f) ∗ tok c (.inl (0, h, d)) ∗ tok (mate d c) (.inl (1, h, d)))

theorem stage1_use (O : CT) (k : KProg F) (Q : PUnit → sProp 𝕄) :
    iprop(Ctx XA XB K ∗ (bigSep Finset.univ (inS1 (F := F) c h) ∗ (∃ f, ptR c h 0 f) ∗ stA XA c ∗ stB XB c) ∗ St c (ows (owS1 c h) O d7))
      ⊢ iprop((((bigSep Finset.univ fun d => crd c (.inl (0, h, d))) ∗ ptR c h 0 (rs1F XA XB c) ∗ stA XA c ∗ stB XB c ∗ St c O) -∗ WP c k Q)
        -∗ WP c (stage1 c h k) Q) := by
  have h1 := each_use (P := Ctx XA XB K) (B := inS1 (F := F) c h) (A := fun d => crd c (.inl (0, h, d))) (f := pS1 c h)
    (J := fun l => iprop(stA XA c ∗ stB XB c ∗ St c (ows (owS1 c h) O l))) (pOwn1 c h >>= fun _ => k) Q d7 n7
    fun d l' _ => s1_act XA XB K c h d (ows (owS1 c h) O l')
  rw [u7] at h1
  unfold stage1
  iintro ⟨#HC, ⟨HB, Hr, HA, HBb⟩, HO⟩ Hk
  iapply h1 $$ [HB HA HBb HO]
  · isplitr; · iexact HC
    isplitl [HB]; · iexact HB
    isplitl [HA]; · iexact HA
    isplitl [HBb]; · iexact HBb
    iexact HO
  iintro ⟨Hc, HA, HBb, HO⟩
  iapply (use (own1_act XA XB c h) k Q) $$ [Hr HA HBb]
  · isplitl [Hr]; · iexact Hr
    isplitl [HA]; · iexact HA
    iexact HBb
  iintro ⟨Hr, HA, HBb⟩
  iapply Hk
  isplitl [Hc]; · iexact Hc
  isplitl [Hr]; · iexact Hr
  isplitl [HA]; · iexact HA
  isplitl [HBb]; · iexact HBb
  iexact HO

/-! ## The second stage -/

/-- A position and its credit. -/
abbrev pc (t : Tag) : sProp 𝕄 := iprop(pos c t ∗ crd c t)

def inS2 (e : Fin 3) : sProp 𝕄 := iprop((∃ f, ptS (partner e c) h e.succ f) ∗ tok c (.inr (0, h, e)) ∗ tok (partner e c) (.inr (1, h, e)))
def inG2 (e : Fin 3) : sProp 𝕄 :=
  iprop((∃ f, ptK (partner e c) h fullShare (cube c) f) ∗ tok c (.inr (2, h, e)) ∗ tok (partner e c) (.inr (3, h, e)))
def inG1 (d : Fin 7) : sProp 𝕄 := iprop(tok c (.inl (2, h, d)) ∗ tok (mate d c) (.inl (3, h, d)))

/-- The awaited products, added up. -/
theorem accs_use (O : CT) (ha : Above 2 O) (k : KProg F) (Q : PUnit → sProp 𝕄) :
    iprop(Ctx XA XB K ∗ ((bigSep Finset.univ fun d => pc c (.inl (1, h, d))) ∗ ptA c h (accF XA XB c 0)) ∗ St c O)
      ⊢ iprop((((bigSep Finset.univ fun d : Fin 7 => iprop(ptR c h d.succ (rs1F XA XB c) ∗ (∃ f, ptO (mate d.rev c) h (mem c) f) ∗ zer c (.inl (1, h, d))))
          ∗ ptA c h (accF XA XB c 7) ∗ St c O) -∗ WP c k Q) -∗ WP c (each (pAcc c h) d7 k) Q) := by
  have hs : ∀ i (l' : List (Fin 7)), (i :: l') <:+ d7 → i.val + l'.length = 6 := by
    intro i l' hs
    obtain ⟨pre, hp⟩ := hs
    have h1 : d7[pre.length]? = some i := by rw [← hp]; simp
    have h2 : pre.length + (l'.length + 1) = 7 := by
      have := congrArg List.length hp; simpa using this
    have h3 : ∀ n : Fin 7, d7[n.val]? = some n := by decide
    have h4 := h3 ⟨pre.length, by omega⟩
    rw [h1] at h4
    have h5 : i = ⟨pre.length, by omega⟩ := by simpa using h4
    have h6 : i.val = pre.length := congrArg Fin.val h5
    omega
  have h1 := each_use (P := Ctx XA XB K) (B := fun d => pc c (.inl (1, h, d)))
    (A := fun d : Fin 7 => iprop(ptR c h d.succ (rs1F XA XB c) ∗ (∃ f, ptO (mate d.rev c) h (mem c) f) ∗ zer c (.inl (1, h, d)))) (f := pAcc c h)
    (J := fun l => iprop(ptA c h (accF XA XB c (7 - l.length)) ∗ St c O)) k Q d7 n7
    fun d l' hsuf => by
      have h6 := hs d l' hsuf
      have e1 : 7 - (d :: l').length = d.val := by rw [List.length_cons]; omega
      have e2 : 7 - l'.length = d.val + 1 := by omega
      show iprop(_ ∗ _ ∗ ptA c h (accF XA XB c (7 - (d :: l').length)) ∗ St c O) ⊢ WP c _ fun _ => iprop(_ ∗ ptA c h (accF XA XB c (7 - l'.length)) ∗ St c O)
      rw [e1, e2]
      exact acc_act XA XB K c h d d.val rfl O ha
  rw [u7] at h1
  iintro ⟨#HC, ⟨HB, HA⟩, HO⟩ Hk
  iapply h1 $$ [HB HA HO]
  · isplitr; · iexact HC
    isplitl [HB]; · iexact HB
    isplitl [HA]; · iexact HA
    iexact HO
  iintro ⟨HP, HA, HO⟩
  iapply Hk
  isplitl [HP]; · iexact HP
  isplitl [HA]; · iexact HA
  iexact HO

/-- What the second stage leaves of the block buffer's other strips. -/
abbrev lentK : sProp 𝕄 := bigSep Finset.univ fun e : Fin 3 => bigSep Finset.univ fun i : Fin 3 => ptK c h (t3 i) (cube (partner e c)) (blkF XA XB c)

/-- The strips of every cube at the kept share are the block, the rest lent stays aside. -/
theorem gatherK :
    iprop(ptK c h q3 (cube c) (blkF XA XB c) ∗ bigSep Finset.univ fun e : Fin 3 => ptK c h fullShare (cube (partner e.rev c)) (blkF XA XB c))
      ⊢ iprop(ptH c h q3 (blkF XA XB c) ∗ lentK XA XB c h) := by
  rw [← bigSep_rev fun e : Fin 3 => (ptK c h fullShare (cube (partner e c)) (blkF XA XB c) : sProp 𝕄),
    bigSep_congr (s := Finset.univ) (fun (e : Fin 3) _ => toksK c h (cube (partner e c)) (blkF XA XB c)), bigSep_sep', splitK]
  iintro ⟨H1, H2, H3⟩
  isplitl [H1 H2]
  · isplitl [H1]; · iexact H1
    iexact H2
  iexact H3

/-- What the second stage takes, -/
def pre2 : sProp 𝕄 :=
  iprop((ptR c h 0 (rs1F XA XB c) ∗ (∃ f, ptA c h f) ∗ (bigSep Finset.univ fun d => pc c (.inl (1, h, d))))
    ∗ (bigSep Finset.univ (inS2 (F := F) c h) ∗ (∃ f, ptS c h 0 f) ∗ (bigSep Finset.univ fun e => pc c (.inr (1, h, e))) ∗ ∃ f, ptK c h fullShare (cube c) f)
    ∗ (bigSep Finset.univ (inG2 (F := F) c h) ∗ (bigSep Finset.univ fun e => pc c (.inr (3, h, e))) ∗ (∃ f, ptO c h (mem c) f) ∗ bigSep Finset.univ (inG1 (F := F) c h)))
/-- and what it leaves. -/
def post2 : sProp 𝕄 :=
  iprop((ptR c h 0 (rs1F XA XB c) ∗ (bigSep Finset.univ fun d : Fin 7 => ptR c h d.succ (rs1F XA XB c)) ∗ (bigSep Finset.univ fun d => zer c (.inl (1, h, d))))
    ∗ (ptC c h (cube c) (accF XA XB c 7) ∗ (bigSep Finset.univ fun e => crd c (.inr (0, h, e))))
    ∗ (ptS c h 0 (rs2F XA XB c) ∗ (bigSep Finset.univ fun e : Fin 3 => ptS c h e.succ (rs2F XA XB c)) ∗ (bigSep Finset.univ fun e => zer c (.inr (1, h, e))))
    ∗ ((bigSep Finset.univ fun e => crd c (.inr (2, h, e))) ∗ (bigSep Finset.univ fun e => zer c (.inr (3, h, e))))
    ∗ (ptO c h (mem c) (outF XA XB) ∗ ptH c h q7 (blkF XA XB c) ∗ lentK XA XB c h ∗ (bigSep Finset.univ fun d => crd c (.inl (2, h, d)))))

theorem univ3 (Φ : Fin 3 → sProp 𝕄) : bigSep Finset.univ Φ = iprop(Φ 0 ∗ Φ 1 ∗ Φ 2) :=
  bigSep_univ_eq_bigSepL [0, 1, 2] (by decide) (by decide) Φ

set_option maxHeartbeats 1000000 in
theorem stage2_use (O : CT) (h1 : Above 2 (ows (owS2 c h) (ows (owG2 c h) (ows (owG1 c h) O d7) d3) d3))
    (h2 : Above (3 + 2 * h.val) (ows (owG2 c h) (ows (owG1 c h) O d7) d3)) (h3 : Above (4 + 2 * h.val) (ows (owG1 c h) O d7))
    (k : KProg F) (Q : PUnit → sProp 𝕄) :
    iprop(Ctx XA XB K ∗ pre2 XA XB c h ∗ St c (ows (owS2 c h) (ows (owG2 c h) (ows (owG1 c h) O d7) d3) d3))
      ⊢ iprop(((post2 XA XB c h ∗ St c O) -∗ WP c k Q) -∗ WP c (stage2 c h k) Q) := by
  unfold stage2 pre2 post2
  iintro ⟨#HC, ⟨⟨Hr, HA, Hp1⟩, ⟨HS2, Hs0, Hp2, Hk⟩, ⟨HG2, Hp3, Ho, HG1⟩⟩, HO⟩ HQ
  iapply (use (acc0_act XA XB c h) _ Q) $$ [Hr HA]
  · isplitl [Hr]; · iexact Hr
    iexact HA
  iintro ⟨Hr, HA⟩
  iapply (accs_use XA XB K c h _ h1 _ Q) $$ [Hp1 HA HO]
  · isplitr; · iexact HC
    isplitl [Hp1 HA]
    · isplitl [Hp1]; · iexact Hp1
      iexact HA
    iexact HO
  iintro ⟨HP, HA, HO⟩
  ihave HP := (Entails.of_eq (show (bigSep Finset.univ fun d : Fin 7 => iprop(ptR c h d.succ (rs1F XA XB c) ∗ (∃ f, ptO (mate d.rev c) h (mem c) f) ∗ zer c (.inl (1, h, d))) : sProp 𝕄)
    = iprop((bigSep Finset.univ fun d : Fin 7 => ptR c h d.succ (rs1F XA XB c)) ∗ (bigSep Finset.univ fun d : Fin 7 => iprop(∃ f, ptO (mate d c) h (mem c) f))
      ∗ (bigSep Finset.univ fun d => zer c (.inl (1, h, d)))) by
      rw [bigSep_sep', bigSep_sep', ← bigSep_rev fun d : Fin 7 => (iprop(∃ f, ptO (mate d c) h (mem c) f) : sProp 𝕄)])) $$ HP
  icases HP with ⟨Hrs, Hmo, Hz1⟩
  ihave HA := (Entails.of_eq (splitC c h (accF XA XB c 7))) $$ HA
  icases HA with ⟨Hc0, Hcs⟩
  ihave HB := (Entails.of_eq (bigSep_sep' Finset.univ (fun e : Fin 3 => (ptC c h (cube (partner e c)) (accF XA XB c 7) : sProp 𝕄)) (inS2 (F := F) c h)).symm) $$ [Hcs HS2]
  · isplitl [Hcs]; · iexact Hcs
    iexact HS2
  iapply (each_owe XA XB K c (A := fun e => crd c (.inr (0, h, e))) (B := fun e => iprop(ptC c h (cube (partner e c)) (accF XA XB c 7) ∗ inS2 c h e))
    (o := owS2 c h) (f := pS2 c h) n3 u3 (fun e O' => s2_act XA XB K c h e O') _ Q) $$ [HB HO]
  · isplitr; · iexact HC
    isplitl [HB]; · iexact HB
    iexact HO
  iintro ⟨Hcr2, HO⟩
  iapply (use (own2_act XA XB c h) _ Q) $$ [Hc0 Hs0]
  · isplitl [Hc0]; · iexact Hc0
    iexact Hs0
  iintro ⟨Hc0, Hs0⟩
  iapply (each_wait XA XB K c (A := fun e => iprop(ptS c h e.succ (rs2F XA XB c) ∗ zer c (.inr (1, h, e)))) (B := fun e => pc c (.inr (1, h, e)))
    (f := pW2 c h) n3 u3 (fun e => w2_act XA XB K c h e _ h2) _ Q) $$ [Hp2 HO]
  · isplitr; · iexact HC
    isplitl [Hp2]; · iexact Hp2
    iexact HO
  iintro ⟨HP, HO⟩
  ihave HP := (Entails.of_eq (bigSep_sep' Finset.univ (fun e : Fin 3 => (ptS c h e.succ (rs2F XA XB c) : sProp 𝕄)) (fun e => zer c (.inr (1, h, e))))) $$ HP
  icases HP with ⟨Hss, Hz2⟩
  ihave Hss := (Entails.of_eq (univ3 fun e : Fin 3 => (ptS c h e.succ (rs2F XA XB c) : sProp 𝕄))) $$ Hss
  icases Hss with ⟨Hs1, Hs2, Hs3⟩
  iapply (use (act_act XA XB c h) _ Q) $$ [Hs0 Hs1 Hs2 Hs3 Hk]
  · isplitl [Hs0 Hs1 Hs2 Hs3]
    · isplitl [Hs0]; · iexact Hs0
      isplitl [Hs1]; · iexact Hs1
      isplitl [Hs2]; · iexact Hs2
      iexact Hs3
    iexact Hk
  iintro ⟨⟨Hs0, Hs1, Hs2, Hs3⟩, Hk⟩
  ihave Hss := (Entails.of_eq (univ3 fun e : Fin 3 => (ptS c h e.succ (rs2F XA XB c) : sProp 𝕄)).symm) $$ [Hs1 Hs2 Hs3]
  · isplitl [Hs1]; · iexact Hs1
    isplitl [Hs2]; · iexact Hs2
    iexact Hs3
  ihave Hk := (Entails.of_eq (toksK c h (cube c) (blkF XA XB c))) $$ Hk
  icases Hk with ⟨Hk, Hkt⟩
  ihave HB := (Entails.of_eq (bigSep_sep' Finset.univ (fun e : Fin 3 => (ptK c h (t3 e) (cube c) (blkF XA XB c) : sProp 𝕄)) (inG2 (F := F) c h)).symm) $$ [Hkt HG2]
  · isplitl [Hkt]; · iexact Hkt
    iexact HG2
  iapply (each_owe XA XB K c (A := fun e => crd c (.inr (2, h, e))) (B := fun e => iprop(ptK c h (t3 e) (cube c) (blkF XA XB c) ∗ inG2 c h e))
    (o := owG2 c h) (f := pG2 c h) n3 u3 (fun e O' => g2_act XA XB K c h e O') _ Q) $$ [HB HO]
  · isplitr; · iexact HC
    isplitl [HB]; · iexact HB
    iexact HO
  iintro ⟨Hcr3, HO⟩
  iapply (each_wait XA XB K c (A := fun e : Fin 3 => iprop(ptK c h fullShare (cube (partner e.rev c)) (blkF XA XB c) ∗ zer c (.inr (3, h, e)))) (B := fun e => pc c (.inr (3, h, e)))
    (f := pWG2 c h) n3 u3 (fun e => wg2_act XA XB K c h e _ h3) _ Q) $$ [Hp3 HO]
  · isplitr; · iexact HC
    isplitl [Hp3]; · iexact Hp3
    iexact HO
  iintro ⟨HP, HO⟩
  ihave HP := (Entails.of_eq (bigSep_sep' Finset.univ (fun e : Fin 3 => (ptK c h fullShare (cube (partner e.rev c)) (blkF XA XB c) : sProp 𝕄)) (fun e => zer c (.inr (3, h, e))))) $$ HP
  icases HP with ⟨Hks, Hz3⟩
  ihave HH := (gatherK XA XB c h) $$ [Hk Hks]
  · isplitl [Hk]; · iexact Hk
    iexact Hks
  icases HH with ⟨HH, Hlent⟩
  iapply (use (copy_act XA XB c h) _ Q) $$ [HH Ho]
  · isplitl [HH]; · iexact HH
    iexact Ho
  iintro ⟨HH, Ho⟩
  ihave HH := (Entails.of_eq (toksH c h (blkF XA XB c))) $$ HH
  icases HH with ⟨HH, Hht⟩
  ihave HB := (Entails.of_eq (show (bigSep Finset.univ fun d : Fin 7 => iprop(ptH c h (t7 d) (blkF XA XB c) ∗ (∃ f, ptO (mate d c) h (mem c) f) ∗ inG1 c h d) : sProp 𝕄)
    = iprop((bigSep Finset.univ fun d : Fin 7 => ptH c h (t7 d) (blkF XA XB c)) ∗ (bigSep Finset.univ fun d : Fin 7 => iprop(∃ f, ptO (mate d c) h (mem c) f)) ∗ bigSep Finset.univ (inG1 (F := F) c h)) by
      rw [bigSep_sep', bigSep_sep']).symm) $$ [Hht Hmo HG1]
  · isplitl [Hht]; · iexact Hht
    isplitl [Hmo]; · iexact Hmo
    iexact HG1
  iapply (each_owe XA XB K c (A := fun d => crd c (.inl (2, h, d)))
    (B := fun d => iprop(ptH c h (t7 d) (blkF XA XB c) ∗ (∃ f, ptO (mate d c) h (mem c) f) ∗ inG1 c h d))
    (o := owG1 c h) (f := pG1 c h) n7 u7 (fun d O' => g1_act XA XB K c h d O') _ Q) $$ [HB HO]
  · isplitr; · iexact HC
    isplitl [HB]; · iexact HB
    iexact HO
  iintro ⟨Hcr4, HO⟩
  iapply HQ
  isplitr [HO]
  · isplitl [Hr Hrs Hz1]
    · isplitl [Hr]; · iexact Hr
      isplitl [Hrs]; · iexact Hrs
      iexact Hz1
    isplitl [Hc0 Hcr2]
    · isplitl [Hc0]; · iexact Hc0
      iexact Hcr2
    isplitl [Hs0 Hss Hz2]
    · isplitl [Hs0]; · iexact Hs0
      isplitl [Hss]; · iexact Hss
      iexact Hz2
    isplitl [Hcr3 Hz3]
    · isplitl [Hcr3]; · iexact Hcr3
      iexact Hz3
    isplitl [Ho]; · iexact Ho
    isplitl [HH]; · iexact HH
    isplitl [Hlent]; · iexact Hlent
    iexact Hcr4
  iexact HO

end Cert.KernelIdeal.Hand

end
-- ==== Proof.KernelIdeal.Body.lean ====
/-
  The whole kernel on one device: from its buffers, tokens and credits to its finished result.
-/
module

public import proofs.«01_k».proof.Proof.KernelIdeal.Chain

@[expose] public section

set_option synthInstance.maxSize 4096

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (XA : Dev nD → S1536x768.Idx → Elt F .f32) (XB : Dev nD → S768x1536.Idx → Elt F .f32)
variable (K : Dev nD × Option Tag → ℕ) (c : Dev nD) (h : Fin 2)

theorem univ2 (Φ : Fin 2 → sProp 𝕄) : bigSep Finset.univ Φ = iprop(Φ 0 ∗ Φ 1) :=
  bigSep_univ_eq_bigSepL [0, 1] (by decide) (by decide) Φ
theorem univ4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem sep2 {ι : Type} [Fintype ι] (Φ Ψ : ι → sProp 𝕄) :
    bigSep Finset.univ (fun i => iprop(Φ i ∗ Ψ i)) = iprop(bigSep Finset.univ Φ ∗ bigSep Finset.univ Ψ) := bigSep_sep' _ _ _

/-- A family over a half's transfers, kind by kind. -/
def byKind (Φ : Tag → sProp 𝕄) (h : Fin 2) : sProp 𝕄 :=
  iprop(((bigSep Finset.univ fun d => Φ (.inl (0, h, d))) ∗ (bigSep Finset.univ fun d => Φ (.inl (1, h, d)))
      ∗ (bigSep Finset.univ fun d => Φ (.inl (2, h, d))) ∗ (bigSep Finset.univ fun d => Φ (.inl (3, h, d))))
    ∗ ((bigSep Finset.univ fun e => Φ (.inr (0, h, e))) ∗ (bigSep Finset.univ fun e => Φ (.inr (1, h, e)))
      ∗ (bigSep Finset.univ fun e => Φ (.inr (2, h, e))) ∗ (bigSep Finset.univ fun e => Φ (.inr (3, h, e)))))

/-- A family over all the transfers is its halves. -/
theorem by_kind (Φ : Tag → sProp 𝕄) : bigSep Finset.univ Φ = bigSep Finset.univ fun h => byKind Φ h := by
  have key : ∀ (n : ℕ) (Ψ : Fin 4 × Fin 2 × Fin n → sProp 𝕄), bigSep Finset.univ Ψ
      = bigSep Finset.univ fun h => iprop((bigSep Finset.univ fun d => Ψ (0, h, d)) ∗ (bigSep Finset.univ fun d => Ψ (1, h, d))
        ∗ (bigSep Finset.univ fun d => Ψ (2, h, d)) ∗ (bigSep Finset.univ fun d => Ψ (3, h, d))) := by
    intro n Ψ
    rw [bigSep_univ_prod, univ4, sep2, sep2, sep2]
    simp only [bigSep_univ_prod]
  rw [bigSep_univ_sum, key 7, key 3]
  exact (sep2 _ _).symm

/-! ## The buffers cut up -/

/-- What a device keeps of a half's buffers when it has signalled, -/
def kept : sProp 𝕄 :=
  iprop(((∃ f, ptO c h (mem c) f) ∗ (bigSep Finset.univ fun d : Fin 7 => iprop(∃ f, ptO c h (mem (mate d c)) f)))
    ∗ (∃ f, ptR c h 0 f) ∗ (∃ f, ptA c h f) ∗ (∃ f, ptS c h 0 f) ∗ (∃ f, ptK c h fullShare (cube c) f))
/-- what it hands out with its signals, -/
def away : sProp 𝕄 :=
  iprop((bigSep Finset.univ fun d : Fin 7 => iprop(∃ f, ptR c h d.succ f)) ∗ (bigSep Finset.univ fun e : Fin 3 => iprop(∃ f, ptS c h e.succ f))
    ∗ (bigSep Finset.univ fun e : Fin 3 => iprop(∃ f, ptK c h fullShare (cube (partner e c)) f)))
/-- and what it gets with the signals of the others. -/
def got : sProp 𝕄 :=
  iprop((bigSep Finset.univ fun d : Fin 7 => iprop(∃ f, ptR (mate d c) h d.succ f)) ∗ (bigSep Finset.univ fun e : Fin 3 => iprop(∃ f, ptS (partner e c) h e.succ f))
    ∗ (bigSep Finset.univ fun e : Fin 3 => iprop(∃ f, ptK (partner e c) h fullShare (cube c) f)))

/-- A whole buffer. -/
abbrev wO (f : S1536x1536.Idx → Elt F .f32) : sProp 𝕄 := oM.view.loc (c : Thread nD τ) ↦[Finset.univ]{fullShare} f
abbrev wR (f : S16x192x768.Idx → Elt F .f32) : sProp 𝕄 := rM.view.loc (c : Thread nD τ) ↦[Finset.univ]{fullShare} f
abbrev wC (f : S2x192x768.Idx → Elt F .f32) : sProp 𝕄 := cM.view.loc (c : Thread nD τ) ↦[Finset.univ]{fullShare} f
abbrev wS (f : S8x48x768.Idx → Elt F .f32) : sProp 𝕄 := sM.view.loc (c : Thread nD τ) ↦[Finset.univ]{fullShare} f
abbrev wK (f : S2x192x768.Idx → Elt F .f32) : sProp 𝕄 := kM.view.loc (c : Thread nD τ) ↦[Finset.univ]{fullShare} f

theorem ex_intro {α : Type} (Φ : α → sProp 𝕄) (a : α) : Φ a ⊢ iprop(∃ a, Φ a) := by iintro H; iexists a; iexact H
theorem ex_all {α : Type} {n : ℕ} (Φ : Fin n → α → sProp 𝕄) (a : α) :
    (bigSep Finset.univ fun d => Φ d a) ⊢ bigSep Finset.univ fun d => iprop(∃ a, Φ d a) :=
  bigSep_mono fun d _ => ex_intro (Φ d) a

/-- The five buffers, whatever they hold, cut up. -/
theorem cut (fO : S1536x1536.Idx → Elt F .f32) (fR : S16x192x768.Idx → Elt F .f32) (fC fK : S2x192x768.Idx → Elt F .f32) (fS : S8x48x768.Idx → Elt F .f32) :
    iprop(wO c fO ∗ wR c fR ∗ wC c fC ∗ wS c fS ∗ wK c fK) ⊢ bigSep Finset.univ fun h => iprop(kept (F := F) c h ∗ away (F := F) c h) := by
  have step : ∀ h : Fin 2, iprop((ptO c h (mem c) fO ∗ bigSep Finset.univ fun d : Fin 7 => ptO c h (mem (mate d c)) fO)
      ∗ (ptR c h 0 fR ∗ bigSep Finset.univ fun d : Fin 7 => ptR c h d.succ fR) ∗ ptA c h fC
      ∗ (ptS c h 0 fS ∗ bigSep Finset.univ fun e : Fin 3 => ptS c h e.succ fS) ∗ ptH c h fullShare fK) ⊢ iprop(kept (F := F) c h ∗ away (F := F) c h) := by
    intro h
    rw [splitK]
    unfold kept away
    iintro ⟨⟨HO, HOs⟩, ⟨HR, HRs⟩, HA, ⟨HS, HSs⟩, HK, HKs⟩
    isplitl [HO HOs HR HA HS HK]
    · isplitl [HO HOs]
      · isplitl [HO]; · iexists fO; iexact HO
        iapply (ex_all (fun d : Fin 7 => ptO c h (mem (mate d c))) fO); iexact HOs
      isplitl [HR]; · iexists fR; iexact HR
      isplitl [HA]; · iexists fC; iexact HA
      isplitl [HS]; · iexists fS; iexact HS
      iexists fK; iexact HK
    isplitl [HRs]; · iapply (ex_all (fun d : Fin 7 => ptR c h d.succ) fR); iexact HRs
    isplitl [HSs]; · iapply (ex_all (fun e : Fin 3 => ptS c h e.succ) fS); iexact HSs
    iapply (ex_all (fun e : Fin 3 => ptK c h fullShare (cube (partner e c))) fK); iexact HKs
  refine .trans ?_ (bigSep_mono (s := Finset.univ) fun h _ => step h)
  unfold wO wR wC wS wK
  rw [splitO, splitR, splitA, splitS, splitH]
  simp only [sep2]
  exact .rfl

/-- What a half holds at the end, -/
def whole : sProp 𝕄 :=
  iprop((ptO c h (mem c) (outF XA XB) ∗ bigSep Finset.univ fun d : Fin 7 => ptO c h (mem (mate d c)) (outF XA XB))
    ∗ (ptR c h 0 (rs1F XA XB c) ∗ bigSep Finset.univ fun d : Fin 7 => ptR c h d.succ (rs1F XA XB c)) ∗ ptA c h (accF XA XB c 7)
    ∗ (ptS c h 0 (rs2F XA XB c) ∗ bigSep Finset.univ fun e : Fin 3 => ptS c h e.succ (rs2F XA XB c)) ∗ ptH c h fullShare (blkF XA XB c))
/-- and the buffers put together again. -/
theorem glue : (bigSep Finset.univ fun h => whole XA XB c h)
    ⊢ iprop(wO c (outF XA XB) ∗ wR c (rs1F XA XB c) ∗ wC c (accF XA XB c 7) ∗ wS c (rs2F XA XB c) ∗ wK c (blkF XA XB c)) := by
  unfold wO wR wC wS wK whole
  rw [splitO, splitR, splitA, splitS, splitH]
  simp only [sep2]
  exact .rfl

/-! ## The opening -/

/-- The tokens of the signals. -/
def sigToks : sProp 𝕄 :=
  iprop((bigSep Finset.univ fun d : Fin 7 => dutyTok ER (bcell (mate d c)) 0 (.inl d.rev))
    ∗ (bigSep Finset.univ fun e : Fin 3 => dutyTok ER (bcell (partner e c)) 0 (.inr e.rev)))

theorem bar_got : bigSep Finset.univ (barPay (F := F) c) ⊢ iprop(got (F := F) c 0 ∗ got (F := F) c 1) := by
  rw [bigSep_univ_sum]
  show iprop((bigSep Finset.univ fun d : Fin 7 => iprop((∃ f, ptR (mate d c) 0 d.succ f) ∗ (∃ f, ptR (mate d c) 1 d.succ f)))
    ∗ (bigSep Finset.univ fun e : Fin 3 => iprop(((∃ f, ptS (partner e c) 0 e.succ f) ∗ (∃ f, ptS (partner e c) 1 e.succ f))
      ∗ (∃ f, ptK (partner e c) 0 fullShare (cube c) f) ∗ (∃ f, ptK (partner e c) 1 fullShare (cube c) f)))) ⊢ _
  rw [sep2, sep2, sep2, sep2]
  unfold got
  iintro ⟨⟨H1, H2⟩, ⟨H3, H4⟩, H5, H6⟩
  isplitl [H1 H3 H5]
  · isplitl [H1]; · iexact H1
    isplitl [H3]; · iexact H3
    iexact H5
  isplitl [H2]; · iexact H2
  isplitl [H4]; · iexact H4
  iexact H6

theorem away_sig : iprop(sigToks (F := F) c ∗ away (F := F) c 0 ∗ away (F := F) c 1)
    ⊢ iprop((bigSep Finset.univ fun d : Fin 7 => iprop(dutyTok ER (bcell (mate d c)) 0 (.inl d.rev) ∗ (∃ f, ptR c 0 d.rev.succ f) ∗ (∃ f, ptR c 1 d.rev.succ f)))
      ∗ (bigSep Finset.univ fun e : Fin 3 => iprop(dutyTok ER (bcell (partner e c)) 0 (.inr e.rev)
        ∗ ((∃ f, ptS c 0 e.rev.succ f) ∗ (∃ f, ptS c 1 e.rev.succ f))
        ∗ (∃ f, ptK c 0 fullShare (cube (partner e c)) f) ∗ (∃ f, ptK c 1 fullShare (cube (partner e c)) f)))) := by
  unfold sigToks away
  rw [sep2, sep2, sep2, sep2, sep2, sep2]
  rw [bigSep_rev fun d : Fin 7 => (iprop(∃ f, ptR c 0 d.succ f) : sProp 𝕄), bigSep_rev fun d : Fin 7 => (iprop(∃ f, ptR c 1 d.succ f) : sProp 𝕄),
    bigSep_rev fun d : Fin 3 => (iprop(∃ f, ptS c 0 d.succ f) : sProp 𝕄), bigSep_rev fun d : Fin 3 => (iprop(∃ f, ptS c 1 d.succ f) : sProp 𝕄)]
  iintro ⟨⟨H1, H2⟩, ⟨H3, H4, H5⟩, H6, H7, H8⟩
  isplitl [H1 H3 H6]
  · isplitl [H1]; · iexact H1
    isplitl [H3]; · iexact H3
    iexact H6
  isplitl [H2]; · iexact H2
  isplitl [H4 H7]
  · isplitl [H4]; · iexact H4
    iexact H7
  isplitl [H5]; · iexact H5
  iexact H8

/-- The signals and the wait for the others'. -/
theorem open_use (k : KProg F) (Q : PUnit → sProp 𝕄) :
    iprop(Ctx XA XB K ∗ ((sigToks (F := F) c ∗ away (F := F) c 0 ∗ away (F := F) c 1) ∗ atPos ER (bcell c) 0 ∅ 0 ∗ cred (tallyAt (bcell c) () 10)) ∗ St c (O₀ c))
      ⊢ iprop(((got (F := F) c 0 ∗ got (F := F) c 1 ∗ semVal (bcell c) 0 ∗ St c (oS1a c)) -∗ WP c k Q)
        -∗ WP c (each (pSig c) d7 <| each (pSig' c) d3 <| (semWaitWord barS 10#32 : KProg F) >>= fun _ => k) Q) := by
  have hw : iprop(Ctx XA XB K ∗ (atPos ER (bcell c) 0 ∅ 0 ∗ cred (tallyAt (bcell c) () 10)) ∗ St c (oS1a c))
      ⊢ WP c (semWaitWord barS 10#32 : KProg F) fun _ => iprop(bigSep Finset.univ (barPay (F := F) c) ∗ semVal (bcell c) 0 ∗ St c (oS1a c)) := by
    iintro H
    iapply (wait_bar XA XB K c (oS1a c) (ab_oS1a c) _) $$ H
    iintro H; iexact H
  unfold O₀ oB'
  iintro ⟨#HC, ⟨HT, Hat, Hcr⟩, HO⟩ Hk
  ihave HT := (away_sig c) $$ HT
  icases HT with ⟨HT, HT'⟩
  iapply (each_owe XA XB K c (A := fun _ => iprop(emp)) (o := owBar c) (f := pSig c) n7 u7 (fun d O' => sig_act XA XB K c d O') _ Q) $$ [HT HO]
  · isplitr; · iexact HC
    isplitl [HT]; · iexact HT
    iexact HO
  iintro ⟨-, HO⟩
  iapply (each_owe XA XB K c (A := fun _ => iprop(emp)) (o := owBar' c) (f := pSig' c) n3 u3 (fun e O' => sig'_act XA XB K c e O') _ Q) $$ [HT' HO]
  · isplitr; · iexact HC
    isplitl [HT']; · iexact HT'
    iexact HO
  iintro ⟨-, HO⟩
  iapply (use hw k Q) $$ [Hat Hcr HO]
  · isplitr; · iexact HC
    isplitl [Hat Hcr]
    · isplitl [Hat]; · iexact Hat
      iexact Hcr
    iexact HO
  iintro ⟨Hp, Hz, HO⟩
  ihave Hp := (bar_got c) $$ Hp
  icases Hp with ⟨H0, H1⟩
  iapply Hk
  isplitl [H0]; · iexact H0
  isplitl [H1]; · iexact H1
  isplitl [Hz]; · iexact Hz
  iexact HO

/-! ## The closing -/

/-- What the closing waits of a half take, -/
def preC : sProp 𝕄 :=
  iprop((bigSep Finset.univ fun d => pc c (.inl (0, h, d))) ∗ (bigSep Finset.univ fun e => pc c (.inr (0, h, e)))
    ∗ (bigSep Finset.univ fun e => pc c (.inr (2, h, e))) ∗ (bigSep Finset.univ fun d => pc c (.inl (2, h, d)))
    ∗ (bigSep Finset.univ fun d => pc c (.inl (3, h, d))))
/-- and what they leave. -/
def postC : sProp 𝕄 :=
  iprop((bigSep Finset.univ fun d => iprop(emp ∗ zer c (.inl (0, h, d))))
    ∗ (bigSep Finset.univ fun e : Fin 3 => iprop(ptC c h (cube (partner e c)) (accF XA XB c 7) ∗ zer c (.inr (0, h, e))))
    ∗ (bigSep Finset.univ fun e : Fin 3 => iprop(ptK c h (t3 e) (cube c) (blkF XA XB c) ∗ zer c (.inr (2, h, e))))
    ∗ (bigSep Finset.univ fun d : Fin 7 => iprop(ptH c h (t7 d) (blkF XA XB c) ∗ zer c (.inl (2, h, d))))
    ∗ (bigSep Finset.univ fun d : Fin 7 => iprop(ptO c h (mem (mate d.rev c)) (outF XA XB) ∗ zer c (.inl (3, h, d)))))

theorem closing_use (Q : PUnit → sProp 𝕄) :
    iprop(Ctx XA XB K ∗ (preC (F := F) c 0 ∗ preC (F := F) c 1) ∗ St c 0)
      ⊢ iprop(((postC XA XB c 0 ∗ postC XA XB c 1 ∗ St c 0) -∗ WP c (pure ⟨⟩ : KProg F) Q) -∗ WP c (closing c) Q) := by
  unfold closing preC postC
  iintro ⟨#HC, ⟨⟨Ha0, Hb0, Hc0, Hd0, He0⟩, Ha1, Hb1, Hc1, Hd1, He1⟩, HO⟩ Hk
  iapply (each_wait XA XB K c n7 u7 (fun d => wg1_act XA XB K c 1 d) _ Q) $$ [He1 HO]
  · isplitr; · iexact HC
    isplitl [He1]; · iexact He1
    iexact HO
  iintro ⟨He1, HO⟩
  iapply (each_wait XA XB K c n7 u7 (fun d => wg1_act XA XB K c 0 d) _ Q) $$ [He0 HO]
  · isplitr; · iexact HC
    isplitl [He0]; · iexact He0
    iexact HO
  iintro ⟨He0, HO⟩
  iapply (each_wait XA XB K c n7 u7 (fun d => ws1_act XA XB K c 0 d) _ Q) $$ [Ha0 HO]
  · isplitr; · iexact HC
    isplitl [Ha0]; · iexact Ha0
    iexact HO
  iintro ⟨Ha0, HO⟩
  iapply (each_wait XA XB K c n7 u7 (fun d => ws1_act XA XB K c 1 d) _ Q) $$ [Ha1 HO]
  · isplitr; · iexact HC
    isplitl [Ha1]; · iexact Ha1
    iexact HO
  iintro ⟨Ha1, HO⟩
  iapply (each_wait XA XB K c n3 u3 (fun e => ws2_act XA XB K c 0 e) _ Q) $$ [Hb0 HO]
  · isplitr; · iexact HC
    isplitl [Hb0]; · iexact Hb0
    iexact HO
  iintro ⟨Hb0, HO⟩
  iapply (each_wait XA XB K c n3 u3 (fun e => wk2_act XA XB K c 0 e) _ Q) $$ [Hc0 HO]
  · isplitr; · iexact HC
    isplitl [Hc0]; · iexact Hc0
    iexact HO
  iintro ⟨Hc0, HO⟩
  iapply (each_wait XA XB K c n7 u7 (fun d => wk1_act XA XB K c 0 d) _ Q) $$ [Hd0 HO]
  · isplitr; · iexact HC
    isplitl [Hd0]; · iexact Hd0
    iexact HO
  iintro ⟨Hd0, HO⟩
  iapply (each_wait XA XB K c n3 u3 (fun e => ws2_act XA XB K c 1 e) _ Q) $$ [Hb1 HO]
  · isplitr; · iexact HC
    isplitl [Hb1]; · iexact Hb1
    iexact HO
  iintro ⟨Hb1, HO⟩
  iapply (each_wait XA XB K c n3 u3 (fun e => wk2_act XA XB K c 1 e) _ Q) $$ [Hc1 HO]
  · isplitr; · iexact HC
    isplitl [Hc1]; · iexact Hc1
    iexact HO
  iintro ⟨Hc1, HO⟩
  iapply (each_wait XA XB K c n7 u7 (fun d => wk1_act XA XB K c 1 d) _ Q) $$ [Hd1 HO]
  · isplitr; · iexact HC
    isplitl [Hd1]; · iexact Hd1
    iexact HO
  iintro ⟨Hd1, HO⟩
  iapply Hk
  isplitl [Ha0 Hb0 Hc0 Hd0 He0]
  · isplitl [Ha0]; · iexact Ha0
    isplitl [Hb0]; · iexact Hb0
    isplitl [Hc0]; · iexact Hc0
    isplitl [Hd0]; · iexact Hd0
    iexact He0
  isplitl [Ha1 Hb1 Hc1 Hd1 He1]
  · isplitl [Ha1]; · iexact Ha1
    isplitl [Hb1]; · iexact Hb1
    isplitl [Hc1]; · iexact Hc1
    isplitl [Hd1]; · iexact Hd1
    iexact He1
  iexact HO

/-! ## A half from its start to its end -/

/-- The tokens of a half's transfers: of its own sends, and of what it pays at the others. -/
def toksHalf : sProp 𝕄 :=
  iprop(((bigSep Finset.univ fun d : Fin 7 => tok c (.inl (0, h, d))) ∗ (bigSep Finset.univ fun d : Fin 7 => tok (mate d c) (.inl (1, h, d)))
      ∗ (bigSep Finset.univ fun d : Fin 7 => tok c (.inl (2, h, d))) ∗ (bigSep Finset.univ fun d : Fin 7 => tok (mate d c) (.inl (3, h, d))))
    ∗ ((bigSep Finset.univ fun e : Fin 3 => tok c (.inr (0, h, e))) ∗ (bigSep Finset.univ fun e : Fin 3 => tok (partner e c) (.inr (1, h, e)))
      ∗ (bigSep Finset.univ fun e : Fin 3 => tok c (.inr (2, h, e))) ∗ (bigSep Finset.univ fun e : Fin 3 => tok (partner e c) (.inr (3, h, e)))))
/-- The credits of what a half receives. -/
def crdsHalf : sProp 𝕄 :=
  iprop(((bigSep Finset.univ fun d : Fin 7 => crd c (.inl (1, h, d))) ∗ (bigSep Finset.univ fun d : Fin 7 => crd c (.inl (3, h, d))))
    ∗ ((bigSep Finset.univ fun e : Fin 3 => crd c (.inr (1, h, e))) ∗ (bigSep Finset.univ fun e : Fin 3 => crd c (.inr (3, h, e)))))

/-- What the first stage takes, -/
def pre1 : sProp 𝕄 := iprop(bigSep Finset.univ (inS1 (F := F) c h) ∗ (∃ f, ptR c h 0 f))
/-- what the second takes besides, -/
def rest2 : sProp 𝕄 :=
  iprop(((∃ f, ptA c h f) ∗ (bigSep Finset.univ fun d => pc c (.inl (1, h, d))))
    ∗ (bigSep Finset.univ (inS2 (F := F) c h) ∗ (∃ f, ptS c h 0 f) ∗ (bigSep Finset.univ fun e => pc c (.inr (1, h, e))) ∗ ∃ f, ptK c h fullShare (cube c) f)
    ∗ (bigSep Finset.univ (inG2 (F := F) c h) ∗ (bigSep Finset.univ fun e => pc c (.inr (3, h, e))) ∗ (∃ f, ptO c h (mem c) f) ∗ bigSep Finset.univ (inG1 (F := F) c h)))
/-- and what waits for the closing. -/
def restC : sProp 𝕄 :=
  iprop((bigSep Finset.univ fun d => pos c (.inl (0, h, d))) ∗ (bigSep Finset.univ fun e => pos c (.inr (0, h, e)))
    ∗ (bigSep Finset.univ fun e => pos c (.inr (2, h, e))) ∗ (bigSep Finset.univ fun d => pos c (.inl (2, h, d)))
    ∗ (bigSep Finset.univ fun d => pc c (.inl (3, h, d))))

theorem deal : iprop(kept (F := F) c h ∗ got (F := F) c h ∗ toksHalf (F := F) c h ∗ crdsHalf (F := F) c h ∗ byKind (fun t => (pos c t : sProp 𝕄)) h)
    ⊢ iprop(pre1 (F := F) c h ∗ rest2 (F := F) c h ∗ restC (F := F) c h) := by
  unfold kept got toksHalf crdsHalf byKind pre1 rest2 restC inS1 inS2 inG2 inG1
  simp only [sep2]
  iintro ⟨⟨⟨HO, HOs⟩, HR, HA, HS, HK⟩, ⟨HRs, HSs, HKs⟩, ⟨⟨Ha0, Ha1, Ha2, Ha3⟩, Hb0, Hb1, Hb2, Hb3⟩, ⟨⟨Hc1, Hc3⟩, Hd1, Hd3⟩, ⟨Hp0, Hp1, Hp2, Hp3⟩, Hq0, Hq1, Hq2, Hq3⟩
  isplitl [HOs HR HRs Ha0 Ha1]
  · isplitr [HR]
    · isplitl [HOs]; · iexact HOs
      isplitl [HRs]; · iexact HRs
      isplitl [Ha0]; · iexact Ha0
      iexact Ha1
    iexact HR
  isplitr [Hp0 Hp2 Hp3 Hq0 Hq2 Hc3]
  · isplitl [HA Hp1 Hc1]
    · isplitl [HA]; · iexact HA
      isplitl [Hp1]; · iexact Hp1
      iexact Hc1
    isplitl [HSs Hb0 Hb1 HS Hq1 Hd1 HK]
    · isplitl [HSs Hb0 Hb1]
      · isplitl [HSs]; · iexact HSs
        isplitl [Hb0]; · iexact Hb0
        iexact Hb1
      isplitl [HS]; · iexact HS
      isplitl [Hq1 Hd1]
      · isplitl [Hq1]; · iexact Hq1
        iexact Hd1
      iexact HK
    isplitl [HKs Hb2 Hb3]
    · isplitl [HKs]; · iexact HKs
      isplitl [Hb2]; · iexact Hb2
      iexact Hb3
    isplitl [Hq3 Hd3]
    · isplitl [Hq3]; · iexact Hq3
      iexact Hd3
    isplitl [HO]; · iexact HO
    isplitl [Ha2]; · iexact Ha2
    iexact Ha3
  isplitl [Hp0]; · iexact Hp0
  isplitl [Hq0]; · iexact Hq0
  isplitl [Hq2]; · iexact Hq2
  isplitl [Hp2]; · iexact Hp2
  isplitl [Hp3]; · iexact Hp3
  iexact Hc3

/-- What the two stages leave that the closing does not touch. -/
def endP : sProp 𝕄 :=
  iprop((ptR c h 0 (rs1F XA XB c) ∗ (bigSep Finset.univ fun d : Fin 7 => ptR c h d.succ (rs1F XA XB c)) ∗ (bigSep Finset.univ fun d => zer c (.inl (1, h, d))))
    ∗ ptC c h (cube c) (accF XA XB c 7)
    ∗ (ptS c h 0 (rs2F XA XB c) ∗ (bigSep Finset.univ fun e : Fin 3 => ptS c h e.succ (rs2F XA XB c)) ∗ (bigSep Finset.univ fun e => zer c (.inr (1, h, e))))
    ∗ (bigSep Finset.univ fun e => zer c (.inr (3, h, e)))
    ∗ (ptO c h (mem c) (outF XA XB) ∗ ptH c h q7 (blkF XA XB c) ∗ lentK XA XB c h))

theorem to_closing : iprop((bigSep Finset.univ fun d => crd c (.inl (0, h, d))) ∗ post2 XA XB c h ∗ restC (F := F) c h)
    ⊢ iprop(endP XA XB c h ∗ preC (F := F) c h) := by
  unfold post2 restC endP preC
  simp only [sep2]
  iintro ⟨Hc, ⟨⟨HR, HRs, Hz1⟩, ⟨HC, Hc0⟩, ⟨HS, HSs, Hz2⟩, ⟨Hc2, Hz3⟩, HO, HH, Hl, Hd2⟩, Hp0, Hq0, Hq2, Hp2, Hpc⟩
  isplitr [Hc Hp0 Hc0 Hq0 Hq2 Hc2 Hp2 Hd2 Hpc]
  · isplitl [HR HRs Hz1]
    · isplitl [HR]; · iexact HR
      isplitl [HRs]; · iexact HRs
      iexact Hz1
    isplitl [HC]; · iexact HC
    isplitl [HS HSs Hz2]
    · isplitl [HS]; · iexact HS
      isplitl [HSs]; · iexact HSs
      iexact Hz2
    isplitl [Hz3]; · iexact Hz3
    isplitl [HO]; · iexact HO
    isplitl [HH]; · iexact HH
    iexact Hl
  isplitl [Hp0 Hc]
  · isplitl [Hp0]; · iexact Hp0
    iexact Hc
  isplitl [Hq0 Hc0]
  · isplitl [Hq0]; · iexact Hq0
    iexact Hc0
  isplitl [Hq2 Hc2]
  · isplitl [Hq2]; · iexact Hq2
    iexact Hc2
  isplitl [Hp2 Hd2]
  · isplitl [Hp2]; · iexact Hp2
    iexact Hd2
  iexact Hpc

/-- The block at every share again. -/
theorem full_block :
    iprop(ptH c h q7 (blkF XA XB c) ∗ lentK XA XB c h ∗ (bigSep Finset.univ fun e : Fin 3 => ptK c h (t3 e) (cube c) (blkF XA XB c))
      ∗ (bigSep Finset.univ fun d : Fin 7 => ptH c h (t7 d) (blkF XA XB c))) ⊢ ptH c h fullShare (blkF XA XB c) := by
  rw [splitK c h fullShare, bigSep_congr (s := Finset.univ) (fun (e : Fin 3) _ => toksK c h (cube (partner e c)) (blkF XA XB c)), sep2, toksK c h (cube c)]
  have h1 := toksH c h (blkF XA XB c)
  rw [splitK c h q3] at h1
  iintro ⟨HH, Hl, HK, HT⟩
  ihave HH := (Entails.of_eq h1.symm) $$ [HH HT]
  · isplitl [HH]; · iexact HH
    iexact HT
  icases HH with ⟨H0, H1⟩
  isplitl [H0 HK]
  · isplitl [H0]; · iexact H0
    iexact HK
  isplitl [H1]; · iexact H1
  iexact Hl

theorem to_whole : iprop(endP XA XB c h ∗ postC XA XB c h) ⊢ iprop(whole XA XB c h ∗ byKind (fun t => (zer c t : sProp 𝕄)) h) := by
  unfold endP postC whole byKind
  rw [splitC c h, bigSep_rev fun d : Fin 7 => (ptO c h (mem (mate d c)) (outF XA XB) : sProp 𝕄)]
  simp only [sep2]
  iintro ⟨⟨⟨HR, HRs, Hz1⟩, HC, ⟨HS, HSs, Hy1⟩, Hy3, HO, HH, Hl⟩, ⟨-, Hz0⟩, ⟨HCs, Hy0⟩, ⟨HKs, Hy2⟩, ⟨HTs, Hz2⟩, HOs, Hz3⟩
  isplitr [Hz0 Hz1 Hz2 Hz3 Hy0 Hy1 Hy2 Hy3]
  · isplitl [HO HOs]
    · isplitl [HO]; · iexact HO
      iexact HOs
    isplitl [HR HRs]
    · isplitl [HR]; · iexact HR
      iexact HRs
    isplitl [HC HCs]
    · isplitl [HC]; · iexact HC
      iexact HCs
    isplitl [HS HSs]
    · isplitl [HS]; · iexact HS
      iexact HSs
    iapply (full_block XA XB c h)
    isplitl [HH]; · iexact HH
    isplitl [Hl]; · iexact Hl
    isplitl [HKs]; · iexact HKs
    iexact HTs
  isplitl [Hz0 Hz1 Hz2 Hz3]
  · isplitl [Hz0]; · iexact Hz0
    isplitl [Hz1]; · iexact Hz1
    isplitl [Hz2]; · iexact Hz2
    iexact Hz3
  isplitl [Hy0]; · iexact Hy0
  isplitl [Hy1]; · iexact Hy1
  isplitl [Hy2]; · iexact Hy2
  iexact Hy3

/-! ## The kernel -/

/-- What the device enters the kernel with besides its buffers. -/
def entry : sProp 𝕄 :=
  iprop((sigToks (F := F) c ∗ atPos ER (bcell c) 0 ∅ 0 ∗ cred (tallyAt (bcell c) () 10))
    ∗ bigSep Finset.univ fun h => iprop(toksHalf (F := F) c h ∗ crdsHalf (F := F) c h ∗ byKind (fun t => (pos c t : sProp 𝕄)) h))

set_option maxHeartbeats 1000000 in
/-- The kernel ends with the result in every device's output, its buffers whole, its semaphores at zero and nothing owed. -/
theorem kernel_run (fO : S1536x1536.Idx → Elt F .f32) (fR : S16x192x768.Idx → Elt F .f32) (fC fK : S2x192x768.Idx → Elt F .f32) (fS : S8x48x768.Idx → Elt F .f32)
    (Q : PUnit → sProp 𝕄) :
    iprop(Ctx XA XB K ∗ (entry (F := F) c ∗ (wO c fO ∗ wR c fR ∗ wC c fC ∗ wS c fS ∗ wK c fK) ∗ stA XA c ∗ stB XB c) ∗ St c (O₀ c))
      ⊢ iprop((((wO c (outF XA XB) ∗ wR c (rs1F XA XB c) ∗ wC c (accF XA XB c 7) ∗ wS c (rs2F XA XB c) ∗ wK c (blkF XA XB c))
          ∗ stA XA c ∗ stB XB c ∗ (semVal (bcell c) 0 ∗ bigSep Finset.univ fun t => zer c t) ∗ St c 0) -∗ Q ⟨⟩) -∗ WP c (flatFrom c : KProg F) Q) := by
  have hcut := cut c fO fR fC fK fS
  rw [univ2] at hcut
  have hglue := glue XA XB c
  rw [univ2] at hglue
  unfold flatFrom entry
  rw [univ2, by_kind, univ2]
  iintro ⟨#HC, ⟨⟨⟨Hsig, Hat, Hcr⟩, ⟨Ht0, Hc0, Hp0⟩, Ht1, Hc1, Hp1⟩, HB, HA, HBb⟩, HO⟩ Hk
  ihave HB := hcut $$ HB
  icases HB with ⟨⟨Hk0, Ha0⟩, Hk1, Ha1⟩
  iapply (open_use XA XB K c _ Q) $$ [Hsig Ha0 Ha1 Hat Hcr HO]
  · isplitr; · iexact HC
    isplitr [HO]
    · isplitl [Hsig Ha0 Ha1]
      · isplitl [Hsig]; · iexact Hsig
        isplitl [Ha0]; · iexact Ha0
        iexact Ha1
      isplitl [Hat]; · iexact Hat
      iexact Hcr
    iexact HO
  iintro ⟨Hg0, Hg1, Hzb, HO⟩
  ihave H0 := (deal c 0) $$ [Hk0 Hg0 Ht0 Hc0 Hp0]
  · isplitl [Hk0]; · iexact Hk0
    isplitl [Hg0]; · iexact Hg0
    isplitl [Ht0]; · iexact Ht0
    isplitl [Hc0]; · iexact Hc0
    iexact Hp0
  icases H0 with ⟨Hx0, Hy0, Hw0⟩
  ihave H1 := (deal c 1) $$ [Hk1 Hg1 Ht1 Hc1 Hp1]
  · isplitl [Hk1]; · iexact Hk1
    isplitl [Hg1]; · iexact Hg1
    isplitl [Ht1]; · iexact Ht1
    isplitl [Hc1]; · iexact Hc1
    iexact Hp1
  icases H1 with ⟨Hx1, Hy1, Hw1⟩
  unfold pre1 rest2
  icases Hx0 with ⟨Hi0, Hr0⟩
  icases Hx1 with ⟨Hi1, Hr1⟩
  iapply (stage1_use XA XB K c 0 (oS1b c) _ Q) $$ [Hi0 Hr0 HA HBb HO]
  · isplitr; · iexact HC
    isplitr [HO]
    · isplitl [Hi0]; · iexact Hi0
      isplitl [Hr0]; · iexact Hr0
      isplitl [HA]; · iexact HA
      iexact HBb
    iexact HO
  iintro ⟨Hs0, Hr0, HA, HBb, HO⟩
  iapply (stage1_use XA XB K c 1 (oS2a c) _ Q) $$ [Hi1 Hr1 HA HBb HO]
  · isplitr; · iexact HC
    isplitr [HO]
    · isplitl [Hi1]; · iexact Hi1
      isplitl [Hr1]; · iexact Hr1
      isplitl [HA]; · iexact HA
      iexact HBb
    iexact HO
  iintro ⟨Hs1, Hr1, HA, HBb, HO⟩
  icases Hy0 with ⟨⟨Hy01, Hy02⟩, Hy03⟩
  icases Hy1 with ⟨⟨Hy11, Hy12⟩, Hy13⟩
  iapply (stage2_use XA XB K c 0 (oS2b c) (ab_oS2a c) (ab_oG2a c) (ab_oG1a c) _ Q) $$ [Hr0 Hy01 Hy02 Hy03 HO]
  · isplitr; · iexact HC
    isplitr [HO]
    · unfold pre2
      isplitl [Hr0 Hy01 Hy02]
      · isplitl [Hr0]; · iexact Hr0
        isplitl [Hy01]; · iexact Hy01
        iexact Hy02
      iexact Hy03
    iexact HO
  iintro ⟨Hz0, HO⟩
  iapply (stage2_use XA XB K c 1 0 (above_le (by decide) (ab_oS2b c)) (ab_oG2b c) (ab_oG1b c) _ Q) $$ [Hr1 Hy11 Hy12 Hy13 HO]
  · isplitr; · iexact HC
    isplitr [HO]
    · unfold pre2
      isplitl [Hr1 Hy11 Hy12]
      · isplitl [Hr1]; · iexact Hr1
        isplitl [Hy11]; · iexact Hy11
        iexact Hy12
      iexact Hy13
    iexact HO
  iintro ⟨Hz1, HO⟩
  ihave H0 := (to_closing XA XB c 0) $$ [Hs0 Hz0 Hw0]
  · isplitl [Hs0]; · iexact Hs0
    isplitl [Hz0]; · iexact Hz0
    iexact Hw0
  icases H0 with ⟨He0, Hq0⟩
  ihave H1 := (to_closing XA XB c 1) $$ [Hs1 Hz1 Hw1]
  · isplitl [Hs1]; · iexact Hs1
    isplitl [Hz1]; · iexact Hz1
    iexact Hw1
  icases H1 with ⟨He1, Hq1⟩
  iapply (closing_use XA XB K c Q) $$ [Hq0 Hq1 HO]
  · isplitr; · iexact HC
    isplitl [Hq0 Hq1]
    · isplitl [Hq0]; · iexact Hq0
      iexact Hq1
    iexact HO
  iintro ⟨Hq0, Hq1, HO⟩
  ihave H0 := (to_whole XA XB c 0) $$ [He0 Hq0]
  · isplitl [He0]; · iexact He0
    iexact Hq0
  icases H0 with ⟨Hb0, Hz0⟩
  ihave H1 := (to_whole XA XB c 1) $$ [He1 Hq1]
  · isplitl [He1]; · iexact He1
    iexact Hq1
  icases H1 with ⟨Hb1, Hz1⟩
  ihave HB := hglue $$ [Hb0 Hb1]
  · isplitl [Hb0]; · iexact Hb0
    iexact Hb1
  unfold WP
  rw [show (pure ⟨⟩ : KProg F) = .ret ⟨⟩ from rfl, wp_ret]; imodintro
  iapply Hk
  isplitl [HB]; · iexact HB
  isplitl [HA]; · iexact HA
  isplitl [HBb]; · iexact HBb
  isplitl [Hzb Hz0 Hz1]
  · isplitl [Hzb]; · iexact Hzb
    isplitl [Hz0]; · iexact Hz0
    iexact Hz1
  iexact HO

end Cert.KernelIdeal.Hand

end
-- ==== Proof.KernelIdeal.Deal.lean ====
/-
  What the launch deals: every cell's tokens go to the devices that pay them, and what all devices owe a device is the
  credit it waits on.
-/
module

public import proofs.«01_k».proof.Proof.KernelIdeal.Body

@[expose] public section

set_option synthInstance.maxSize 4096

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families over the devices -/

/-- A family over the devices and a second index, each second index's members moved around by its own permutation. -/
theorem around {n : ℕ} (E : Fin n → Dev nD ≃ Dev nD) (Φ : Dev nD → Fin n → sProp 𝕄) :
    (bigSep Finset.univ fun c => bigSep Finset.univ fun d => Φ c d) = bigSep Finset.univ fun c => bigSep Finset.univ fun d => Φ (E d c) d := by
  rw [bigSep_univ_comm, bigSep_univ_comm (fun c d => Φ (E d c) d)]
  exact bigSep_congr fun d _ => bigSep_univ_equiv (E d) fun c => Φ c d

/-- A family over a device's cells: the barrier's and the transfers'. -/
theorem univ_opt (Φ : Option Tag → sProp 𝕄) :
    bigSep Finset.univ Φ = iprop((bigSep Finset.univ fun t => Φ (some t)) ∗ Φ none) := by
  rw [bigSep_univ_equiv (Equiv.optionEquivSumPUnit Tag).symm Φ, bigSep_univ_sum]
  exact congrArg (fun X : sProp 𝕄 => iprop((bigSep Finset.univ fun t => Φ (some t)) ∗ X)) (bigSep_singleton (i := (PUnit.unit : PUnit.{1})) (Φ := fun _ => Φ none))

/-! ## The tokens -/

/-- The tokens of a device's own cells. -/
def ownToks (c : Dev nD) : sProp 𝕄 :=
  iprop((bigSep Finset.univ fun δ : Duty => dutyTok ER (bcell c) 0 δ) ∗ bigSep Finset.univ fun t : Tag => tok c t)

/-- The tokens a device pays with. -/
def payToks (c : Dev nD) : sProp 𝕄 := iprop(sigToks c ∗ bigSep Finset.univ fun h => toksHalf c h)

theorem sig_around : (bigSep Finset.univ fun c : Dev nD => (bigSep Finset.univ fun δ : Duty => dutyTok ER (bcell c) 0 δ : sProp 𝕄))
    = bigSep Finset.univ fun c : Dev nD => sigToks c := by
  have h (c : Dev nD) : (bigSep Finset.univ fun δ : Duty => (dutyTok ER (bcell c) 0 δ : sProp 𝕄))
      = iprop((bigSep Finset.univ fun d : Fin 7 => dutyTok ER (bcell c) 0 (.inl d.rev)) ∗ bigSep Finset.univ fun e : Fin 3 => dutyTok ER (bcell c) 0 (.inr e.rev)) := by
    rw [bigSep_univ_sum, bigSep_rev (fun d : Fin 7 => (dutyTok ER (bcell c) 0 (.inl d) : sProp 𝕄)),
      bigSep_rev (fun e : Fin 3 => (dutyTok ER (bcell c) 0 (.inr e) : sProp 𝕄))]
    rfl
  rw [bigSep_congr fun c _ => h c]
  unfold sigToks
  rw [sep2, sep2, around mateE (fun c d => dutyTok ER (bcell c) 0 (.inl d.rev)), around partnerE (fun c e => dutyTok ER (bcell c) 0 (.inr e.rev))]
  rfl

theorem half_around (h : Fin 2) : (bigSep Finset.univ fun c : Dev nD => (byKind (fun t => tok c t) h : sProp 𝕄))
    = bigSep Finset.univ fun c : Dev nD => toksHalf c h := by
  unfold byKind toksHalf
  simp only [sep2]
  rw [around mateE (fun c d => tok c (.inl (1, h, d))), around mateE (fun c d => tok c (.inl (3, h, d))),
    around partnerE (fun c e => tok c (.inr (1, h, e))), around partnerE (fun c e => tok c (.inr (3, h, e)))]
  rfl

/-- All cells' tokens are all devices' payments. -/
theorem toks_around : (bigSep Finset.univ fun c : Dev nD => (ownToks c : sProp 𝕄)) = bigSep Finset.univ fun c : Dev nD => payToks c := by
  unfold ownToks payToks
  rw [sep2, sep2, sig_around]
  congr 1
  rw [bigSep_congr (fun (c : Dev nD) _ => by_kind (fun t => (tok c t : sProp 𝕄))), bigSep_univ_comm, bigSep_univ_comm (fun c h => toksHalf c h)]
  exact bigSep_congr fun h _ => half_around h

/-! ## The credits -/

/-- The credit of what is owed along a list. -/
theorem cred_ows {ι : Type} [DecidableEq ι] (o : Dev nD → ι → CT) (O' : Dev nD → CT) (c : Dev nD) (l : List ι) (hl : l.Nodup) :
    (Pipeline.launchCred (fun d => ows (o d) (O' d) l) c : sProp 𝕄)
      = iprop((bigSep l.toFinset fun i => Pipeline.launchCred (fun d => o d i) c) ∗ Pipeline.launchCred O' c) := by
  induction l with
  | nil =>
    rw [List.toFinset_nil, bigSep_empty]
    refine Entails.antisymm (show _ ⊢ (_ : sProp 𝕄) from ?_) (show _ ⊢ (_ : sProp 𝕄) from ?_)
    · iintro H; isplitr; · iempintro
      iexact H
    · iintro ⟨-, H⟩; iexact H
  | cons i l ih =>
    have hi : (bigSep (insert i l.toFinset) fun i => (Pipeline.launchCred (fun d => o d i) c : sProp 𝕄))
        = iprop(Pipeline.launchCred (fun d => o d i) c ∗ bigSep l.toFinset fun i => Pipeline.launchCred (fun d => o d i) c) :=
      bigSep_insert (fun h => (List.nodup_cons.mp hl).1 (List.mem_toFinset.mp h))
    rw [List.toFinset_cons, hi]
    rw [show (fun d => ows (o d) (O' d) (i :: l)) = fun d => ows (o d) (O' d) l + o d i from rfl, Pipeline.launchCred_add,
      ih (List.nodup_cons.mp hl).2]
    refine Entails.antisymm (show _ ⊢ (_ : sProp 𝕄) from ?_) (show _ ⊢ (_ : sProp 𝕄) from ?_)
    · iintro ⟨⟨H1, H2⟩, H3⟩
      isplitl [H1 H3]
      · isplitl [H3] <;> iassumption
      iexact H2
    · iintro ⟨⟨H3, H1⟩, H2⟩
      isplitl [H1 H2]
      · isplitl [H1] <;> iassumption
      iexact H3

theorem cred_mate (d : Fin 7) (sm : SemLoc sig) (n : ℕ) (c : Dev nD) :
    (Pipeline.launchCred (fun x => tallyAt ((mate d x : Dev nD).tc, sm) () n) c : sProp 𝕄) ⊢ cred (tallyAt ((c : Thread nD τ), sm) () n) :=
  Pipeline.launchCred_tallyAt sm (mate d) (mate d.rev) (fun c => rev_mate d c) (fun c => mate_rev d c) () n c
theorem cred_partner (e : Fin 3) (sm : SemLoc sig) (n : ℕ) (c : Dev nD) :
    (Pipeline.launchCred (fun x => tallyAt ((partner e x : Dev nD).tc, sm) () n) c : sProp 𝕄) ⊢ cred (tallyAt ((c : Thread nD τ), sm) () n) :=
  Pipeline.launchCred_tallyAt sm (partner e) (partner e.rev) (fun c => rev_partner e c) (fun c => partner_rev e c) () n c

/-- As many units at one cell are their number's credit. -/
theorem cred_units {ι : Type} [Fintype ι] [DecidableEq ι] (g : GSem nD τ sig) :
    (bigSep Finset.univ fun _ : ι => cred (tallyAt g () 1) : sProp 𝕄) = cred (tallyAt g () (Fintype.card ι)) := by
  rw [← Pipeline.cred_finsetSum, Finset.sum_const, Finset.card_univ]
  congr 1
  induction Fintype.card ι with
  | zero => rw [zero_smul, tallyAt_zero]
  | succ n ih => rw [succ_nsmul, ih, tallyAt_add]

set_option maxHeartbeats 1000000 in
/-- What all devices owe a device at launch is its barrier's ten units and what its transfers bring. -/
theorem creds (c : Dev nD) :
    (Pipeline.launchCred O₀ c : sProp 𝕄) ⊢ iprop(cred (tallyAt (bcell c) () 10) ∗ bigSep Finset.univ fun h => crdsHalf c h) := by
  have hb : iprop((bigSep Finset.univ fun d : Fin 7 => (Pipeline.launchCred (fun x => owBar x d) c : sProp 𝕄))
      ∗ bigSep Finset.univ fun e : Fin 3 => (Pipeline.launchCred (fun x => owBar' x e) c : sProp 𝕄)) ⊢ cred (tallyAt (bcell c) () 10) := by
    have hs : iprop((bigSep Finset.univ fun _ : Fin 7 => (cred (tallyAt (bcell c) () 1) : sProp 𝕄)) ∗ bigSep Finset.univ fun _ : Fin 3 => (cred (tallyAt (bcell c) () 1) : sProp 𝕄))
        = cred (tallyAt (bcell c) () 10) := by
      rw [cred_units, cred_units, show (10 : ℕ) = Fintype.card (Fin 7) + Fintype.card (Fin 3) from rfl, ← tallyAt_add]
      exact (Entails.antisymm (cred_add _ _).1 (cred_add _ _).2).symm
    rw [← hs]
    iintro ⟨H1, H2⟩
    isplitl [H1]
    · iapply (show (bigSep Finset.univ fun d : Fin 7 => (Pipeline.launchCred (fun x => owBar x d) c : sProp 𝕄)) ⊢ _ from
        bigSep_mono fun d _ => cred_mate d (.reg barS) 1 c)
      iexact H1
    · iapply (show (bigSep Finset.univ fun e : Fin 3 => (Pipeline.launchCred (fun x => owBar' x e) c : sProp 𝕄)) ⊢ _ from
        bigSep_mono fun e _ => cred_partner e (.reg barS) 1 c)
      iexact H2
  have h1 (h : Fin 2) : (bigSep Finset.univ fun d : Fin 7 => (Pipeline.launchCred (fun x => owS1 x h d) c : sProp 𝕄)) ⊢ bigSep Finset.univ fun d : Fin 7 => crd c (.inl (1, h, d)) :=
    bigSep_mono fun d _ => cred_mate d (.dma (semOf (.inl (1, h, d)))) N1 c
  have h4 (h : Fin 2) : (bigSep Finset.univ fun d : Fin 7 => (Pipeline.launchCred (fun x => owG1 x h d) c : sProp 𝕄)) ⊢ bigSep Finset.univ fun d : Fin 7 => crd c (.inl (3, h, d)) :=
    bigSep_mono fun d _ => cred_mate d (.dma (semOf (.inl (3, h, d)))) N1 c
  have h2 (h : Fin 2) : (bigSep Finset.univ fun e : Fin 3 => (Pipeline.launchCred (fun x => owS2 x h e) c : sProp 𝕄)) ⊢ bigSep Finset.univ fun e : Fin 3 => crd c (.inr (1, h, e)) :=
    bigSep_mono fun e _ => cred_partner e (.dma (semOf (.inr (1, h, e)))) N2 c
  have h3 (h : Fin 2) : (bigSep Finset.univ fun e : Fin 3 => (Pipeline.launchCred (fun x => owG2 x h e) c : sProp 𝕄)) ⊢ bigSep Finset.univ fun e : Fin 3 => crd c (.inr (3, h, e)) :=
    bigSep_mono fun e _ => cred_partner e (.dma (semOf (.inr (3, h, e)))) N2 c
  rw [univ2]
  unfold crdsHalf
  have e1 : (Pipeline.launchCred O₀ c : sProp 𝕄) = _ := cred_ows (F := F) owBar oB' c d7 n7
  have e2 : (Pipeline.launchCred oB' c : sProp 𝕄) = _ := cred_ows (F := F) owBar' oS1a c d3 n3
  have e3 : (Pipeline.launchCred oS1a c : sProp 𝕄) = _ := cred_ows (F := F) (fun x => owS1 x 0) oS1b c d7 n7
  have e4 : (Pipeline.launchCred oS1b c : sProp 𝕄) = _ := cred_ows (F := F) (fun x => owS1 x 1) oS2a c d7 n7
  have e5 : (Pipeline.launchCred oS2a c : sProp 𝕄) = _ := cred_ows (F := F) (fun x => owS2 x 0) oG2a c d3 n3
  have e6 : (Pipeline.launchCred oG2a c : sProp 𝕄) = _ := cred_ows (F := F) (fun x => owG2 x 0) oG1a c d3 n3
  have e7 : (Pipeline.launchCred oG1a c : sProp 𝕄) = _ := cred_ows (F := F) (fun x => owG1 x 0) oS2b c d7 n7
  have e8 : (Pipeline.launchCred oS2b c : sProp 𝕄) = _ := cred_ows (F := F) (fun x => owS2 x 1) oG2b c d3 n3
  have e9 : (Pipeline.launchCred oG2b c : sProp 𝕄) = _ := cred_ows (F := F) (fun x => owG2 x 1) oG1b c d3 n3
  have e10 : (Pipeline.launchCred oG1b c : sProp 𝕄) = _ := cred_ows (F := F) (fun x => owG1 x 1) (fun _ => 0) c d7 n7
  rw [u7] at e1 e3 e4 e7 e10
  rw [u3] at e2 e5 e6 e8 e9
  iintro H
  ihave H := (Entails.of_eq e1) $$ H
  icases H with ⟨H1, H⟩
  ihave H := (Entails.of_eq e2) $$ H
  icases H with ⟨H2, H⟩
  ihave H := (Entails.of_eq e3) $$ H
  icases H with ⟨H3, H⟩
  ihave H := (Entails.of_eq e4) $$ H
  icases H with ⟨H4, H⟩
  ihave H := (Entails.of_eq e5) $$ H
  icases H with ⟨H5, H⟩
  ihave H := (Entails.of_eq e6) $$ H
  icases H with ⟨H6, H⟩
  ihave H := (Entails.of_eq e7) $$ H
  icases H with ⟨H7, H⟩
  ihave H := (Entails.of_eq e8) $$ H
  icases H with ⟨H8, H⟩
  ihave H := (Entails.of_eq e9) $$ H
  icases H with ⟨H9, H⟩
  ihave H := (Entails.of_eq e10) $$ H
  icases H with ⟨H10, -⟩
  isplitl [H1 H2]
  · iapply hb; isplitl [H1] <;> iassumption
  isplitl [H3 H7 H5 H6]
  · isplitl [H3 H7]
    · isplitl [H3]; · iapply (h1 0); iexact H3
      iapply (h4 0); iexact H7
    isplitl [H5]; · iapply (h2 0); iexact H5
    iapply (h3 0); iexact H6
  isplitl [H4 H10]
  · isplitl [H4]; · iapply (h1 1); iexact H4
    iapply (h4 1); iexact H10
  isplitl [H8]; · iapply (h2 1); iexact H8
  iapply (h3 1); iexact H9

end Cert.KernelIdeal.Hand

end
-- ==== Proof.KernelIdeal.Launch.lean ====
/-
  The run of @main: what the launch leaves a device is what its kernel starts from, and what the kernel leaves is what the
  run ends with.
-/
module

public import proofs.«01_k».proof.Proof.KernelIdeal.Deal
public import proofs.«01_k».proof.Proof.Gen.KernelIdeal.Launch
public import proofs.«01_k».proof.Proof.Gen.KernelIdeal.Points
public import Idealize.ShloMosaic.Lib.Pipeline.CollectiveSegs

@[expose] public section

set_option synthInstance.maxSize 4096

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- The state the run starts from. -/
def σ₀ : MemSt nD τ sig (Elt F) := ⟨m, fun _ => 0, ρ⟩

/-- The operands as every device's kernel finds them. -/
def XA (c : Dev nD) : S1536x768.Idx → Elt F .f32 :=
  (win0_0.blk (0 : Fin 1)).view.read (Elt F) (m ((c : Thread nD τ).loc main_arg0))
def XB (c : Dev nD) : S768x1536.Idx → Elt F .f32 :=
  (win0_1.blk (0 : Fin 1)).view.read (Elt F) (m ((c : Thread nD τ).loc main_arg1))

/-- What a device's kernel starts from, its buffers apart. -/
def start (c : Dev nD) : sProp 𝕄 := iprop((∃ K, Ctx (XA m) (XB m) K) ∗ entry (F := F) c)

/-- Before the kernel, -/
def Φ₀ (c : Dev nD) : sProp 𝕄 :=
  iprop(start m c ∗ (∃ f, wR c f) ∗ (∃ f, wC c f) ∗ (∃ f, wS c f) ∗ (∃ f, wK c f))
/-- and after it. -/
def Φ₁ (c : Dev nD) : sProp 𝕄 :=
  iprop((semVal (bcell c) 0 ∗ bigSep Finset.univ fun t => zer c t)
    ∗ wR c (rs1F (XA m) (XB m) c) ∗ wC c (accF (XA m) (XB m) c 7) ∗ wS c (rs2F (XA m) (XB m) c) ∗ wK c (blkF (XA m) (XB m) c))

def dats (_ : Fin 1) (c : Dev nD) : Dat τ (Elt F) Unit ℕ UU ℕ cfg0 c where
  A w := (σ₀ m ρ).mem ((cfg0.win w).arr.view.loc (c : Thread nD τ))
  after w _ := match w with
    | ⟨0, _⟩ => XA m c
    | ⟨1, _⟩ => XB m c
    | ⟨2, _⟩ => outF (XA m) (XB m)
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer holding something, as the pipeline states it. -/
def held (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-! ## The body -/

def bodyPre (c : Dev nD) : sProp 𝕄 :=
  iprop(Φ₀ m c ∗ (dats m ρ 0 c).owesAt () t0_0.castSucc
    ∗ (∃ d, held c cc0_stg0_0 ((dats m ρ 0 c).before (0 : Fin 3) t0_0 d))
    ∗ (∃ d, held c cc0_stg1_0 ((dats m ρ 0 c).before (1 : Fin 3) t0_0 d))
    ∗ (∃ d, held c cc0_stg2_0 ((dats m ρ 0 c).before (2 : Fin 3) t0_0 d)))
def bodyPost (c : Dev nD) : sProp 𝕄 :=
  iprop(Φ₁ m c ∗ (dats m ρ 0 c).owesAt () t0_0.succ
    ∗ held c cc0_stg0_0 (XA m c) ∗ held c cc0_stg1_0 (XB m c) ∗ held c cc0_stg2_0 (outF (XA m) (XB m)))

set_option maxHeartbeats 1000000 in
/-- The kernel, from what the pipeline hands it to what the pipeline takes back. -/
theorem body_runs (c : Dev nD) : bodyPre m ρ c ⊢ wp frame (wpE (defs₀ (F := F)) 𝒱₀ c none) Set.univ (bodyAt0 (F := F) t0_0) (fun _ => bodyPost m ρ c) := by
  rw [body_eq_flat]
  unfold flat
  simp only [Prog.lift, Prog.bind_op, Prog.bind_ret, wp_deviceId]
  unfold bodyPre Φ₀ start held
  iintro ⟨⟨⟨⟨%K, #HC⟩, He⟩, ⟨%fR, HR⟩, ⟨%fC, Hacc⟩, ⟨%fS, HS⟩, ⟨%fK, HK⟩⟩, Ho, ⟨%d0, %g0, %h0, HA⟩, ⟨%d1, %g1, %h1, HB⟩, ⟨%d2, %g2, %h2, HO⟩⟩
  have e0 : g0 = XA m c := by rw [h0]; unfold Dat.before; rw [if_pos (fetch0_0 t0_0)]; rfl
  have e1 : g1 = XB m c := by rw [h1]; unfold Dat.before; rw [if_pos (fetch0_1 t0_0)]; rfl
  subst e0 e1
  unfold Dat.owesAt Pipeline.owesWithin
  icases Ho with ⟨%W, %hW, Hw⟩
  rw [show (dats m ρ 0 c).owed t0_0.castSucc = O₀ c from rfl]
  have hrun := kernel_run (XA m) (XB m) K c g2 fR fC fK fS (fun _ => bodyPost m ρ c)
  unfold stA stB at hrun
  iapply hrun $$ [He HR Hacc HS HK HA HB HO Hw]
  · isplitr; · iexact HC
    isplitr [Hw]
    · isplitl [He]; · iexact He
      isplitl [HO HR Hacc HS HK]
      · isplitl [HO]; · iexact HO
        isplitl [HR]; · iexact HR
        isplitl [Hacc]; · iexact Hacc
        isplitl [HS]; · iexact HS
        iexact HK
      isplitl [HA]; · iexact HA
      iexact HB
    unfold St
    iexists W; iexact Hw
  unfold bodyPost Φ₁ held St
  iintro ⟨⟨HO, HR, Hacc, HS, HK⟩, HA, HB, Hz, ⟨%W', Hw⟩⟩
  isplitl [HR Hacc HS HK Hz]
  · isplitl [Hz]; · iexact Hz
    isplitl [HR]; · iexact HR
    isplitl [Hacc]; · iexact Hacc
    isplitl [HS]; · iexact HS
    iexact HK
  isplitl [Hw]
  · unfold Dat.owesAt Pipeline.owesWithin
    rw [show (dats m ρ 0 c).owed t0_0.succ = 0 from rfl]
    iexists W'
    isplitr; · ipureintro; exact fun _ _ => Or.inl trivial
    iexact Hw
  isplitl [HA]; · iexists (XA m c); isplitr; · ipureintro; rfl
                  iexact HA
  isplitl [HB]; · iexists (XB m c); isplitr; · ipureintro; rfl
                  iexact HB
  iexists (outF (XA m) (XB m)); isplitr; · ipureintro; rfl
  iexact HO

set_option maxRecDepth 65536 in
/-- The pipeline's obligation on a device. -/
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 3) ∗ Φ (1 : Fin 3) ∗ Φ (2 : Fin 3)) from bigSep_W0,
    show ∀ Φ : Fin cfg0.W → sProp 𝕄, bigSep Finset.univ Φ = iprop(Φ (0 : Fin 3) ∗ Φ (1 : Fin 3) ∗ Φ (2 : Fin 3)) from bigSep_W0]
  simp only [owns_whole_eq]
  exact body_runs m ρ c

theorem share_eq (c : Dev nD) (w : Fin cfg0.W) : (dats m ρ 0 c).share w = fullShare := by unfold Dat.share; split <;> rfl

/-! ## The launch's cells and tokens -/

/-- The kernel's own semaphores. -/
def osem (t : Tag) : SemLoc sig := .dma (semOf t)

theorem ownSemFacts : Pipeline.OwnSemFacts cfg0.spec osem where
  isScoped := by decide +kernel
  inj t t' h := semOf_inj _ _ (by simpa [osem] using h)
  disj := by decide +kernel

theorem kcell_injective : Function.Injective fun x : Dev nD × Option Tag => cell x.1 x.2 := by
  rintro ⟨c, o⟩ ⟨c', o'⟩ h
  have h1 : c = c' := congrArg (fun g : GSem nD τ sig => g.1.1) h
  have h2 : o = o' := csem_inj (congrArg Prod.snd h)
  rw [h1, h2]
def kcells : Finset (GSem nD τ sig) := Finset.univ.map ⟨fun x : Dev nD × Option Tag => cell x.1 x.2, kcell_injective⟩

/-- A device's cells' tokens: the barrier's, and one for every transfer's semaphore. -/
def tokOf (x : Dev nD × (Duty ⊕ Tag)) : GSem nD τ sig × ℕ × Duty := match x.2 with
  | .inl δ => (bcell x.1, 0, δ)
  | .inr t => (tcell x.1 t, 0, .inl 0)
theorem tokOf_injective : Function.Injective tokOf := by
  rintro ⟨c, δ | t⟩ ⟨c', δ' | t'⟩ h
  · have h1 : c = c' := congrArg (fun g : GSem nD τ sig × ℕ × Duty => g.1.1.1) h
    have h2 : δ = δ' := congrArg (fun g : GSem nD τ sig × ℕ × Duty => g.2.2) h
    rw [h1, h2]
  · exact absurd (csem_inj (a₁ := none) (a₂ := some t') (congrArg (fun g : GSem nD τ sig × ℕ × Duty => g.1.2) h)) (by simp)
  · exact absurd (csem_inj (a₁ := some t) (a₂ := none) (congrArg (fun g : GSem nD τ sig × ℕ × Duty => g.1.2) h)) (by simp)
  · have h1 : c = c' := congrArg (fun g : GSem nD τ sig × ℕ × Duty => g.1.1.1) h
    have h2 : some t = some t' := csem_inj (a₁ := some t) (a₂ := some t') (congrArg (fun g : GSem nD τ sig × ℕ × Duty => g.1.2) h)
    rw [h1, Option.some.inj h2]
def ktoks : Finset (GSem nD τ sig × ℕ × Duty) := Finset.univ.map ⟨tokOf, tokOf_injective⟩

def u₀ : UU :=
  (initOf (Pipeline.cells cfgs cellOf_inj) (Pipeline.launchToks cfgs cellOf_inj), initOf kcells ktoks)

section
variable (YA : Dev nD → S1536x768.Idx → Elt F .f32) (YB : Dev nD → S768x1536.Idx → Elt F .f32)

/-- A device's positions on its cells. -/
def poss (c : Dev nD) : sProp 𝕄 := bigSep Finset.univ fun o : Option Tag => atPos ER (cell c o) 0 ∅ 0

/-- What the launch's element deals a device, -/
def G (c : Dev nD) : sProp 𝕄 :=
  iprop((bigSep Finset.univ fun o : Option Tag => roundState ER (Rd YA YB) (cell c o) 0)
    ∗ (poss c ∗ bigSep Finset.univ fun o : Option Tag => reached ER (cell c o) 0) ∗ ownToks c)

/-- The invariants and the first rounds of all cells. -/
def recs (K : Dev nD × Option Tag → ℕ) : sProp 𝕄 :=
  iprop((bigSep Finset.univ fun x : Dev nD × Option Tag => cellInv ER (Rd YA YB) (K x) (cell x.1 x.2))
    ∗ bigSep Finset.univ fun x : Dev nD × Option Tag => reached ER (cell x.1 x.2) 0)
instance recs_persistent (K : Dev nD × Option Tag → ℕ) : BI.Persistent (recs YA YB K) := by unfold recs; infer_instance

/-- and what it has when the cells' invariants are set up. -/
def G' (c : Dev nD) : sProp 𝕄 := iprop((∃ K, recs YA YB K) ∗ poss c ∗ payToks c)

theorem fund : BI.own (ER (initOf kcells ktoks)) ⊢ (|==> bigSep Finset.univ (G YA YB) : sProp 𝕄) := by
  have hX (Φ : GSem nD τ sig → sProp 𝕄) : bigSep kcells Φ = bigSep Finset.univ fun c : Dev nD => bigSep Finset.univ fun o : Option Tag => Φ (cell c o) := by
    unfold kcells; rw [bigSep_map, bigSep_univ_prod]; rfl
  have hT : bigSep ktoks (fun x => (dutyTok ER x.1 x.2.1 x.2.2 : sProp 𝕄)) = bigSep Finset.univ fun c : Dev nD => ownToks c := by
    unfold ktoks; rw [bigSep_map, bigSep_univ_prod]
    exact bigSep_congr fun c _ => by unfold ownToks; rw [bigSep_univ_sum]; rfl
  iintro HX
  imod (Rounds.fund ER (Rd YA YB) kcells ktoks) $$ HX with ⟨Hst, Hr, Hat, Htok⟩
  imodintro
  ihave Hst := (Entails.of_eq (hX fun g => roundState ER (Rd YA YB) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G poss; simp only [sep2]
  isplitl [Hst]; · iexact Hst
  isplitl [Hat Hr]
  · isplitl [Hat] <;> iassumption
  iexact Htok

theorem ownSems0_eq (c : Dev nD) : (Pipeline.ownSems0 (Ix := Unit) (Name := ℕ) (U := UU) (Lvl := ℕ) (Val := Elt F) (τ := τ) osem c : sProp 𝕄)
    = bigSep Finset.univ fun t => zer c t := rfl
theorem unscopedSems0_eq (c : Dev nD) : (unscopedSems0 c : sProp 𝕄) = semVal (bcell c) 0 := by
  unfold unscopedSems0; rw [bigSep_eq_bigSepL_of_eq [SemLoc.reg barS] (by decide +kernel) (by decide)]; rfl

theorem core_alloc (c : Dev nD) :
    iprop(Pipeline.ownSems0 (Ix := Unit) (Name := ℕ) (U := UU) (Lvl := ℕ) (Val := Elt F) (τ := τ) osem c ∗ unscopedSems0 c ∗ G YA YB c)
      ⊢ |={Set.univ}=> iprop((bigSep Finset.univ fun o : Option Tag => iprop(∃ κ : ℕ, cellInv ER (Rd YA YB) κ (cell c o)))
          ∗ (poss c ∗ bigSep Finset.univ fun o : Option Tag => reached ER (cell c o) 0) ∗ ownToks c) := by
  unfold G
  rw [ownSems0_eq, unscopedSems0_eq]
  iintro ⟨Hos, Hus, Hst, Hat, Htok⟩
  ihave Hv := (Entails.of_eq (univ_opt (fun o => (semVal (cell c o) 0 : sProp 𝕄))).symm) $$ [Hos Hus]
  · isplitl [Hos]; · iexact Hos
    iexact Hus
  imod (show iprop((bigSep Finset.univ fun o : Option Tag => semVal (cell c o) 0) ∗ bigSep Finset.univ fun o : Option Tag => roundState ER (Rd YA YB) (cell c o) 0)
      ⊢ (|={Set.univ}=> bigSep Finset.univ fun o => iprop(∃ κ : ℕ, cellInv ER (Rd YA YB) κ (cell c o)) : sProp 𝕄) from by
        rw [← sep2]
        exact (bigSep_mono fun o _ => (Rounds.body_intro ER (Rd YA YB) (cell c o)).trans inv_alloc).trans (bigSep_fupd _ _)) $$ [Hv Hst] with Hinv
  · isplitl [Hv] <;> iassumption
  imodintro
  isplitl [Hinv]; · iexact Hinv
  isplitl [Hat]; · iexact Hat
  iexact Htok

/-- A persistent fact goes to every member of a family. -/
theorem to_all {ι : Type} [DecidableEq ι] {S : Finset ι} {R : sProp 𝕄} [BI.Persistent R] {Φ Ψ : ι → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun o : Option Tag => iprop(∃ κ : ℕ, cellInv ER (Rd YA YB) κ (cell c o)))
          ∗ (poss c ∗ bigSep Finset.univ fun o : Option Tag => reached ER (cell c o) 0) ∗ ownToks c) : sProp 𝕄)
      ⊢ bigSep Finset.univ (G' YA YB) := by
  simp only [sep2]
  rw [← bigSep_univ_prod (fun x : Dev nD × Option Tag => iprop(∃ κ : ℕ, cellInv ER (Rd YA YB) κ (cell x.1 x.2))),
    ← bigSep_univ_prod (fun x : Dev nD × Option Tag => (reached ER (cell x.1 x.2) 0 : sProp 𝕄)), toks_around]
  iintro ⟨HI, ⟨Hat, #HR⟩, Htok⟩
  ihave HK := (BI.bigSep_exists_pi Finset.univ (fun (x : Dev nD × Option Tag) (κ : ℕ) => (cellInv ER (Rd YA YB) κ (cell x.1 x.2) : sProp 𝕄))) $$ HI
  icases HK with ⟨%K, #HI⟩
  iapply (to_all (R := recs YA YB K) (Φ := fun c => iprop(poss c ∗ payToks c)) fun c _ => show _ ⊢ G' YA YB c from by
    unfold G'
    iintro ⟨#HR, Hp, Ht⟩
    isplitr; · iexists K; iexact HR
    isplitl [Hp] <;> iassumption)
  isplitr
  · unfold recs; isplitl; · iexact HI
    iexact HR
  rw [sep2]
  isplitl [Hat] <;> iassumption

/-- All devices' semaphores become the cells of the protocol at once. -/
theorem glob : (bigSep Finset.univ fun c => iprop(Pipeline.ownSems0 (Ix := Unit) (Name := ℕ) (U := UU) (Lvl := ℕ) (Val := Elt F) (τ := τ) osem c
      ∗ unscopedSems0 c ∗ G YA YB c) : sProp 𝕄)
    ⊢ |={Set.univ}=> bigSep Finset.univ (G' YA YB) :=
  ((bigSep_mono fun c _ => core_alloc YA YB c).trans (bigSep_fupd _ _)).trans (BI.fupd_mono (regroup YA YB))
end

/-! ## The conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (XA m) (XB m) c)
      ⊢ |={Set.univ}=> iprop(start m c ∗ emp) := by
  unfold G' start entry poss payToks recs Ctx
  rw [univ_opt, by_kind]
  simp only [sep2]
  iintro ⟨-, #Hlev, Hcr, -, ⟨%K, #HI, #HR⟩, ⟨Hp, Hpb⟩, Hs, Ht⟩
  ihave Hc := (creds (F := F) c) $$ Hcr
  icases Hc with ⟨Hcb, Hc⟩
  imodintro
  isplitl
  · isplitr
    · iexists K
      isplitr; · iexact HI
      isplitr; · iexact HR
      iexact Hlev
    isplitl [Hs Hpb Hcb]
    · isplitl [Hs]; · iexact Hs
      isplitl [Hpb]; · iexact Hpb
      iexact Hcb
    isplitl [Ht]; · iexact Ht
    isplitl [Hc]; · iexact Hc
    iexact Hp
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, HR, HC, HS, HK⟩
  isplitl [Hs]; · iexact Hs
  isplitl [HR]; · iexact HR
  isplitl [HC]; · iexact HC
  isplitl [HS]; · iexact HS
  iexact HK

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁
  iintro ⟨⟨Hb, Hz⟩, HR, HC, HS, HK⟩
  isplitl [Hb]; · iexact Hb
  isplitl [Hz]; · iexact Hz
  isplitl [HR]; · iexists (rs1F (XA m) (XB m) c); iexact HR
  isplitl [HC]; · iexists (accF (XA m) (XB m) c 7); iexact HC
  isplitl [HS]; · iexists (rs2F (XA m) (XB m) c); iexact HS
  iexists (blkF (XA m) (XB m) c); iexact HK

theorem waits (c : Dev nD) : (levAts L lv : sProp 𝕄) ⊢ Pipeline.cellsWaits cfgs (dats m ρ) () 0 c :=
  Pipeline.cellsWaits_intro cfgs (dats m ρ) () 0 c fun w s t =>
    mayWait_of c _ _ 0 (by
      rw [dec_none _ (fun o => by
        rcases o with _ | t'
        · exact fun h => by cases h
        · exact fun h => ownSemFacts.disj t' w s h)]
      exact Nat.le_refl 0) (by
      rcases t with ⟨_ | _, ht⟩
      · exact ab_O₀ c
      · exact above_zero 0)

/-! ## The run -/

/-- The arrays' contents at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with every counter at zero, every run of @main ends with the arrays at their final contents and every counter
    at zero. -/
theorem run_main : θ_run defs (onTc (τ := τ) (main (F := F))) (σ₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (XA m) (XB m)) (G' := G' (XA m) (XB m)) (u₀ := u₀)
    (hu₀ := by
      unfold u₀
      iintro Hu
      ihave H := (ownU_pair _ _) $$ Hu
      icases H with ⟨HP, HX⟩
      imod (fund (XA m) (XB m)) $$ HX with HG
      imodintro
      isplitl [HP] <;> iassumption)
    (hglob := glob (XA m) (XB m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_arg0 (c : Dev nD) : finalA m ρ c (0 : Fin 3) = m ((c : Thread nD τ).loc main_arg0) :=
  (dats (F := F) m ρ 0 c).arrAt_in (0 : Fin 3) rfl _
theorem finalA_arg1 (c : Dev nD) : finalA m ρ c (1 : Fin 3) = m ((c : Thread nD τ).loc main_arg1) :=
  (dats (F := F) m ρ 0 c).arrAt_in (1 : Fin 3) rfl _

end Cert.KernelIdeal.Hand

end
-- ==== Proof.KernelIdeal.Value.lean ====
/-
  The value. At the ideal values the result's entry at a row and a column is the activation of the sum, over the thirty-two
  devices, of that row of the device's left factor times that column of its right factor; and that is the reference's entry,
  whose one long contraction is the devices' short ones laid end to end.
-/
module

public import proofs.«01_k».proof.Proof.KernelIdeal.Launch
public import proofs.«01_k».proof.Proof.Gen.ReferenceIdeal.Run
public import Idealize.ShloMosaic.Lib.Pipeline.Value
public import Idealize.ShloMosaic.Lib.KernelVsHost
public import Idealize.ShloMosaic.Lib.MatmulPlain
public import Idealize.ShloMosaic.Lib.StackMember
public import Idealize.ShloMosaic.Lib.Layout

@[expose] public section

set_option synthInstance.maxSize 4096

noncomputable section

namespace Cert.KernelIdeal.Hand

open Cert.KernelIdeal Cert.KernelIdeal.Gen
open Idealize.ShloMosaic Idealize.ShloMosaic.TcCoe Idealize.ShloMosaic.ValueIdx
open Idealize.ShloMosaic.StackMember Idealize.SL.Sem
open Idealize.ShloMosaic.Pipeline (Dat)

/-! ## The arrays, read whole -/

section
variable {F : FTy → Type} [FloatOps F]
variable (m : (ℓ : Loc nD τ sig) → Buf (Elt F) ℓ) (ρ : Dev nD → PrngReg)

/-- A device's kernel finds its left operand whole, -/
theorem XA_eq (c : Dev nD) : XA m c = m ((c : Thread nD τ).loc main_arg0) := by
  have hz : (fun a => win0_0.index (0 : Fin 1) a * main_arg0.ty.shape.size a) = fun _ => 0 := funext fun a => by fin_cases a <;> decide
  exact Memref.read_access_unit_zero (Elt F) main_arg0 hz (fun a => by rw [congrFun hz a]; simp) (m ((c : Thread nD τ).loc main_arg0))
/-- and its right one. -/
theorem XB_eq (c : Dev nD) : XB m c = m ((c : Thread nD τ).loc main_arg1) := by
  have hz : (fun a => win0_1.index (0 : Fin 1) a * main_arg1.ty.shape.size a) = fun _ => 0 := funext fun a => by fin_cases a <;> decide
  exact Memref.read_access_unit_zero (Elt F) main_arg1 hz (fun a => by rw [congrFun hz a]; simp) (m ((c : Thread nD τ).loc main_arg1))

/-- What the kernel leaves as its result, as contents of a device's result array. -/
abbrev resArr (c : Dev nD) : Buf (Elt F) ((c : Thread nD τ).loc main_v1) := outF (XA m) (XB m)

/-- The one write-back writes the kernel's result. -/
theorem flushed_res (c : Dev nD) (t : Fin cfg0.N) (hf : (cfg0.win 2).flush t = true) :
    (dats m ρ 0 c).flushed 2 t = ((cfg0.win 2).blk t).view.read (Elt F) (resArr m c) := by
  obtain rfl : t = t0_0 := fin_N0 t
  show (cfg0.win 2).cut (grid0.coords t0_0) ((dats m ρ 0 c).after 2 t0_0) = _
  have hz : (fun a => win0_2.index t0_0 a * main_v1.ty.shape.size a) = fun _ => 0 := funext fun a => by fin_cases a <;> decide
  exact (Memref.read_access_unit_zero (Elt F) main_v1 hz (fun a => by rw [congrFun hz a]; simp) (resArr m c)).symm

/-- So the result array ends holding it. -/
theorem finalA_res (c : Dev nD) : finalA m ρ c (2 : Fin 3) = resArr m c :=
  (dats m ρ 0 c).arrAt_eq_of_cover 2 (resArr m c) (flushed_res m ρ c) fun i =>
    ⟨t0_0, flush0_2 t0_0, by
      show i ∈ ((View.whole main_v1).slice (win0_2.rect t0_0)).set
      rw [View.set_slice_whole, Rect.mem_set_unit]
      intro a
      have h0 : (i 0 : Nat) < 1536 := (i 0).isLt
      have h1 : (i 1 : Nat) < 1536 := (i 1).isLt
      match a with
      | ⟨0, _⟩ => show 0 * 1536 ≤ (i 0 : Nat) ∧ (i 0 : Nat) < 0 * 1536 + 1536; omega
      | ⟨1, _⟩ => show 0 * 1536 ≤ (i 1 : Nat) ∧ (i 1 : Nat) < 0 * 1536 + 1536; omega⟩

/-- Every run ends with the result array at the kernel's result, the operands as they were and every counter at zero. -/
theorem run_value : θ_run defs (onTc (τ := τ) (main (F := F))) ⟨m, fun _ => 0, ρ⟩ fun r =>
    (∀ c : Dev nD, r.2.mem ((c : Thread nD τ).loc main_v1) = outF (XA m) (XB m)
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun _ h => ⟨fun c => ⟨(h.1 c 2).trans (finalA_res m ρ c), (h.1 c 0).trans (finalA_arg0 m ρ c),
    (h.1 c 1).trans (finalA_arg1 m ρ c)⟩, h.2⟩) (run_main m ρ)
end

/-! ## The sums, re-indexed -/

section
variable {M : Type} [AddCommMonoid M]

/-- The distances round a cube, turned into the places they come from, -/
def back1 (a : Fin 8) : Fin 8 ≃ Fin 8 :=
  Function.Involutive.toPerm (fun s => ⟨(a.val + 8 - s.val) % 8, Nat.mod_lt _ (by omega)⟩) fun s => Fin.ext (by
    show (a.val + 8 - (a.val + 8 - s.val) % 8) % 8 = s.val; omega)
/-- and the distances between cubes. -/
def back2 (a : Fin 4) : Fin 4 ≃ Fin 4 :=
  Function.Involutive.toPerm (fun s => ⟨(a.val + 4 - s.val) % 4, Nat.mod_lt _ (by omega)⟩) fun s => Fin.ext (by
    show (a.val + 4 - (a.val + 4 - s.val) % 4) % 4 = s.val; omega)

/-- A sum over the slots of the first buffer is one over the members of the cube, -/
theorem sum_from1 (x : Dev nD) (f : Dev nD → M) : ∑ s : Fin 8, f (from1 x s) = ∑ mm : Fin 8, f (idx (cube x) mm) :=
  Equiv.sum_comp (back1 (mem x)) fun mm => f (idx (cube x) mm)
/-- and one over the slots of the second, one over the cubes. -/
theorem sum_from2 (x : Dev nD) (f : Dev nD → M) : ∑ s : Fin 4, f (from2 x s) = ∑ q : Fin 4, f (idx q (mem x)) :=
  Equiv.sum_comp (back2 (cube x)) fun q => f (idx q (mem x))

/-- A device is its cube and its place there. -/
def devE : Fin 4 × Fin 8 ≃ Dev nD :=
  ⟨fun p => idx p.1 p.2, fun c => (cube c, mem c), fun p => by show (cube (idx p.1 p.2), mem (idx p.1 p.2)) = p; rw [cube_idx, mem_idx], idx_cube_mem⟩

/-- A sum over the cubes of the sums over their members is the sum over the devices. -/
theorem sum_devs (f : Dev nD → M) : ∑ q : Fin 4, ∑ mm : Fin 8, f (idx q mm) = ∑ c : Dev nD, f c := by
  rw [← Equiv.sum_comp devE f, Fintype.sum_prod_type]
  rfl

/-- The long contraction's coordinates are the devices' short ones laid end to end. -/
theorem sum_long (f : Fin 24576 → M) :
    ∑ k : Fin 24576, f k = ∑ c : Dev nD, ∑ k : Fin 768, f ⟨c.val * 768 + k.val, by have : c.val < 32 := c.isLt; omega⟩ := by
  rw [← Equiv.sum_comp (finProdFinEquiv (m := 32) (n := 768)) f, Fintype.sum_prod_type]
  refine Finset.sum_congr rfl fun c _ => Finset.sum_congr rfl fun k _ => congrArg f (Fin.ext ?_)
  show k.val + 768 * c.val = c.val * 768 + k.val
  omega
end

/-! ## The kernel's entries at the ideal values -/

section
variable (XA : Dev nD → S1536x768.Idx → EReal) (XB : Dev nD → S768x1536.Idx → EReal)

/-- Row `p` of device `c`'s left factor times column `q` of its right one. -/
def dotAt (c : Dev nD) (p q : Fin 1536) : EReal := ∑ k : Fin 768, XA c (ix2 p k) * XB c (ix2 k q)

/-- The activation of a number, as the reference writes it. -/
def silu (z : Ideal .f32) : Ideal .f32 :=
  FloatOps.hostDivf z (FloatOps.addf (FloatOps.ofBits .f32 0x3F800000#32) (FloatOps.hostUnary .exp (FloatOps.hostNegf z)))

theorem prod_entry (c : Dev nD) (mm : Fin 8) (h : Fin 2) (i : Fin 192) (j : Fin 768) :
    prodBlk (F := Ideal) XA XB c mm h (ix2 i j)
      = dotAt XA XB c ⟨192 * mm.val + i.val, by omega⟩ ⟨768 * h.val + j.val, by omega⟩ := by
  unfold prodBlk k0_pay1
  simp only [shapeCast_self]
  rw [matmul_zero_eq_dotGeneral]
  refine (dotGeneral_plain_apply none _ _ i j).trans (Finset.sum_congr rfl fun k _ => ?_)
  rw [rd_aA, rd_bA]

/-- An accumulated entry is the sum of the entries that arrived. -/
theorem acc_step (x : Dev nD) (h : Fin 2) (n : ℕ) (i : Fin 192) (j : Fin 768) :
    accV (F := Ideal) XA XB x h (n + 1) (ix3 (0 : Fin 1) i j)
      = (accV (F := Ideal) XA XB x h n (ix3 (0 : Fin 1) i j) : EReal)
        + prodBlk (F := Ideal) XA XB (from1 x ⟨(n + 1) % 8, Nat.mod_lt _ (by omega)⟩) (mem x) h (ix2 i j) := by
  rw [← rs1_entry, ← rd_rA h j ⟨(n + 1) % 8, Nat.mod_lt _ (by omega)⟩ (0 : Fin 1) i (rs1F (F := Ideal) XA XB x)]
  show k0_pay20 _ _ (ix3 (0 : Fin 1) i j) = _
  unfold k0_pay20
  rw [shapeCast_ab_1ab_apply]
  show FloatOps.addf _ _ = _
  rw [shapeCast_1ab_ab_apply, shapeCast_1ab_ab_apply]
  rfl

theorem acc_zero (x : Dev nD) (h : Fin 2) (i : Fin 192) (j : Fin 768) :
    accV (F := Ideal) XA XB x h 0 (ix3 (0 : Fin 1) i j) = prodBlk (F := Ideal) XA XB (from1 x 0) (mem x) h (ix2 i j) := by
  rw [← rs1_entry, ← rd_rA h j 0 (0 : Fin 1) i (rs1F (F := Ideal) XA XB x)]
  show k0_pay19 _ (ix3 (0 : Fin 1) i j) = _
  unfold k0_pay19
  rw [shapeCast_ab_1ab_apply, shapeCast_1ab_ab_apply]

theorem acc_entry (x : Dev nD) (h : Fin 2) (i : Fin 192) (j : Fin 768) :
    accV (F := Ideal) XA XB x h 7 (ix3 (0 : Fin 1) i j)
      = ∑ mm : Fin 8, dotAt XA XB (idx (cube x) mm) ⟨192 * (mem x).val + i.val, by omega⟩ ⟨768 * h.val + j.val, by omega⟩ := by
  rw [← sum_from1 x fun c => dotAt XA XB c ⟨192 * (mem x).val + i.val, by omega⟩ ⟨768 * h.val + j.val, by omega⟩]
  simp only [acc_step, acc_zero, prod_entry, Fin.sum_univ_eight]
  rfl

/-- The summed strips, activated. -/
theorem pay45_at (a b c d : FVec Ideal S1x48x768 .f32) (i : Fin 48) (j : Fin 768) :
    k0_pay45 (F := Ideal) a b c d (ix3 (0 : Fin 1) i j)
      = silu ((((a (ix3 (0 : Fin 1) i j) : EReal) + b (ix3 (0 : Fin 1) i j)) + c (ix3 (0 : Fin 1) i j) + d (ix3 (0 : Fin 1) i j) : EReal)) := by
  unfold k0_pay45
  rw [subf_zero_eq_hostNegf, shapeCast_ab_1ab_apply]
  have e : ∀ v : FVec Ideal S1x48x768 .f32, shapeCast S48x768 v shapeCasts_S1x48x768_S48x768 (ix2 i j) = v (ix3 (0 : Fin 1) i j) :=
    fun v => shapeCast_1ab_ab_apply v shapeCasts_S1x48x768_S48x768 i j
  rw [← e a, ← e b, ← e c, ← e d]
  rfl

theorem act_entry (x : Dev nD) (h : Fin 2) (i : Fin 48) (j : Fin 768) :
    actV (F := Ideal) XA XB x h (ix3 (0 : Fin 1) i j)
      = silu (∑ c : Dev nD, dotAt XA XB c ⟨192 * (mem x).val + (48 * (cube x).val + i.val), by omega⟩ ⟨768 * h.val + j.val, by omega⟩) := by
  unfold actV
  rw [pay45_at]
  simp only [rd_sA, rs2_entry]
  have e : ∀ s : Fin 4, accF (F := Ideal) XA XB (from2 x s) 7 (ix3 h ⟨48 * (cube x).val + i.val, by omega⟩ j)
      = ∑ mm : Fin 8, dotAt XA XB (idx (cube (from2 x s)) mm) ⟨192 * (mem x).val + (48 * (cube x).val + i.val), by omega⟩
          ⟨768 * h.val + j.val, by omega⟩ := fun s => by
    refine (acc_entry XA XB (from2 x s) h ⟨48 * (cube x).val + i.val, by omega⟩ j).trans ?_
    simp only [show mem (from2 x s) = mem x from mem_idx _ _]
  rw [e 0, e 1, e 2, e 3]
  refine congrArg silu ?_
  rw [← Fin.sum_univ_four fun s : Fin 4 => ∑ mm : Fin 8, dotAt XA XB (idx (cube (from2 x s)) mm)
      ⟨192 * (mem x).val + (48 * (cube x).val + i.val), by omega⟩ ⟨768 * h.val + j.val, by omega⟩,
    sum_from2 x fun y => ∑ mm : Fin 8, dotAt XA XB (idx (cube y) mm)
      ⟨192 * (mem x).val + (48 * (cube x).val + i.val), by omega⟩ ⟨768 * h.val + j.val, by omega⟩]
  simp only [cube_idx]
  exact sum_devs fun c => dotAt XA XB c ⟨192 * (mem x).val + (48 * (cube x).val + i.val), by omega⟩ ⟨768 * h.val + j.val, by omega⟩

/-- The kernel's result at row `p` and column `q`. -/
theorem res_entry (p q : Fin 1536) :
    outF (F := Ideal) XA XB (ix2 p q) = silu (∑ c : Dev nD, dotAt XA XB c p q) := by
  obtain ⟨h, j, rfl⟩ : ∃ (h : Fin 2) (j : Fin 768), q = ⟨768 * h.val + j.val, by omega⟩ :=
    ⟨⟨q.val / 768, by omega⟩, ⟨q.val % 768, by omega⟩, Fin.ext (by show q.val = 768 * (q.val / 768) + q.val % 768; omega)⟩
  obtain ⟨mm, cc, i, rfl⟩ : ∃ (mm : Fin 8) (cc : Fin 4) (i : Fin 48), p = ⟨192 * mm.val + (48 * cc.val + i.val), by omega⟩ :=
    ⟨⟨p.val / 192, by omega⟩, ⟨p.val % 192 / 48, by omega⟩, ⟨p.val % 48, by omega⟩, Fin.ext (by
      show p.val = 192 * (p.val / 192) + (48 * (p.val % 192 / 48) + p.val % 48); omega)⟩
  obtain ⟨x, rfl, rfl⟩ : ∃ x : Dev nD, mem x = mm ∧ cube x = cc := ⟨idx cc mm, mem_idx cc mm, cube_idx cc mm⟩
  rw [← act_entry]
  refine (out_entry (F := Ideal) XA XB h x ⟨48 * (cube x).val + i.val, by omega⟩ j).trans ?_
  refine (blk_entry (F := Ideal) XA XB x h (cube x) i j).trans ?_
  rw [idx_cube_mem]

/-! ## The reference's entries -/

/-- What the reference computes of the whole factors. -/
abbrev refOut (A : Cert.ReferenceIdeal.S1536x24576.Idx → EReal) (B : Cert.ReferenceIdeal.S24576x1536.Idx → EReal) : FVec Ideal S1536x1536 .f32 :=
  Host.divf (Host.dotGeneral (φ₁ := .f32) (φ₂ := .f32) Cert.ReferenceIdeal.dot_S1536x24576_S24576x1536_S1536x1536_1_0_0_1_n_n none A B)
    (addf (broadcastInDim S1536x1536 ![] Cert.ReferenceIdeal.Gen.bcast_S_S1536x1536 (constant S_ .f32 0x3F800000#32))
      (Host.exp (Host.negf (Host.dotGeneral (φ₁ := .f32) (φ₂ := .f32) Cert.ReferenceIdeal.dot_S1536x24576_S24576x1536_S1536x1536_1_0_0_1_n_n none A B))))

/-- Its entry at row `p` and column `q`. -/
theorem ref_entry (A : Cert.ReferenceIdeal.S1536x24576.Idx → EReal) (B : Cert.ReferenceIdeal.S24576x1536.Idx → EReal) (p q : Fin 1536) :
    refOut A B (ix2 p q) = silu (∑ k : Fin 24576, A (ix2 p k) * B (ix2 k q) : EReal) := by
  rw [← dotGeneral_plain_apply (φ₁ := .f32) (φ₂ := .f32) none A B p q]
  rfl

/-- Where every device holds its block of the whole factors, the kernel's result is the reference's. -/
theorem res_eq (A : Cert.ReferenceIdeal.S1536x24576.Idx → EReal) (B : Cert.ReferenceIdeal.S24576x1536.Idx → EReal)
    (hA : ∀ c : Dev nD, XA c = Layout.block ⟨2, ![1536, 768]⟩ ⟨2, ![1536, 24576]⟩ 1 32 c A)
    (hB : ∀ c : Dev nD, XB c = Layout.block ⟨2, ![768, 1536]⟩ ⟨2, ![24576, 1536]⟩ 0 32 c B) :
    outF (F := Ideal) XA XB = refOut A B := by
  funext x
  obtain ⟨p, q, rfl⟩ : ∃ a b, x = ix2 a b := ⟨_, _, eq_ix2 x⟩
  rw [res_entry, ref_entry, sum_long]
  refine congrArg silu (Finset.sum_congr rfl fun c _ => Finset.sum_congr rfl fun k _ => ?_)
  rw [hA, hB]
  refine congrArg₂ (· * ·) (congrArg A (funext fun a => Fin.ext ?_)) (congrArg B (funext fun a => Fin.ext ?_))
  · match a with
    | ⟨0, _⟩ => rfl
    | ⟨1, _⟩ => rfl
  · match a with
    | ⟨0, _⟩ => rfl
    | ⟨1, _⟩ => rfl
end

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel as printed, at the bits: every run terminates, leaves its operands alone and ends with every counter at zero. -/
theorem quiescent_kernel : quiescent_Kernel (hKernel := Cert.Kernel.Gen.facts) := fun m g _ =>
  (θ_run _ _ _).mono (fun _ h => ⟨fun c => ⟨(h.1 c 0).trans (Cert.Kernel.Hand.finalA_arg0 m g c),
    (h.1 c 1).trans (Cert.Kernel.Hand.finalA_arg1 m g c)⟩, h.2⟩) (Cert.Kernel.Hand.run_main m g)

/-- The same at the ideal values. -/
theorem quiescent_kernelIdeal : quiescent_KernelIdeal (hKernelIdeal := Cert.KernelIdeal.Gen.facts) := fun m g _ =>
  (θ_run _ _ _).mono (fun _ h => ⟨fun c => ⟨(h.1 c 0).trans (Cert.KernelIdeal.Hand.finalA_arg0 m g c),
    (h.1 c 1).trans (Cert.KernelIdeal.Hand.finalA_arg1 m g c)⟩, h.2⟩) (Cert.KernelIdeal.Hand.run_main m g)

/-- The reference terminates and leaves its operands alone; it has no counters. -/
theorem quiescent_referenceIdeal : quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

/-- From devices that hold their blocks of the reference's operands, the kernel leaves on every device what the reference computes. -/
theorem algebraic_kernel : algebraic_KernelIdeal_ReferenceIdeal (hKernelIdeal := Cert.KernelIdeal.Gen.facts)
    (hReferenceIdeal := Cert.ReferenceIdeal.Gen.facts) := fun m g m' g' _ hblk =>
  ⟨Cert.KernelIdeal.Hand.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run _ _ _).mono (fun _ h c => ⟨(h.1 c).1.trans (Cert.KernelIdeal.Hand.res_eq _ _ _ _
        (fun c => (Cert.KernelIdeal.Hand.XA_eq m c).trans (hblk c).1) (fun c => (Cert.KernelIdeal.Hand.XB_eq m c).trans (hblk c).2)),
      (h.1 c).2⟩) (Cert.KernelIdeal.Hand.run_value m g),
    (θ_run _ _ _).mono (fun _ h => h 0) (Cert.ReferenceIdeal.Value.run m' g')⟩

theorem claim : Cert.Claim := ⟨Cert.Kernel.Gen.facts, Cert.KernelIdeal.Gen.facts, Cert.ReferenceIdeal.Gen.facts,
  quiescent_kernel, quiescent_kernelIdeal, quiescent_referenceIdeal, trivial, algebraic_kernel⟩

end Cert.Proof

end
